-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v48) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v12_0)) (v1 : (c : Dev Cert.Kernel9Ideal.nD) → Buf (Elt Ideal) ((c.tc : Thread Cert.Kernel9Ideal.nD Cert.Kernel9Ideal.τ).loc Cert.Kernel9Ideal.main_v12_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12_0) = v0 c
          ∧ r.2.mem ((c.tc : Thread Cert.Kernel9Ideal.nD Cert.Kernel9Ideal.τ).loc Cert.Kernel9Ideal.main_v12_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v54) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2x4096x8x2x128 : Shape := ⟨5, ![2, 4096, 8, 2, 128]⟩
abbrev S2x4096x8x256 : Shape := ⟨4, ![2, 4096, 8, 256]⟩
abbrev S2x256x8x2x128 : Shape := ⟨5, ![2, 256, 8, 2, 128]⟩
abbrev S2x256x8x256 : Shape := ⟨4, ![2, 256, 8, 256]⟩
abbrev S128 : Shape := ⟨1, ![128]⟩
abbrev S256 : Shape := ⟨1, ![256]⟩
abbrev S_ : Shape := ⟨0, ![]⟩

class Facts : Prop where
  bcast_S_S2x4096x8x2x128 : S_.BroadcastsInDim S2x4096x8x2x128 (![] : Fin 0 → Fin S2x4096x8x2x128.rank)
  reducesTo_S2x4096x8x2x128_S_d0_1_2_3_4 : S2x4096x8x2x128.ReducesTo [0, 1, 2, 3, 4] S_
  h_S_ : 0 < S_.numel
  bcast_S_S2x4096x8x256 : S_.BroadcastsInDim S2x4096x8x256 (![] : Fin 0 → Fin S2x4096x8x256.rank)
  reducesTo_S2x4096x8x256_S_d0_1_2_3 : S2x4096x8x256.ReducesTo [0, 1, 2, 3] S_
  bcast_S_S2x256x8x2x128 : S_.BroadcastsInDim S2x256x8x2x128 (![] : Fin 0 → Fin S2x256x8x2x128.rank)
  reducesTo_S2x256x8x2x128_S_d0_1_2_3_4 : S2x256x8x2x128.ReducesTo [0, 1, 2, 3, 4] S_
  bcast_S_S2x256x8x256 : S_.BroadcastsInDim S2x256x8x256 (![] : Fin 0 → Fin S2x256x8x256.rank)
  reducesTo_S2x256x8x256_S_d0_1_2_3 : S2x256x8x256.ReducesTo [0, 1, 2, 3] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S2x256x8x256 .f32) (main_arg6 : FVec F S128 .f32) (main_arg7 : FVec F S128 .f32) (main_arg8 : FVec F S128 .f32) (main_arg9 : FVec F S128 .f32) (main_v13 : IVec S_ 1) (main_v16 : IVec S2x256x8x2x128 1) : IVec S_ 1 :=
  let main_c_5 : IVec S_ 1 := constantI S_ 1 1#1
  let main_v17 : IVec S_ 1 := (fun x v => Host.reduce IntOp.andi x v reducesTo_S2x256x8x2x128_S_d0_1_2_3_4 h_S_) main_v16 main_c_5
  let main_v18 : IVec S_ 1 := andi main_v13 main_v17
  let main_v19 : FVec F S2x256x8x256 .f32 := Host.absf main_arg5
  let main_cst_6 : FVec F S_ .f32 := constant S_ .f32 0x7F800000#32
  let main_v20 : FVec F S2x256x8x256 .f32 := broadcastInDim S2x256x8x256 ![] bcast_S_S2x256x8x256 main_cst_6
  let main_v21 : IVec S2x256x8x256 1 := cmpf .olt main_v19 main_v20
  let main_c_7 : IVec S_ 1 := constantI S_ 1 1#1
  let main_v22 : IVec S_ 1 := (fun x v => Host.reduce IntOp.andi x v reducesTo_S2x256x8x256_S_d0_1_2_3 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S2x4096x8x2x128 .f32) (main_arg1 : FVec F S2x4096x8x2x128 .f32) (main_arg2 : FVec F S2x4096x8x256 .f32) (main_arg3 : FVec F S2x256x8x2x128 .f32) (main_arg4 : FVec F S2x256x8x2x128 .f32) (main_arg5 : FVec F S2x256x8x256 .f32) (main_arg6 : FVec F S128 .f32) (main_arg7 : FVec F S128 .f32) (main_arg8 : FVec F S128 .f32) (main_arg9 : FVec F S128 .f32) (main_arg10 : FVec F S256 .f32) : IVec S_ 1 :=
  let main_v0 : FVec F S2x4096x8x2x128 .f32 := Host.absf main_arg0
  let main_cst : FVec F S_ .f32 := constant S_ .f32 0x7F800000#32
  let main_v1 : FVec F S2x4096x8x2x128 .f32 := broadcastInDim S2x4096x8x2x128 ![] bcast_S_S2x4096x8x2x128 main_cst
  let main_v2 : IVec S2x4096x8x2x128 1 := cmpf .olt main_v0 main_v1
  let main_c : IVec S_ 1 := constantI S_ 1 1#1
  let main_v3 : IVec S_ 1 := (fun x v => Host.reduce IntOp.andi x v reducesTo_S2x4096x8x2x128_S_d0_1_2_3_4 h_S_) main_v2 main_c
  let main_v4 : FVec F S2x4096x8x2x128 .f32 := Host.absf main_arg1
  let main_cst_0 : FVec F S_ .f32 := constant S_ .f32 0x7F800000#32
  let main_v5 : FVec F S2x4096x8x2x128 .f32 := broadcastInDim S2x4096x8x2x128 ![] bcast_S_S2x4096x8x2x128 main_cst_0
  let main_v6 : IVec S2x4096x8x2x128 1 := cmpf .olt main_v4 main_v5
  let main_c_1 : IVec S_ 1 := constantI S_ 1 1#1
  let main_v7 : IVec S_ 1 := (fun x v => Host.reduce IntOp.andi x v reducesTo_S2x4096x8x2x128_S_d0_1_2_3_4 h_S_) main_v6 main_c_1
  let main_v8 : IVec S_ 1 := andi main_v3 main_v7
  let main_v9 : FVec F S2x4096x8x256 .f32 := Host.absf main_arg2
  let main_cst_2 : FVec F S_ .f32 := constant S_ .f32 0x7F800000#32
  let main_v10 : FVec F S2x4096x8x256 .f32 := broadcastInDim S2x4096x8x256 ![] bcast_S_S2x4096x8x256 main_cst_2
  let main_v11 : IVec S2x4096x8x256 1 := cmpf .olt main_v9 main_v10
  let main_c_3 : IVec S_ 1 := constantI S_ 1 1#1
  let main_v12 : IVec S_ 1 := (fun x v => Host.reduce IntOp.andi x v reducesTo_S2x4096x8x256_S_d0_1_2_3 h_S_) main_v11 main_c_3
  let main_v13 : IVec S_ 1 := andi main_v8 main_v12
  let main_v14 : FVec F S2x256x8x2x128 .f32 := Host.absf main_arg4
  let main_cst_4 : FVec F S_ .f32 := constant S_ .f32 0x7F800000#32
  let main_v15 : FVec F S2x256x8x2x128 .f32 := broadcastInDim S2x256x8x2x128 ![] bcast_S_S2x256x8x2x128 main_cst_4
  let main_v16 : IVec S2x256x8x2x128 1 := cmpf .olt main_v14 main_v15
  fn_part1 (F := F) main_arg5 main_arg6 main_arg7 main_arg8 main_arg9 main_v13 main_v16
-- ==== Kernel.lean ====
abbrev S2x4096x8x2x128 : Shape := ⟨5, ![2, 4096, 8, 2, 128]⟩
abbrev S2x4096x8x256 : Shape := ⟨4, ![2, 4096, 8, 256]⟩
abbrev S2x256x8x2x128 : Shape := ⟨5, ![2, 256, 8, 2, 128]⟩
abbrev S2x256x8x256 : Shape := ⟨4, ![2, 256, 8, 256]⟩
abbrev S128 : Shape := ⟨1, ![128]⟩
abbrev S256 : Shape := ⟨1, ![256]⟩
abbrev S_ : Shape := ⟨0, ![]⟩
abbrev S8192x2048 : Shape := ⟨2, ![8192, 2048]⟩
abbrev S8192x6144 : Shape := ⟨2, ![8192, 6144]⟩
abbrev S512x2048 : Shape := ⟨2, ![512, 2048]⟩
abbrev S512x6144 : Shape := ⟨2, ![512, 6144]⟩
abbrev S8704x6144 : Shape := ⟨2, ![8704, 6144]⟩
abbrev S1x128 : Shape := ⟨2, ![1, 128]⟩
abbrev S1x256 : Shape := ⟨2, ![1, 256]⟩
abbrev S512x256 : Shape := ⟨2, ![512, 256]⟩
abbrev S4096x256 : Shape := ⟨2, ![4096, 256]⟩
abbrev S256x256 : Shape := ⟨2, ![256, 256]⟩
abbrev S2x512x4352 : Shape := ⟨3, ![2, 512, 4352]⟩
abbrev S1 : Shape := ⟨1, ![1]⟩
abbrev S1x1 : Shape := ⟨2, ![1, 1]⟩
abbrev S512x128 : Shape := ⟨2, ![512, 128]⟩
abbrev S512x512 : Shape := ⟨2, ![512, 512]⟩
abbrev S1x512x512 : Shape := ⟨3, ![1, 512, 512]⟩
abbrev S256x128 : Shape := ⟨2, ![256, 128]⟩
abbrev S1x512x256 : Shape := ⟨3, ![1, 512, 256]⟩
abbrev S512 : Shape := ⟨1, ![512]⟩
abbrev S512x1 : Shape := ⟨2, ![512, 1]⟩

abbrev nBuf : Space → Nat
  | .hbm => 40
  | .vmem => 18
  | .smem => 0
  | _ => 0

abbrev bufTy : (tb : Table) → Fin (tcTables nBuf tb) → BufTy
  | .hbm, ⟨0, _⟩ => ⟨S2x4096x8x2x128, .f32⟩
  | .hbm, ⟨1, _⟩ => ⟨S2x4096x8x2x128, .f32⟩
  | .hbm, ⟨2, _⟩ => ⟨S2x4096x8x256, .f32⟩
  | .hbm, ⟨3, _⟩ => ⟨S2x256x8x2x128, .f32⟩
  | .hbm, ⟨4, _⟩ => ⟨S2x256x8x2x128, .f32⟩
  | .hbm, ⟨5, _⟩ => ⟨S2x256x8x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S8192x2048, .f32⟩
  | .hbm, ⟨20, _⟩ => ⟨S8192x2048, .bf16⟩
  | .hbm, ⟨21, _⟩ => ⟨S8192x2048, .f32⟩
  | .hbm, ⟨22, _⟩ => ⟨S8192x2048, .bf16⟩
  | .hbm, ⟨23, _⟩ => ⟨S8192x6144, .bf16⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S512x2048, .bf16⟩
  | .hbm, ⟨28, _⟩ => ⟨S512x2048, .f32⟩
  | .hbm, ⟨29, _⟩ => ⟨S512x2048, .bf16⟩
  | .hbm, ⟨30, _⟩ => ⟨S512x2048, .f32⟩
  | .hbm, ⟨31, _⟩ => ⟨S512x2048, .bf16⟩
  | .hbm, ⟨32, _⟩ => ⟨S512x6144, .bf16⟩
  | .hbm, ⟨33, _⟩ => ⟨S8704x6144, .bf16⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x256, .f32⟩
  | .hbm, ⟨39, _⟩ => ⟨S8192x2048, .bf16⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x256, .f32⟩
  | .local _ .vmem, ⟨5, _⟩ => ⟨S512x256, .bf16⟩
  | .local _ .vmem, ⟨6, _⟩ => ⟨S512x256, .bf16⟩
  | .local _ .vmem, ⟨7, _⟩ => ⟨S4096x256, .bf16⟩
  | .local _ .vmem, ⟨8, _⟩ => ⟨S4096x256, .bf16⟩
  | .local _ .vmem, ⟨9, _⟩ => ⟨S256x256, .bf16⟩
  | .local _ .vmem, ⟨10, _⟩ => ⟨S256x256, .bf16⟩
  | .local _ .vmem, ⟨11, _⟩ => ⟨S4096x256, .bf16⟩
  | .local _ .vmem, ⟨12, _⟩ => ⟨S4096x256, .bf16⟩
  | .local _ .vmem, ⟨13, _⟩ => ⟨S256x256, .bf16⟩
  | .local _ .vmem, ⟨14, _⟩ => ⟨S256x256, .bf16⟩
  | .local _ .vmem, ⟨15, _⟩ => ⟨S512x256, .bf16⟩
  | .local _ .vmem, ⟨16, _⟩ => ⟨S512x256, .bf16⟩
  | .local _ .vmem, ⟨17, _⟩ => ⟨S2x512x4352, .f32⟩
  | _, _ => ⟨S2x4096x8x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c8_i32 : BitVec 32 := 8#32
  let v1 : BitVec 32 := Scalar.addi c8_i32 arg1
  let c0_i32 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c16_i32 : BitVec 32 := 16#32
  let v1 : BitVec 32 := Scalar.addi c16_i32 arg1
  let c0_i32 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S2x4096x8x2x128 : Shape := ⟨5, ![2, 4096, 8, 2, 128]⟩
abbrev S2x4096x8x256 : Shape := ⟨4, ![2, 4096, 8, 256]⟩
abbrev S2x256x8x2x128 : Shape := ⟨5, ![2, 256, 8, 2, 128]⟩
abbrev S2x256x8x256 : Shape := ⟨4, ![2, 256, 8, 256]⟩
abbrev S128 : Shape := ⟨1, ![128]⟩
abbrev S256 : Shape := ⟨1, ![256]⟩
abbrev S_ : Shape := ⟨0, ![]⟩
abbrev S2x4352x8x2x128 : Shape := ⟨5, ![2, 4352, 8, 2, 128]⟩
abbrev S2x4352x8x256 : Shape := ⟨4, ![2, 4352, 8, 256]⟩
abbrev S2x2x8x4096x4352 : Shape := ⟨5, ![2, 2, 8, 4096, 4352]⟩
abbrev S2x2x8x4096 : Shape := ⟨4, ![2, 2, 8, 4096]⟩
abbrev S2x2x8x4096x1 : Shape := ⟨5, ![2, 2, 8, 4096, 1]⟩
abbrev S2x1x8x4096x4352 : Shape := ⟨5, ![2, 1, 8, 4096, 4352]⟩
abbrev S2x8x4096x4352 : Shape := ⟨4, ![2, 8, 4096, 4352]⟩
abbrev S2x8x256x4096 : Shape := ⟨4, ![2, 8, 256, 4096]⟩
abbrev S2x4096x8 : Shape := ⟨3, ![2, 4096, 8]⟩
abbrev S2x4096x8x1 : Shape := ⟨4, ![2, 4096, 8, 1]⟩
abbrev S1x1x1x256 : Shape := ⟨4, ![1, 1, 1, 256]⟩
abbrev S8192x2048 : Shape := ⟨2, ![8192, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2x4096x8x2x128, .f32⟩
  | .hbm, ⟨1, _⟩ => ⟨S2x4096x8x2x128, .f32⟩
  | .hbm, ⟨2, _⟩ => ⟨S2x4096x8x256, .f32⟩
  | .hbm, ⟨3, _⟩ => ⟨S2x256x8x2x128, .f32⟩
  | .hbm, ⟨4, _⟩ => ⟨S2x256x8x2x128, .f32⟩
  | .hbm, ⟨5, _⟩ => ⟨S2x256x8x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x4352x8x2x128, .f32⟩
  | .hbm, ⟨23, _⟩ => ⟨S2x4352x8x256, .f32⟩
  | .hbm, ⟨24, _⟩ => ⟨S2x2x8x4096x4352, .f32⟩
  | .hbm, ⟨25, _⟩ => ⟨S_, .f32⟩
  | .hbm, ⟨26, _⟩ => ⟨S2x2x8x4096x4352, .f32⟩
  | .hbm, ⟨27, _⟩ => ⟨S2x2x8x4096x4352, .f32⟩
  | .hbm, ⟨28, _⟩ => ⟨S_, .f32⟩
  | .hbm, ⟨29, _⟩ => ⟨S2x2x8x4096, .f32⟩
  | .hbm, ⟨30, _⟩ => ⟨S_, .f32⟩
  | .hbm, ⟨31, _⟩ => ⟨S2x2x8x4096, .f32⟩
  | .hbm, ⟨32, _⟩ => ⟨S2x2x8x4096, .f32⟩
  | .hbm, ⟨33, _⟩ => ⟨S2x2x8x4096x1, .f32⟩
  | .hbm, ⟨34, _⟩ => ⟨S2x2x8x4096x4352, .f32⟩
  | .hbm, ⟨35, _⟩ => ⟨S2x2x8x4096x4352, .f32⟩
  | .hbm, ⟨36, _⟩ => ⟨S2x2x8x4096x4352, .f32⟩
  | .hbm, ⟨37, _⟩ => ⟨S_, .f32⟩
  | .hbm, ⟨38, _⟩ => ⟨S2x2x8x4096, .f32⟩
  | .hbm, ⟨39, _⟩ => ⟨S2x2x8x4096x1, .f32⟩
  | .hbm, ⟨40, _⟩ => ⟨S2x2x8x4096x4352, .f32⟩
  | .hbm, ⟨41, _⟩ => ⟨S2x2x8x4096x4352, .f32⟩
  | .hbm, ⟨42, _⟩ => ⟨S2x1x8x4096x4352, .f32⟩
  | .hbm, ⟨43, _⟩ => ⟨S2x8x4096x4352, .f32⟩
  | .hbm, ⟨44, _⟩ => ⟨S2x1x8x4096x4352, .f32⟩
  | .hbm, ⟨45, _⟩ => ⟨S2x8x4096x4352, .f32⟩
  | .hbm, ⟨46, _⟩ => ⟨S2x8x4096x4352, .f32⟩
  | .hbm, ⟨47, _⟩ => ⟨S2x8x4096x4352, .f32⟩
  | .hbm, ⟨48, _⟩ => ⟨S2x8x4096x4352, .f32⟩
  | .hbm, ⟨49, _⟩ => ⟨S2x8x256x4096, .f32⟩
  | .hbm, ⟨50, _⟩ => ⟨S2x4096x8x256, .f32⟩
  | .hbm, ⟨51, _⟩ => ⟨S2x4096x8x256, .f32⟩
  | .hbm, ⟨52, _⟩ => ⟨S_, .f32⟩
  | .hbm, ⟨53, _⟩ => ⟨S2x4096x8, .f32⟩
  | .hbm, ⟨54, _⟩ => ⟨S2x4096x8x1, .f32⟩
  | .hbm, ⟨55, _⟩ => ⟨S_, .f32⟩
  | .hbm, ⟨56, _⟩ => ⟨S2x4096x8x1, .f32⟩
  | .hbm, ⟨57, _⟩ => ⟨S2x4096x8x1, .f32⟩
  | .hbm, ⟨58, _⟩ => ⟨S_, .f32⟩
  | .hbm, ⟨59, _⟩ => ⟨S2x4096x8x1, .f32⟩
  | .hbm, ⟨60, _⟩ => ⟨S2x4096x8x1, .f32⟩
  | .hbm, ⟨61, _⟩ => ⟨S2x4096x8x1, .f32⟩
  | .hbm, ⟨62, _⟩ => ⟨S2x4096x8x256, .f32⟩
  | .hbm, ⟨63, _⟩ => ⟨S2x4096x8x256, .f32⟩
  | .hbm, ⟨64, _⟩ => ⟨S1x1x1x256, .f32⟩
  | .hbm, ⟨65, _⟩ => ⟨S2x4096x8x256, .f32⟩
  | .hbm, ⟨66, _⟩ => ⟨S2x4096x8x256, .f32⟩
  | .hbm, ⟨67, _⟩ => ⟨S_, .f32⟩
  | .hbm, ⟨68, _⟩ => ⟨S2x4096x8x256, .f32⟩
  | .hbm, ⟨69, _⟩ => ⟨S2x4096x8x256, .f32⟩
  | .hbm, ⟨70, _⟩ => ⟨S8192x2048, .f32⟩
  | .hbm, ⟨71, _⟩ => ⟨S8192x2048, .bf16⟩
  | _, _ => ⟨S2x4096x8x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Kernel2.lean ====
abbrev S2x4096x4096 : Shape := ⟨3, ![2, 4096, 4096]⟩
abbrev S4096x22016 : Shape := ⟨2, ![4096, 22016]⟩
abbrev S3x22016 : Shape := ⟨2, ![3, 22016]⟩
abbrev S22016 : Shape := ⟨1, ![22016]⟩
abbrev S8192x4096 : Shape := ⟨2, ![8192, 4096]⟩
abbrev S1x22016 : Shape := ⟨2, ![1, 22016]⟩
abbrev S8192x11264 : Shape := ⟨2, ![8192, 11264]⟩
abbrev S1024x4096 : Shape := ⟨2, ![1024, 4096]⟩
abbrev S16x4096 : Shape := ⟨2, ![16, 4096]⟩
abbrev S4096x256 : Shape := ⟨2, ![4096, 256]⟩
abbrev S3x256 : Shape := ⟨2, ![3, 256]⟩
abbrev S1x256 : Shape := ⟨2, ![1, 256]⟩
abbrev S1024x512 : Shape := ⟨2, ![1024, 512]⟩
abbrev S1056x4096 : Shape := ⟨2, ![1056, 4096]⟩
abbrev S2x4x1056x256 : Shape := ⟨4, ![2, 4, 1056, 256]⟩
abbrev S1056x256 : Shape := ⟨2, ![1056, 256]⟩
abbrev S1x1x1056x256 : Shape := ⟨4, ![1, 1, 1056, 256]⟩
abbrev S1024x256 : Shape := ⟨2, ![1024, 256]⟩

abbrev nBuf : Space → Nat
  | .hbm => 9
  | .vmem => 33
  | .smem => 0
  | _ => 0

abbrev bufTy : (tb : Table) → Fin (tcTables nBuf tb) → BufTy
  | .hbm, ⟨0, _⟩ => ⟨S2x4096x4096, .f32⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S8192x4096, .f32⟩
  | .hbm, ⟨5, _⟩ => ⟨S8192x4096, .bf16⟩
  | .hbm, ⟨6, _⟩ => ⟨S4096x22016, .bf16⟩
  | .hbm, ⟨7, _⟩ => ⟨S1x22016, .f32⟩
  | .hbm, ⟨8, _⟩ => ⟨S8192x11264, .bf16⟩
  | .local _ .vmem, ⟨0, _⟩ => ⟨S1024x4096, .bf16⟩
  | .local _ .vmem, ⟨1, _⟩ => ⟨S16x4096, .bf16⟩
  | .local _ .vmem, ⟨2, _⟩ => ⟨S16x4096, .bf16⟩
  | .local _ .vmem, ⟨3, _⟩ => ⟨S16x4096, .bf16⟩
  | .local _ .vmem, ⟨4, _⟩ => ⟨S16x4096, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S4096x256, .bf16⟩
  | .local _ .vmem, ⟨18, _⟩ => ⟨S4096x256, .bf16⟩
  | .local _ .vmem, ⟨19, _⟩ => ⟨S4096x256, .bf16⟩
  | .local _ .vmem, ⟨20, _⟩ => ⟨S4096x256, .bf16⟩
  | .local _ .vmem, ⟨21, _⟩ => ⟨S3x256, .f32⟩
  | .local _ .vmem, ⟨22, _⟩ => ⟨S3x256, .f32⟩
  | .local _ .vmem, ⟨23, _⟩ => ⟨S3x256, .f32⟩
  | .local _ .vmem, ⟨24, _⟩ => ⟨S3x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1024x512, .bf16⟩
  | .local _ .vmem, ⟨30, _⟩ => ⟨S1024x512, .bf16⟩
  | .local _ .vmem, ⟨31, _⟩ => ⟨S1056x4096, .bf16⟩
  | .local _ .vmem, ⟨32, _⟩ => ⟨S2x4x1056x256, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![8, 23], ![false, false]⟩

def k0_cond2 (i : grid0.Coords) : BitVec 1 :=
  let arg1 : BitVec 32 := BitVec.ofNat 32 (i 1).val
  let c0_i32_12 : BitVec 32 := 0#32
  let v24 : BitVec 1 := Scalar.cmpi .eq arg1 c0_i32_12
  let v25 : BitVec 32 := Scalar.extui v24
  let c0_i32_13 : BitVec 32 := 0#32
  let v26 : BitVec 1 := Scalar.cmpi .ne v25 c0_i32_13
  v26

def k0_off1 (i : grid0.Coords) : Fin 4 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c0_21 : Index := 0#32
  let c0_22 : Index := 0#32
  let c0_23 : Index := 0#32
  ![v39.toNat, 0, 0, 0]
def k0_off2 (i : grid0.Coords) : Fin 4 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v46 : Index := Scalar.indexCast v9
  let c1 : Index := 1#32
  let c0_27 : Index := 0#32
  let c0_28 : Index := 0#32
  ![v46.toNat, 1, 0, 0]
def k0_off3 (i : grid0.Coords) : Fin 4 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c2 : Index := 2#32
  let c0_32 : Index := 0#32
  let c0_33 : Index := 0#32
  ![v53.toNat, 2, 0, 0]
def k0_off4 (i : grid0.Coords) : Fin 4 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : Index := Scalar.indexCast v9
  let c3 : Index := 3#32
  let c0_37 : Index := 0#32
  let c0_38 : Index := 0#32
  ![v60.toNat, 3, 0, 0]
def k0_cond3 (i : grid0.Coords) : BitVec 1 :=
  let arg1 : BitVec 32 := BitVec.ofNat 32 (i 1).val
  let c0_i32_14 : BitVec 32 := 0#32
  let v27 : BitVec 1 := Scalar.cmpi .sgt arg1 c0_i32_14
  let c22_i32 : BitVec 32 := 22#32
  let v28 : BitVec 1 := Scalar.cmpi .slt arg1 c22_i32
  let v29 : BitVec 1 := Scalar.andi v27 v28
  let v30 : BitVec 32 := Scalar.extui v29
  let c0_i32_15 : BitVec 32 := 0#32
  let v31 : BitVec 1 := Scalar.cmpi .ne v30 c0_i32_15
  v31

def k0_off5 (i : grid0.Coords) : Fin 4 → Nat :=
  let arg1 : BitVec 32 := BitVec.ofNat 32 (i 1).val
  let c1_i32_3 : BitVec 32 := 1#32
  let v10 : BitVec 32 := Scalar.addi arg1 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v35 : Index := Scalar.indexCast v20
  let c0 : Index := 0#32
  let c0_18 : Index := 0#32
  let c0_19 : Index := 0#32
  ![v35.toNat, 0, 0, 0]
def k0_off6 (i : grid0.Coords) : Fin 4 → Nat :=
  let arg1 : BitVec 32 := BitVec.ofNat 32 (i 1).val
  let c1_i32_3 : BitVec 32 := 1#32
  let v10 : BitVec 32 := Scalar.addi arg1 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v60 : Index := Scalar.indexCast v20
  let c1_27 : Index := 1#32
  let c0_28 : Index := 0#32
  let c0_29 : Index := 0#32
  ![v60.toNat, 1, 0, 0]
def k0_off7 (i : grid0.Coords) : Fin 4 → Nat :=
  let arg1 : BitVec 32 := BitVec.ofNat 32 (i 1).val
  let c1_i32_3 : BitVec 32 := 1#32
  let v10 : BitVec 32 := Scalar.addi arg1 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v92 : Index := Scalar.indexCast v20
  let c2_45 : Index := 2#32
  let c0_46 : Index := 0#32
  let c0_47 : Index := 0#32
  ![v92.toNat, 2, 0, 0]
def k0_off8 (i : grid0.Coords) : Fin 4 → Nat :=
  let arg1 : BitVec 32 := BitVec.ofNat 32 (i 1).val
  let c1_i32_3 : BitVec 32 := 1#32
  let v10 : BitVec 32 := Scalar.addi arg1 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v117 : Index := Scalar.indexCast v20
  let c3 : Index := 3#32
  let c0_58 : Index := 0#32
  let c0_59 : Index := 0#32
  ![v117.toNat, 3, 0, 0]
def k0_off9 (i : grid0.Coords) : Fin 4 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v153 : Index := Scalar.indexCast v9
  let c0_81 : Index := 0#32
  let c0_82 : Index := 0#32
  let c0_83 : Index := 0#32
  ![v153.toNat, 0, 0, 0]
def k0_off10 (i : grid0.Coords) : Fin 4 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v160 : Index := Scalar.indexCast v9
  let c1_87 : Index := 1#32
  let c0_88 : Index := 0#32
  let c0_89 : Index := 0#32
  ![v160.toNat, 1, 0, 0]
def k0_off11 (i : grid0.Coords) : Fin 4 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v167 : Index := Scalar.indexCast v9
  let c2_93 : Index := 2#32
  let c0_94 : Index := 0#32
  let c0_95 : Index := 0#32
  ![v167.toNat, 2, 0, 0]
def k0_off12 (i : grid0.Coords) : Fin 4 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v174 : Index := Scalar.indexCast v9
  let c3_99 : Index := 3#32
  let c0_100 : Index := 0#32
  let c0_101 : Index := 0#32
  ![v174.toNat, 3, 0, 0]
def k0_cond4 (i : grid0.Coords) : BitVec 1 :=
  let arg1 : BitVec 32 := BitVec.ofNat 32 (i 1).val
  let c22_i32_16 : BitVec 32 := 22#32
  let v32 : BitVec 1 := Scalar.cmpi .eq arg1 c22_i32_16
  let v33 : BitVec 32 := Scalar.extui v32
  let c0_i32_17 : BitVec 32 := 0#32
  let v34 : BitVec 1 := Scalar.cmpi .ne v33 c0_i32_17
  v34

def k0_off13 (i : grid0.Coords) : Fin 4 → Nat :=
  let arg1 : BitVec 32 := BitVec.ofNat 32 (i 1).val
  let c1_i32_3 : BitVec 32 := 1#32
  let v10 : BitVec 32 := Scalar.addi arg1 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v35 : Index := Scalar.indexCast v20
  let c0 : Index := 0#32
  let c0_18 : Index := 0#32
  let c0_19 : Index := 0#32
  ![v35.toNat, 0, 0, 0]
def k0_off14 (i : grid0.Coords) : Fin 4 → Nat :=
  let arg1 : BitVec 32 := BitVec.ofNat 32 (i 1).val
  let c1_i32_3 : BitVec 32 := 1#32
  let v10 : BitVec 32 := Scalar.addi arg1 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v60 : Index := Scalar.indexCast v20
  let c1_27 : Index := 1#32
  let c0_28 : Index := 0#32
  let c0_29 : Index := 0#32
  ![v60.toNat, 1, 0, 0]
def k0_off15 (i : grid0.Coords) : Fin 4 → Nat :=
  let arg1 : BitVec 32 := BitVec.ofNat 32 (i 1).val
  let c1_i32_3 : BitVec 32 := 1#32
  let v10 : BitVec 32 := Scalar.addi arg1 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v92 : Index := Scalar.indexCast v20
  let c2_45 : Index := 2#32
  let c0_46 : Index := 0#32
  let c0_47 : Index := 0#32
  ![v92.toNat, 2, 0, 0]
def k0_off16 (i : grid0.Coords) : Fin 4 → Nat :=
  let arg1 : BitVec 32 := BitVec.ofNat 32 (i 1).val
  let c1_i32_3 : BitVec 32 := 1#32
  let v10 : BitVec 32 := Scalar.addi arg1 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v117 : Index := Scalar.indexCast v20
  let c3 : Index := 3#32
  let c0_58 : Index := 0#32
  let c0_59 : Index := 0#32
  ![v117.toNat, 3, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c42_i32 : BitVec 32 := 42#32
  let v2 : BitVec 32 := Scalar.minsi v1 c42_i32
  let c43_i32 : BitVec 32 := 43#32
  let v3 : BitVec 32 := Scalar.addi c43_i32 v2
  let c0_i32_0 : BitVec 32 := 0#32
  let c0_i32_1 : BitVec 32 := 0#32
  ![c0_i32_0.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.muli v1 c2_i32
  let c0_i32_0 : BitVec 32 := 0#32
  let v3 : BitVec 32 := Scalar.addi v2 c0_i32_0
  let c42_i32 : BitVec 32 := 42#32
  let v4 : BitVec 32 := Scalar.minsi v3 c42_i32
  let c0_i32_1 : BitVec 32 := 0#32
  let c0_i32_2 : BitVec 32 := 0#32
  ![c0_i32_1.toNat, v4.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.muli v1 c2_i32
  let c0_i32_0 : BitVec 32 := 0#32
  let v3 : BitVec 32 := Scalar.addi v2 c0_i32_0
  let c42_i32 : BitVec 32 := 42#32
  let v4 : BitVec 32 := Scalar.minsi v3 c42_i32
  let c43_i32 : BitVec 32 := 43#32
  let v5 : BitVec 32 := Scalar.addi c43_i32 v4
  let c0_i32_1 : BitVec 32 := 0#32
  let c0_i32_2 : BitVec 32 := 0#32
  ![c0_i32_1.toNat, v5.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.muli v1 c2_i32
  let c0_i32_0 : BitVec 32 := 0#32
  let v3 : BitVec 32 := Scalar.addi v2 c0_i32_0
  let c42_i32 : BitVec 32 := 42#32
  let v4 : BitVec 32 := Scalar.minsi v3 c42_i32
  let c0_i32_1 : BitVec 32 := 0#32
  let c0_i32_2 : BitVec 32 := 0#32
  ![c0_i32_1.toNat, v4.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.muli v1 c2_i32
  let c0_i32_0 : BitVec 32 := 0#32
  let v3 : BitVec 32 := Scalar.addi v2 c0_i32_0
  let c42_i32 : BitVec 32 := 42#32
  let v4 : BitVec 32 := Scalar.minsi v3 c42_i32
  let c43_i32 : BitVec 32 := 43#32
  let v5 : BitVec 32 := Scalar.addi c43_i32 v4
  let c0_i32_1 : BitVec 32 := 0#32
  let c0_i32_2 : BitVec 32 := 0#32
  ![c0_i32_1.toNat, v5.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c42_i32 : BitVec 32 := 42#32
  let v2 : BitVec 32 := Scalar.minsi v1 c42_i32
  let c43_i32 : BitVec 32 := 43#32
  let v3 : BitVec 32 := Scalar.addi c43_i32 v2
  let c0_i32 : BitVec 32 := 0#32
  let c0_i32_0 : BitVec 32 := 0#32
  ![c0_i32.toNat, v3.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.muli v1 c2_i32
  let c1_i32_0 : BitVec 32 := 1#32
  let v3 : BitVec 32 := Scalar.addi v2 c1_i32_0
  let c42_i32 : BitVec 32 := 42#32
  let v4 : BitVec 32 := Scalar.minsi v3 c42_i32
  let c0_i32_1 : BitVec 32 := 0#32
  let c0_i32_2 : BitVec 32 := 0#32
  ![c0_i32_1.toNat, v4.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.muli v1 c2_i32
  let c1_i32_0 : BitVec 32 := 1#32
  let v3 : BitVec 32 := Scalar.addi v2 c1_i32_0
  let c42_i32 : BitVec 32 := 42#32
  let v4 : BitVec 32 := Scalar.minsi v3 c42_i32
  let c43_i32 : BitVec 32 := 43#32
  let v5 : BitVec 32 := Scalar.addi c43_i32 v4
  let c0_i32_1 : BitVec 32 := 0#32
  let c0_i32_2 : BitVec 32 := 0#32
  ![c0_i32_1.toNat, v5.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.muli v1 c2_i32
  let c1_i32_0 : BitVec 32 := 1#32
  let v3 : BitVec 32 := Scalar.addi v2 c1_i32_0
  let c42_i32 : BitVec 32 := 42#32
  let v4 : BitVec 32 := Scalar.minsi v3 c42_i32
  let c0_i32_1 : BitVec 32 := 0#32
  let c0_i32_2 : BitVec 32 := 0#32
  ![c0_i32_1.toNat, v4.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.muli v1 c2_i32
  let c1_i32_0 : BitVec 32 := 1#32
  let v3 : BitVec 32 := Scalar.addi v2 c1_i32_0
  let c42_i32 : BitVec 32 := 42#32
  let v4 : BitVec 32 := Scalar.minsi v3 c42_i32
  let c43_i32 : BitVec 32 := 43#32
  let v5 : BitVec 32 := Scalar.addi c43_i32 v4
  let c0_i32_1 : BitVec 32 := 0#32
  let c0_i32_2 : BitVec 32 := 0#32
  ![c0_i32_1.toNat, v5.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S3x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S2x4096x4096 : Shape := ⟨3, ![2, 4096, 4096]⟩
abbrev S4096x22016 : Shape := ⟨2, ![4096, 22016]⟩
abbrev S3x22016 : Shape := ⟨2, ![3, 22016]⟩
abbrev S22016 : Shape := ⟨1, ![22016]⟩
abbrev S2x4096x22016 : Shape := ⟨3, ![2, 4096, 22016]⟩
abbrev S_ : Shape := ⟨0, ![]⟩
abbrev S2x4098x22016 : Shape := ⟨3, ![2, 4098, 22016]⟩
abbrev S1x22016 : Shape := ⟨2, ![1, 22016]⟩
abbrev S1x1x22016 : Shape := ⟨3, ![1, 1, 22016]⟩
abbrev S2x4096x11008 : Shape := ⟨3, ![2, 4096, 11008]⟩
abbrev S8192x11008 : Shape := ⟨2, ![8192, 11008]⟩
abbrev S8192x11264 : Shape := ⟨2, ![8192, 11264]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S2x4096x22016, .f32⟩
  | .hbm, ⟨5, _⟩ => ⟨S_, .i32⟩
  | .hbm, ⟨6, _⟩ => ⟨S_, .f32⟩
  | .hbm, ⟨7, _⟩ => ⟨S2x4098x22016, .f32⟩
  | .hbm, ⟨8, _⟩ => ⟨S1x22016, .f32⟩
  | .hbm, ⟨9, _⟩ => ⟨S22016, .f32⟩
  | .hbm, ⟨10, _⟩ => ⟨S2x4096x22016, .f32⟩
  | .hbm, ⟨11, _⟩ => ⟨S1x1x22016, .f32⟩
  | .hbm, ⟨12, _⟩ => ⟨S2x4096x22016, .f32⟩
  | .hbm, ⟨13, _⟩ => ⟨S2x4096x22016, .f32⟩
  | .hbm, ⟨14, _⟩ => ⟨S_, .f32⟩
  | .hbm, ⟨15, _⟩ => ⟨S2x4096x22016, .f32⟩
  | .hbm, ⟨16, _⟩ => ⟨S2x4096x22016, .f32⟩
  | .hbm, ⟨17, _⟩ => ⟨S1x22016, .f32⟩
  | .hbm, ⟨18, _⟩ => ⟨S22016, .f32⟩
  | .hbm, ⟨19, _⟩ => ⟨S2x4096x22016, .f32⟩
  | .hbm, ⟨20, _⟩ => ⟨S1x1x22016, .f32⟩
  | .hbm, ⟨21, _⟩ => ⟨S2x4096x22016, .f32⟩
  | .hbm, ⟨22, _⟩ => ⟨S2x4096x22016, .f32⟩
  | .hbm, ⟨23, _⟩ => ⟨S2x4096x22016, .f32⟩
  | .hbm, ⟨24, _⟩ => ⟨S1x22016, .f32⟩
  | .hbm, ⟨25, _⟩ => ⟨S22016, .f32⟩
  | .hbm, ⟨26, _⟩ => ⟨S2x4096x22016, .f32⟩
  | .hbm, ⟨27, _⟩ => ⟨S1x1x22016, .f32⟩
  | .hbm, ⟨28, _⟩ => ⟨S2x4096x22016, .f32⟩
  | .hbm, ⟨29, _⟩ => ⟨S2x4096x22016, .f32⟩
  | .hbm, ⟨30, _⟩ => ⟨S2x4096x22016, .f32⟩
  | .hbm, ⟨31, _⟩ => ⟨S1x1x22016, .f32⟩
  | .hbm, ⟨32, _⟩ => ⟨S2x4096x22016, .f32⟩
  | .hbm, ⟨33, _⟩ => ⟨S2x4096x22016, .f32⟩
  | .hbm, ⟨34, _⟩ => ⟨S2x4096x11008, .f32⟩
  | .hbm, ⟨35, _⟩ => ⟨S2x4096x11008, .f32⟩
  | .hbm, ⟨36, _⟩ => ⟨S2x4096x11008, .f32⟩
  | .hbm, ⟨37, _⟩ => ⟨S2x4096x11008, .f32⟩
  | .hbm, ⟨38, _⟩ => ⟨S_, .f32⟩
  | .hbm, ⟨39, _⟩ => ⟨S2x4096x11008, .f32⟩
  | .hbm, ⟨40, _⟩ => ⟨S2x4096x11008, .f32⟩
  | .hbm, ⟨41, _⟩ => ⟨S_, .f32⟩
  | .hbm, ⟨42, _⟩ => ⟨S2x4096x11008, .f32⟩
  | .hbm, ⟨43, _⟩ => ⟨S2x4096x11008, .f32⟩
  | .hbm, ⟨44, _⟩ => ⟨S2x4096x11008, .f32⟩
  | .hbm, ⟨45, _⟩ => ⟨S2x4096x11008, .f32⟩
  | .hbm, ⟨46, _⟩ => ⟨S8192x11008, .f32⟩
  | .hbm, ⟨47, _⟩ => ⟨S_, .i32⟩
  | .hbm, ⟨48, _⟩ => ⟨S_, .f32⟩
  | .hbm, ⟨49, _⟩ => ⟨S8192x11264, .f32⟩
  | .hbm, ⟨50, _⟩ => ⟨S8192x11264, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_0 : Ref sig .tc := ⟨.hbm, 47, rfl⟩
abbrev main_call2_v0 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel3.lean ====
abbrev S2x4096x11008 : Shape := ⟨3, ![2, 4096, 11008]⟩
abbrev S11008x4096 : Shape := ⟨2, ![11008, 4096]⟩
abbrev S2x4096x4096 : Shape := ⟨3, ![2, 4096, 4096]⟩
abbrev S2x24576 : Shape := ⟨2, ![2, 24576]⟩
abbrev S4096 : Shape := ⟨1, ![4096]⟩
abbrev S8192x11008 : Shape := ⟨2, ![8192, 11008]⟩
abbrev S_ : Shape := ⟨0, ![]⟩
abbrev S8192x11264 : Shape := ⟨2, ![8192, 11264]⟩
abbrev S11264x4096 : Shape := ⟨2, ![11264, 4096]⟩
abbrev S8x24576 : Shape := ⟨2, ![8, 24576]⟩
abbrev S8x6x1x4096 : Shape := ⟨4, ![8, 6, 1, 4096]⟩
abbrev S8192x4096 : Shape := ⟨2, ![8192, 4096]⟩
abbrev S1x4096 : Shape := ⟨2, ![1, 4096]⟩
abbrev S512x512 : Shape := ⟨2, ![512, 512]⟩
abbrev S512x4096 : Shape := ⟨2, ![512, 4096]⟩
abbrev S1x1x1x4096 : Shape := ⟨4, ![1, 1, 1, 4096]⟩
abbrev S8x4096 : Shape := ⟨2, ![8, 4096]⟩
abbrev S8 : Shape := ⟨1, ![8]⟩
abbrev S8x1 : Shape := ⟨2, ![8, 1]⟩

abbrev nBuf : Space → Nat
  | .hbm => 23
  | .vmem => 12
  | .smem => 0
  | _ => 0

abbrev bufTy : (tb : Table) → Fin (tcTables nBuf tb) → BufTy
  | .hbm, ⟨0, _⟩ => ⟨S2x4096x11008, .f32⟩
  | .hbm, ⟨1, _⟩ => ⟨S11008x4096, .f32⟩
  | .hbm, ⟨2, _⟩ => ⟨S2x4096x4096, .f32⟩
  | .hbm, ⟨3, _⟩ => ⟨S2x24576, .f32⟩
  | .hbm, ⟨4, _⟩ => ⟨S4096, .f32⟩
  | .hbm, ⟨5, _⟩ => ⟨S4096, .f32⟩
  | .hbm, ⟨6, _⟩ => ⟨S8192x11008, .f32⟩
  | .hbm, ⟨7, _⟩ => ⟨S_, .i32⟩
  | .hbm, ⟨8, _⟩ => ⟨S_, .f32⟩
  | .hbm, ⟨9, _⟩ => ⟨S8192x11264, .f32⟩
  | .hbm, ⟨10, _⟩ => ⟨S8192x11264, .bf16⟩
  | .hbm, ⟨11, _⟩ => ⟨S_, .i32⟩
  | .hbm, ⟨12, _⟩ => ⟨S_, .f32⟩
  | .hbm, ⟨13, _⟩ => ⟨S11264x4096, .f32⟩
  | .hbm, ⟨14, _⟩ => ⟨S11264x4096, .bf16⟩
  | .hbm, ⟨15, _⟩ => ⟨S_, .i32⟩
  | .hbm, ⟨16, _⟩ => ⟨S_, .f32⟩
  | .hbm, ⟨17, _⟩ => ⟨S8x24576, .f32⟩
  | .hbm, ⟨18, _⟩ => ⟨S8x6x1x4096, .f32⟩
  | .hbm, ⟨19, _⟩ => ⟨S8192x4096, .f32⟩
  | .hbm, ⟨20, _⟩ => ⟨S1x4096, .f32⟩
  | .hbm, ⟨21, _⟩ => ⟨S1x4096, .f32⟩
  | .hbm, ⟨22, _⟩ => ⟨S8192x4096, .f32⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x1x1x4096, .f32⟩
  | .local _ .vmem, ⟨7, _⟩ => ⟨S1x1x1x4096, .f32⟩
  | .local _ .vmem, ⟨8, _⟩ => ⟨S1x4096, .f32⟩
  | .local _ .vmem, ⟨9, _⟩ => ⟨S1x4096, .f32⟩
  | .local _ .vmem, ⟨10, _⟩ => ⟨S512x4096, .f32⟩
  | .local _ .vmem, ⟨11, _⟩ => ⟨S512x4096, .f32⟩
  | _, _ => ⟨S2x4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 22], ![false, false]⟩

def k0_cond3 (i : grid0.Coords) : BitVec 1 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c21_i32 : BitVec 32 := 21#32
  let v9 : BitVec 1 := Scalar.cmpi .eq arg1 c21_i32
  let v10 : BitVec 1 := Scalar.andi v0 v9
  let v11 : BitVec 32 := Scalar.extui v10
  let c0_i32_3 : BitVec 32 := 0#32
  let v12 : BitVec 1 := Scalar.cmpi .ne v11 c0_i32_3
  v12

@[reducible] def k0_t1_loop : Scf.Loop 32 :=
  let c0_i32_4 : BitVec 32 := 0#32
  let c16_i32_5 : BitVec 32 := 16#32
  let v13 : BitVec 32 := Scalar.addi c0_i32_4 c16_i32_5
  let c1_i32 : BitVec 32 := 1#32
  ⟨c0_i32_4, v13, c1_i32⟩
def k0_mult1 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c32_i32 : BitVec 32 := 32#32
  let v14 : BitVec 32 := Scalar.muli arg9 c32_i32
  let c0_i32_7 : BitVec 32 := 0#32
  let v15 : BitVec 32 := Scalar.addi v14 c0_i32_7
  v15
def k0_mult2 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c32_i32 : BitVec 32 := 32#32
  let v14 : BitVec 32 := Scalar.muli arg9 c32_i32
  let c8_i32 : BitVec 32 := 8#32
  let v17 : BitVec 32 := Scalar.addi v14 c8_i32
  v17
def k0_mult3 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c32_i32 : BitVec 32 := 32#32
  let v14 : BitVec 32 := Scalar.muli arg9 c32_i32
  let c16_i32_8 : BitVec 32 := 16#32
  let v19 : BitVec 32 := Scalar.addi v14 c16_i32_8
  v19
def k0_mult4 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c32_i32 : BitVec 32 := 32#32
  let v14 : BitVec 32 := Scalar.muli arg9 c32_i32
  let c24_i32 : BitVec 32 := 24#32
  let v21 : BitVec 32 := Scalar.addi v14 c24_i32
  v21
def k0_off1 (k0_t1 : Fin k0_t1_loop.trips) (c0_i32_7 : BitVec 32) : Fin 2 → Nat :=
  let c0_i32_4 : BitVec 32 := 0#32
  let c1_i32 : BitVec 32 := 1#32
  let arg9 : BitVec 32 := Scf.iv c0_i32_4 c1_i32 k0_t1
  let c32_i32 : BitVec 32 := 32#32
  let v14 : BitVec 32 := Scalar.muli arg9 c32_i32
  let v15 : BitVec 32 := Scalar.addi v14 c0_i32_7
  let v16 : BitVec 32 := v15
  let v23 : Index := Scalar.indexCast v16
  let c0 : Index := 0#32
  ![v23.toNat, 0]
def k0_cond1 (i : grid0.Coords) : BitVec 1 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c0_i32 : BitVec 32 := 0#32
  let v1 : BitVec 1 := Scalar.cmpi .eq arg1 c0_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c0_i32_1 : BitVec 32 := 0#32
  let v5 : BitVec 1 := Scalar.cmpi .sgt arg1 c0_i32_1
  let v6 : BitVec 1 := Scalar.andi v0 v5
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c21_i32 : BitVec 32 := 21#32
  let v2 : BitVec 32 := Scalar.select v1 arg1 c21_i32
  let c0_i32 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c21_i32 : BitVec 32 := 21#32
  let v1 : BitVec 32 := Scalar.select v0 arg1 c21_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32 : BitVec 32 := 5#32
  let c0_i32_4 : BitVec 32 := 0#32
  let c0_i32_5 : BitVec 32 := 0#32
  let c0_i32_6 : BitVec 32 := 0#32
  ![v17.toNat, c5_i32.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S2x4096x11008 : Shape := ⟨3, ![2, 4096, 11008]⟩
abbrev S11008x4096 : Shape := ⟨2, ![11008, 4096]⟩
abbrev S2x4096x4096 : Shape := ⟨3, ![2, 4096, 4096]⟩
abbrev S2x24576 : Shape := ⟨2, ![2, 24576]⟩
abbrev S4096 : Shape := ⟨1, ![4096]⟩
abbrev S2x4096 : Shape := ⟨2, ![2, 4096]⟩
abbrev S2x1x4096 : Shape := ⟨3, ![2, 1, 4096]⟩
abbrev S_ : Shape := ⟨0, ![]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 50
  | .vmem => 0
  | .smem => 0
  | _ => 0

abbrev bufTy : (tb : Table) → Fin (tcTables nBuf tb) → BufTy
  | .hbm, ⟨0, _⟩ => ⟨S2x4096x11008, .f32⟩
  | .hbm, ⟨1, _⟩ => ⟨S11008x4096, .f32⟩
  | .hbm, ⟨2, _⟩ => ⟨S2x4096x4096, .f32⟩
  | .hbm, ⟨3, _⟩ => ⟨S2x24576, .f32⟩
  | .hbm, ⟨4, _⟩ => ⟨S4096, .f32⟩
  | .hbm, ⟨5, _⟩ => ⟨S4096, .f32⟩
  | .hbm, ⟨6, _⟩ => ⟨S2x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x1x4096, .f32⟩
  | .hbm, ⟨13, _⟩ => ⟨S_, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x4096, .f32⟩
  | .hbm, ⟨27, _⟩ => ⟨S2x4096x4096, .f32⟩
  | .hbm, ⟨28, _⟩ => ⟨S2x4096x4096, .f32⟩
  | .hbm, ⟨29, _⟩ => ⟨S_, .f32⟩
  | .hbm, ⟨30, _⟩ => ⟨S2x4096, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S2x4096x4096, .f32⟩
  | .hbm, ⟨36, _⟩ => ⟨S2x4096x4096, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S2x4096x1, .f32⟩
  | .hbm, ⟨41, _⟩ => ⟨S2x4096x4096, .f32⟩
  | .hbm, ⟨42, _⟩ => ⟨S2x4096x4096, .f32⟩
  | .hbm, ⟨43, _⟩ => ⟨S1x1x4096, .f32⟩
  | .hbm, ⟨44, _⟩ => ⟨S2x4096x4096, .f32⟩
  | .hbm, ⟨45, _⟩ => ⟨S2x4096x4096, .f32⟩
  | .hbm, ⟨46, _⟩ => ⟨S1x1x4096, .f32⟩
  | .hbm, ⟨47, _⟩ => ⟨S2x4096x4096, .f32⟩
  | .hbm, ⟨48, _⟩ => ⟨S2x4096x4096, .f32⟩
  | .hbm, ⟨49, _⟩ => ⟨S8192x4096, .f32⟩
  | _, _ => ⟨S2x4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel4.lean ====
abbrev S2x4096x4096 : Shape := ⟨3, ![2, 4096, 4096]⟩
abbrev S2x256x4096 : Shape := ⟨3, ![2, 256, 4096]⟩
abbrev S4096x20480 : Shape := ⟨2, ![4096, 20480]⟩
abbrev S8192x4096 : Shape := ⟨2, ![8192, 4096]⟩
abbrev S512x4096 : Shape := ⟨2, ![512, 4096]⟩
abbrev S8704x4096 : Shape := ⟨2, ![8704, 4096]⟩
abbrev S8704x8192 : Shape := ⟨2, ![8704, 8192]⟩
abbrev S4096x1024 : Shape := ⟨2, ![4096, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S2x256x4096, .f32⟩
  | .hbm, ⟨2, _⟩ => ⟨S4096x20480, .f32⟩
  | .hbm, ⟨3, _⟩ => ⟨S8192x4096, .f32⟩
  | .hbm, ⟨4, _⟩ => ⟨S512x4096, .f32⟩
  | .hbm, ⟨5, _⟩ => ⟨S8704x4096, .f32⟩
  | .hbm, ⟨6, _⟩ => ⟨S8704x4096, .bf16⟩
  | .hbm, ⟨7, _⟩ => ⟨S8704x8192, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S4096x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2x4096x4096 : Shape := ⟨3, ![2, 4096, 4096]⟩
abbrev S2x256x4096 : Shape := ⟨3, ![2, 256, 4096]⟩
abbrev S4096x20480 : Shape := ⟨2, ![4096, 20480]⟩
abbrev S2x4096x20480 : Shape := ⟨3, ![2, 4096, 20480]⟩
abbrev S8192x20480 : Shape := ⟨2, ![8192, 20480]⟩
abbrev S2x256x20480 : Shape := ⟨3, ![2, 256, 20480]⟩
abbrev S512x20480 : Shape := ⟨2, ![512, 20480]⟩
abbrev S8704x20480 : Shape := ⟨2, ![8704, 20480]⟩
abbrev S8704x4096 : Shape := ⟨2, ![8704, 4096]⟩
abbrev S8704x8192 : Shape := ⟨2, ![8704, 8192]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x256x4096, .f32⟩
  | .hbm, ⟨2, _⟩ => ⟨S4096x20480, .f32⟩
  | .hbm, ⟨3, _⟩ => ⟨S2x4096x20480, .f32⟩
  | .hbm, ⟨4, _⟩ => ⟨S8192x20480, .f32⟩
  | .hbm, ⟨5, _⟩ => ⟨S2x256x20480, .f32⟩
  | .hbm, ⟨6, _⟩ => ⟨S512x20480, .f32⟩
  | .hbm, ⟨7, _⟩ => ⟨S8704x20480, .f32⟩
  | .hbm, ⟨8, _⟩ => ⟨S8704x4096, .f32⟩
  | .hbm, ⟨9, _⟩ => ⟨S8704x4096, .f32⟩
  | .hbm, ⟨10, _⟩ => ⟨S8704x4096, .f32⟩
  | .hbm, ⟨11, _⟩ => ⟨S8704x4096, .f32⟩
  | .hbm, ⟨12, _⟩ => ⟨S8704x4096, .f32⟩
  | .hbm, ⟨13, _⟩ => ⟨S8704x8192, .f32⟩
  | .hbm, ⟨14, _⟩ => ⟨S8704x8192, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S2x4096x4096 : Shape := ⟨3, ![2, 4096, 4096]⟩
abbrev S2x256x4096 : Shape := ⟨3, ![2, 256, 4096]⟩
abbrev S4096x20480 : Shape := ⟨2, ![4096, 20480]⟩
abbrev S8192x4096 : Shape := ⟨2, ![8192, 4096]⟩
abbrev S512x4096 : Shape := ⟨2, ![512, 4096]⟩
abbrev S8704x4096 : Shape := ⟨2, ![8704, 4096]⟩
abbrev S8704x8192 : Shape := ⟨2, ![8704, 8192]⟩
abbrev S4096x1024 : Shape := ⟨2, ![4096, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S2x256x4096, .f32⟩
  | .hbm, ⟨2, _⟩ => ⟨S4096x20480, .f32⟩
  | .hbm, ⟨3, _⟩ => ⟨S8192x4096, .f32⟩
  | .hbm, ⟨4, _⟩ => ⟨S512x4096, .f32⟩
  | .hbm, ⟨5, _⟩ => ⟨S8704x4096, .f32⟩
  | .hbm, ⟨6, _⟩ => ⟨S8704x4096, .bf16⟩
  | .hbm, ⟨7, _⟩ => ⟨S8704x8192, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S4096x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x4096x4096 : Shape := ⟨3, ![2, 4096, 4096]⟩
abbrev S2x256x4096 : Shape := ⟨3, ![2, 256, 4096]⟩
abbrev S4096x20480 : Shape := ⟨2, ![4096, 20480]⟩
abbrev S2x4096x20480 : Shape := ⟨3, ![2, 4096, 20480]⟩
abbrev S8192x20480 : Shape := ⟨2, ![8192, 20480]⟩
abbrev S2x256x20480 : Shape := ⟨3, ![2, 256, 20480]⟩
abbrev S512x20480 : Shape := ⟨2, ![512, 20480]⟩
abbrev S8704x20480 : Shape := ⟨2, ![8704, 20480]⟩
abbrev S8704x4096 : Shape := ⟨2, ![8704, 4096]⟩
abbrev S8704x8192 : Shape := ⟨2, ![8704, 8192]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x256x4096, .f32⟩
  | .hbm, ⟨2, _⟩ => ⟨S4096x20480, .f32⟩
  | .hbm, ⟨3, _⟩ => ⟨S2x4096x20480, .f32⟩
  | .hbm, ⟨4, _⟩ => ⟨S8192x20480, .f32⟩
  | .hbm, ⟨5, _⟩ => ⟨S2x256x20480, .f32⟩
  | .hbm, ⟨6, _⟩ => ⟨S512x20480, .f32⟩
  | .hbm, ⟨7, _⟩ => ⟨S8704x20480, .f32⟩
  | .hbm, ⟨8, _⟩ => ⟨S8704x4096, .f32⟩
  | .hbm, ⟨9, _⟩ => ⟨S8704x4096, .f32⟩
  | .hbm, ⟨10, _⟩ => ⟨S8704x4096, .f32⟩
  | .hbm, ⟨11, _⟩ => ⟨S8704x4096, .f32⟩
  | .hbm, ⟨12, _⟩ => ⟨S8704x4096, .f32⟩
  | .hbm, ⟨13, _⟩ => ⟨S8704x8192, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S2x4096x4096 : Shape := ⟨3, ![2, 4096, 4096]⟩
abbrev S2x256x4096 : Shape := ⟨3, ![2, 256, 4096]⟩
abbrev S4096x20480 : Shape := ⟨2, ![4096, 20480]⟩
abbrev S8192x4096 : Shape := ⟨2, ![8192, 4096]⟩
abbrev S512x4096 : Shape := ⟨2, ![512, 4096]⟩
abbrev S8704x4096 : Shape := ⟨2, ![8704, 4096]⟩
abbrev S4096x1024 : Shape := ⟨2, ![4096, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S2x256x4096, .f32⟩
  | .hbm, ⟨2, _⟩ => ⟨S4096x20480, .f32⟩
  | .hbm, ⟨3, _⟩ => ⟨S8192x4096, .f32⟩
  | .hbm, ⟨4, _⟩ => ⟨S512x4096, .f32⟩
  | .hbm, ⟨5, _⟩ => ⟨S8704x4096, .f32⟩
  | .hbm, ⟨6, _⟩ => ⟨S8704x4096, .bf16⟩
  | .hbm, ⟨7, _⟩ => ⟨S8704x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S4096x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x4096x4096 : Shape := ⟨3, ![2, 4096, 4096]⟩
abbrev S2x256x4096 : Shape := ⟨3, ![2, 256, 4096]⟩
abbrev S4096x20480 : Shape := ⟨2, ![4096, 20480]⟩
abbrev S2x4096x20480 : Shape := ⟨3, ![2, 4096, 20480]⟩
abbrev S8192x20480 : Shape := ⟨2, ![8192, 20480]⟩
abbrev S2x256x20480 : Shape := ⟨3, ![2, 256, 20480]⟩
abbrev S512x20480 : Shape := ⟨2, ![512, 20480]⟩
abbrev S8704x20480 : Shape := ⟨2, ![8704, 20480]⟩
abbrev S8704x4096 : Shape := ⟨2, ![8704, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x256x4096, .f32⟩
  | .hbm, ⟨2, _⟩ => ⟨S4096x20480, .f32⟩
  | .hbm, ⟨3, _⟩ => ⟨S2x4096x20480, .f32⟩
  | .hbm, ⟨4, _⟩ => ⟨S8192x20480, .f32⟩
  | .hbm, ⟨5, _⟩ => ⟨S2x256x20480, .f32⟩
  | .hbm, ⟨6, _⟩ => ⟨S512x20480, .f32⟩
  | .hbm, ⟨7, _⟩ => ⟨S8704x20480, .f32⟩
  | .hbm, ⟨8, _⟩ => ⟨S8704x4096, .f32⟩
  | .hbm, ⟨9, _⟩ => ⟨S8704x4096, .f32⟩
  | .hbm, ⟨10, _⟩ => ⟨S8704x4096, .f32⟩
  | .hbm, ⟨11, _⟩ => ⟨S8704x4096, .f32⟩
  | .hbm, ⟨12, _⟩ => ⟨S8704x4096, .f32⟩
  | .hbm, ⟨13, _⟩ => ⟨S8704x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel7.lean ====
abbrev S2x4096x4096 : Shape := ⟨3, ![2, 4096, 4096]⟩
abbrev S2x256x4096 : Shape := ⟨3, ![2, 256, 4096]⟩
abbrev S4096x12320 : Shape := ⟨2, ![4096, 12320]⟩
abbrev S8192x4096 : Shape := ⟨2, ![8192, 4096]⟩
abbrev S512x4096 : Shape := ⟨2, ![512, 4096]⟩
abbrev S8704x4096 : Shape := ⟨2, ![8704, 4096]⟩
abbrev S12320x4096 : Shape := ⟨2, ![12320, 4096]⟩
abbrev S8704x6144 : Shape := ⟨2, ![8704, 6144]⟩
abbrev S1024x4096 : Shape := ⟨2, ![1024, 4096]⟩
abbrev S512x1024 : Shape := ⟨2, ![512, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S2x256x4096, .f32⟩
  | .hbm, ⟨2, _⟩ => ⟨S4096x12320, .f32⟩
  | .hbm, ⟨3, _⟩ => ⟨S8192x4096, .f32⟩
  | .hbm, ⟨4, _⟩ => ⟨S512x4096, .f32⟩
  | .hbm, ⟨5, _⟩ => ⟨S8704x4096, .f32⟩
  | .hbm, ⟨6, _⟩ => ⟨S8704x4096, .bf16⟩
  | .hbm, ⟨7, _⟩ => ⟨S12320x4096, .f32⟩
  | .hbm, ⟨8, _⟩ => ⟨S8704x6144, .bf16⟩
  | .local _ .vmem, ⟨0, _⟩ => ⟨S512x4096, .bf16⟩
  | .local _ .vmem, ⟨1, _⟩ => ⟨S512x4096, .bf16⟩
  | .local _ .vmem, ⟨2, _⟩ => ⟨S1024x4096, .f32⟩
  | .local _ .vmem, ⟨3, _⟩ => ⟨S1024x4096, .f32⟩
  | .local _ .vmem, ⟨4, _⟩ => ⟨S512x1024, .bf16⟩
  | .local _ .vmem, ⟨5, _⟩ => ⟨S512x1024, .bf16⟩
  | .local _ .vmem, ⟨6, _⟩ => ⟨S1024x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x4096x4096 : Shape := ⟨3, ![2, 4096, 4096]⟩
abbrev S2x256x4096 : Shape := ⟨3, ![2, 256, 4096]⟩
abbrev S4096x12320 : Shape := ⟨2, ![4096, 12320]⟩
abbrev S2x4096x12320 : Shape := ⟨3, ![2, 4096, 12320]⟩
abbrev S8192x12320 : Shape := ⟨2, ![8192, 12320]⟩
abbrev S2x256x12320 : Shape := ⟨3, ![2, 256, 12320]⟩
abbrev S512x12320 : Shape := ⟨2, ![512, 12320]⟩
abbrev S8704x12320 : Shape := ⟨2, ![8704, 12320]⟩
abbrev S8704x2048 : Shape := ⟨2, ![8704, 2048]⟩
abbrev S8704x1024 : Shape := ⟨2, ![8704, 1024]⟩
abbrev S8704x16 : Shape := ⟨2, ![8704, 16]⟩
abbrev S8704x6144 : Shape := ⟨2, ![8704, 6144]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x256x4096, .f32⟩
  | .hbm, ⟨2, _⟩ => ⟨S4096x12320, .f32⟩
  | .hbm, ⟨3, _⟩ => ⟨S2x4096x12320, .f32⟩
  | .hbm, ⟨4, _⟩ => ⟨S8192x12320, .f32⟩
  | .hbm, ⟨5, _⟩ => ⟨S2x256x12320, .f32⟩
  | .hbm, ⟨6, _⟩ => ⟨S512x12320, .f32⟩
  | .hbm, ⟨7, _⟩ => ⟨S8704x12320, .f32⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S8704x1024, .f32⟩
  | .hbm, ⟨12, _⟩ => ⟨S8704x1024, .f32⟩
  | .hbm, ⟨13, _⟩ => ⟨S8704x2048, .f32⟩
  | .hbm, ⟨14, _⟩ => ⟨S8704x2048, .f32⟩
  | .hbm, ⟨15, _⟩ => ⟨S8704x16, .f32⟩
  | .hbm, ⟨16, _⟩ => ⟨S8704x16, .f32⟩
  | .hbm, ⟨17, _⟩ => ⟨S8704x6144, .f32⟩
  | .hbm, ⟨18, _⟩ => ⟨S8704x6144, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel8.lean ====
abbrev S2x4096x4096 : Shape := ⟨3, ![2, 4096, 4096]⟩
abbrev S4096x4096 : Shape := ⟨2, ![4096, 4096]⟩
abbrev S2x24576 : Shape := ⟨2, ![2, 24576]⟩
abbrev S4096 : Shape := ⟨1, ![4096]⟩
abbrev S_ : Shape := ⟨0, ![]⟩
abbrev S8x24576 : Shape := ⟨2, ![8, 24576]⟩
abbrev S8x6x1x4096 : Shape := ⟨4, ![8, 6, 1, 4096]⟩
abbrev S8192x4096 : Shape := ⟨2, ![8192, 4096]⟩
abbrev S1x4096 : Shape := ⟨2, ![1, 4096]⟩
abbrev S512x512 : Shape := ⟨2, ![512, 512]⟩
abbrev S512x4096 : Shape := ⟨2, ![512, 4096]⟩
abbrev S1x1x1x4096 : Shape := ⟨4, ![1, 1, 1, 4096]⟩
abbrev S32x4096 : Shape := ⟨2, ![32, 4096]⟩
abbrev S8x4096 : Shape := ⟨2, ![8, 4096]⟩
abbrev S8 : Shape := ⟨1, ![8]⟩
abbrev S8x1 : Shape := ⟨2, ![8, 1]⟩

abbrev nBuf : Space → Nat
  | .hbm => 18
  | .vmem => 19
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S2x4096x4096, .f32⟩
  | .hbm, ⟨3, _⟩ => ⟨S2x24576, .f32⟩
  | .hbm, ⟨4, _⟩ => ⟨S4096, .f32⟩
  | .hbm, ⟨5, _⟩ => ⟨S4096, .f32⟩
  | .hbm, ⟨6, _⟩ => ⟨S_, .i32⟩
  | .hbm, ⟨7, _⟩ => ⟨S_, .f32⟩
  | .hbm, ⟨8, _⟩ => ⟨S8x24576, .f32⟩
  | .hbm, ⟨9, _⟩ => ⟨S8x6x1x4096, .f32⟩
  | .hbm, ⟨10, _⟩ => ⟨S8192x4096, .f32⟩
  | .hbm, ⟨11, _⟩ => ⟨S8192x4096, .bf16⟩
  | .hbm, ⟨12, _⟩ => ⟨S4096x4096, .bf16⟩
  | .hbm, ⟨13, _⟩ => ⟨S8192x4096, .f32⟩
  | .hbm, ⟨14, _⟩ => ⟨S1x4096, .f32⟩
  | .hbm, ⟨15, _⟩ => ⟨S1x4096, .f32⟩
  | .hbm, ⟨16, _⟩ => ⟨S8192x4096, .f32⟩
  | .hbm, ⟨17, _⟩ => ⟨S8192x4096, .bf16⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x1x1x4096, .f32⟩
  | .local _ .vmem, ⟨7, _⟩ => ⟨S1x1x1x4096, .f32⟩
  | .local _ .vmem, ⟨8, _⟩ => ⟨S1x4096, .f32⟩
  | .local _ .vmem, ⟨9, _⟩ => ⟨S1x4096, .f32⟩
  | .local _ .vmem, ⟨10, _⟩ => ⟨S1x1x1x4096, .f32⟩
  | .local _ .vmem, ⟨11, _⟩ => ⟨S1x1x1x4096, .f32⟩
  | .local _ .vmem, ⟨12, _⟩ => ⟨S1x1x1x4096, .f32⟩
  | .local _ .vmem, ⟨13, _⟩ => ⟨S1x1x1x4096, .f32⟩
  | .local _ .vmem, ⟨14, _⟩ => ⟨S512x4096, .f32⟩
  | .local _ .vmem, ⟨15, _⟩ => ⟨S512x4096, .f32⟩
  | .local _ .vmem, ⟨16, _⟩ => ⟨S512x4096, .bf16⟩
  | .local _ .vmem, ⟨17, _⟩ => ⟨S512x4096, .bf16⟩
  | .local _ .vmem, ⟨18, _⟩ => ⟨S32x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 8], ![false, false]⟩

def k0_cond4 (i : grid0.Coords) : BitVec 1 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c7_i32 : BitVec 32 := 7#32
  let v14 : BitVec 1 := Scalar.cmpi .eq arg1 c7_i32
  let v15 : BitVec 1 := Scalar.andi v0 v14
  let v16 : BitVec 32 := Scalar.extui v15
  let c0_i32_5 : BitVec 32 := 0#32
  let v17 : BitVec 1 := Scalar.cmpi .ne v16 c0_i32_5
  v17

@[reducible] def k0_t1_loop : Scf.Loop 32 :=
  let c0_i32_6 : BitVec 32 := 0#32
  let c16_i32_7 : BitVec 32 := 16#32
  let v18 : BitVec 32 := Scalar.addi c0_i32_6 c16_i32_7
  let c1_i32 : BitVec 32 := 1#32
  ⟨c0_i32_6, v18, c1_i32⟩
def k0_mult1 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let c0_i32_9 : BitVec 32 := 0#32
  let v20 : BitVec 32 := Scalar.addi v19 c0_i32_9
  v20
def k0_mult2 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let c8_i32 : BitVec 32 := 8#32
  let v22 : BitVec 32 := Scalar.addi v19 c8_i32
  v22
def k0_mult3 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let c16_i32_10 : BitVec 32 := 16#32
  let v24 : BitVec 32 := Scalar.addi v19 c16_i32_10
  v24
def k0_mult4 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let c24_i32 : BitVec 32 := 24#32
  let v26 : BitVec 32 := Scalar.addi v19 c24_i32
  v26
def k0_off1 (k0_t1 : Fin k0_t1_loop.trips) (c0_i32_9 : BitVec 32) : Fin 2 → Nat :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let v20 : BitVec 32 := Scalar.addi v19 c0_i32_9
  let v21 : BitVec 32 := v20
  let v28 : Index := Scalar.indexCast v21
  let c0 : Index := 0#32
  ![v28.toNat, 0]
def k0_mult5 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  v19
def k0_off2 (k0_t1 : Fin k0_t1_loop.trips) : Fin 2 → Nat :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let v238 : BitVec 32 := v19
  let v239 : Index := Scalar.indexCast v238
  let c0_120 : Index := 0#32
  ![v239.toNat, 0]
def k0_cond2 (i : grid0.Coords) : BitVec 1 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c0_i32_1 : BitVec 32 := 0#32
  let v6 : BitVec 1 := Scalar.cmpi .eq arg1 c0_i32_1
  let v7 : BitVec 1 := Scalar.andi v0 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c0_i32_3 : BitVec 32 := 0#32
  let v10 : BitVec 1 := Scalar.cmpi .sgt arg1 c0_i32_3
  let v11 : BitVec 1 := Scalar.andi v0 v10
  let v12 : BitVec 32 := Scalar.extui v11
  let c0_i32_4 : BitVec 32 := 0#32
  let v13 : BitVec 1 := Scalar.cmpi .ne v12 c0_i32_4
  v13

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v1 : BitVec 1 := Scalar.xori v0 v_true
  let arg1 : BitVec 32 := BitVec.ofNat 32 (i 1).val
  let c0_i32 : BitVec 32 := 0#32
  let v2 : BitVec 1 := Scalar.cmpi .eq arg1 c0_i32
  let v3 : BitVec 1 := Scalar.andi v1 v2
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c7_i32 : BitVec 32 := 7#32
  let v2 : BitVec 32 := Scalar.select v1 arg1 c7_i32
  let c0_i32 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c7_i32 : BitVec 32 := 7#32
  let v1 : BitVec 32 := Scalar.select v0 arg1 c7_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let c0_i32_5 : BitVec 32 := 0#32
  let c0_i32_6 : BitVec 32 := 0#32
  ![v17.toNat, c2_i32.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let c0_i32_4 : BitVec 32 := 0#32
  let c0_i32_5 : BitVec 32 := 0#32
  let c0_i32_6 : BitVec 32 := 0#32
  ![v17.toNat, c3_i32.toNat, c0_i32_4.toNat, c0_i32_5.toNat]

def cc0_transform_7 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let c0_i32_5 : BitVec 32 := 0#32
  let c0_i32_6 : BitVec 32 := 0#32
  ![v17.toNat, c4_i32.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference8Ideal.lean ====
abbrev S2x4096x4096 : Shape := ⟨3, ![2, 4096, 4096]⟩
abbrev S4096x4096 : Shape := ⟨2, ![4096, 4096]⟩
abbrev S2x24576 : Shape := ⟨2, ![2, 24576]⟩
abbrev S4096 : Shape := ⟨1, ![4096]⟩
abbrev S2x4096 : Shape := ⟨2, ![2, 4096]⟩
abbrev S2x1x4096 : Shape := ⟨3, ![2, 1, 4096]⟩
abbrev S_ : Shape := ⟨0, ![]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 64
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S2x4096x4096, .f32⟩
  | .hbm, ⟨3, _⟩ => ⟨S2x24576, .f32⟩
  | .hbm, ⟨4, _⟩ => ⟨S4096, .f32⟩
  | .hbm, ⟨5, _⟩ => ⟨S4096, .f32⟩
  | .hbm, ⟨6, _⟩ => ⟨S2x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x1x4096, .f32⟩
  | .hbm, ⟨13, _⟩ => ⟨S2x1x4096, .f32⟩
  | .hbm, ⟨14, _⟩ => ⟨S2x1x4096, .f32⟩
  | .hbm, ⟨15, _⟩ => ⟨S2x1x4096, .f32⟩
  | .hbm, ⟨16, _⟩ => ⟨S2x1x4096, .f32⟩
  | .hbm, ⟨17, _⟩ => ⟨S2x1x4096, .f32⟩
  | .hbm, ⟨18, _⟩ => ⟨S_, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S2x4096x4096, .f32⟩
  | .hbm, ⟨24, _⟩ => ⟨S2x4096x4096, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x4096, .f32⟩
  | .hbm, ⟨32, _⟩ => ⟨S2x4096x4096, .f32⟩
  | .hbm, ⟨33, _⟩ => ⟨S2x4096x4096, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S2x4096x4096, .f32⟩
  | .hbm, ⟨41, _⟩ => ⟨S2x4096x4096, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S2x4096x1, .f32⟩
  | .hbm, ⟨46, _⟩ => ⟨S2x4096x4096, .f32⟩
  | .hbm, ⟨47, _⟩ => ⟨S2x4096x4096, .f32⟩
  | .hbm, ⟨48, _⟩ => ⟨S1x1x4096, .f32⟩
  | .hbm, ⟨49, _⟩ => ⟨S2x4096x4096, .f32⟩
  | .hbm, ⟨50, _⟩ => ⟨S2x4096x4096, .f32⟩
  | .hbm, ⟨51, _⟩ => ⟨S1x1x4096, .f32⟩
  | .hbm, ⟨52, _⟩ => ⟨S2x4096x4096, .f32⟩
  | .hbm, ⟨53, _⟩ => ⟨S2x4096x4096, .f32⟩
  | .hbm, ⟨54, _⟩ => ⟨S_, .f32⟩
  | .hbm, ⟨55, _⟩ => ⟨S2x1x4096, .f32⟩
  | .hbm, ⟨56, _⟩ => ⟨S2x1x4096, .f32⟩
  | .hbm, ⟨57, _⟩ => ⟨S2x4096x4096, .f32⟩
  | .hbm, ⟨58, _⟩ => ⟨S2x4096x4096, .f32⟩
  | .hbm, ⟨59, _⟩ => ⟨S2x4096x4096, .f32⟩
  | .hbm, ⟨60, _⟩ => ⟨S2x4096x4096, .f32⟩
  | .hbm, ⟨61, _⟩ => ⟨S8192x4096, .f32⟩
  | .hbm, ⟨62, _⟩ => ⟨S8192x4096, .f32⟩
  | .hbm, ⟨63, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel9.lean ====
abbrev S2x4096x11008 : Shape := ⟨3, ![2, 4096, 11008]⟩
abbrev S11008x4096 : Shape := ⟨2, ![11008, 4096]⟩
abbrev S2x4096x4096 : Shape := ⟨3, ![2, 4096, 4096]⟩
abbrev S2x24576 : Shape := ⟨2, ![2, 24576]⟩
abbrev S4096 : Shape := ⟨1, ![4096]⟩
abbrev S8192x11008 : Shape := ⟨2, ![8192, 11008]⟩
abbrev S_ : Shape := ⟨0, ![]⟩
abbrev S8192x11264 : Shape := ⟨2, ![8192, 11264]⟩
abbrev S11264x4096 : Shape := ⟨2, ![11264, 4096]⟩
abbrev S8x24576 : Shape := ⟨2, ![8, 24576]⟩
abbrev S8x6x1x4096 : Shape := ⟨4, ![8, 6, 1, 4096]⟩
abbrev S8192x4096 : Shape := ⟨2, ![8192, 4096]⟩
abbrev S1x4096 : Shape := ⟨2, ![1, 4096]⟩
abbrev S8704x4096 : Shape := ⟨2, ![8704, 4096]⟩
abbrev S512x512 : Shape := ⟨2, ![512, 512]⟩
abbrev S512x4096 : Shape := ⟨2, ![512, 4096]⟩
abbrev S1x1x1x4096 : Shape := ⟨4, ![1, 1, 1, 4096]⟩
abbrev S32x4096 : Shape := ⟨2, ![32, 4096]⟩
abbrev S8x4096 : Shape := ⟨2, ![8, 4096]⟩
abbrev S8 : Shape := ⟨1, ![8]⟩
abbrev S8x1 : Shape := ⟨2, ![8, 1]⟩

abbrev nBuf : Space → Nat
  | .hbm => 29
  | .vmem => 19
  | .smem => 0
  | _ => 0

abbrev bufTy : (tb : Table) → Fin (tcTables nBuf tb) → BufTy
  | .hbm, ⟨0, _⟩ => ⟨S2x4096x11008, .f32⟩
  | .hbm, ⟨1, _⟩ => ⟨S11008x4096, .f32⟩
  | .hbm, ⟨2, _⟩ => ⟨S2x4096x4096, .f32⟩
  | .hbm, ⟨3, _⟩ => ⟨S2x24576, .f32⟩
  | .hbm, ⟨4, _⟩ => ⟨S2x24576, .f32⟩
  | .hbm, ⟨5, _⟩ => ⟨S4096, .f32⟩
  | .hbm, ⟨6, _⟩ => ⟨S4096, .f32⟩
  | .hbm, ⟨7, _⟩ => ⟨S8192x11008, .f32⟩
  | .hbm, ⟨8, _⟩ => ⟨S_, .i32⟩
  | .hbm, ⟨9, _⟩ => ⟨S_, .f32⟩
  | .hbm, ⟨10, _⟩ => ⟨S8192x11264, .f32⟩
  | .hbm, ⟨11, _⟩ => ⟨S8192x11264, .bf16⟩
  | .hbm, ⟨12, _⟩ => ⟨S_, .i32⟩
  | .hbm, ⟨13, _⟩ => ⟨S_, .f32⟩
  | .hbm, ⟨14, _⟩ => ⟨S11264x4096, .f32⟩
  | .hbm, ⟨15, _⟩ => ⟨S11264x4096, .bf16⟩
  | .hbm, ⟨16, _⟩ => ⟨S_, .i32⟩
  | .hbm, ⟨17, _⟩ => ⟨S_, .f32⟩
  | .hbm, ⟨18, _⟩ => ⟨S8x24576, .f32⟩
  | .hbm, ⟨19, _⟩ => ⟨S8x6x1x4096, .f32⟩
  | .hbm, ⟨20, _⟩ => ⟨S_, .i32⟩
  | .hbm, ⟨21, _⟩ => ⟨S_, .f32⟩
  | .hbm, ⟨22, _⟩ => ⟨S8x24576, .f32⟩
  | .hbm, ⟨23, _⟩ => ⟨S8x6x1x4096, .f32⟩
  | .hbm, ⟨24, _⟩ => ⟨S8192x4096, .f32⟩
  | .hbm, ⟨25, _⟩ => ⟨S1x4096, .f32⟩
  | .hbm, ⟨26, _⟩ => ⟨S1x4096, .f32⟩
  | .hbm, ⟨27, _⟩ => ⟨S8192x4096, .f32⟩
  | .hbm, ⟨28, _⟩ => ⟨S8704x4096, .bf16⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x1x1x4096, .f32⟩
  | .local _ .vmem, ⟨7, _⟩ => ⟨S1x1x1x4096, .f32⟩
  | .local _ .vmem, ⟨8, _⟩ => ⟨S1x4096, .f32⟩
  | .local _ .vmem, ⟨9, _⟩ => ⟨S1x4096, .f32⟩
  | .local _ .vmem, ⟨10, _⟩ => ⟨S1x1x1x4096, .f32⟩
  | .local _ .vmem, ⟨11, _⟩ => ⟨S1x1x1x4096, .f32⟩
  | .local _ .vmem, ⟨12, _⟩ => ⟨S1x1x1x4096, .f32⟩
  | .local _ .vmem, ⟨13, _⟩ => ⟨S1x1x1x4096, .f32⟩
  | .local _ .vmem, ⟨14, _⟩ => ⟨S512x4096, .f32⟩
  | .local _ .vmem, ⟨15, _⟩ => ⟨S512x4096, .f32⟩
  | .local _ .vmem, ⟨16, _⟩ => ⟨S512x4096, .bf16⟩
  | .local _ .vmem, ⟨17, _⟩ => ⟨S512x4096, .bf16⟩
  | .local _ .vmem, ⟨18, _⟩ => ⟨S32x4096, .f32⟩
  | _, _ => ⟨S2x4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_call3_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![17, 22], ![false, false]⟩

def k0_cond4 (i : grid0.Coords) : BitVec 1 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c21_i32 : BitVec 32 := 21#32
  let v14 : BitVec 1 := Scalar.cmpi .eq arg1 c21_i32
  let v15 : BitVec 1 := Scalar.andi v0 v14
  let v16 : BitVec 32 := Scalar.extui v15
  let c0_i32_5 : BitVec 32 := 0#32
  let v17 : BitVec 1 := Scalar.cmpi .ne v16 c0_i32_5
  v17

@[reducible] def k0_t1_loop : Scf.Loop 32 :=
  let c0_i32_6 : BitVec 32 := 0#32
  let c16_i32_7 : BitVec 32 := 16#32
  let v18 : BitVec 32 := Scalar.addi c0_i32_6 c16_i32_7
  let c1_i32 : BitVec 32 := 1#32
  ⟨c0_i32_6, v18, c1_i32⟩
def k0_mult1 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let c0_i32_9 : BitVec 32 := 0#32
  let v20 : BitVec 32 := Scalar.addi v19 c0_i32_9
  v20
def k0_mult2 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let c8_i32 : BitVec 32 := 8#32
  let v22 : BitVec 32 := Scalar.addi v19 c8_i32
  v22
def k0_mult3 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let c16_i32_10 : BitVec 32 := 16#32
  let v24 : BitVec 32 := Scalar.addi v19 c16_i32_10
  v24
def k0_mult4 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let c24_i32 : BitVec 32 := 24#32
  let v26 : BitVec 32 := Scalar.addi v19 c24_i32
  v26
def k0_off1 (k0_t1 : Fin k0_t1_loop.trips) (c0_i32_9 : BitVec 32) : Fin 2 → Nat :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let v20 : BitVec 32 := Scalar.addi v19 c0_i32_9
  let v21 : BitVec 32 := v20
  let v28 : Index := Scalar.indexCast v21
  let c0 : Index := 0#32
  ![v28.toNat, 0]
def k0_mult5 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  v19
def k0_off2 (k0_t1 : Fin k0_t1_loop.trips) : Fin 2 → Nat :=
  let c0_i32_6 : BitVec 32 := 0#32
  let c1_i32 : BitVec 32 := 1#32
  let arg13 : BitVec 32 := Scf.iv c0_i32_6 c1_i32 k0_t1
  let c32_i32 : BitVec 32 := 32#32
  let v19 : BitVec 32 := Scalar.muli arg13 c32_i32
  let v238 : BitVec 32 := v19
  let v239 : Index := Scalar.indexCast v238
  let c0_120 : Index := 0#32
  ![v239.toNat, 0]
def k0_cond2 (i : grid0.Coords) : BitVec 1 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c0_i32_1 : BitVec 32 := 0#32
  let v6 : BitVec 1 := Scalar.cmpi .eq arg1 c0_i32_1
  let v7 : BitVec 1 := Scalar.andi v0 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c0_i32_3 : BitVec 32 := 0#32
  let v10 : BitVec 1 := Scalar.cmpi .sgt arg1 c0_i32_3
  let v11 : BitVec 1 := Scalar.andi v0 v10
  let v12 : BitVec 32 := Scalar.extui v11
  let c0_i32_4 : BitVec 32 := 0#32
  let v13 : BitVec 1 := Scalar.cmpi .ne v12 c0_i32_4
  v13

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v1 : BitVec 1 := Scalar.xori v0 v_true
  let arg1 : BitVec 32 := BitVec.ofNat 32 (i 1).val
  let c0_i32 : BitVec 32 := 0#32
  let v2 : BitVec 1 := Scalar.cmpi .eq arg1 c0_i32
  let v3 : BitVec 1 := Scalar.andi v1 v2
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c21_i32 : BitVec 32 := 21#32
  let v2 : BitVec 32 := Scalar.select v1 arg1 c21_i32
  let c0_i32 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c21_i32 : BitVec 32 := 21#32
  let v1 : BitVec 32 := Scalar.select v0 arg1 c21_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32 : BitVec 32 := 5#32
  let c0_i32_4 : BitVec 32 := 0#32
  let c0_i32_5 : BitVec 32 := 0#32
  let c0_i32_6 : BitVec 32 := 0#32
  ![v17.toNat, c5_i32.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_7 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c0_i32_5 : BitVec 32 := 0#32
  let c0_i32_6 : BitVec 32 := 0#32
  let c0_i32_7 : BitVec 32 := 0#32
  ![v17.toNat, c1_i32_4.toNat, c0_i32_5.toNat, c0_i32_6.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference9Ideal.lean ====
abbrev S2x4096x11008 : Shape := ⟨3, ![2, 4096, 11008]⟩
abbrev S11008x4096 : Shape := ⟨2, ![11008, 4096]⟩
abbrev S2x4096x4096 : Shape := ⟨3, ![2, 4096, 4096]⟩
abbrev S2x24576 : Shape := ⟨2, ![2, 24576]⟩
abbrev S4096 : Shape := ⟨1, ![4096]⟩
abbrev S2x4096 : Shape := ⟨2, ![2, 4096]⟩
abbrev S2x1x4096 : Shape := ⟨3, ![2, 1, 4096]⟩
abbrev S_ : Shape := ⟨0, ![]⟩
abbrev S2x4096x1 : Shape := ⟨3, ![2, 4096, 1]⟩
abbrev S1x1x4096 : Shape := ⟨3, ![1, 1, 4096]⟩
abbrev S8192x4096 : Shape := ⟨2, ![8192, 4096]⟩
abbrev S8704x4096 : Shape := ⟨2, ![8704, 4096]⟩

abbrev nBuf : Space → Nat
  | .hbm => 71
  | .vmem => 0
  | .smem => 0
  | _ => 0

abbrev bufTy : (tb : Table) → Fin (tcTables nBuf tb) → BufTy
  | .hbm, ⟨0, _⟩ => ⟨S2x4096x11008, .f32⟩
  | .hbm, ⟨1, _⟩ => ⟨S11008x4096, .f32⟩
  | .hbm, ⟨2, _⟩ => ⟨S2x4096x4096, .f32⟩
  | .hbm, ⟨3, _⟩ => ⟨S2x24576, .f32⟩
  | .hbm, ⟨4, _⟩ => ⟨S2x24576, .f32⟩
  | .hbm, ⟨5, _⟩ => ⟨S4096, .f32⟩
  | .hbm, ⟨6, _⟩ => ⟨S4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x4096, .f32⟩
  | .hbm, ⟨13, _⟩ => ⟨S2x1x4096, .f32⟩
  | .hbm, ⟨14, _⟩ => ⟨S_, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S_, .f32⟩
  | .hbm, ⟨22, _⟩ => ⟨S2x4096, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x4096, .f32⟩
  | .hbm, ⟨28, _⟩ => ⟨S2x4096x4096, .f32⟩
  | .hbm, ⟨29, _⟩ => ⟨S2x4096x4096, .f32⟩
  | .hbm, ⟨30, _⟩ => ⟨S_, .f32⟩
  | .hbm, ⟨31, _⟩ => ⟨S2x4096, .f32⟩
  | .hbm, ⟨32, _⟩ => ⟨S2x4096x1, .f32⟩
  | .hbm, ⟨33, _⟩ => ⟨S_, .f32⟩
  | .hbm, ⟨34, _⟩ => ⟨S2x4096x1, .f32⟩
  | .hbm, ⟨35, _⟩ => ⟨S2x4096x1, .f32⟩
  | .hbm, ⟨36, _⟩ => ⟨S2x4096x4096, .f32⟩
  | .hbm, ⟨37, _⟩ => ⟨S2x4096x4096, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S2x4096x1, .f32⟩
  | .hbm, ⟨42, _⟩ => ⟨S2x4096x4096, .f32⟩
  | .hbm, ⟨43, _⟩ => ⟨S2x4096x4096, .f32⟩
  | .hbm, ⟨44, _⟩ => ⟨S1x1x4096, .f32⟩
  | .hbm, ⟨45, _⟩ => ⟨S2x4096x4096, .f32⟩
  | .hbm, ⟨46, _⟩ => ⟨S2x4096x4096, .f32⟩
  | .hbm, ⟨47, _⟩ => ⟨S1x1x4096, .f32⟩
  | .hbm, ⟨48, _⟩ => ⟨S2x4096x4096, .f32⟩
  | .hbm, ⟨49, _⟩ => ⟨S2x4096x4096, .f32⟩
  | .hbm, ⟨50, _⟩ => ⟨S2x4096, .f32⟩
  | .hbm, ⟨51, _⟩ => ⟨S2x4096, .f32⟩
  | .hbm, ⟨52, _⟩ => ⟨S2x4096, .f32⟩
  | .hbm, ⟨53, _⟩ => ⟨S2x4096, .f32⟩
  | .hbm, ⟨54, _⟩ => ⟨S2x4096, .f32⟩
  | .hbm, ⟨55, _⟩ => ⟨S2x4096, .f32⟩
  | .hbm, ⟨56, _⟩ => ⟨S2x1x4096, .f32⟩
  | .hbm, ⟨57, _⟩ => ⟨S2x1x4096, .f32⟩
  | .hbm, ⟨58, _⟩ => ⟨S_, .f32⟩
  | .hbm, ⟨59, _⟩ => ⟨S2x1x4096, .f32⟩
  | .hbm, ⟨60, _⟩ => ⟨S2x1x4096, .f32⟩
  | .hbm, ⟨61, _⟩ => ⟨S2x4096x4096, .f32⟩
  | .hbm, ⟨62, _⟩ => ⟨S2x4096x4096, .f32⟩
  | .hbm, ⟨63, _⟩ => ⟨S2x4096x4096, .f32⟩
  | .hbm, ⟨64, _⟩ => ⟨S2x4096x4096, .f32⟩
  | .hbm, ⟨65, _⟩ => ⟨S8192x4096, .f32⟩
  | .hbm, ⟨66, _⟩ => ⟨S8192x4096, .f32⟩
  | .hbm, ⟨67, _⟩ => ⟨S_, .i32⟩
  | .hbm, ⟨68, _⟩ => ⟨S_, .f32⟩
  | .hbm, ⟨69, _⟩ => ⟨S8704x4096, .f32⟩
  | .hbm, ⟨70, _⟩ => ⟨S8704x4096, .bf16⟩
  | _, _ => ⟨S2x4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c : Ref sig .tc := ⟨.hbm, 67, rfl⟩
abbrev main_call0_v0 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Proof.Body.lean ====
/-
  WHAT ONE GRID POINT WRITES, as a function of the blocks it is given: the kernel's stores and loads of the score scratch are
  read away, and its numbered payloads are gathered into one function of a map (scores, row maximum, lane sums, weighted
  values) used at both softmax maps. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F]

/-- The scores of 512 queries against a chunk of 512 keys. -/
def score (q k : Vec F S512x128 .bf16) : FVec F S512x512 .f32 :=
  matmul dot_S512x128_S512x128_S512x512_1_1_0_0_n_n none q k (constant S512x512 .f32 0x00000000#32)

/-- The scores of 512 queries against the 256 context keys. -/
def scoreC (q : Vec F S512x128 .bf16) (k : Vec F S256x128 .bf16) : FVec F S512x256 .f32 :=
  matmul dot_S512x128_S256x128_S512x256_1_1_0_0_n_n none q k (constant S512x256 .f32 0x00000000#32)

/-- A chunk of 512 columns folded onto 128 lanes by `op`. -/
def fold4 (op : FVec F S512x128 .f32 → FVec F S512x128 .f32 → FVec F S512x128 .f32) (s : FVec F S512x512 .f32) : FVec F S512x128 .f32 :=
  op (op (op (extractStridedSlice S512x128 ![0, 0] s slices_S512x512_o0_0_S512x128)
    (extractStridedSlice S512x128 ![0, 128] s slices_S512x512_o0_128_S512x128))
    (extractStridedSlice S512x128 ![0, 256] s slices_S512x512_o0_256_S512x128))
    (extractStridedSlice S512x128 ![0, 384] s slices_S512x512_o0_384_S512x128)

/-- A chunk of 256 columns folded onto 128 lanes by `op`. -/
def fold2 (op : FVec F S512x128 .f32 → FVec F S512x128 .f32 → FVec F S512x128 .f32) (s : FVec F S512x256 .f32) : FVec F S512x128 .f32 :=
  op (extractStridedSlice S512x128 ![0, 0] s slices_S512x256_o0_0_S512x128)
    (extractStridedSlice S512x128 ![0, 128] s slices_S512x256_o0_128_S512x128)

/-- The nine chunks folded onto 128 lanes, in the order the kernel meets them. -/
def lanes (op : FVec F S512x128 .f32 → FVec F S512x128 .f32 → FVec F S512x128 .f32) (s : Fin 8 → FVec F S512x512 .f32)
    (sc : FVec F S512x256 .f32) : FVec F S512x128 .f32 :=
  op (op (op (op (op (op (op (op (fold4 op (s 0)) (fold4 op (s 1))) (fold4 op (s 2))) (fold4 op (s 3))) (fold4 op (s 4)))
    (fold4 op (s 5))) (fold4 op (s 6))) (fold4 op (s 7))) (fold2 op sc)

/-- The largest score of each row. -/
def rowMax (s : Fin 8 → FVec F S512x512 .f32) (sc : FVec F S512x256 .f32) : FVec F S512x1 .f32 :=
  shapeCast S512x1 (multiReduction .maximumf [1] S512 (lanes maximumf s sc) 0xFF800000#32 reduces_S512x128_S512 (.inl rfl) rfl)
    shapeCasts_S512_S512x1

/-- A chunk's unnormalised weights. -/
def weigh (M : FVec F S512x1 .f32) (s : FVec F S512x512 .f32) : FVec F S512x512 .f32 :=
  exp2 (subf s (broadcastTo S512x512 M broadcasts_S512x1_S512x512))

/-- The context chunk's unnormalised weights. -/
def weighC (M : FVec F S512x1 .f32) (s : FVec F S512x256 .f32) : FVec F S512x256 .f32 :=
  exp2 (subf s (broadcastTo S512x256 M broadcasts_S512x1_S512x256))

/-- A chunk's values summed under its weights. -/
def pv (p : FVec F S512x512 .f32) (v : Vec F S512x256 .bf16) : FVec F S512x256 .f32 :=
  matmul dot_S512x512_S512x256_S512x256_1_0_0_1_n_n none (truncf .bf16 p bitsLt_bf16_f32) v (constant S512x256 .f32 0x00000000#32)

/-- The context chunk's values summed under its weights. -/
def pvC (p : FVec F S512x256 .f32) (v : Vec F S256x256 .bf16) : FVec F S512x256 .f32 :=
  matmul dot_S512x256_S256x256_S512x256_1_0_0_1_n_n none (truncf .bf16 p bitsLt_bf16_f32) v (constant S512x256 .f32 0x00000000#32)

/-- All values summed under the weights. -/
def accV (p : Fin 8 → FVec F S512x512 .f32) (pc : FVec F S512x256 .f32) (v : Fin 8 → Vec F S512x256 .bf16) (vc : Vec F S256x256 .bf16) :
    FVec F S512x256 .f32 :=
  addf (addf (addf (addf (addf (addf (addf (addf (pv (p 0) (v 0)) (pv (p 1) (v 1))) (pv (p 2) (v 2))) (pv (p 3) (v 3)))
    (pv (p 4) (v 4))) (pv (p 5) (v 5))) (pv (p 6) (v 6))) (pv (p 7) (v 7))) (pvC pc vc)

/-- Half `h` of the query block: the queries of one softmax map. -/
def qh (h : Fin 2) (x : Vec F S512x256 .bf16) : Vec F S512x128 .bf16 :=
  View.ld x (Rect.unit ![0, 128 * h.val] ![512, 128] (by revert h; decide))

/-- Chunk `j` of the latent keys, half `h`. -/
def kh (h : Fin 2) (j : Fin 8) (x : Vec F S4096x256 .bf16) : Vec F S512x128 .bf16 :=
  View.ld x (Rect.unit ![512 * j.val, 128 * h.val] ![512, 128] (by revert h j; decide))

/-- The context keys, half `h`. -/
def kch (h : Fin 2) (x : Vec F S256x256 .bf16) : Vec F S256x128 .bf16 :=
  View.ld x (Rect.unit ![0, 128 * h.val] ![256, 128] (by revert h; decide))

/-- Chunk `j` of the latent values. -/
def vh (j : Fin 8) (x : Vec F S4096x256 .bf16) : Vec F S512x256 .bf16 :=
  View.ld x (Rect.unit ![512 * j.val, 0] ![512, 256] (by revert j; decide))

/-- The row maxima of softmax map `h`. -/
def mapMax (h : Fin 2) (q : Vec F S512x256 .bf16) (k : Vec F S4096x256 .bf16) (kc : Vec F S256x256 .bf16) : FVec F S512x1 .f32 :=
  rowMax (fun j => score (qh h q) (kh h j k)) (scoreC (qh h q) (kch h kc))

/-- The lane sums of softmax map `h`, with `M` subtracted from the scores. -/
def mapL (h : Fin 2) (M : FVec F S512x1 .f32) (q : Vec F S512x256 .bf16) (k : Vec F S4096x256 .bf16) (kc : Vec F S256x256 .bf16) :
    FVec F S512x128 .f32 :=
  lanes addf (fun j => weigh M (score (qh h q) (kh h j k))) (weighC M (scoreC (qh h q) (kch h kc)))

/-- The weighted values of softmax map `h`, with `M` subtracted from the scores. -/
def mapO (h : Fin 2) (M : FVec F S512x1 .f32) (q : Vec F S512x256 .bf16) (k : Vec F S4096x256 .bf16) (kc : Vec F S256x256 .bf16)
    (v : Vec F S4096x256 .bf16) (vc : Vec F S256x256 .bf16) : FVec F S512x256 .f32 :=
  accV (fun j => weigh M (score (qh h q) (kh h j k))) (weighC M (scoreC (qh h q) (kch h kc))) (fun j => vh j v) vc

/-- What one grid point writes. -/
def tile (l1 l2 l3 l4 : Vec F S1x128 .f32) (g : Vec F S1x256 .f32) (q : Vec F S512x256 .bf16) (k : Vec F S4096x256 .bf16)
    (kc : Vec F S256x256 .bf16) (v : Vec F S4096x256 .bf16) (vc : Vec F S256x256 .bf16) : FVec F S512x256 .bf16 :=
  k0_pay1 (k0_pay2 l1 l2 l3 l4) (mapL 0 (mapMax 0 q k kc) q k kc) (mapO 0 (mapMax 0 q k kc) q k kc v vc)
    (mapL 1 (mapMax 1 q k kc) q k kc) (mapO 1 (mapMax 1 q k kc) q k kc v vc) g

set_option maxHeartbeats 4000000 in
theorem body_eq (m : (ℓ : Loc nD τ sig) → Buf (Elt F) ℓ) (c : Dev nD) (t : Fin cfg0.N) :
    outsAt0 m c t = tile (iblk m c 0 t) (iblk m c 1 t) (iblk m c 2 t) (iblk m c 3 t) (iblk m c 4 t) (iblk m c 5 t) (X0_6 m c t)
      (iblk m c 7 t) (X0_8 m c t) (iblk m c 9 t) := by
  unfold outsAt0
  frame_open
  simp (disch := decide) only [↓ View.readCov_skip, ↓ View.readCov_cons_toLoadRect, ↓ View.readCov_fill]
  frame_out
  unfold tile
  refine congr (congr (congr (congr (congr (congrArg k0_pay1 ?_) ?_) ?_) ?_) ?_) rfl
  · rfl
  all_goals
    unfold_payloads
    simp only [shapeCast_self, shapeCast_shapeCast]
    rfl

end Cert.Attn

end
-- ==== Proof.Core.lean ====
/-
  THE IDENTITY OVER THE NUMBERS. A softmax does not depend on what is subtracted from its scores, so the kernel's powers of two
  of prescaled scores less one row maximum and the reference's exponentials less another have the same ratios; the two maps'
  weighted values then combine alike. -/
module

public import Idealize.ShloMosaic.PureOps.Ideal
public import Idealize.ShloMosaic.Lib.Pointwise

@[expose] public section

noncomputable section

namespace Cert.Attn

open Idealize.ShloMosaic

/-- A number is finite. -/
def Finite' (x : EReal) : Prop := ∃ r : ℝ, x = r

theorem Finite'.max {x y : EReal} (hx : Finite' x) (hy : Finite' y) : Finite' (max x y) := by
  rcases max_choice x y with h | h <;> rw [h] <;> assumption

theorem Finite'.mul {x y : EReal} (hx : Finite' x) (hy : Finite' y) : Finite' (x * y) := by
  obtain ⟨a, rfl⟩ := hx; obtain ⟨b, rfl⟩ := hy; exact ⟨a * b, (EReal.coe_mul a b).symm⟩

theorem coe_sum {ι : Type} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

theorem Finite'.sum {ι : Type} (s : Finset ι) (f : ι → EReal) (h : ∀ i, Finite' (f i)) : Finite' (∑ i ∈ s, f i) := by
  choose g hg using h
  exact ⟨∑ i ∈ s, g i, by simp only [hg, coe_sum]⟩

/-- The largest of finitely many finite numbers is finite. -/
theorem Finite'.fold_max {n : ℕ} (hn : 0 < n) (f : Fin n → EReal) (hf : ∀ k, Finite' (f k)) : Finite' (Finset.univ.fold Max.max ⊥ f) := by
  have h1 : Finset.univ.fold Max.max ⊥ f ≠ ⊤ := by
    refine ne_of_lt ((Finset.fold_max_lt _).mpr ⟨bot_lt_top, fun k _ => ?_⟩)
    obtain ⟨r, hr⟩ := hf k
    rw [hr]; exact EReal.coe_lt_top r
  have h2 : Finset.univ.fold Max.max ⊥ f ≠ ⊥ := by
    refine (ne_of_lt ((Finset.lt_fold_max _).mpr (.inr ⟨⟨0, hn⟩, Finset.mem_univ _, ?_⟩))).symm
    obtain ⟨r, hr⟩ := hf ⟨0, hn⟩
    rw [hr]; exact EReal.bot_lt_coe r
  exact ⟨_, (EReal.coe_toReal h1 h2).symm⟩

theorem pow_two (x M : ℝ) : Real.rpow 2 (x / Real.log 2 - M) = Real.exp x * Real.rpow 2 (-M) := by
  show (2 : ℝ) ^ (x / Real.log 2 - M) = Real.exp x * 2 ^ (-M)
  have h2 : Real.log 2 ≠ 0 := (Real.log_pos one_lt_two).ne'
  rw [sub_eq_add_neg, Real.rpow_add two_pos]
  congr 1
  rw [Real.rpow_def_of_pos two_pos]
  congr 1
  field_simp

/-- The kernel's quotient of a map: what was subtracted cancels. -/
theorem quot_two {N : ℕ} (hN : 0 < N) (s v : Fin N → ℝ) (M c : ℝ) :
    (∑ n, Real.rpow 2 (s n / Real.log 2 - M) * v n) * (c * (1 / ∑ n, Real.rpow 2 (s n / Real.log 2 - M)))
      = c * ((∑ n, Real.exp (s n) * v n) / ∑ n, Real.exp (s n)) := by
  have hp : Real.rpow 2 (-M) ≠ 0 := (Real.rpow_pos_of_pos two_pos _).ne'
  have hz : (∑ n, Real.exp (s n)) ≠ 0 :=
    (Finset.sum_pos (fun n _ => Real.exp_pos _) ⟨⟨0, hN⟩, Finset.mem_univ _⟩).ne'
  have e1 : (∑ n, Real.rpow 2 (s n / Real.log 2 - M) * v n) = Real.rpow 2 (-M) * ∑ n, Real.exp (s n) * v n := by
    rw [Finset.mul_sum]; exact Finset.sum_congr rfl fun n _ => by rw [pow_two]; ring
  have e2 : (∑ n, Real.rpow 2 (s n / Real.log 2 - M)) = Real.rpow 2 (-M) * ∑ n, Real.exp (s n) := by
    rw [Finset.mul_sum]; exact Finset.sum_congr rfl fun n _ => by rw [pow_two]; ring
  rw [e1, e2]
  field_simp

/-- The reference's weight of a key: what was subtracted cancels. -/
theorem quot_exp {N : ℕ} (hN : 0 < N) (s : Fin N → ℝ) (M : ℝ) (n : Fin N) :
    Real.exp (s n - M) * (1 / ∑ n, Real.exp (s n - M)) = Real.exp (s n) / ∑ n, Real.exp (s n) := by
  have hz : (∑ n, Real.exp (s n)) ≠ 0 :=
    (Finset.sum_pos (fun n _ => Real.exp_pos _) ⟨⟨0, hN⟩, Finset.mem_univ _⟩).ne'
  have e : (∑ n, Real.exp (s n - M)) = Real.exp (-M) * ∑ n, Real.exp (s n) := by
    rw [Finset.mul_sum]; exact Finset.sum_congr rfl fun n _ => by rw [sub_eq_add_neg, Real.exp_add]; ring
  rw [e, sub_eq_add_neg, Real.exp_add]
  have := Real.exp_ne_zero (-M)
  field_simp

/-- The two maps combined, over the extended reals at finite scores: the kernel's quotients of sums, and the reference's sum under
    the difference of the two softmax maps. -/
theorem combine {N : ℕ} (hN : 0 < N) (s0 s1 v : Fin N → ℝ) (lam M0 M1 m0 m1 : ℝ) :
    (∑ n, Ideal.exp2 (((s0 n / Real.log 2 : ℝ) : EReal) - (M0 : EReal)) * (v n : EReal))
        * Ideal.div 1 (∑ n, Ideal.exp2 (((s0 n / Real.log 2 : ℝ) : EReal) - (M0 : EReal)))
      - (∑ n, Ideal.exp2 (((s1 n / Real.log 2 : ℝ) : EReal) - (M1 : EReal)) * (v n : EReal))
        * Ideal.div lam (∑ n, Ideal.exp2 (((s1 n / Real.log 2 : ℝ) : EReal) - (M1 : EReal)))
      = ∑ n, (v n : EReal) * (Ideal.div (Ideal.exp ((s0 n : EReal) - m0)) (∑ n, Ideal.exp ((s0 n : EReal) - m0))
          - lam * Ideal.div (Ideal.exp ((s1 n : EReal) - m1)) (∑ n, Ideal.exp ((s1 n : EReal) - m1))) := by
  have ne2 : ∀ (s : Fin N → ℝ) (M : ℝ), (∑ n, Real.rpow 2 (s n / Real.log 2 - M)) ≠ 0 := fun s M =>
    (Finset.sum_pos (fun n _ => Real.rpow_pos_of_pos two_pos _) ⟨⟨0, hN⟩, Finset.mem_univ _⟩).ne'
  have nee : ∀ (s : Fin N → ℝ) (M : ℝ), (∑ n, Real.exp (s n - M)) ≠ 0 := fun s M =>
    (Finset.sum_pos (fun n _ => Real.exp_pos _) ⟨⟨0, hN⟩, Finset.mem_univ _⟩).ne'
  simp only [← EReal.coe_sub, Ideal.exp2_coe, Ideal.exp_coe, ← EReal.coe_mul, coe_sum]
  rw [Ideal.div_coe (ne2 s0 M0), Ideal.div_coe (ne2 s1 M1)]
  simp only [Ideal.div_coe (nee s0 m0), Ideal.div_coe (nee s1 m1), ← EReal.coe_one, ← EReal.coe_mul, ← EReal.coe_sub, coe_sum]
  refine congrArg _ ?_
  rw [quot_two hN, quot_two hN]
  simp only [quot_exp hN, mul_sub, Finset.sum_sub_distrib, one_mul]
  congr 1
  · rw [Finset.sum_div]; exact Finset.sum_congr rfl fun n _ => by ring
  · rw [Finset.sum_div, Finset.mul_sum]; exact Finset.sum_congr rfl fun n _ => by ring

theorem ofBits_ninf : Ideal.ofBits .f32 0xFF800000#32 = ⊥ := by
  simp [Ideal.ofBits, Ideal.ieee]
theorem ofBits_two : Ideal.ofBits .f32 0x40000000#32 = ((2 : ℝ) : EReal) := by
  simp [Ideal.ofBits, Ideal.ieee, -EReal.coe_mul]; norm_num
theorem ofBits_scale : Finite' (Ideal.ofBits .f32 0x3DB504F3#32) := by
  simp [Ideal.ofBits, Ideal.ieee]
  exact ⟨_, rfl⟩
theorem ofBits_lam : Finite' (Ideal.ofBits .f32 0x3E4CCCCD#32) := by
  simp [Ideal.ofBits, Ideal.ieee]
  exact ⟨_, rfl⟩

end Cert.Attn

end
-- ==== Proof.Tile.lean ====
/-
  THE TILE AT AN INDEX, over the extended reals: the lane sums of a map add up to the sum of its weights over all 4352 keys,
  and its weighted values are the sum of weight times value over them. -/
module

public import proofs.«01_k».proof.Proof.Body
public import proofs.«01_k».proof.Proof.Core

@[expose] public section

set_option maxRecDepth 16384

noncomputable section

namespace Cert.Attn

open Cert.KernelIdeal Cert.KernelIdeal.Gen Idealize.ShloMosaic Idealize.ShloMosaic.TcCoe Idealize.SL.Sem

/-- A sum over `a * b` indices as a double sum. -/
theorem sum_mul {M : Type} [AddCommMonoid M] (a b n : ℕ) (hn : a * b = n) (f : Fin n → M) :
    ∑ k, f k = ∑ j : Fin a, ∑ c : Fin b, f ⟨b * j.val + c.val, by
      have := j.isLt; have := c.isLt; calc b * j.val + c.val < b * j.val + b := by omega
        _ = b * (j.val + 1) := by ring
        _ ≤ b * a := Nat.mul_le_mul_left b j.isLt
        _ = n := by rw [← hn, Nat.mul_comm]⟩ := by
  subst hn
  rw [← finProdFinEquiv.sum_comp, Fintype.sum_prod_type]
  refine Finset.sum_congr rfl fun j _ => Finset.sum_congr rfl fun c _ => congrArg f (Fin.ext ?_)
  simp [finProdFinEquiv, Nat.add_comm]

/-- The 4352 keys are eight chunks of 512 and one of 256. -/
theorem sum_keys {M : Type} [AddCommMonoid M] (f : Fin 4352 → M) :
    ∑ k, f k = (∑ j : Fin 8, ∑ c : Fin 512, f ⟨512 * j.val + c.val, by omega⟩) + ∑ c : Fin 256, f ⟨4096 + c.val, by omega⟩ := by
  refine (Fin.sum_univ_add (a := 4096) (b := 256) f).trans ?_
  rw [sum_mul 8 512 4096 rfl]
  rfl

/-- A chunk of 512 columns is four groups of 128 lanes. -/
theorem sum_512 {M : Type} [AddCommMonoid M] (f : Fin 512 → M) :
    ∑ c, f c = ∑ l : Fin 128, (f ⟨l.val, by omega⟩ + f ⟨128 + l.val, by omega⟩ + f ⟨256 + l.val, by omega⟩ + f ⟨384 + l.val, by omega⟩) := by
  rw [sum_mul 4 128 512 rfl]
  simp [Fin.sum_univ_four, Finset.sum_add_distrib]

/-- A chunk of 256 columns is two groups of 128 lanes. -/
theorem sum_256 {M : Type} [AddCommMonoid M] (f : Fin 256 → M) :
    ∑ c, f c = ∑ l : Fin 128, (f ⟨l.val, by omega⟩ + f ⟨128 + l.val, by omega⟩) := by
  rw [sum_mul 2 128 256 rfl]
  simp [Finset.sum_add_distrib]

/-- Key row `n` of the latent keys followed by the context's (values likewise). -/
def row (k : S4096x256.Idx → EReal) (kc : S256x256.Idx → EReal) (n : Fin 4352) (d : Fin 256) : EReal :=
  if h : n.val < 4096 then k (ix2 ⟨n.val, h⟩ d) else kc (ix2 ⟨n.val - 4096, by omega⟩ d)

/-- The score of query `r` against key `n` under softmax map `h`. -/
def sc (h : Fin 2) (q : S512x256.Idx → EReal) (k : S4096x256.Idx → EReal) (kc : S256x256.Idx → EReal) (r : Fin 512) (n : Fin 4352) : EReal :=
  ∑ d : Fin 128, q (ix2 r ⟨128 * h.val + d.val, by omega⟩) * row k kc n ⟨128 * h.val + d.val, by omega⟩

theorem score_apply (h : Fin 2) (j : Fin 8) (q : Vec Ideal S512x256 .bf16) (k : Vec Ideal S4096x256 .bf16) (kc : Vec Ideal S256x256 .bf16)
    (r : Fin 512) (c : Fin 512) :
    score (F := Ideal) (qh h q) (kh h j k) (ix2 r c) = sc h q k kc r ⟨512 * j.val + c.val, by omega⟩ := by
  pointwise [score, qh, kh, sc, row]
  refine Finset.sum_congr rfl fun d _ => ?_
  rw [dif_pos (by omega)]

theorem scoreC_apply (h : Fin 2) (q : Vec Ideal S512x256 .bf16) (k : Vec Ideal S4096x256 .bf16) (kc : Vec Ideal S256x256 .bf16)
    (r : Fin 512) (c : Fin 256) :
    scoreC (F := Ideal) (qh h q) (kch h kc) (ix2 r c) = sc h q k kc r ⟨4096 + c.val, by omega⟩ := by
  pointwise [scoreC, qh, kch, sc, row]

theorem weigh_apply (M : FVec Ideal S512x1 .f32) (s : FVec Ideal S512x512 .f32) (r : Fin 512) (c : Fin 512) :
    weigh M s (ix2 r c) = Ideal.exp2 (s (ix2 r c) - M (ix2 r 0)) := by
  pointwise [weigh]
  rfl

theorem weighC_apply (M : FVec Ideal S512x1 .f32) (s : FVec Ideal S512x256 .f32) (r : Fin 512) (c : Fin 256) :
    weighC M s (ix2 r c) = Ideal.exp2 (s (ix2 r c) - M (ix2 r 0)) := by
  pointwise [weighC]
  rfl

theorem pv_apply (p : FVec Ideal S512x512 .f32) (v : Vec Ideal S512x256 .bf16) (r : Fin 512) (e : Fin 256) :
    pv p v (ix2 r e) = ∑ c : Fin 512, p (ix2 r c) * v (ix2 c e) := by
  pointwise [pv]

theorem pvC_apply (p : FVec Ideal S512x256 .f32) (v : Vec Ideal S256x256 .bf16) (r : Fin 512) (e : Fin 256) :
    pvC p v (ix2 r e) = ∑ c : Fin 256, p (ix2 r c) * v (ix2 c e) := by
  pointwise [pvC]

theorem vh_apply (j : Fin 8) (v : Vec Ideal S4096x256 .bf16) (vc : Vec Ideal S256x256 .bf16) (c : Fin 512) (e : Fin 256) :
    vh (F := Ideal) j v (ix2 c e) = row v vc ⟨512 * j.val + c.val, by omega⟩ e := by
  pointwise [vh, row]
  rw [dif_pos (by omega)]

theorem rowC_apply (v : Vec Ideal S4096x256 .bf16) (vc : Vec Ideal S256x256 .bf16) (c : Fin 256) (e : Fin 256) :
    vc (ix2 c e) = row v vc ⟨4096 + c.val, by omega⟩ e := by
  pointwise [row]

theorem fold4_sum (s : FVec Ideal S512x512 .f32) (r : Fin 512) :
    ∑ l : Fin 128, fold4 addf s (ix2 r l) = ∑ c : Fin 512, s (ix2 r c) := by
  rw [sum_512]
  refine Finset.sum_congr rfl fun l _ => ?_
  pointwise [fold4]

theorem fold2_sum (s : FVec Ideal S512x256 .f32) (r : Fin 512) :
    ∑ l : Fin 128, fold2 addf s (ix2 r l) = ∑ c : Fin 256, s (ix2 r c) := by
  rw [sum_256]
  refine Finset.sum_congr rfl fun l _ => ?_
  pointwise [fold2]

theorem addf_ix {s : Shape} {φ : FTy} (a b : FVec Ideal s φ) (i : s.Idx) : addf a b i = a i + b i := rfl

/-- The lane sums of map `h` add up to the sum of the weights over all keys. -/
theorem mapL_sum (h : Fin 2) (M : FVec Ideal S512x1 .f32) (q : Vec Ideal S512x256 .bf16) (k : Vec Ideal S4096x256 .bf16)
    (kc : Vec Ideal S256x256 .bf16) (r : Fin 512) :
    ∑ l : Fin 128, mapL h M q k kc (ix2 r l) = ∑ n : Fin 4352, Ideal.exp2 (sc h q k kc r n - M (ix2 r 0)) := by
  rw [sum_keys]
  simp only [mapL, lanes, addf_ix, Finset.sum_add_distrib, fold4_sum, fold2_sum, weigh_apply, weighC_apply, score_apply h _ q k kc,
    scoreC_apply h q k kc, Fin.sum_univ_eight]

/-- The weighted values of map `h` at an element: the sum over all keys of weight times value. -/
theorem mapO_apply (h : Fin 2) (M : FVec Ideal S512x1 .f32) (q : Vec Ideal S512x256 .bf16) (k : Vec Ideal S4096x256 .bf16)
    (kc : Vec Ideal S256x256 .bf16) (v : Vec Ideal S4096x256 .bf16) (vc : Vec Ideal S256x256 .bf16) (r : Fin 512) (e : Fin 256) :
    mapO h M q k kc v vc (ix2 r e) = ∑ n : Fin 4352, Ideal.exp2 (sc h q k kc r n - M (ix2 r 0)) * row v vc n e := by
  rw [sum_keys]
  simp only [mapO, accV, addf_ix, pv_apply, pvC_apply, weigh_apply, weighC_apply, score_apply h _ q k kc,
    scoreC_apply h q k kc, Fin.sum_univ_eight, vh_apply _ v vc, ← rowC_apply v vc]

theorem maximumf_ix {s : Shape} {φ : FTy} (a b : FVec Ideal s φ) (i : s.Idx) : maximumf a b i = max (a i) (b i) := rfl

theorem fold4_fin (s : FVec Ideal S512x512 .f32) (hs : ∀ i, Finite' (s i)) (i : S512x128.Idx) : Finite' (fold4 maximumf s i) := by
  simp only [fold4, maximumf_ix]
  exact (((hs _).max (hs _)).max (hs _)).max (hs _)

theorem fold2_fin (s : FVec Ideal S512x256 .f32) (hs : ∀ i, Finite' (s i)) (i : S512x128.Idx) : Finite' (fold2 maximumf s i) := by
  simp only [fold2, maximumf_ix]
  exact (hs _).max (hs _)

/-- The row maxima of finite scores are finite. -/
theorem mapMax_fin (h : Fin 2) (q : Vec Ideal S512x256 .bf16) (k : Vec Ideal S4096x256 .bf16) (kc : Vec Ideal S256x256 .bf16)
    (hs : ∀ r n, Finite' (sc h q k kc r n)) (r : Fin 512) : Finite' (mapMax (F := Ideal) h q k kc (ix2 r 0)) := by
  have hl : ∀ i, Finite' (lanes (F := Ideal) maximumf (fun j => score (qh h q) (kh h j k)) (scoreC (qh h q) (kch h kc)) i) := by
    intro i
    have h4 : ∀ j : Fin 8, Finite' (fold4 (F := Ideal) maximumf (score (qh h q) (kh h j k)) i) := fun j => fold4_fin _ (fun i => by
      rw [eq_ix2 i]; exact (score_apply h j q k kc _ _) ▸ hs _ _) i
    have h2 : Finite' (fold2 (F := Ideal) maximumf (scoreC (qh h q) (kch h kc)) i) := fold2_fin _ (fun i => by
      rw [eq_ix2 i]; exact (scoreC_apply h q k kc _ _) ▸ hs _ _) i
    simp only [lanes, maximumf_ix]
    exact (((((((((h4 0).max (h4 1)).max (h4 2)).max (h4 3)).max (h4 4)).max (h4 5)).max (h4 6)).max (h4 7)).max h2)
  revert hl
  unfold mapMax rowMax
  generalize lanes (F := Ideal) maximumf (fun j => score (qh h q) (kh h j k)) (scoreC (qh h q) (kch h kc)) = L
  intro hl
  pointwise
  rw [ofBits_ninf]
  exact Finite'.fold_max (by decide) _ fun _ => hl _

/-- The weight between the two maps. -/
def lamOf (a b c d : Fin 128 → EReal) : EReal :=
  Ideal.exp (∑ x, a x * b x) - Ideal.exp (∑ x, c x * d x) + Ideal.ofBits .f32 0x3E4CCCCD#32

theorem lam_apply (l1 l2 l3 l4 : Vec Ideal S1x128 .f32) : k0_pay2 (F := Ideal) l1 l2 l3 l4 (ix2 0 0)
    = lamOf (fun x => l1 (ix2 0 x)) (fun x => l2 (ix2 0 x)) (fun x => l3 (ix2 0 x)) (fun x => l4 (ix2 0 x)) := by
  pointwise [k0_pay2, lamOf]

/-- A head's values, normalised by their mean square and weighted. -/
def headNorm (o : Fin 256 → EReal) (g : EReal) (e : Fin 256) : EReal :=
  o e * Ideal.rsqrt (Ideal.div (∑ x, o x * o x) (Ideal.ofBits .f32 0x43800000#32) + Ideal.ofBits .f32 0x3727C5AC#32) * g
    * Ideal.ofBits .f32 0x3F4CCCCD#32

/-- The two maps' weighted values combined, as the kernel does. -/
def kernO (s : Fin 2 → Fin 4352 → EReal) (M : Fin 2 → EReal) (lam : EReal) (v : Fin 4352 → EReal) : EReal :=
  (∑ n, Ideal.exp2 (s 0 n - M 0) * v n) * Ideal.div 1 (∑ n, Ideal.exp2 (s 0 n - M 0))
    - (∑ n, Ideal.exp2 (s 1 n - M 1) * v n) * Ideal.div lam (∑ n, Ideal.exp2 (s 1 n - M 1))

theorem pay1_apply (lam : FVec Ideal S1x1 .f32) (L0 : FVec Ideal S512x128 .f32) (O0 : FVec Ideal S512x256 .f32)
    (L1 : FVec Ideal S512x128 .f32) (O1 : FVec Ideal S512x256 .f32) (g : Vec Ideal S1x256 .f32) (r : Fin 512) (e : Fin 256) :
    k0_pay1 (F := Ideal) lam L0 O0 L1 O1 g (ix2 r e) = headNorm (fun x => O0 (ix2 r x) * Ideal.div 1 (∑ l : Fin 128, L0 (ix2 r l))
      - O1 (ix2 r x) * Ideal.div (lam (ix2 0 0)) (∑ l : Fin 128, L1 (ix2 r l))) (g (ix2 0 e)) e := by
  pointwise [k0_pay1, headNorm]

/-- What a grid point writes, at an element. -/
theorem tile_apply (l1 l2 l3 l4 : Vec Ideal S1x128 .f32) (g : Vec Ideal S1x256 .f32) (q : Vec Ideal S512x256 .bf16)
    (k : Vec Ideal S4096x256 .bf16) (kc : Vec Ideal S256x256 .bf16) (v : Vec Ideal S4096x256 .bf16) (vc : Vec Ideal S256x256 .bf16)
    (r : Fin 512) (e : Fin 256) :
    tile (F := Ideal) l1 l2 l3 l4 g q k kc v vc (ix2 r e) = headNorm (fun x => kernO (fun h => sc h q k kc r)
      (fun h => mapMax (F := Ideal) h q k kc (ix2 r 0))
      (lamOf (fun x => l1 (ix2 0 x)) (fun x => l2 (ix2 0 x)) (fun x => l3 (ix2 0 x)) (fun x => l4 (ix2 0 x)))
      (fun n => row v vc n x)) (g (ix2 0 e)) e := by
  simp only [tile, pay1_apply, mapL_sum, mapO_apply, lam_apply, kernO]

end Cert.Attn

end
-- ==== Proof.Ref.lean ====
/-
  THE REFERENCE AT AN ELEMENT: its composed term in stages (the weight between the maps, the scores, the two softmax maps, the
  values under their difference, the normalised heads), each read at an index. -/
module

public import proofs.«01_k».proof.Proof.Gen.ReferenceIdeal.Run
public import proofs.«01_k».proof.Proof.Tile

@[expose] public section

set_option maxRecDepth 16384

noncomputable section

namespace Cert.Attn

open Cert.ReferenceIdeal Cert.ReferenceIdeal.Gen Cert.ReferenceIdeal.Value Idealize.ShloMosaic Idealize.ShloMosaic.TcCoe Idealize.SL.Sem

/-- The latent keys, then the context's. -/
def rK (k : FVec Ideal S2x4096x8x2x128 .f32) (kc : FVec Ideal S2x256x8x2x128 .f32) : FVec Ideal S2x4352x8x2x128 .f32 :=
  concatenate S2x4352x8x2x128 1 [⟨S2x4096x8x2x128, k⟩, ⟨S2x256x8x2x128, kc⟩] concatenates_S2x4096x8x2x128_S2x256x8x2x128_S2x4352x8x2x128_d1

/-- The latent values, then the context's. -/
def rV (v : FVec Ideal S2x4096x8x256 .f32) (vc : FVec Ideal S2x256x8x256 .f32) : FVec Ideal S2x4352x8x256 .f32 :=
  concatenate S2x4352x8x256 1 [⟨S2x4096x8x256, v⟩, ⟨S2x256x8x256, vc⟩] concatenates_S2x4096x8x256_S2x256x8x256_S2x4352x8x256_d1

/-- The weight between the maps. -/
def rLam (a b c d : FVec Ideal S128 .f32) : FVec Ideal S_ .f32 :=
  addf (subf (Host.exp (Host.reduceAdd (mulf a b) (constant S_ .f32 0x00000000#32) reducesTo_S128_S_d0 h_S_))
    (Host.exp (Host.reduceAdd (mulf c d) (constant S_ .f32 0x00000000#32) reducesTo_S128_S_d0 h_S_))) (constant S_ .f32 0x3E4CCCCD#32)

/-- The scaled scores. -/
def rS (q : FVec Ideal S2x4096x8x2x128 .f32) (K : FVec Ideal S2x4352x8x2x128 .f32) : FVec Ideal S2x2x8x4096x4352 .f32 :=
  mulf (Host.dotGeneral dot_S2x4096x8x2x128_S2x4352x8x2x128_S2x2x8x4096x4352_4_4_1_1_032_032 none q K)
    (broadcastInDim S2x2x8x4096x4352 ![] bcast_S_S2x2x8x4096x4352 (constant S_ .f32 0x3DB504F3#32))

/-- The row maxima, from the printed start. -/
def rTop (s : FVec Ideal S2x2x8x4096x4352 .f32) : FVec Ideal S2x2x8x4096 .f32 :=
  Host.reduce FloatOps.maximumf s (constant S_ .f32 0xFF800000#32) reducesTo_S2x2x8x4096x4352_S2x2x8x4096_d4 h_S_

/-- The row maxima. -/
def rMax (s : FVec Ideal S2x2x8x4096x4352 .f32) : FVec Ideal S2x2x8x4096 .f32 :=
  maximumf (broadcastInDim S2x2x8x4096 ![] bcast_S_S2x2x8x4096 (constant S_ .f32 0xFF800000#32)) (rTop s)

/-- A row's number at each of its columns. -/
def rRow (x : FVec Ideal S2x2x8x4096 .f32) : FVec Ideal S2x2x8x4096x4352 .f32 :=
  broadcastInDim S2x2x8x4096x4352 ![0, 1, 2, 3, 4] bcast_S2x2x8x4096x1_S2x2x8x4096x4352_0_1_2_3_4
    (broadcastInDim S2x2x8x4096x1 ![0, 1, 2, 3] bcast_S2x2x8x4096_S2x2x8x4096x1_0_1_2_3 x)

/-- The exponentials. -/
def rE (s : FVec Ideal S2x2x8x4096x4352 .f32) : FVec Ideal S2x2x8x4096x4352 .f32 := Host.exp (subf s (rRow (rMax s)))

/-- The softmax maps, from the exponentials. -/
def rP (x : FVec Ideal S2x2x8x4096x4352 .f32) : FVec Ideal S2x2x8x4096x4352 .f32 :=
  Host.divf x (rRow (Host.reduceAdd x (constant S_ .f32 0x00000000#32) reducesTo_S2x2x8x4096x4352_S2x2x8x4096_d4 h_S_))

/-- The values under the difference of the two maps. -/
def rO (lam : FVec Ideal S_ .f32) (p : FVec Ideal S2x2x8x4096x4352 .f32) (V : FVec Ideal S2x4352x8x256 .f32) : FVec Ideal S2x4096x8x256 .f32 :=
  transpose S2x4096x8x256 [0, 3, 1, 2] (Host.dotGeneral dot_S2x4352x8x256_S2x8x4096x4352_S2x8x256x4096_1_3_3_2_02_01 none V
    (subf (shapeCast S2x8x4096x4352 (extractStridedSlice S2x1x8x4096x4352 ![0, 0, 0, 0, 0] p slices_S2x2x8x4096x4352_S2x1x8x4096x4352_0_0_0_0_0)
        shapeCasts_S2x1x8x4096x4352_S2x8x4096x4352)
      (mulf (broadcastInDim S2x8x4096x4352 ![] bcast_S_S2x8x4096x4352 lam)
        (shapeCast S2x8x4096x4352 (extractStridedSlice S2x1x8x4096x4352 ![0, 1, 0, 0, 0] p slices_S2x2x8x4096x4352_S2x1x8x4096x4352_0_1_0_0_0)
          shapeCasts_S2x1x8x4096x4352_S2x8x4096x4352)))) transposes_S2x8x256x4096_S2x4096x8x256_0_3_1_2

/-- The heads normalised by their mean square and weighted. -/
def rN (o : FVec Ideal S2x4096x8x256 .f32) (g : FVec Ideal S256 .f32) : FVec Ideal S8192x2048 .bf16 :=
  truncf .bf16 (shapeCast S8192x2048 (mulf (mulf (mulf o (broadcastInDim S2x4096x8x256 ![0, 1, 2, 3] bcast_S2x4096x8x1_S2x4096x8x256_0_1_2_3
    (Host.rsqrt (addf (Host.divf (broadcastInDim S2x4096x8x1 ![0, 1, 2] bcast_S2x4096x8_S2x4096x8x1_0_1_2
        (Host.reduceAdd (mulf o o) (constant S_ .f32 0x00000000#32) reducesTo_S2x4096x8x256_S2x4096x8_d3 h_S_))
      (broadcastInDim S2x4096x8x1 ![] bcast_S_S2x4096x8x1 (constant S_ .f32 0x43800000#32)))
      (broadcastInDim S2x4096x8x1 ![] bcast_S_S2x4096x8x1 (constant S_ .f32 0x3727C5AC#32))))))
    (broadcastInDim S2x4096x8x256 ![0, 1, 2, 3] bcast_S1x1x1x256_S2x4096x8x256_0_1_2_3 (broadcastInDim S1x1x1x256 ![3] bcast_S256_S1x1x1x256_3 g)))
    (broadcastInDim S2x4096x8x256 ![] bcast_S_S2x4096x8x256 (constant S_ .f32 0x3F4CCCCD#32))) shapeCasts_S2x4096x8x256_S8192x2048) bitsLt_bf16_f32

/-- The reference's result in stages. -/
theorem ref_stages (m : (ℓ : Loc nD τ sig) → Buf (Elt Ideal) ℓ) (c : Dev nD) :
    res_out0 m c = rN (rO (rLam (m ((c.tc : Thread nD τ).loc main_arg6)) (m ((c.tc : Thread nD τ).loc main_arg7))
        (m ((c.tc : Thread nD τ).loc main_arg8)) (m ((c.tc : Thread nD τ).loc main_arg9)))
      (rP (rE (rS (m ((c.tc : Thread nD τ).loc main_arg0)) (rK (m ((c.tc : Thread nD τ).loc main_arg1)) (m ((c.tc : Thread nD τ).loc main_arg4))))))
      (rV (m ((c.tc : Thread nD τ).loc main_arg2)) (m ((c.tc : Thread nD τ).loc main_arg5)))) (m ((c.tc : Thread nD τ).loc main_arg10)) := rfl

theorem rN_apply (o : FVec Ideal S2x4096x8x256 .f32) (g : FVec Ideal S256 .f32) (R : Fin 8192) (C : Fin 2048) :
    rN o g (ix2 R C) = headNorm (fun x => o (ix4 ⟨R.val / 4096, by omega⟩ ⟨R.val % 4096, by omega⟩ ⟨C.val / 256, by omega⟩ x))
      (g (ix1 ⟨C.val % 256, by omega⟩)) ⟨C.val % 256, by omega⟩ := by
  pointwise [rN, headNorm]

theorem rLam_apply (a b c d : FVec Ideal S128 .f32) (i : S_.Idx) :
    rLam a b c d i = lamOf (fun x => a (ix1 x)) (fun x => b (ix1 x)) (fun x => c (ix1 x)) (fun x => d (ix1 x)) := by
  pointwise [rLam, lamOf]

theorem rO_apply (lam : FVec Ideal S_ .f32) (p : FVec Ideal S2x2x8x4096x4352 .f32) (V : FVec Ideal S2x4352x8x256 .f32) (b : Fin 2) (i : Fin 4096)
    (h : Fin 8) (e : Fin 256) :
    rO lam p V (ix4 b i h e) = ∑ n : Fin 4352, V (ix4 b n h e) * (p (ix5 b 0 h i n) - lam ix0 * p (ix5 b 1 h i n)) := by
  pointwise [rO]

theorem rP_apply (x : FVec Ideal S2x2x8x4096x4352 .f32) (b : Fin 2) (u : Fin 2) (h : Fin 8) (i : Fin 4096) (n : Fin 4352) :
    rP x (ix5 b u h i n) = Ideal.div (x (ix5 b u h i n)) (∑ k : Fin 4352, x (ix5 b u h i k)) := by
  pointwise [rP, rRow]

theorem rTop_apply (s : FVec Ideal S2x2x8x4096x4352 .f32) (b : Fin 2) (u : Fin 2) (h : Fin 8) (i : Fin 4096) :
    rTop s (ix4 b u h i) = Finset.univ.fold max (Ideal.ofBits .f32 0xFF800000#32) fun k : Fin 4352 => s (ix5 b u h i k) :=
  (Host.reduce_eq_fold max s (constant S_ FTy.f32 0xFF800000#32) reducesTo_S2x2x8x4096x4352_S2x2x8x4096_d4 h_S_ (ix4 b u h i)).trans
    (Shape.ReducesTo.fold_fiber_r5_a4 reducesTo_S2x2x8x4096x4352_S2x2x8x4096_d4 (ix4 b u h i) max (Ideal.ofBits .f32 0xFF800000#32) s)

theorem start_max (x : FVec Ideal S2x2x8x4096 .f32) (j : S2x2x8x4096.Idx) :
    maximumf (broadcastInDim S2x2x8x4096 ![] bcast_S_S2x2x8x4096 (constant S_ .f32 0xFF800000#32)) x j = x j := by
  have e : maximumf (broadcastInDim S2x2x8x4096 ![] bcast_S_S2x2x8x4096 (constant S_ .f32 0xFF800000#32)) x j
      = max (Ideal.ofBits .f32 0xFF800000#32) (x j) := rfl
  rw [e, ofBits_ninf]; exact max_eq_right bot_le

theorem rMax_apply (s : FVec Ideal S2x2x8x4096x4352 .f32) (b : Fin 2) (u : Fin 2) (h : Fin 8) (i : Fin 4096) :
    rMax s (ix4 b u h i) = Finset.univ.fold max (Ideal.ofBits .f32 0xFF800000#32) fun k : Fin 4352 => s (ix5 b u h i k) :=
  (start_max (rTop s) _).trans (rTop_apply s b u h i)

theorem rRow_apply (x : FVec Ideal S2x2x8x4096 .f32) (b : Fin 2) (u : Fin 2) (h : Fin 8) (i : Fin 4096) (n : Fin 4352) :
    rRow x (ix5 b u h i n) = x (ix4 b u h i) := by
  pointwise [rRow]

theorem rE_apply (s : FVec Ideal S2x2x8x4096x4352 .f32) (b : Fin 2) (u : Fin 2) (h : Fin 8) (i : Fin 4096) (n : Fin 4352) :
    rE s (ix5 b u h i n) = Ideal.exp (s (ix5 b u h i n) - rMax s (ix4 b u h i)) := by
  pointwise [rE, rRow_apply]

theorem rS_apply (q : FVec Ideal S2x4096x8x2x128 .f32) (K : FVec Ideal S2x4352x8x2x128 .f32) (b : Fin 2) (u : Fin 2) (h : Fin 8) (i : Fin 4096) (n : Fin 4352) :
    rS q K (ix5 b u h i n) = (∑ d : Fin 128, q (ix5 b i h u d) * K (ix5 b n h u d)) * Ideal.ofBits .f32 0x3DB504F3#32 := by
  pointwise [rS]

theorem rK_apply (k : FVec Ideal S2x4096x8x2x128 .f32) (kc : FVec Ideal S2x256x8x2x128 .f32) (b : Fin 2) (u : Fin 2) (h : Fin 8) (d : Fin 128) (n : Fin 4352) :
    rK k kc (ix5 b n h u d) = if hn : n.val < 4096 then k (ix5 b ⟨n.val, hn⟩ h u d) else kc (ix5 b ⟨n.val - 4096, by omega⟩ h u d) := by
  pointwise [rK]

theorem rV_apply (v : FVec Ideal S2x4096x8x256 .f32) (vc : FVec Ideal S2x256x8x256 .f32) (b : Fin 2) (h : Fin 8) (e : Fin 256) (n : Fin 4352) :
    rV v vc (ix4 b n h e) = if hn : n.val < 4096 then v (ix4 b ⟨n.val, hn⟩ h e) else vc (ix4 b ⟨n.val - 4096, by omega⟩ h e) := by
  pointwise [rV]

end Cert.Attn

end
-- ==== Proof.Pack.lean ====
/-
  WHAT THE BLOCKS HOLD: the packed array of queries, keys and values at an index, and each window's block of it. -/
module

public import proofs.«01_k».proof.Proof.Body
public import proofs.«01_k».proof.Proof.Tile

@[expose] public section

set_option maxRecDepth 16384

noncomputable section

namespace Cert.Attn

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The packed array: the scaled queries, the keys and the values side by side, the latent rows above the context's. -/
def packed (q k : FVec Ideal S2x4096x8x2x128 .f32) (v : FVec Ideal S2x4096x8x256 .f32) (qc kc : FVec Ideal S2x256x8x2x128 .f32)
    (vc : FVec Ideal S2x256x8x256 .f32) : FVec Ideal S8704x6144 .bf16 :=
  concatenate S8704x6144 0 [⟨S8192x6144, concatenate S8192x6144 1
      [⟨S8192x2048, (truncf .bf16 (mulf (shapeCast S8192x2048 q shapeCasts_S2x4096x8x2x128_S8192x2048)
        (broadcastInDim S8192x2048 ![] bcast_S_S8192x2048 (Host.divf (constant S_ .f32 0x3DB504F3#32) (Host.log (constant S_ .f32 0x40000000#32))))) bitsLt_bf16_f32 : FVec Ideal S8192x2048 .bf16)⟩,
       ⟨S8192x2048, (truncf .bf16 (shapeCast S8192x2048 k shapeCasts_S2x4096x8x2x128_S8192x2048) bitsLt_bf16_f32 : FVec Ideal S8192x2048 .bf16)⟩,
       ⟨S8192x2048, (truncf .bf16 (shapeCast S8192x2048 v shapeCasts_S2x4096x8x256_S8192x2048) bitsLt_bf16_f32 : FVec Ideal S8192x2048 .bf16)⟩] concatenates_S8192x2048_S8192x2048_S8192x2048_S8192x6144_d1⟩,
    ⟨S512x6144, concatenate S512x6144 1
      [⟨S512x2048, (truncf .bf16 (mulf (shapeCast S512x2048 qc shapeCasts_S2x256x8x2x128_S512x2048)
        (broadcastInDim S512x2048 ![] bcast_S_S512x2048 (Host.divf (constant S_ .f32 0x3DB504F3#32) (Host.log (constant S_ .f32 0x40000000#32))))) bitsLt_bf16_f32 : FVec Ideal S512x2048 .bf16)⟩,
       ⟨S512x2048, (truncf .bf16 (shapeCast S512x2048 kc shapeCasts_S2x256x8x2x128_S512x2048) bitsLt_bf16_f32 : FVec Ideal S512x2048 .bf16)⟩,
       ⟨S512x2048, (truncf .bf16 (shapeCast S512x2048 vc shapeCasts_S2x256x8x256_S512x2048) bitsLt_bf16_f32 : FVec Ideal S512x2048 .bf16)⟩] concatenates_S512x2048_S512x2048_S512x2048_S512x6144_d1⟩]
    concatenates_S8192x6144_S512x6144_S8704x6144_d0

theorem pa_eq : V m c main_v20 = packed (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  rfl

variable (q k : FVec Ideal S2x4096x8x2x128 .f32) (v : FVec Ideal S2x4096x8x256 .f32) (qc kc : FVec Ideal S2x256x8x2x128 .f32)
    (vc : FVec Ideal S2x256x8x256 .f32)

theorem ix4_eq {n0 n1 n2 n3 : Nat} {a a' : Fin n0} {b b' : Fin n1} {c c' : Fin n2} {d d' : Fin n3} (ha : a.val = a'.val)
    (hb : b.val = b'.val) (hc : c.val = c'.val) (hd : d.val = d'.val) : ix4 a b c d = ix4 a' b' c' d' := by
  rw [Fin.ext ha, Fin.ext hb, Fin.ext hc, Fin.ext hd]

theorem ix5_eq {n0 n1 n2 n3 n4 : Nat} {a a' : Fin n0} {b b' : Fin n1} {c c' : Fin n2} {d d' : Fin n3} {e e' : Fin n4} (ha : a.val = a'.val)
    (hb : b.val = b'.val) (hc : c.val = c'.val) (hd : d.val = d'.val) (he : e.val = e'.val) : ix5 a b c d e = ix5 a' b' c' d' e' := by
  rw [Fin.ext ha, Fin.ext hb, Fin.ext hc, Fin.ext hd, Fin.ext he]

theorem packed_q (b : Fin 2) (i : Fin 4096) (h : Fin 8) (u : Fin 2) (d : Fin 128) (R : Fin 8704) (C : Fin 6144)
    (hR : R.val = 4096 * b.val + i.val) (hC : C.val = 256 * h.val + (128 * u.val + d.val)) :
    packed q k v qc kc vc (ix2 R C) = q (ix5 b i h u d) * Ideal.div (Ideal.ofBits .f32 0x3DB504F3#32) (Ideal.log (Ideal.ofBits .f32 0x40000000#32)) := by
  have h1 : R.val < 8192 := by omega
  have h2 : C.val < 2048 := by omega
  pointwise [packed, h1, h2]
  refine congrArg (q · * _) ?_
  apply ix5_eq <;> (dsimp only; omega)

theorem packed_k (b : Fin 2) (i : Fin 4096) (h : Fin 8) (u : Fin 2) (d : Fin 128) (R : Fin 8704) (C : Fin 6144)
    (hR : R.val = 4096 * b.val + i.val) (hC : C.val = 2048 + (256 * h.val + (128 * u.val + d.val))) :
    packed q k v qc kc vc (ix2 R C) = k (ix5 b i h u d) := by
  have h1 : R.val < 8192 := by omega
  have h2 : ¬ C.val < 2048 := by omega
  have h3 : C.val - 2048 < 2048 := by omega
  pointwise [packed, h1, h2]
  rw [dif_pos h3]
  refine congrArg k ?_
  apply ix5_eq <;> (dsimp only; omega)

theorem packed_v (b : Fin 2) (i : Fin 4096) (h : Fin 8) (e : Fin 256) (R : Fin 8704) (C : Fin 6144)
    (hR : R.val = 4096 * b.val + i.val) (hC : C.val = 4096 + (256 * h.val + e.val)) :
    packed q k v qc kc vc (ix2 R C) = v (ix4 b i h e) := by
  have h1 : R.val < 8192 := by omega
  have h2 : ¬ C.val < 2048 := by omega
  have h3 : ¬ C.val - 2048 < 2048 := by omega
  pointwise [packed, h1, h2]
  rw [dif_neg h3]
  refine congrArg v ?_
  apply ix4_eq <;> (dsimp only; omega)

theorem packed_kc (b : Fin 2) (i : Fin 256) (h : Fin 8) (u : Fin 2) (d : Fin 128) (R : Fin 8704) (C : Fin 6144)
    (hR : R.val = 8192 + (256 * b.val + i.val)) (hC : C.val = 2048 + (256 * h.val + (128 * u.val + d.val))) :
    packed q k v qc kc vc (ix2 R C) = kc (ix5 b i h u d) := by
  have h1 : ¬ R.val < 8192 := by omega
  have h2 : ¬ C.val < 2048 := by omega
  have h3 : C.val - 2048 < 2048 := by omega
  pointwise [packed, h1, h2]
  rw [dif_pos h3]
  refine congrArg kc ?_
  apply ix5_eq <;> (dsimp only; omega)

theorem packed_vc (b : Fin 2) (i : Fin 256) (h : Fin 8) (e : Fin 256) (R : Fin 8704) (C : Fin 6144)
    (hR : R.val = 8192 + (256 * b.val + i.val)) (hC : C.val = 4096 + (256 * h.val + e.val)) :
    packed q k v qc kc vc (ix2 R C) = vc (ix4 b i h e) := by
  have h1 : ¬ R.val < 8192 := by omega
  have h2 : ¬ C.val < 2048 := by omega
  have h3 : ¬ C.val - 2048 < 2048 := by omega
  pointwise [packed, h1, h2]
  rw [dif_neg h3]
  refine congrArg vc ?_
  apply ix4_eq <;> (dsimp only; omega)

/-- Where each window's block lies at a grid point: two batches, eight heads, eight blocks of queries. -/
theorem idx : ∀ t : Fin grid0.N, (win0_5.index t 0 = t.val / 64 * 8 + t.val % 8 ∧ win0_5.index t 1 = t.val / 8 % 8)
    ∧ (win0_6.index t 0 = t.val / 64 ∧ win0_6.index t 1 = 8 + t.val / 8 % 8)
    ∧ (win0_7.index t 0 = 32 + t.val / 64 ∧ win0_7.index t 1 = 8 + t.val / 8 % 8)
    ∧ (win0_8.index t 0 = t.val / 64 ∧ win0_8.index t 1 = 16 + t.val / 8 % 8)
    ∧ (win0_9.index t 0 = 32 + t.val / 64 ∧ win0_9.index t 1 = 16 + t.val / 8 % 8)
    ∧ (win0_10.index t 0 = t.val / 64 * 8 + t.val % 8 ∧ win0_10.index t 1 = t.val / 8 % 8) := by decide +kernel

theorem idx0 : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) := by decide +kernel

theorem blk_q (t : Fin cfg0.N) (r : Fin 512) (e : Fin 256) (R : Fin 8704) (C : Fin 6144) (hR : R.val = 512 * (t.val / 64 * 8 + t.val % 8) + r.val)
    (hC : C.val = 256 * (t.val / 8 % 8) + e.val) : iblk m c 5 t (ix2 r e) = V m c main_v20 (ix2 R C) := by
  blk_ext [iblk, idx t]

theorem blk_kc (t : Fin cfg0.N) (r : Fin 256) (e : Fin 256) (R : Fin 8704) (C : Fin 6144) (hR : R.val = 256 * (32 + t.val / 64) + r.val)
    (hC : C.val = 256 * (8 + t.val / 8 % 8) + e.val) : iblk m c 7 t (ix2 r e) = V m c main_v20 (ix2 R C) := by
  blk_ext [iblk, idx t]

theorem blk_vc (t : Fin cfg0.N) (r : Fin 256) (e : Fin 256) (R : Fin 8704) (C : Fin 6144) (hR : R.val = 256 * (32 + t.val / 64) + r.val)
    (hC : C.val = 256 * (16 + t.val / 8 % 8) + e.val) : iblk m c 9 t (ix2 r e) = V m c main_v20 (ix2 R C) := by
  blk_ext [iblk, idx t]

theorem blk_k (t : Fin cfg0.N) (r : Fin 4096) (e : Fin 256) (R : Fin 8704) (C : Fin 6144) (hR : R.val = 4096 * (t.val / 64) + r.val)
    (hC : C.val = 256 * (8 + t.val / 8 % 8) + e.val) : X0_6 m c t (ix2 r e) = V m c main_v20 (ix2 R C) := by
  unfold X0_6 Pipeline.Window.fill
  rw [dif_pos (moved0_6 t _)]
  blk_ext [iblk, idx t]

theorem blk_v (t : Fin cfg0.N) (r : Fin 4096) (e : Fin 256) (R : Fin 8704) (C : Fin 6144) (hR : R.val = 4096 * (t.val / 64) + r.val)
    (hC : C.val = 256 * (16 + t.val / 8 % 8) + e.val) : X0_8 m c t (ix2 r e) = V m c main_v20 (ix2 R C) := by
  unfold X0_8 Pipeline.Window.fill
  rw [dif_pos (moved0_8 t _)]
  blk_ext [iblk, idx t]

theorem blk_l1 (t : Fin cfg0.N) (x : Fin 128) : iblk m c 0 t (ix2 0 x) = m ((c.tc : Thread nD τ).loc main_arg6) (ix1 x) := by
  have e : iblk m c 0 t (ix2 0 x) = V m c main_v21 (ix2 0 x) := by blk_ext [iblk, idx0 t]
  have f : V m c main_v21 = shapeCast S1x128 (m ((c.tc : Thread nD τ).loc main_arg6)) shapeCasts_S128_S1x128 := rfl
  rw [e, f]
  pointwise []

theorem blk_l2 (t : Fin cfg0.N) (x : Fin 128) : iblk m c 1 t (ix2 0 x) = m ((c.tc : Thread nD τ).loc main_arg7) (ix1 x) := by
  have e : iblk m c 1 t (ix2 0 x) = V m c main_v22 (ix2 0 x) := by blk_ext [iblk, idx0 t]
  have f : V m c main_v22 = shapeCast S1x128 (m ((c.tc : Thread nD τ).loc main_arg7)) shapeCasts_S128_S1x128 := rfl
  rw [e, f]
  pointwise []

theorem blk_l3 (t : Fin cfg0.N) (x : Fin 128) : iblk m c 2 t (ix2 0 x) = m ((c.tc : Thread nD τ).loc main_arg8) (ix1 x) := by
  have e : iblk m c 2 t (ix2 0 x) = V m c main_v23 (ix2 0 x) := by blk_ext [iblk, idx0 t]
  have f : V m c main_v23 = shapeCast S1x128 (m ((c.tc : Thread nD τ).loc main_arg8)) shapeCasts_S128_S1x128 := rfl
  rw [e, f]
  pointwise []

theorem blk_l4 (t : Fin cfg0.N) (x : Fin 128) : iblk m c 3 t (ix2 0 x) = m ((c.tc : Thread nD τ).loc main_arg9) (ix1 x) := by
  have e : iblk m c 3 t (ix2 0 x) = V m c main_v24 (ix2 0 x) := by blk_ext [iblk, idx0 t]
  have f : V m c main_v24 = shapeCast S1x128 (m ((c.tc : Thread nD τ).loc main_arg9)) shapeCasts_S128_S1x128 := rfl
  rw [e, f]
  pointwise []

theorem blk_g (t : Fin cfg0.N) (x : Fin 256) : iblk m c 4 t (ix2 0 x) = m ((c.tc : Thread nD τ).loc main_arg10) (ix1 x) := by
  have e : iblk m c 4 t (ix2 0 x) = V m c main_v25 (ix2 0 x) := by blk_ext [iblk, idx0 t]
  have f : V m c main_v25 = shapeCast S1x256 (m ((c.tc : Thread nD τ).loc main_arg10)) shapeCasts_S256_S1x256 := rfl
  rw [e, f]
  pointwise []

end Cert.Attn
end
-- ==== Proof.Pre.lean ====
/-
  THE PRECONDITION READ: every query, key, value and weight vector of the launch is finite. -/
module

public import proofs.«01_k».proof.Proof.Core
public import proofs.«01_k».proof.Proof.Gen.Pre_finite
public import Idealize.ShloMosaic.Lib.ReduceAll
public import Idealize.ShloMosaic.Lib.Affine

@[expose] public section

set_option maxRecDepth 16384

noncomputable section

namespace Cert.Attn

open Cert.Pre_finite Cert.Pre_finite.Gen Idealize.ShloMosaic

theorem ofBits_inf : Ideal.ofBits .f32 0x7F800000#32 = ⊤ := by
  simp [Ideal.ofBits, Ideal.ieee]

/-- A number whose size is below the infinite one is finite. -/
theorem fin_of_abs (x : EReal) (h : Ideal.cmp .olt (max x (-x)) (Ideal.ofBits .f32 0x7F800000#32) = 1#1) : Finite' x := by
  rw [ofBits_inf] at h
  have hlt : max x (-x) < ⊤ := by
    by_contra hn
    simp [Ideal.cmp, hn] at h
  have h1 : x ≠ ⊤ := fun e => absurd hlt (by rw [e]; simp)
  have h2 : x ≠ ⊥ := fun e => absurd hlt (by rw [e]; simp)
  exact ⟨_, (EReal.coe_toReal h1 h2).symm⟩

instance : Subsingleton S_.Idx := ⟨fun a b => funext fun i => i.elim0⟩

/-- The printed test of one argument array gives each of its elements. -/
theorem fin_of_all {s : Shape} {axes : List (Fin s.rank)} (x : FVec Ideal s .f32) (hb : S_.BroadcastsInDim s (![] : Fin 0 → Fin s.rank)) (h : s.ReducesTo axes S_)
    (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : Finite' (x i) :=
  fin_of_abs _ (Host.reduce_andi_all _ _ h hu j e i)

theorem finite_args (a0 a1 : FVec Ideal S2x4096x8x2x128 .f32) (a2 : FVec Ideal S2x4096x8x256 .f32) (a3 a4 : FVec Ideal S2x256x8x2x128 .f32)
    (a5 : FVec Ideal S2x256x8x256 .f32) (a6 a7 a8 a9 : FVec Ideal S128 .f32) (a10 : FVec Ideal S256 .f32)
    (h : fn (F := Ideal) a0 a1 a2 a3 a4 a5 a6 a7 a8 a9 a10 = fun _ => 1#1) :
    (∀ i, Finite' (a0 i)) ∧ (∀ i, Finite' (a1 i)) ∧ (∀ i, Finite' (a2 i)) ∧ (∀ i, Finite' (a4 i)) ∧ (∀ i, Finite' (a5 i))
      ∧ (∀ i, Finite' (a6 i)) ∧ (∀ i, Finite' (a7 i)) ∧ (∀ i, Finite' (a8 i)) ∧ (∀ i, Finite' (a9 i)) := by
  have e := congrFun h ix0
  dsimp only [fn, fn_part1, fn_part2, andi] at e
  simp only [IntOp.andi_eq_one] at e
  obtain ⟨⟨⟨⟨⟨⟨⟨⟨h0, h1⟩, h2⟩, h4⟩, h5⟩, h6⟩, h7⟩, h8⟩, h9⟩ := e
  exact ⟨fin_of_all a0 _ _ _ _ h0, fin_of_all a1 _ _ _ _ h1, fin_of_all a2 _ _ _ _ h2, fin_of_all a4 _ _ _ _ h4, fin_of_all a5 _ _ _ _ h5,
    fin_of_all a6 _ _ _ _ h6, fin_of_all a7 _ _ _ _ h7, fin_of_all a8 _ _ _ _ h8, fin_of_all a9 _ _ _ _ h9⟩

end Cert.Attn
end
-- ==== Proof.Equal.lean ====
/-
  THE KERNEL'S ARRAY IS THE REFERENCE'S: what each grid point writes, at an index, against the reference's stages there. -/
module

public import proofs.«01_k».proof.Proof.Ref
public import proofs.«01_k».proof.Proof.Pack
public import proofs.«01_k».proof.Proof.Pre

@[expose] public section

set_option maxRecDepth 16384

noncomputable section

namespace Cert.Attn

open Idealize.ShloMosaic Idealize.ShloMosaic.TcCoe Idealize.SL.Sem

/-- Queries scaled beforehand give the scaled scores over the logarithm of two. -/
theorem scale_real {N D : ℕ} (a : Fin D → EReal) (K : Fin N → Fin D → EReal) (ha : ∀ d, Finite' (a d)) (hK : ∀ n d, Finite' (K n d)) :
    ∃ s : Fin N → ℝ, (∀ n, (∑ d, a d * K n d) * Ideal.ofBits .f32 0x3DB504F3#32 = (s n : EReal))
      ∧ ∀ n, ∑ d, a d * Ideal.div (Ideal.ofBits .f32 0x3DB504F3#32) (Ideal.log (Ideal.ofBits .f32 0x40000000#32)) * K n d
        = ((s n / Real.log 2 : ℝ) : EReal) := by
  choose a' ha' using ha
  choose K' hK' using hK
  obtain ⟨δ, hδ⟩ := ofBits_scale
  have h2 : Real.log 2 ≠ 0 := (Real.log_pos one_lt_two).ne'
  have hl : Ideal.log (Ideal.ofBits .f32 0x40000000#32) = ((Real.log 2 : ℝ) : EReal) := by
    rw [ofBits_two, Ideal.log_coe, if_neg (by norm_num)]
  refine ⟨fun n => (∑ d, a' d * K' n d) * δ, fun n => ?_, fun n => ?_⟩
  · simp only [ha', hK', hδ, ← EReal.coe_mul, coe_sum]
  · simp only [ha', hK', hδ, hl, Ideal.div_coe h2, ← EReal.coe_mul, coe_sum]
    congr 1
    rw [Finset.sum_mul, Finset.sum_div]
    refine Finset.sum_congr rfl fun d _ => ?_
    field_simp

/-- The two maps as the reference combines them. -/
def refO (s : Fin 2 → Fin 4352 → EReal) (M : Fin 2 → EReal) (lam : EReal) (v : Fin 4352 → EReal) : EReal :=
  ∑ n, v n * (Ideal.div (Ideal.exp (s 0 n - M 0)) (∑ n, Ideal.exp (s 0 n - M 0))
    - lam * Ideal.div (Ideal.exp (s 1 n - M 1)) (∑ n, Ideal.exp (s 1 n - M 1)))

theorem kernO_eq (s s' : Fin 2 → Fin 4352 → EReal) (M M' : Fin 2 → EReal) (lam : EReal) (v : Fin 4352 → EReal)
    (hs : ∀ u, ∃ r : Fin 4352 → ℝ, (∀ n, s' u n = (r n : EReal)) ∧ ∀ n, s u n = ((r n / Real.log 2 : ℝ) : EReal))
    (hM : ∀ u, Finite' (M u)) (hM' : ∀ u, Finite' (M' u)) (hl : Finite' lam) (hv : ∀ n, Finite' (v n)) :
    kernO s M lam v = refO s' M' lam v := by
  choose r hr hr' using hs
  choose v' hv' using hv
  choose m hm using hM
  choose m' hm' using hM'
  obtain ⟨l, rfl⟩ := hl
  unfold kernO refO
  simp only [hr, hr', hv', hm, hm']
  exact combine (by norm_num) (r 0) (r 1) v' l (m 0) (m 1) (m' 0) (m' 1)

theorem lamOf_fin (a b c d : Fin 128 → EReal) (ha : ∀ i, Finite' (a i)) (hb : ∀ i, Finite' (b i)) (hc : ∀ i, Finite' (c i))
    (hd : ∀ i, Finite' (d i)) : Finite' (lamOf a b c d) := by
  obtain ⟨x, hx⟩ := Finite'.sum Finset.univ (fun i => a i * b i) fun i => (ha i).mul (hb i)
  obtain ⟨y, hy⟩ := Finite'.sum Finset.univ (fun i => c i * d i) fun i => (hc i).mul (hd i)
  obtain ⟨z, hz⟩ := ofBits_lam
  exact ⟨Real.exp x - Real.exp y + z, by
    simp only [lamOf, hx, hy, hz, Ideal.exp_coe, ← EReal.coe_sub, ← EReal.coe_add]⟩

section Reference
open Cert.ReferenceIdeal Cert.ReferenceIdeal.Gen

/-- The reference's result at an index, from its argument arrays. -/
theorem ref_apply (q k : FVec Ideal S2x4096x8x2x128 .f32) (v : FVec Ideal S2x4096x8x256 .f32) (kc : FVec Ideal S2x256x8x2x128 .f32)
    (vc : FVec Ideal S2x256x8x256 .f32) (l1 l2 l3 l4 : FVec Ideal S128 .f32) (g : FVec Ideal S256 .f32)
    (b : Fin 2) (i : Fin 4096) (h : Fin 8) (e : Fin 256) (R : Fin 8192) (C : Fin 2048) (hR : R.val = 4096 * b.val + i.val)
    (hC : C.val = 256 * h.val + e.val) :
    rN (rO (rLam l1 l2 l3 l4) (rP (rE (rS q (rK k kc)))) (rV v vc)) g (ix2 R C)
      = headNorm (fun x => refO (fun u n => (∑ d : Fin 128, q (ix5 b i h u d) * rK k kc (ix5 b n h u d)) * Ideal.ofBits .f32 0x3DB504F3#32)
          (fun u => Finset.univ.fold max ⊥ fun n : Fin 4352 =>
            (∑ d : Fin 128, q (ix5 b i h u d) * rK k kc (ix5 b n h u d)) * Ideal.ofBits .f32 0x3DB504F3#32)
          (lamOf (fun x => l1 (ix1 x)) (fun x => l2 (ix1 x)) (fun x => l3 (ix1 x)) (fun x => l4 (ix1 x)))
          (fun n => rV v vc (ix4 b n h x))) (g (ix1 e)) e := by
  rw [rN_apply]
  have e1 : (⟨R.val / 4096, by omega⟩ : Fin 2) = b := Fin.ext (by dsimp only; omega)
  have e2 : (⟨R.val % 4096, by omega⟩ : Fin 4096) = i := Fin.ext (by dsimp only; omega)
  have e3 : (⟨C.val / 256, by omega⟩ : Fin 8) = h := Fin.ext (by dsimp only; omega)
  have e4 : (⟨C.val % 256, by omega⟩ : Fin 256) = e := Fin.ext (by dsimp only; omega)
  rw [e1, e2, e3, e4]
  simp only [rO_apply, rP_apply, rE_apply, rMax_apply, rS_apply, rLam_apply, ofBits_ninf, refO]

end Reference

section Kernel
open Cert.KernelIdeal Cert.KernelIdeal.Gen Cert.KernelIdeal.Value

variable (m : (ℓ : Loc nD τ sig) → Buf (Elt Ideal) ℓ) (c : Dev nD)

theorem sc_eq (q : FVec Ideal S2x4096x8x2x128 .f32) (hq : m ((c.tc : Thread nD τ).loc main_arg0) = q) (t : Fin cfg0.N) (u : Fin 2) (r : Fin 512) (n : Fin 4352) (b : Fin 2) (i : Fin 4096) (h : Fin 8) (hb : b.val = t.val / 64)
    (hi : i.val = 512 * (t.val % 8) + r.val) (hh : h.val = t.val / 8 % 8) :
    sc u (iblk m c 5 t) (X0_6 m c t) (iblk m c 7 t) r n
      = ∑ d : Fin 128, q (ix5 b i h u d)
          * Ideal.div (Ideal.ofBits .f32 0x3DB504F3#32) (Ideal.log (Ideal.ofBits .f32 0x40000000#32))
          * rK (m ((c.tc : Thread nD τ).loc main_arg1)) (m ((c.tc : Thread nD τ).loc main_arg4)) (ix5 b n h u d) := by
  subst hq
  have ht : t.val < 128 := t.isLt
  unfold sc
  refine Finset.sum_congr rfl fun d _ => ?_
  rw [rK_apply, row]
  refine congrArg₂ (· * ·) ?_ ?_
  · rw [blk_q m c t r _ ⟨512 * (t.val / 64 * 8 + t.val % 8) + r.val, by omega⟩ ⟨256 * (t.val / 8 % 8) + (128 * u.val + d.val), by omega⟩ rfl rfl, pa_eq]
    exact packed_q _ _ _ _ _ _ b i h u d _ _ (by dsimp only; omega) (by dsimp only; omega)
  · split
    · rename_i hn
      rw [blk_k m c t _ _ ⟨4096 * (t.val / 64) + n.val, by omega⟩ ⟨256 * (8 + t.val / 8 % 8) + (128 * u.val + d.val), by omega⟩ rfl rfl, pa_eq]
      exact packed_k _ _ _ _ _ _ b _ h u d _ _ (by dsimp only; omega) (by dsimp only; omega)
    · rename_i hn
      rw [blk_kc m c t ⟨n.val - 4096, by omega⟩ _ ⟨256 * (32 + t.val / 64) + (n.val - 4096), by omega⟩ ⟨256 * (8 + t.val / 8 % 8) + (128 * u.val + d.val), by omega⟩ rfl rfl, pa_eq]
      exact packed_kc _ _ _ _ _ _ b _ h u d _ _ (by dsimp only; omega) (by dsimp only; omega)

theorem row_eq (t : Fin cfg0.N) (n : Fin 4352) (e : Fin 256) (b : Fin 2) (h : Fin 8) (hb : b.val = t.val / 64) (hh : h.val = t.val / 8 % 8) :
    row (X0_8 m c t) (iblk m c 9 t) n e
      = rV (m ((c.tc : Thread nD τ).loc main_arg2)) (m ((c.tc : Thread nD τ).loc main_arg5)) (ix4 b n h e) := by
  have ht : t.val < 128 := t.isLt
  rw [rV_apply, row]
  split
  · rename_i hn
    rw [blk_v m c t _ _ ⟨4096 * (t.val / 64) + n.val, by omega⟩ ⟨256 * (16 + t.val / 8 % 8) + e.val, by omega⟩ rfl rfl, pa_eq]
    exact packed_v _ _ _ _ _ _ b _ h e _ _ (by dsimp only; omega) (by dsimp only; omega)
  · rename_i hn
    rw [blk_vc m c t ⟨n.val - 4096, by omega⟩ _ ⟨256 * (32 + t.val / 64) + (n.val - 4096), by omega⟩ ⟨256 * (16 + t.val / 8 % 8) + e.val, by omega⟩ rfl rfl, pa_eq]
    exact packed_vc _ _ _ _ _ _ b _ h e _ _ (by dsimp only; omega) (by dsimp only; omega)

theorem rK_fin (k : FVec Ideal S2x4096x8x2x128 .f32) (kc : FVec Ideal S2x256x8x2x128 .f32) (h1 : ∀ i, Finite' (k i)) (h2 : ∀ i, Finite' (kc i))
    (b : Fin 2) (u : Fin 2) (h : Fin 8) (d : Fin 128) (n : Fin 4352) : Finite' (rK k kc (ix5 b n h u d)) := by
  rw [rK_apply]; split
  · exact h1 _
  · exact h2 _

theorem rV_fin (v : FVec Ideal S2x4096x8x256 .f32) (vc : FVec Ideal S2x256x8x256 .f32) (h1 : ∀ i, Finite' (v i)) (h2 : ∀ i, Finite' (vc i))
    (b : Fin 2) (h : Fin 8) (e : Fin 256) (n : Fin 4352) : Finite' (rV v vc (ix4 b n h e)) := by
  rw [rV_apply]; split
  · exact h1 _
  · exact h2 _

/-- What a grid point writes at an index is the target there. -/
theorem point (q : FVec Ideal S2x4096x8x2x128 .f32) (e0 : m ((c.tc : Thread nD τ).loc main_arg0) = q)
    (k : FVec Ideal S2x4096x8x2x128 .f32) (e1 : m ((c.tc : Thread nD τ).loc main_arg1) = k)
    (v : FVec Ideal S2x4096x8x256 .f32) (e2 : m ((c.tc : Thread nD τ).loc main_arg2) = v)
    (kc : FVec Ideal S2x256x8x2x128 .f32) (e4 : m ((c.tc : Thread nD τ).loc main_arg4) = kc)
    (vc : FVec Ideal S2x256x8x256 .f32) (e5 : m ((c.tc : Thread nD τ).loc main_arg5) = vc)
    (l1 : FVec Ideal S128 .f32) (e6 : m ((c.tc : Thread nD τ).loc main_arg6) = l1)
    (l2 : FVec Ideal S128 .f32) (e7 : m ((c.tc : Thread nD τ).loc main_arg7) = l2)
    (l3 : FVec Ideal S128 .f32) (e8 : m ((c.tc : Thread nD τ).loc main_arg8) = l3)
    (l4 : FVec Ideal S128 .f32) (e9 : m ((c.tc : Thread nD τ).loc main_arg9) = l4)
    (g : FVec Ideal S256 .f32) (e10 : m ((c.tc : Thread nD τ).loc main_arg10) = g)
    (h0 : ∀ i, Finite' (q i))
    (h1 : ∀ i, Finite' (k i))
    (h2 : ∀ i, Finite' (v i))
    (h4 : ∀ i, Finite' (kc i))
    (h5 : ∀ i, Finite' (vc i))
    (h6 : ∀ i, Finite' (l1 i))
    (h7 : ∀ i, Finite' (l2 i))
    (h8 : ∀ i, Finite' (l3 i))
    (h9 : ∀ i, Finite' (l4 i))
    (t : Fin cfg0.N) (r : Fin 512) (e : Fin 256) (R : Fin 8192) (C : Fin 2048) (hR : R.val = 512 * (t.val / 64 * 8 + t.val % 8) + r.val)
    (hC : C.val = 256 * (t.val / 8 % 8) + e.val) : outsAt0 m c t (ix2 r e)
      = rN (rO (rLam l1 l2 l3 l4) (rP (rE (rS q (rK k kc)))) (rV v vc)) g (ix2 R C) := by
  have ht : t.val < 128 := t.isLt
  have hb : t.val / 64 < 2 := by omega
  have hi : ∀ r : Fin 512, 512 * (t.val % 8) + r.val < 4096 := fun r => by omega
  have hh : t.val / 8 % 8 < 8 := by omega
  have hsc : ∀ u r, ∃ s : Fin 4352 → ℝ, (∀ n, (∑ d : Fin 128, q (ix5 ⟨_, hb⟩ ⟨_, hi r⟩ ⟨_, hh⟩ u d)
        * rK k kc (ix5 ⟨_, hb⟩ n ⟨_, hh⟩ u d)) * Ideal.ofBits .f32 0x3DB504F3#32 = (s n : EReal))
      ∧ ∀ n, sc u (iblk m c 5 t) (X0_6 m c t) (iblk m c 7 t) r n = ((s n / Real.log 2 : ℝ) : EReal) := by
    intro u r
    obtain ⟨s, hs, hs'⟩ := scale_real (fun d : Fin 128 => q (ix5 ⟨_, hb⟩ ⟨_, hi r⟩ ⟨_, hh⟩ u d))
      (fun (n : Fin 4352) (d : Fin 128) => rK k kc (ix5 ⟨_, hb⟩ n ⟨_, hh⟩ u d))
      (fun d => h0 _) (fun n d => rK_fin _ _ h1 h4 _ _ _ _ _)
    refine ⟨s, hs, fun n => ?_⟩
    have hn := sc_eq m c q e0 t u r n ⟨_, hb⟩ ⟨_, hi r⟩ ⟨_, hh⟩ rfl rfl rfl
    rw [e1, e4] at hn
    exact hn.trans (hs' n)
  have hr := ref_apply q k v
    kc vc l1 l2
    l3 l4 g
    ⟨_, hb⟩ ⟨_, hi r⟩ ⟨_, hh⟩ e R C (by dsimp only; omega) hC
  refine Eq.trans ?_ hr.symm
  rw [body_eq, tile_apply]
  refine congrArg₂ (fun o g => headNorm o g e) (funext fun x => ?_) ((blk_g m c t e).trans (congrFun e10 _))
  have hl : lamOf (fun x => iblk m c 0 t (ix2 0 x)) (fun x => iblk m c 1 t (ix2 0 x)) (fun x => iblk m c 2 t (ix2 0 x)) (fun x => iblk m c 3 t (ix2 0 x))
      = lamOf (fun x => l1 (ix1 x)) (fun x => l2 (ix1 x))
        (fun x => l3 (ix1 x)) (fun x => l4 (ix1 x)) := by
    rw [funext fun x => blk_l1 m c t x, funext fun x => blk_l2 m c t x, funext fun x => blk_l3 m c t x, funext fun x => blk_l4 m c t x, e6, e7, e8, e9]
  rw [hl, funext fun n => row_eq m c t n x ⟨_, hb⟩ ⟨_, hh⟩ rfl rfl, e2, e5]
  refine kernO_eq _ _ _ _ _ _ (fun u => hsc u r) (fun u => mapMax_fin u _ _ _ (fun r n => ?_) r) (fun u => ?_)
    (lamOf_fin _ _ _ _ (fun _ => h6 _) (fun _ => h7 _) (fun _ => h8 _) fun _ => h9 _) fun n => rV_fin _ _ h2 h5 _ _ _ _
  · obtain ⟨s, _, hs⟩ := hsc u r
    exact ⟨_, hs n⟩
  · obtain ⟨s, hs, _⟩ := hsc u r
    exact Finite'.fold_max (by norm_num) _ fun n => ⟨_, hs n⟩

/-- The kernel's output array, from finite arguments. -/
theorem final (q : FVec Ideal S2x4096x8x2x128 .f32) (e0 : m ((c.tc : Thread nD τ).loc main_arg0) = q)
    (k : FVec Ideal S2x4096x8x2x128 .f32) (e1 : m ((c.tc : Thread nD τ).loc main_arg1) = k)
    (v : FVec Ideal S2x4096x8x256 .f32) (e2 : m ((c.tc : Thread nD τ).loc main_arg2) = v)
    (kc : FVec Ideal S2x256x8x2x128 .f32) (e4 : m ((c.tc : Thread nD τ).loc main_arg4) = kc)
    (vc : FVec Ideal S2x256x8x256 .f32) (e5 : m ((c.tc : Thread nD τ).loc main_arg5) = vc)
    (l1 : FVec Ideal S128 .f32) (e6 : m ((c.tc : Thread nD τ).loc main_arg6) = l1)
    (l2 : FVec Ideal S128 .f32) (e7 : m ((c.tc : Thread nD τ).loc main_arg7) = l2)
    (l3 : FVec Ideal S128 .f32) (e8 : m ((c.tc : Thread nD τ).loc main_arg8) = l3)
    (l4 : FVec Ideal S128 .f32) (e9 : m ((c.tc : Thread nD τ).loc main_arg9) = l4)
    (g : FVec Ideal S256 .f32) (e10 : m ((c.tc : Thread nD τ).loc main_arg10) = g)
    (hf : (∀ i, Finite' (q i)) ∧ (∀ i, Finite' (k i)) ∧ (∀ i, Finite' (v i)) ∧ (∀ i, Finite' (kc i)) ∧ (∀ i, Finite' (vc i))
      ∧ (∀ i, Finite' (l1 i)) ∧ (∀ i, Finite' (l2 i)) ∧ (∀ i, Finite' (l3 i)) ∧ (∀ i, Finite' (l4 i))) :
    (dats m 0 c).arrAt 10 cfg0.N = rN (rO (rLam l1 l2 l3 l4) (rP (rE (rS q (rK k kc)))) (rV v vc)) g := by
  obtain ⟨h0, h1, h2, h4, h5, h6, h7, h8, h9⟩ := hf
  have hp := point m c q e0 k e1 v e2 kc e4 vc e5 l1 e6 l2 e7 l3 e8 l4 e9 g e10 h0 h1 h2 h4 h5 h6 h7 h8 h9
  generalize rN (rO (rLam l1 l2 l3 l4) (rP (rE (rS q (rK k kc)))) (rV v vc)) g = G at hp ⊢
  refine (dats m 0 c).arrAt_eq_of_covers 10 _ (by decide +kernel) fun t _ y => ?_
  blk_simp
  rw [after0_10]
  obtain ⟨r, e, rfl⟩ : ∃ (r : Fin 512) (e : Fin 256), y = ix2 r e := ⟨y 0, y 1, eq_ix2 y⟩
  have ht : t.val < 128 := t.isLt
  refine (hp t r e ⟨512 * (t.val / 64 * 8 + t.val % 8) + r.val, by omega⟩ ⟨256 * (t.val / 8 % 8) + e.val, by omega⟩ rfl rfl).trans ?_
  blk_ext [idx t]

end Kernel

end Cert.Attn
end
-- ==== Proof.UpRunA.lean ====
module

public import proofs.«01_k».proof.Proof.Gen.Kernel2Ideal.Frame
public import proofs.«01_k».proof.Proof.Gen.Kernel2Ideal.Skeleton
public import Idealize.ShloMosaic.Lib.Exec

@[expose] public section

set_option maxRecDepth 16384

noncomputable section

/-! The body of the feed-forward kernel, run once in each of its three cases. -/

namespace Cert.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

set_option maxHeartbeats 4000000 in
/-- The first tile of a row block: the rows are set up and the first products start. -/
def runA (c : Dev nD) (i : grid0.Coords) (arg2 : Memref sig .tc .vmem S1024x4096 .bf16) (harg2 : arg2.IsWhole) (arg3 : Memref sig .tc .vmem S16x4096 .bf16) (harg3 : arg3.IsWhole) (arg4 : Memref sig .tc .vmem S16x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S3x256 .f32) (harg13 : arg13.IsWhole) (arg14 : Memref sig .tc .vmem S3x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S1056x4096 .bf16) (harg18 : arg18.IsWhole) (arg19 : Memref sig .tc .vmem S2x4x1056x256 .f32) (harg19 : arg19.IsWhole)
    (h2 : (k0_cond2 i = 1#1)) (h3 : ¬(k0_cond3 i = 1#1)) (h4 : ¬(k0_cond4 i = 1#1))
    (x2 : Vec F S1024x4096 .bf16) (x3 : Vec F S16x4096 .bf16) (x4 : Vec F S16x4096 .bf16) (x5 : Vec F S4096x256 .bf16) (x6 : Vec F S4096x256 .bf16) (x7 : Vec F S3x256 .f32) (x8 : Vec F S3x256 .f32) (x9 : Vec F S1x256 .f32) (x10 : Vec F S1x256 .f32) (x11 : Vec F S4096x256 .bf16) (x12 : Vec F S4096x256 .bf16) (x13 : Vec F S3x256 .f32) (x14 : Vec F S3x256 .f32) (x15 : Vec F S1x256 .f32) (x16 : Vec F S1x256 .f32) (x17 : Vec F S1024x512 .bf16) (x18 : Vec F S1056x4096 .bf16) (x19 : Vec F S2x4x1056x256 .f32) :
    Σ' (L18 : List (View.Piece (Elt F) S1056x4096 .bf16)), { L19 : List (View.Piece (Elt F) S2x4x1056x256 .f32) // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19)) -∗ K ⟨⟩))
        ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_ffn_up_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold cc0_ffn_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]; · iexact H18
    iexact H19

end Cert.Up

end
-- ==== Proof.UpRunB.lean ====
module

public import proofs.«01_k».proof.Proof.Gen.Kernel2Ideal.Frame
public import proofs.«01_k».proof.Proof.Gen.Kernel2Ideal.Skeleton
public import Idealize.ShloMosaic.Lib.Exec

@[expose] public section

set_option maxRecDepth 16384

noncomputable section

/-! The body of the feed-forward kernel, run once in each of its three cases. -/

namespace Cert.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

set_option maxHeartbeats 4000000 in
/-- A tile between: the previous products are finished and the next start. -/
def runB (c : Dev nD) (i : grid0.Coords) (arg2 : Memref sig .tc .vmem S1024x4096 .bf16) (harg2 : arg2.IsWhole) (arg3 : Memref sig .tc .vmem S16x4096 .bf16) (harg3 : arg3.IsWhole) (arg4 : Memref sig .tc .vmem S16x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S3x256 .f32) (harg13 : arg13.IsWhole) (arg14 : Memref sig .tc .vmem S3x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S1056x4096 .bf16) (harg18 : arg18.IsWhole) (arg19 : Memref sig .tc .vmem S2x4x1056x256 .f32) (harg19 : arg19.IsWhole)
    (h2 : ¬(k0_cond2 i = 1#1)) (h3 : (k0_cond3 i = 1#1)) (h4 : ¬(k0_cond4 i = 1#1))
    (x2 : Vec F S1024x4096 .bf16) (x3 : Vec F S16x4096 .bf16) (x4 : Vec F S16x4096 .bf16) (x5 : Vec F S4096x256 .bf16) (x6 : Vec F S4096x256 .bf16) (x7 : Vec F S3x256 .f32) (x8 : Vec F S3x256 .f32) (x9 : Vec F S1x256 .f32) (x10 : Vec F S1x256 .f32) (x11 : Vec F S4096x256 .bf16) (x12 : Vec F S4096x256 .bf16) (x13 : Vec F S3x256 .f32) (x14 : Vec F S3x256 .f32) (x15 : Vec F S1x256 .f32) (x16 : Vec F S1x256 .f32) (x17 : Vec F S1024x512 .bf16) (x18 : Vec F S1056x4096 .bf16) (x19 : Vec F S2x4x1056x256 .f32) :
    Σ' (L17 : List (View.Piece (Elt F) S1024x512 .bf16)), { L19 : List (View.Piece (Elt F) S2x4x1056x256 .f32) // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (arg17.view.loc (c : Thread nD τ) ↦[arg17.view.set]{fullShare} arg17.view.writes (Elt F) (harg17.unread x17) L17) ∗ owns (c : Thread nD τ) arg18 fullShare x18 ∗ (arg19.view.loc (c : Thread nD τ) ↦[arg19.view.set]{fullShare} arg19.view.writes (Elt F) (harg19.unread x19) L19)) -∗ K ⟨⟩))
        ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_ffn_up_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold cc0_ffn_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]; · iexact H17
    isplitl [H18]
    · iexists _; isplitr; · ipureintro; exact harg18.read_unread _
      iexact H18
    iexact H19

end Cert.Up

end
-- ==== Proof.UpRunC.lean ====
module

public import proofs.«01_k».proof.Proof.Gen.Kernel2Ideal.Frame
public import proofs.«01_k».proof.Proof.Gen.Kernel2Ideal.Skeleton
public import Idealize.ShloMosaic.Lib.Exec

@[expose] public section

set_option maxRecDepth 16384

noncomputable section

/-! The body of the feed-forward kernel, run once in each of its three cases. -/

namespace Cert.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

set_option maxHeartbeats 4000000 in
/-- The last tile: the last products are finished. -/
def runC (c : Dev nD) (i : grid0.Coords) (arg2 : Memref sig .tc .vmem S1024x4096 .bf16) (harg2 : arg2.IsWhole) (arg3 : Memref sig .tc .vmem S16x4096 .bf16) (harg3 : arg3.IsWhole) (arg4 : Memref sig .tc .vmem S16x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S3x256 .f32) (harg13 : arg13.IsWhole) (arg14 : Memref sig .tc .vmem S3x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S1056x4096 .bf16) (harg18 : arg18.IsWhole) (arg19 : Memref sig .tc .vmem S2x4x1056x256 .f32) (harg19 : arg19.IsWhole)
    (h2 : ¬(k0_cond2 i = 1#1)) (h3 : ¬(k0_cond3 i = 1#1)) (h4 : (k0_cond4 i = 1#1))
    (x2 : Vec F S1024x4096 .bf16) (x3 : Vec F S16x4096 .bf16) (x4 : Vec F S16x4096 .bf16) (x5 : Vec F S4096x256 .bf16) (x6 : Vec F S4096x256 .bf16) (x7 : Vec F S3x256 .f32) (x8 : Vec F S3x256 .f32) (x9 : Vec F S1x256 .f32) (x10 : Vec F S1x256 .f32) (x11 : Vec F S4096x256 .bf16) (x12 : Vec F S4096x256 .bf16) (x13 : Vec F S3x256 .f32) (x14 : Vec F S3x256 .f32) (x15 : Vec F S1x256 .f32) (x16 : Vec F S1x256 .f32) (x17 : Vec F S1024x512 .bf16) (x18 : Vec F S1056x4096 .bf16) (x19 : Vec F S2x4x1056x256 .f32) :
     { L17 : List (View.Piece (Elt F) S1024x512 .bf16) // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (arg17.view.loc (c : Thread nD τ) ↦[arg17.view.set]{fullShare} arg17.view.writes (Elt F) (harg17.unread x17) L17) ∗ owns (c : Thread nD τ) arg18 fullShare x18 ∗ owns (c : Thread nD τ) arg19 fullShare x19) -∗ K ⟨⟩))
        ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_ffn_up_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold cc0_ffn_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]; · iexact H17
    isplitl [H18]
    · iexists _; isplitr; · ipureintro; exact harg18.read_unread _
      iexact H18
    iexists _; isplitr; · ipureintro; exact harg19.read_unread _
    iexact H19

end Cert.Up

end
-- ==== Proof.UpStep.lean ====
module

public import proofs.«01_k».proof.Proof.UpRunA
public import proofs.«01_k».proof.Proof.UpRunB
public import proofs.«01_k».proof.Proof.UpRunC
public import Idealize.ShloMosaic.Lib.WholeRead
public import Idealize.ShloMosaic.Lib.WritesUnit
public import Idealize.ShloMosaic.Lib.Pipeline.ValueKit

@[expose] public section

set_option maxRecDepth 16384

noncomputable section

/-! What the body of the feed-forward kernel leaves, in each of its three cases, as plain functions of what it reads. -/

namespace Cert.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- One row of a three-row block. -/
def row (k : Fin 3) (x : Vec F S3x256 .f32) : Vec F S1x256 .f32 := fun y => x (ix2 k (y 1))

/-- One product in the scratch, by half and number. -/
def slot (k : Fin 2) (s : Fin 4) (x : Vec F S2x4x1056x256 .f32) : Vec F S1x1x1056x256 .f32 := fun y => x (ix4 k s (y 2) (y 3))

/-- The rows the products read: sixteen rows before the block, the block, sixteen rows after. -/
def rows (i : grid0.Coords) (x2 : Vec F S1024x4096 .bf16) (x3 x4 : Vec F S16x4096 .bf16) : Vec F S1056x4096 .bf16 := fun y =>
  if h : 1040 ≤ (y 0).val then k0_pay31 (runA.sl.v59 i) k0_pay1 x4 (ix2 ⟨(y 0).val - 1040, by have := (y 0).isLt; simp only [S1056x4096] at this; simp at this; omega⟩ (y 1))
  else if h' : 16 ≤ (y 0).val then k0_pay30 (k0_pay3 x2) (ix2 ⟨(y 0).val - 16, by omega⟩ (y 1))
  else k0_pay2 (BitVec.ofNat 32 (i 0).val) x3 (ix2 ⟨(y 0).val, by omega⟩ (y 1))

/-- The first half of the tile a step writes. -/
def fin0 (i : grid0.Coords) (u0 u1 : Vec F S1x1x1056x256 .f32) (x7 x8 : Vec F S3x256 .f32) (x9 x10 : Vec F S1x256 .f32) : FVec F S1024x256 .bf16 :=
  k0_pay10 (BitVec.ofNat 32 (i 1).val) (k0_pay4 u0 (row 0 x7) (row 1 x7) (row 2 x7) x9) (k0_pay6 u1) (k0_pay7 u1 (row 0 x8)) (k0_pay8 u1) (k0_pay9 (row 1 x8)) (row 2 x8) x10

/-- The second half of the tile a step writes. -/
def fin1 (i : grid0.Coords) (u2 u3 : Vec F S1x1x1056x256 .f32) (x13 x14 : Vec F S3x256 .f32) (x15 x16 : Vec F S1x256 .f32) : FVec F S1024x256 .bf16 :=
  k0_pay14 (BitVec.ofNat 32 (i 1).val) (k0_pay12 u2 (row 0 x13) (row 1 x13)) (k0_pay13 u2 (row 2 x13)) x15 u3 (row 0 x14) (row 1 x14) (row 2 x14) x16

/-- The tile a step writes, from the four products and the taps. -/
def fin (i : grid0.Coords) (u : Fin 4 → Vec F S1x1x1056x256 .f32) (x7 x8 : Vec F S3x256 .f32) (x9 x10 : Vec F S1x256 .f32) (x13 x14 : Vec F S3x256 .f32) (x15 x16 : Vec F S1x256 .f32) :
    Vec F S1024x512 .bf16 := fun y =>
  if h : 256 ≤ (y 1).val then fin1 i (u 2) (u 3) x13 x14 x15 x16 (ix2 (y 0) ⟨(y 1).val - 256, by have := (y 1).isLt; simp only [S1024x512] at this; simp at this; omega⟩)
  else fin0 i (u 0) (u 1) x7 x8 x9 x10 (ix2 (y 0) ⟨(y 1).val, by omega⟩)

theorem ld_row {m : Memref sig .tc .vmem S3x256 .f32} (h : m.IsWhole) (X : Vec F S3x256 .f32) (k : ℕ) (hk : k < 3) (inb : ∀ a, (![k, 0] : Fin 2 → ℕ) a + S1x256.size a ≤ S3x256.size a) :
    View.readAt (Elt F) m.view (Rect.unit (s := S3x256) ![k, 0] S1x256.size inb).toLoadRect (h.unread X) = row ⟨k, hk⟩ X := by
  funext y
  rw [h.readAt_unread]
  refine congrArg X (funext fun a => Fin.ext ?_)
  have y0 : (y 0).val = 0 := by have := (y 0).isLt; change (y 0).val < 1 at this; omega
  match a with
  | ⟨0, _⟩ => show k + 1 * (y 0).val = k; omega
  | ⟨1, _⟩ => show 0 + 1 * (y 1).val = (y 1).val; omega

theorem ld_row0 {m : Memref sig .tc .vmem S3x256 .f32} (h : m.IsWhole) (X : Vec F S3x256 .f32) :
    View.readAt (Elt F) m.view (Rect.unit (s := S3x256) ![0, 0] S1x256.size inb_S3x256_S1x256_0_0).toLoadRect (h.unread X) = row 0 X :=
  ld_row h X 0 (by decide) _

theorem ld_row1 {m : Memref sig .tc .vmem S3x256 .f32} (h : m.IsWhole) (X : Vec F S3x256 .f32) :
    View.readAt (Elt F) m.view (Rect.unit (s := S3x256) ![1, 0] S1x256.size inb_S3x256_S1x256_1_0).toLoadRect (h.unread X) = row 1 X :=
  ld_row h X 1 (by decide) _

theorem ld_row2 {m : Memref sig .tc .vmem S3x256 .f32} (h : m.IsWhole) (X : Vec F S3x256 .f32) :
    View.readAt (Elt F) m.view (Rect.unit (s := S3x256) ![2, 0] S1x256.size inb_S3x256_S1x256_2_0).toLoadRect (h.unread X) = row 2 X :=
  ld_row h X 2 (by decide) _

theorem ld_slot {m : Memref sig .tc .vmem S2x4x1056x256 .f32} (h : m.IsWhole) (X : Vec F S2x4x1056x256 .f32) (off : Fin 4 → ℕ) (k : Fin 2) (s : Fin 4) (ho : off = ![k.val, s.val, 0, 0])
    (inb : ∀ a, off a + S1x1x1056x256.size a ≤ S2x4x1056x256.size a) :
    View.readAt (Elt F) m.view (Rect.unit (s := S2x4x1056x256) off S1x1x1056x256.size inb).toLoadRect (h.unread X) = slot k s X := by
  subst ho
  funext y
  rw [h.readAt_unread]
  refine congrArg X (funext fun a => Fin.ext ?_)
  have y0 : (y 0).val = 0 := by have := (y 0).isLt; change (y 0).val < 1 at this; omega
  have y1 : (y 1).val = 0 := by have := (y 1).isLt; change (y 1).val < 1 at this; omega
  match a with
  | ⟨0, _⟩ => show k.val + 1 * (y 0).val = k.val; omega
  | ⟨1, _⟩ => show s.val + 1 * (y 1).val = s.val; omega
  | ⟨2, _⟩ => show 0 + 1 * (y 2).val = (y 2).val; omega
  | ⟨3, _⟩ => show 0 + 1 * (y 3).val = (y 3).val; omega

theorem ld_whole {S : Shape} {ε : EltTy} {m : Memref sig .tc .vmem S ε} (h : m.IsWhole) (X : Vec F S ε) (off : Fin S.rank → ℕ) (ho : off = fun _ => 0)
    (inb : ∀ a, off a + S.size a ≤ S.size a) :
    View.readAt (Elt F) m.view (Rect.unit (s := S) off S.size inb).toLoadRect (h.unread X) = X := by
  subst ho
  funext y
  rw [h.readAt_unread]
  exact congrArg X (funext fun a => Fin.ext (by show 0 + 1 * (y a).val = (y a).val; omega))

theorem z2 : (![0, 0] : Fin 2 → ℕ) = fun _ => 0 := by decide

theorem rowsA (c : Dev nD) (i : grid0.Coords) (arg2 : Memref sig .tc .vmem S1024x4096 .bf16) (harg2 : arg2.IsWhole) (arg3 : Memref sig .tc .vmem S16x4096 .bf16) (harg3 : arg3.IsWhole) (arg4 : Memref sig .tc .vmem S16x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S3x256 .f32) (harg13 : arg13.IsWhole) (arg14 : Memref sig .tc .vmem S3x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S1056x4096 .bf16) (harg18 : arg18.IsWhole) (arg19 : Memref sig .tc .vmem S2x4x1056x256 .f32) (harg19 : arg19.IsWhole) (h2 : (k0_cond2 i = 1#1)) (h3 : ¬(k0_cond3 i = 1#1)) (h4 : ¬(k0_cond4 i = 1#1)) (x2 : Vec F S1024x4096 .bf16) (x3 : Vec F S16x4096 .bf16) (x4 : Vec F S16x4096 .bf16) (x5 : Vec F S4096x256 .bf16) (x6 : Vec F S4096x256 .bf16) (x7 : Vec F S3x256 .f32) (x8 : Vec F S3x256 .f32) (x9 : Vec F S1x256 .f32) (x10 : Vec F S1x256 .f32) (x11 : Vec F S4096x256 .bf16) (x12 : Vec F S4096x256 .bf16) (x13 : Vec F S3x256 .f32) (x14 : Vec F S3x256 .f32) (x15 : Vec F S1x256 .f32) (x16 : Vec F S1x256 .f32) (x17 : Vec F S1024x512 .bf16) (x18 : Vec F S1056x4096 .bf16) (x19 : Vec F S2x4x1056x256 .f32) (f : arg18.view.ty.Contents (Elt F)) :
    arg18.view.read (Elt F) (arg18.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19).1) = rows i x2 x3 x4 := by
  have p : ∃ (q0 : FVec F S16x4096 .bf16) (q1 : FVec F S1024x4096 .bf16) (q2 : FVec F S16x4096 .bf16), (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19).1
      = [⟨Rect.unit ![1040, 0] S16x4096.size inb_S1056x4096_S16x4096_1040_0, q2⟩, ⟨Rect.unit ![16, 0] S1024x4096.size inb_S1056x4096_S1024x4096_16_0, q1⟩, ⟨Rect.unit ![0, 0] S16x4096.size inb_S1056x4096_S16x4096_0_0, q0⟩]
      ∧ q0 = k0_pay2 (BitVec.ofNat 32 (i 0).val) x3 ∧ q1 = k0_pay30 (k0_pay3 x2) ∧ q2 = k0_pay31 (runA.sl.v59 i) k0_pay1 x4 := by
    refine ⟨_, _, _, rfl, ?_, ?_, ?_⟩
    · conv_rhs => rw [← ld_whole harg3 x3 _ z2 inb_S16x4096_S16x4096_0_0]
    · conv_rhs => rw [← ld_whole harg2 x2 _ z2 inb_S1024x4096_S1024x4096_0_0]
      try rfl
    · conv_rhs => rw [← ld_whole harg4 x4 _ z2 inb_S16x4096_S16x4096_0_0]
  obtain ⟨q0, q1, q2, hp, h0, h1, h2⟩ := p
  rw [hp]
  clear hp
  subst h0 h1 h2
  funext y
  have b : (y 0).val < 1056 := (y 0).isLt
  unfold rows
  by_cases h : 1040 ≤ (y 0).val
  · rw [dif_pos h]
    refine View.read_writes_cons_unit_of_mem _ f (off' := ![1040, 0]) _ _ _ y (ix2 ⟨(y 0).val - 1040, by omega⟩ (y 1)) rfl fun a => ?_
    match a with
    | ⟨0, _⟩ => show (y 0).val = 1040 + ((y 0).val - 1040); omega
    | ⟨1, _⟩ => show (y 1).val = 0 + (y 1).val; omega
  rw [dif_neg h]
  refine (View.read_writes_cons_unit_of_not_mem _ f (off' := ![1040, 0]) _ _ _ y rfl 0 (Or.inl (by show (y 0).val < 1040; omega))).trans ?_
  by_cases h' : 16 ≤ (y 0).val
  · rw [dif_pos h']
    refine View.read_writes_cons_unit_of_mem _ f (off' := ![16, 0]) _ _ _ y (ix2 ⟨(y 0).val - 16, by omega⟩ (y 1)) rfl fun a => ?_
    match a with
    | ⟨0, _⟩ => show (y 0).val = 16 + ((y 0).val - 16); omega
    | ⟨1, _⟩ => show (y 1).val = 0 + (y 1).val; omega
  · rw [dif_neg h']
    refine (View.read_writes_cons_unit_of_not_mem _ f (off' := ![16, 0]) _ _ _ y rfl 0 (Or.inl (by show (y 0).val < 16; omega))).trans ?_
    refine View.read_writes_cons_unit_of_mem _ f (off' := ![0, 0]) _ _ _ y (ix2 ⟨(y 0).val, by omega⟩ (y 1)) rfl fun a => ?_
    match a with
    | ⟨0, _⟩ => show (y 0).val = 0 + (y 0).val; omega
    | ⟨1, _⟩ => show (y 1).val = 0 + (y 1).val; omega

theorem covA (c : Dev nD) (i : grid0.Coords) (arg2 : Memref sig .tc .vmem S1024x4096 .bf16) (harg2 : arg2.IsWhole) (arg3 : Memref sig .tc .vmem S16x4096 .bf16) (harg3 : arg3.IsWhole) (arg4 : Memref sig .tc .vmem S16x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S3x256 .f32) (harg13 : arg13.IsWhole) (arg14 : Memref sig .tc .vmem S3x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S1056x4096 .bf16) (harg18 : arg18.IsWhole) (arg19 : Memref sig .tc .vmem S2x4x1056x256 .f32) (harg19 : arg19.IsWhole) (h2 : (k0_cond2 i = 1#1)) (h3 : ¬(k0_cond3 i = 1#1)) (h4 : ¬(k0_cond4 i = 1#1)) (x2 : Vec F S1024x4096 .bf16) (x3 : Vec F S16x4096 .bf16) (x4 : Vec F S16x4096 .bf16) (x5 : Vec F S4096x256 .bf16) (x6 : Vec F S4096x256 .bf16) (x7 : Vec F S3x256 .f32) (x8 : Vec F S3x256 .f32) (x9 : Vec F S1x256 .f32) (x10 : Vec F S1x256 .f32) (x11 : Vec F S4096x256 .bf16) (x12 : Vec F S4096x256 .bf16) (x13 : Vec F S3x256 .f32) (x14 : Vec F S3x256 .f32) (x15 : Vec F S1x256 .f32) (x16 : Vec F S1x256 .f32) (x17 : Vec F S1024x512 .bf16) (x18 : Vec F S1056x4096 .bf16) (x19 : Vec F S2x4x1056x256 .f32) : arg18.view.readCov (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19).1 (Rect.unit (s := S1056x4096) ![0, 0] S1056x4096.size inb_S1056x4096_S1056x4096_0_0).toLoadRect = rows i x2 x3 x4 := by
  unfold View.readCov
  funext y
  refine (congrFun (rowsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19 _) _).trans ?_
  exact congrArg _ (funext fun a => Fin.ext (by
    match a with
    | ⟨0, _⟩ => show 0 + 1 * (y 0).val = (y 0).val; omega
    | ⟨1, _⟩ => show 0 + 1 * (y 1).val = (y 1).val; omega))

theorem prodsA (c : Dev nD) (i : grid0.Coords) (arg2 : Memref sig .tc .vmem S1024x4096 .bf16) (harg2 : arg2.IsWhole) (arg3 : Memref sig .tc .vmem S16x4096 .bf16) (harg3 : arg3.IsWhole) (arg4 : Memref sig .tc .vmem S16x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S3x256 .f32) (harg13 : arg13.IsWhole) (arg14 : Memref sig .tc .vmem S3x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S1056x4096 .bf16) (harg18 : arg18.IsWhole) (arg19 : Memref sig .tc .vmem S2x4x1056x256 .f32) (harg19 : arg19.IsWhole) (h2 : (k0_cond2 i = 1#1)) (h3 : ¬(k0_cond3 i = 1#1)) (h4 : ¬(k0_cond4 i = 1#1)) (x2 : Vec F S1024x4096 .bf16) (x3 : Vec F S16x4096 .bf16) (x4 : Vec F S16x4096 .bf16) (x5 : Vec F S4096x256 .bf16) (x6 : Vec F S4096x256 .bf16) (x7 : Vec F S3x256 .f32) (x8 : Vec F S3x256 .f32) (x9 : Vec F S1x256 .f32) (x10 : Vec F S1x256 .f32) (x11 : Vec F S4096x256 .bf16) (x12 : Vec F S4096x256 .bf16) (x13 : Vec F S3x256 .f32) (x14 : Vec F S3x256 .f32) (x15 : Vec F S1x256 .f32) (x16 : Vec F S1x256 .f32) (x17 : Vec F S1024x512 .bf16) (x18 : Vec F S1056x4096 .bf16) (x19 : Vec F S2x4x1056x256 .f32) (k : Fin 2) (o0 : k0_off1 i = ![k.val, 0, 0, 0]) (o1 : k0_off2 i = ![k.val, 1, 0, 0]) (o2 : k0_off3 i = ![k.val, 2, 0, 0]) (o3 : k0_off4 i = ![k.val, 3, 0, 0]) (f : arg19.view.ty.Contents (Elt F)) (s : Fin 4) :
    slot k s (arg19.view.read (Elt F) (arg19.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19).2.1)) = k0_pay15 (rows i x2 x3 x4) (![x5, x6, x11, x12] s) := by
  have p : ∃ q0 q1 q2 q3 : FVec F S1x1x1056x256 .f32, (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19).2.1
      = [⟨Rect.unit (k0_off4 i) S1x1x1056x256.size (k0_off4_inb i h2), q3⟩, ⟨Rect.unit (k0_off3 i) S1x1x1056x256.size (k0_off3_inb i h2), q2⟩,
        ⟨Rect.unit (k0_off2 i) S1x1x1056x256.size (k0_off2_inb i h2), q1⟩, ⟨Rect.unit (k0_off1 i) S1x1x1056x256.size (k0_off1_inb i h2), q0⟩]
      ∧ q0 = k0_pay15 (rows i x2 x3 x4) x5 ∧ q1 = k0_pay15 (rows i x2 x3 x4) x6 ∧ q2 = k0_pay15 (rows i x2 x3 x4) x11 ∧ q3 = k0_pay15 (rows i x2 x3 x4) x12 := by
    refine ⟨_, _, _, _, rfl, ?_, ?_, ?_, ?_⟩
    · conv_rhs => rw [← covA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19, ← ld_whole harg5 x5 _ z2 inb_S4096x256_S4096x256_0_0]
      try rfl
    · conv_rhs => rw [← covA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19, ← ld_whole harg6 x6 _ z2 inb_S4096x256_S4096x256_0_0]
      try rfl
    · conv_rhs => rw [← covA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19, ← ld_whole harg11 x11 _ z2 inb_S4096x256_S4096x256_0_0]
      try rfl
    · conv_rhs => rw [← covA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19, ← ld_whole harg12 x12 _ z2 inb_S4096x256_S4096x256_0_0]
      try rfl
  obtain ⟨q0, q1, q2, q3, hp, h0, h1, h2, h3⟩ := p
  rw [hp]
  clear hp
  subst h0 h1 h2 h3
  funext y
  have y0 : (y 0).val = 0 := by have := (y 0).isLt; change (y 0).val < 1 at this; omega
  have y1 : (y 1).val = 0 := by have := (y 1).isLt; change (y 1).val < 1 at this; omega
  unfold slot
  have hx : ∀ s : Fin 4, ∀ a : Fin 4, ((ix4 k s (y 2) (y 3) : S2x4x1056x256.Idx) a).val = (![k.val, s.val, 0, 0] : Fin 4 → ℕ) a + (y a).val := fun s a => by
    match a with
    | ⟨0, _⟩ => show k.val = k.val + (y 0).val; omega
    | ⟨1, _⟩ => show s.val = s.val + (y 1).val; omega
    | ⟨2, _⟩ => show (y 2).val = 0 + (y 2).val; omega
    | ⟨3, _⟩ => show (y 3).val = 0 + (y 3).val; omega
  match s with
  | 3 => exact View.read_writes_cons_unit_of_mem _ f _ _ _ _ y o3 (hx 3)
  | 2 =>
    refine (View.read_writes_cons_unit_of_not_mem _ f _ _ _ _ o3 1 (Or.inl (by show 2 < 3; omega))).trans ?_
    exact View.read_writes_cons_unit_of_mem _ f _ _ _ _ y o2 (hx 2)
  | 1 =>
    refine (View.read_writes_cons_unit_of_not_mem _ f _ _ _ _ o3 1 (Or.inl (by show 1 < 3; omega))).trans ?_
    refine (View.read_writes_cons_unit_of_not_mem _ f _ _ _ _ o2 1 (Or.inl (by show 1 < 2; omega))).trans ?_
    exact View.read_writes_cons_unit_of_mem _ f _ _ _ _ y o1 (hx 1)
  | 0 =>
    refine (View.read_writes_cons_unit_of_not_mem _ f _ _ _ _ o3 1 (Or.inl (by show 0 < 3; omega))).trans ?_
    refine (View.read_writes_cons_unit_of_not_mem _ f _ _ _ _ o2 1 (Or.inl (by show 0 < 2; omega))).trans ?_
    refine (View.read_writes_cons_unit_of_not_mem _ f _ _ _ _ o1 1 (Or.inl (by show 0 < 1; omega))).trans ?_
    exact View.read_writes_cons_unit_of_mem _ f _ _ _ _ y o0 (hx 0)

theorem outB (c : Dev nD) (i : grid0.Coords) (arg2 : Memref sig .tc .vmem S1024x4096 .bf16) (harg2 : arg2.IsWhole) (arg3 : Memref sig .tc .vmem S16x4096 .bf16) (harg3 : arg3.IsWhole) (arg4 : Memref sig .tc .vmem S16x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S3x256 .f32) (harg13 : arg13.IsWhole) (arg14 : Memref sig .tc .vmem S3x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S1056x4096 .bf16) (harg18 : arg18.IsWhole) (arg19 : Memref sig .tc .vmem S2x4x1056x256 .f32) (harg19 : arg19.IsWhole) (h2 : ¬(k0_cond2 i = 1#1)) (h3 : (k0_cond3 i = 1#1)) (h4 : ¬(k0_cond4 i = 1#1)) (x2 : Vec F S1024x4096 .bf16) (x3 : Vec F S16x4096 .bf16) (x4 : Vec F S16x4096 .bf16) (x5 : Vec F S4096x256 .bf16) (x6 : Vec F S4096x256 .bf16) (x7 : Vec F S3x256 .f32) (x8 : Vec F S3x256 .f32) (x9 : Vec F S1x256 .f32) (x10 : Vec F S1x256 .f32) (x11 : Vec F S4096x256 .bf16) (x12 : Vec F S4096x256 .bf16) (x13 : Vec F S3x256 .f32) (x14 : Vec F S3x256 .f32) (x15 : Vec F S1x256 .f32) (x16 : Vec F S1x256 .f32) (x17 : Vec F S1024x512 .bf16) (x18 : Vec F S1056x4096 .bf16) (x19 : Vec F S2x4x1056x256 .f32) (k : Fin 2) (o0 : k0_off5 i = ![k.val, 0, 0, 0]) (o1 : k0_off6 i = ![k.val, 1, 0, 0]) (o2 : k0_off7 i = ![k.val, 2, 0, 0]) (o3 : k0_off8 i = ![k.val, 3, 0, 0]) (f : arg17.view.ty.Contents (Elt F)) :
    arg17.view.read (Elt F) (arg17.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19).1) = fin i (fun s => slot k s x19) x7 x8 x9 x10 x13 x14 x15 x16 := by
  have e0 := ld_slot harg19 x19 _ k 0 o0 (k0_off5_inb i h3)
  have e1 := ld_slot harg19 x19 _ k 1 o1 (k0_off6_inb i h3)
  have e2 := ld_slot harg19 x19 _ k 2 o2 (k0_off7_inb i h3)
  have e3 := ld_slot harg19 x19 _ k 3 o3 (k0_off8_inb i h3)
  have p : ∃ (q0 : FVec F S1024x256 .bf16) (q1 : FVec F S1024x256 .bf16), (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19).1
      = [⟨Rect.unit ![0, 256] S1024x256.size inb_S1024x512_S1024x256_0_256, q1⟩, ⟨Rect.unit ![0, 0] S1024x256.size inb_S1024x512_S1024x256_0_0, q0⟩]
      ∧ q0 = fin0 i (slot k 0 x19) (slot k 1 x19) x7 x8 x9 x10 ∧ q1 = fin1 i (slot k 2 x19) (slot k 3 x19) x13 x14 x15 x16 := by
    refine ⟨_, _, rfl, ?_, ?_⟩
    · unfold fin0
      rw [← e0, ← e1, ← ld_row0 harg7 x7, ← ld_row1 harg7 x7, ← ld_row2 harg7 x7,
        ← ld_row0 harg8 x8, ← ld_row1 harg8 x8, ← ld_row2 harg8 x8]
      conv_rhs => rw [← ld_whole harg9 x9 _ z2 inb_S1x256_S1x256_0_0, ← ld_whole harg10 x10 _ z2 inb_S1x256_S1x256_0_0]
      try rfl
    · unfold fin1
      rw [← e2, ← e3, ← ld_row0 harg13 x13, ← ld_row1 harg13 x13, ← ld_row2 harg13 x13,
        ← ld_row0 harg14 x14, ← ld_row1 harg14 x14, ← ld_row2 harg14 x14]
      conv_rhs => rw [← ld_whole harg15 x15 _ z2 inb_S1x256_S1x256_0_0, ← ld_whole harg16 x16 _ z2 inb_S1x256_S1x256_0_0]
      try rfl
  obtain ⟨q0, q1, hp, h0, h1⟩ := p
  rw [hp]
  clear hp
  subst h0 h1
  funext y
  unfold fin
  have b1 : (y 1).val < 512 := (y 1).isLt
  by_cases h : 256 ≤ (y 1).val
  · rw [dif_pos h]
    refine View.read_writes_cons_unit_of_mem _ f (off' := ![0, 256]) inb_S1024x512_S1024x256_0_256 _ _ y (ix2 (y 0) ⟨(y 1).val - 256, by omega⟩) rfl fun a => ?_
    match a with
    | ⟨0, _⟩ => show (y 0).val = 0 + (y 0).val; omega
    | ⟨1, _⟩ => show (y 1).val = 256 + ((y 1).val - 256); omega
  · rw [dif_neg h]
    refine (View.read_writes_cons_unit_of_not_mem _ f (off' := ![0, 256]) inb_S1024x512_S1024x256_0_256 _ _ y rfl 1 (Or.inl (by show (y 1).val < 256; omega))).trans ?_
    refine View.read_writes_cons_unit_of_mem _ f (off' := ![0, 0]) inb_S1024x512_S1024x256_0_0 _ _ y (ix2 (y 0) ⟨(y 1).val, by omega⟩) rfl fun a => ?_
    match a with
    | ⟨0, _⟩ => show (y 0).val = 0 + (y 0).val; omega
    | ⟨1, _⟩ => show (y 1).val = 0 + (y 1).val; omega

theorem prodsB (c : Dev nD) (i : grid0.Coords) (arg2 : Memref sig .tc .vmem S1024x4096 .bf16) (harg2 : arg2.IsWhole) (arg3 : Memref sig .tc .vmem S16x4096 .bf16) (harg3 : arg3.IsWhole) (arg4 : Memref sig .tc .vmem S16x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S3x256 .f32) (harg13 : arg13.IsWhole) (arg14 : Memref sig .tc .vmem S3x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S1056x4096 .bf16) (harg18 : arg18.IsWhole) (arg19 : Memref sig .tc .vmem S2x4x1056x256 .f32) (harg19 : arg19.IsWhole) (h2 : ¬(k0_cond2 i = 1#1)) (h3 : (k0_cond3 i = 1#1)) (h4 : ¬(k0_cond4 i = 1#1)) (x2 : Vec F S1024x4096 .bf16) (x3 : Vec F S16x4096 .bf16) (x4 : Vec F S16x4096 .bf16) (x5 : Vec F S4096x256 .bf16) (x6 : Vec F S4096x256 .bf16) (x7 : Vec F S3x256 .f32) (x8 : Vec F S3x256 .f32) (x9 : Vec F S1x256 .f32) (x10 : Vec F S1x256 .f32) (x11 : Vec F S4096x256 .bf16) (x12 : Vec F S4096x256 .bf16) (x13 : Vec F S3x256 .f32) (x14 : Vec F S3x256 .f32) (x15 : Vec F S1x256 .f32) (x16 : Vec F S1x256 .f32) (x17 : Vec F S1024x512 .bf16) (x18 : Vec F S1056x4096 .bf16) (x19 : Vec F S2x4x1056x256 .f32) (k : Fin 2) (o0 : k0_off9 i = ![k.val, 0, 0, 0]) (o1 : k0_off10 i = ![k.val, 1, 0, 0]) (o2 : k0_off11 i = ![k.val, 2, 0, 0]) (o3 : k0_off12 i = ![k.val, 3, 0, 0]) (f : arg19.view.ty.Contents (Elt F)) (s : Fin 4) :
    slot k s (arg19.view.read (Elt F) (arg19.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19).2.1)) = k0_pay15 x18 (![x5, x6, x11, x12] s) := by
  have p : ∃ q0 q1 q2 q3 : FVec F S1x1x1056x256 .f32, (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19).2.1
      = [⟨Rect.unit (k0_off12 i) S1x1x1056x256.size (k0_off12_inb i h3), q3⟩, ⟨Rect.unit (k0_off11 i) S1x1x1056x256.size (k0_off11_inb i h3), q2⟩,
        ⟨Rect.unit (k0_off10 i) S1x1x1056x256.size (k0_off10_inb i h3), q1⟩, ⟨Rect.unit (k0_off9 i) S1x1x1056x256.size (k0_off9_inb i h3), q0⟩]
      ∧ q0 = k0_pay15 x18 x5 ∧ q1 = k0_pay15 x18 x6 ∧ q2 = k0_pay15 x18 x11 ∧ q3 = k0_pay15 x18 x12 := by
    refine ⟨_, _, _, _, rfl, ?_, ?_, ?_, ?_⟩
    · conv_rhs => rw [← ld_whole harg18 x18 _ z2 inb_S1056x4096_S1056x4096_0_0, ← ld_whole harg5 x5 _ z2 inb_S4096x256_S4096x256_0_0]
      try rfl
    · conv_rhs => rw [← ld_whole harg18 x18 _ z2 inb_S1056x4096_S1056x4096_0_0, ← ld_whole harg6 x6 _ z2 inb_S4096x256_S4096x256_0_0]
      try rfl
    · conv_rhs => rw [← ld_whole harg18 x18 _ z2 inb_S1056x4096_S1056x4096_0_0, ← ld_whole harg11 x11 _ z2 inb_S4096x256_S4096x256_0_0]
      try rfl
    · conv_rhs => rw [← ld_whole harg18 x18 _ z2 inb_S1056x4096_S1056x4096_0_0, ← ld_whole harg12 x12 _ z2 inb_S4096x256_S4096x256_0_0]
      try rfl
  obtain ⟨q0, q1, q2, q3, hp, h0, h1, h2, h3⟩ := p
  rw [hp]
  clear hp
  subst h0 h1 h2 h3
  funext y
  have y0 : (y 0).val = 0 := by have := (y 0).isLt; change (y 0).val < 1 at this; omega
  have y1 : (y 1).val = 0 := by have := (y 1).isLt; change (y 1).val < 1 at this; omega
  unfold slot
  have hx : ∀ s : Fin 4, ∀ a : Fin 4, ((ix4 k s (y 2) (y 3) : S2x4x1056x256.Idx) a).val = (![k.val, s.val, 0, 0] : Fin 4 → ℕ) a + (y a).val := fun s a => by
    match a with
    | ⟨0, _⟩ => show k.val = k.val + (y 0).val; omega
    | ⟨1, _⟩ => show s.val = s.val + (y 1).val; omega
    | ⟨2, _⟩ => show (y 2).val = 0 + (y 2).val; omega
    | ⟨3, _⟩ => show (y 3).val = 0 + (y 3).val; omega
  match s with
  | 3 => exact View.read_writes_cons_unit_of_mem _ f _ _ _ _ y o3 (hx 3)
  | 2 =>
    refine (View.read_writes_cons_unit_of_not_mem _ f _ _ _ _ o3 1 (Or.inl (by show 2 < 3; omega))).trans ?_
    exact View.read_writes_cons_unit_of_mem _ f _ _ _ _ y o2 (hx 2)
  | 1 =>
    refine (View.read_writes_cons_unit_of_not_mem _ f _ _ _ _ o3 1 (Or.inl (by show 1 < 3; omega))).trans ?_
    refine (View.read_writes_cons_unit_of_not_mem _ f _ _ _ _ o2 1 (Or.inl (by show 1 < 2; omega))).trans ?_
    exact View.read_writes_cons_unit_of_mem _ f _ _ _ _ y o1 (hx 1)
  | 0 =>
    refine (View.read_writes_cons_unit_of_not_mem _ f _ _ _ _ o3 1 (Or.inl (by show 0 < 3; omega))).trans ?_
    refine (View.read_writes_cons_unit_of_not_mem _ f _ _ _ _ o2 1 (Or.inl (by show 0 < 2; omega))).trans ?_
    refine (View.read_writes_cons_unit_of_not_mem _ f _ _ _ _ o1 1 (Or.inl (by show 0 < 1; omega))).trans ?_
    exact View.read_writes_cons_unit_of_mem _ f _ _ _ _ y o0 (hx 0)

theorem outC (c : Dev nD) (i : grid0.Coords) (arg2 : Memref sig .tc .vmem S1024x4096 .bf16) (harg2 : arg2.IsWhole) (arg3 : Memref sig .tc .vmem S16x4096 .bf16) (harg3 : arg3.IsWhole) (arg4 : Memref sig .tc .vmem S16x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S3x256 .f32) (harg13 : arg13.IsWhole) (arg14 : Memref sig .tc .vmem S3x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S1056x4096 .bf16) (harg18 : arg18.IsWhole) (arg19 : Memref sig .tc .vmem S2x4x1056x256 .f32) (harg19 : arg19.IsWhole) (h2 : ¬(k0_cond2 i = 1#1)) (h3 : ¬(k0_cond3 i = 1#1)) (h4 : (k0_cond4 i = 1#1)) (x2 : Vec F S1024x4096 .bf16) (x3 : Vec F S16x4096 .bf16) (x4 : Vec F S16x4096 .bf16) (x5 : Vec F S4096x256 .bf16) (x6 : Vec F S4096x256 .bf16) (x7 : Vec F S3x256 .f32) (x8 : Vec F S3x256 .f32) (x9 : Vec F S1x256 .f32) (x10 : Vec F S1x256 .f32) (x11 : Vec F S4096x256 .bf16) (x12 : Vec F S4096x256 .bf16) (x13 : Vec F S3x256 .f32) (x14 : Vec F S3x256 .f32) (x15 : Vec F S1x256 .f32) (x16 : Vec F S1x256 .f32) (x17 : Vec F S1024x512 .bf16) (x18 : Vec F S1056x4096 .bf16) (x19 : Vec F S2x4x1056x256 .f32) (k : Fin 2) (o0 : k0_off13 i = ![k.val, 0, 0, 0]) (o1 : k0_off14 i = ![k.val, 1, 0, 0]) (o2 : k0_off15 i = ![k.val, 2, 0, 0]) (o3 : k0_off16 i = ![k.val, 3, 0, 0]) (f : arg17.view.ty.Contents (Elt F)) :
    arg17.view.read (Elt F) (arg17.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19).1) = fin i (fun s => slot k s x19) x7 x8 x9 x10 x13 x14 x15 x16 := by
  have e0 := ld_slot harg19 x19 _ k 0 o0 (k0_off13_inb i h4)
  have e1 := ld_slot harg19 x19 _ k 1 o1 (k0_off14_inb i h4)
  have e2 := ld_slot harg19 x19 _ k 2 o2 (k0_off15_inb i h4)
  have e3 := ld_slot harg19 x19 _ k 3 o3 (k0_off16_inb i h4)
  have p : ∃ (q0 : FVec F S1024x256 .bf16) (q1 : FVec F S1024x256 .bf16), (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 h4 x2 x3 x4 x5 x6 x7 x8 x9 x10 x11 x12 x13 x14 x15 x16 x17 x18 x19).1
      = [⟨Rect.unit ![0, 256] S1024x256.size inb_S1024x512_S1024x256_0_256, q1⟩, ⟨Rect.unit ![0, 0] S1024x256.size inb_S1024x512_S1024x256_0_0, q0⟩]
      ∧ q0 = fin0 i (slot k 0 x19) (slot k 1 x19) x7 x8 x9 x10 ∧ q1 = fin1 i (slot k 2 x19) (slot k 3 x19) x13 x14 x15 x16 := by
    refine ⟨_, _, rfl, ?_, ?_⟩
    · unfold fin0
      rw [← e0, ← e1, ← ld_row0 harg7 x7, ← ld_row1 harg7 x7, ← ld_row2 harg7 x7,
        ← ld_row0 harg8 x8, ← ld_row1 harg8 x8, ← ld_row2 harg8 x8]
      conv_rhs => rw [← ld_whole harg9 x9 _ z2 inb_S1x256_S1x256_0_0, ← ld_whole harg10 x10 _ z2 inb_S1x256_S1x256_0_0]
      try rfl
    · unfold fin1
      rw [← e2, ← e3, ← ld_row0 harg13 x13, ← ld_row1 harg13 x13, ← ld_row2 harg13 x13,
        ← ld_row0 harg14 x14, ← ld_row1 harg14 x14, ← ld_row2 harg14 x14]
      conv_rhs => rw [← ld_whole harg15 x15 _ z2 inb_S1x256_S1x256_0_0, ← ld_whole harg16 x16 _ z2 inb_S1x256_S1x256_0_0]
      try rfl
  obtain ⟨q0, q1, hp, h0, h1⟩ := p
  rw [hp]
  clear hp
  subst h0 h1
  funext y
  unfold fin
  have b1 : (y 1).val < 512 := (y 1).isLt
  by_cases h : 256 ≤ (y 1).val
  · rw [dif_pos h]
    refine View.read_writes_cons_unit_of_mem _ f (off' := ![0, 256]) inb_S1024x512_S1024x256_0_256 _ _ y (ix2 (y 0) ⟨(y 1).val - 256, by omega⟩) rfl fun a => ?_
    match a with
    | ⟨0, _⟩ => show (y 0).val = 0 + (y 0).val; omega
    | ⟨1, _⟩ => show (y 1).val = 256 + ((y 1).val - 256); omega
  · rw [dif_neg h]
    refine (View.read_writes_cons_unit_of_not_mem _ f (off' := ![0, 256]) inb_S1024x512_S1024x256_0_256 _ _ y rfl 1 (Or.inl (by show (y 1).val < 256; omega))).trans ?_
    refine View.read_writes_cons_unit_of_mem _ f (off' := ![0, 0]) inb_S1024x512_S1024x256_0_0 _ _ y (ix2 (y 0) ⟨(y 1).val, by omega⟩) rfl fun a => ?_
    match a with
    | ⟨0, _⟩ => show (y 0).val = 0 + (y 0).val; omega
    | ⟨1, _⟩ => show (y 1).val = 0 + (y 1).val; omega

end Cert.Up

end
-- ==== Proof.UpFrame.lean ====
module

public import proofs.«01_k».proof.Proof.UpStep

@[expose] public section

set_option maxRecDepth 16384

noncomputable section

/-! The feed-forward kernel over its whole grid: what each step leaves, the scratch carried from step to step, the launch and the frame. -/

namespace Cert.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cA : ∀ t : Fin cfg0.N, t.val % 23 = 0 → k0_cond2 (grid0.coords t) = 1#1 ∧ ¬(k0_cond3 (grid0.coords t) = 1#1) ∧ ¬(k0_cond4 (grid0.coords t) = 1#1) := by decide +kernel
theorem cB : ∀ t : Fin cfg0.N, t.val % 23 ≠ 0 → t.val % 23 ≠ 22 → ¬(k0_cond2 (grid0.coords t) = 1#1) ∧ k0_cond3 (grid0.coords t) = 1#1 ∧ ¬(k0_cond4 (grid0.coords t) = 1#1) := by decide +kernel
theorem cC : ∀ t : Fin cfg0.N, t.val % 23 = 22 → ¬(k0_cond2 (grid0.coords t) = 1#1) ∧ ¬(k0_cond3 (grid0.coords t) = 1#1) ∧ k0_cond4 (grid0.coords t) = 1#1 := by decide +kernel
theorem idleA : ∀ t : Fin cfg0.N, t.val % 23 = 0 → idle0 15 (grid0.coords t) = true := by decide +kernel
theorem idleB : ∀ t : Fin cfg0.N, t.val % 23 ≠ 0 → idle0 15 (grid0.coords t) = false := by decide +kernel
theorem keepA : ∀ t : Fin cfg0.N, t.val % 23 = 0 → (cfg0.win 15).flush t = false := by decide +kernel

/-- The half of the product scratch a step fills. -/
def now (t : Fin cfg0.N) : Fin 2 := ⟨t.val % 23 % 2, Nat.mod_lt _ (by decide)⟩
/-- The half the step before filled. -/
def old (t : Fin cfg0.N) : Fin 2 := ⟨(t.val % 23 + 1) % 2, Nat.mod_lt _ (by decide)⟩

theorem offA : ∀ t : Fin cfg0.N, k0_off1 (grid0.coords t) = ![(now t).val, 0, 0, 0] ∧ k0_off2 (grid0.coords t) = ![(now t).val, 1, 0, 0] ∧ k0_off3 (grid0.coords t) = ![(now t).val, 2, 0, 0] ∧ k0_off4 (grid0.coords t) = ![(now t).val, 3, 0, 0] := by decide +kernel
theorem offB : ∀ t : Fin cfg0.N, k0_off5 (grid0.coords t) = ![(old t).val, 0, 0, 0] ∧ k0_off6 (grid0.coords t) = ![(old t).val, 1, 0, 0] ∧ k0_off7 (grid0.coords t) = ![(old t).val, 2, 0, 0] ∧ k0_off8 (grid0.coords t) = ![(old t).val, 3, 0, 0] := by decide +kernel
theorem offB2 : ∀ t : Fin cfg0.N, k0_off9 (grid0.coords t) = ![(now t).val, 0, 0, 0] ∧ k0_off10 (grid0.coords t) = ![(now t).val, 1, 0, 0] ∧ k0_off11 (grid0.coords t) = ![(now t).val, 2, 0, 0] ∧ k0_off12 (grid0.coords t) = ![(now t).val, 3, 0, 0] := by decide +kernel
theorem offC : ∀ t : Fin cfg0.N, k0_off13 (grid0.coords t) = ![(old t).val, 0, 0, 0] ∧ k0_off14 (grid0.coords t) = ![(old t).val, 1, 0, 0] ∧ k0_off15 (grid0.coords t) = ![(old t).val, 2, 0, 0] ∧ k0_off16 (grid0.coords t) = ![(old t).val, 3, 0, 0] := by decide +kernel

/-- The first step of a step's row block. -/
def base (t : Fin cfg0.N) : Fin cfg0.N := ⟨t.val - t.val % 23, lt_of_le_of_lt (Nat.sub_le _ _) t.isLt⟩
/-- The step before. -/
def prev (t : Fin cfg0.N) : Fin cfg0.N := ⟨t.val - 1, lt_of_le_of_lt (Nat.sub_le _ _) t.isLt⟩

theorem base_first (t : Fin cfg0.N) (h : t.val % 23 = 0) : base t = t := Fin.ext (by show t.val - t.val % 23 = t.val; omega)
theorem base_prev (t : Fin cfg0.N) (h : t.val % 23 ≠ 0) : base (prev t) = base t := Fin.ext (by show (t.val - 1) - (t.val - 1) % 23 = t.val - t.val % 23; omega)
theorem now_prev (t : Fin cfg0.N) (h : t.val % 23 ≠ 0) : now (prev t) = old t := Fin.ext (by show (t.val - 1) % 23 % 2 = (t.val % 23 + 1) % 2; omega)

/-- The rows a step's products read. -/
def rowsAt (c : Dev nD) (t : Fin cfg0.N) : Vec F S1056x4096 .bf16 := rows (grid0.coords (base t)) (iblk m c 0 (base t)) (iblk m c 1 (base t)) (iblk m c 2 (base t))

/-- A step's four products. -/
def prodAt (c : Dev nD) (t : Fin cfg0.N) (s : Fin 4) : Vec F S1x1x1056x256 .f32 :=
  k0_pay15 (rowsAt m c t) ((![iblk m c 3 t, iblk m c 4 t, iblk m c 9 t, iblk m c 10 t] : Fin 4 → Vec F S4096x256 .bf16) s)

/-- The tile a step writes. -/
def outAt (c : Dev nD) (t : Fin cfg0.N) : Vec F S1024x512 .bf16 :=
  fin (grid0.coords t) (prodAt m c (prev t)) (iblk m c 5 t) (iblk m c 6 t) (iblk m c 7 t) (iblk m c 8 t) (iblk m c 11 t) (iblk m c 12 t) (iblk m c 13 t) (iblk m c 14 t)

/-- What is known of the two scratch buffers after a step. -/
def Good (c : Dev nD) (p : Fin cfg0.N) (X18 : Vec F S1056x4096 .bf16) (X19 : Vec F S2x4x1056x256 .f32) : Prop :=
  X18 = rowsAt m c p ∧ (p.val % 23 ≠ 22 → ∀ s, slot (now p) s X19 = prodAt m c p s)

/-- The scratch between steps. -/
def PhiS (c : Dev nD) : (n : ℕ) → n ≤ cfg0.N → sProp 𝕄
  | 0, _ => Pipeline.ΦA spec0 c
  | n + 1, hn => iprop(∃ X18 X19, ⌜Good m c ⟨n, hn⟩ X18 X19⌝ ∗ owns (c : Thread nD τ) (Memref.whole cc0_scratch0) fullShare X18 ∗ owns (c : Thread nD τ) (Memref.whole cc0_scratch1) fullShare X19 ∗ (∃ r, prngReg c r))

theorem PhiA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t
    | ⟨n + 16, h⟩ => absurd (show n + 16 < 16 from h) (by omega)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

theorem Phi_here (c : Dev nD) (t : Fin cfg0.N) : (dats m 0 c).Φ t.castSucc = PhiS m c t.val (Nat.le_of_lt t.isLt) := by
  dsimp only [dats]; exact Pipeline.Dat.Φ_castSucc (PhiS m c) t

theorem Phi_next (c : Dev nD) (t : Fin cfg0.N) : (dats m 0 c).Φ t.succ = iprop(∃ X18 X19, ⌜Good m c t X18 X19⌝ ∗ owns (c : Thread nD τ) (Memref.whole cc0_scratch0) fullShare X18 ∗ owns (c : Thread nD τ) (Memref.whole cc0_scratch1) fullShare X19 ∗ (∃ r, prngReg c r)) := rfl

/-- Before any step the two scratch buffers hold something. -/
theorem Phi_any (c : Dev nD) (n : ℕ) (h : n ≤ cfg0.N) :
    PhiS m c n h ⊢ iprop(∃ X18 X19, owns (c : Thread nD τ) (Memref.whole cc0_scratch0) fullShare X18 ∗ owns (c : Thread nD τ) (Memref.whole cc0_scratch1) fullShare X19 ∗ (∃ r, prngReg c r)) := by
  cases n with
  | zero =>
    show Pipeline.ΦA spec0 c ⊢ _
    rw [PhiA_eq]
    iintro ⟨⟨⟨%X18, H18⟩, ⟨%X19, H19⟩⟩, Hg⟩
    iexists X18; iexists X19
    isplitl [H18]; · iexact H18
    isplitl [H19]; · iexact H19
    iexact Hg
  | succ n =>
    show iprop(∃ X18 X19, ⌜Good m c ⟨n, h⟩ X18 X19⌝ ∗ owns (c : Thread nD τ) (Memref.whole cc0_scratch0) fullShare X18 ∗ owns (c : Thread nD τ) (Memref.whole cc0_scratch1) fullShare X19 ∗ (∃ r, prngReg c r)) ⊢ _
    iintro ⟨%X18, %X19, -, H18, H19, Hg⟩
    iexists X18; iexists X19
    isplitl [H18]; · iexact H18
    isplitl [H19]; · iexact H19
    iexact Hg

/-- Before a step that is not its row block's first, they hold what the step before left. -/
theorem Phi_prev (c : Dev nD) (t : Fin cfg0.N) (hz : t.val % 23 ≠ 0) :
    PhiS m c t.val (Nat.le_of_lt t.isLt) ⊢ iprop(∃ X18 X19, ⌜X18 = rowsAt m c t ∧ ∀ s, slot (old t) s X19 = prodAt m c (prev t) s⌝ ∗ owns (c : Thread nD τ) (Memref.whole cc0_scratch0) fullShare X18 ∗ owns (c : Thread nD τ) (Memref.whole cc0_scratch1) fullShare X19 ∗ (∃ r, prngReg c r)) := by
  obtain ⟨n, hn⟩ := t
  cases n with
  | zero => exact absurd rfl hz
  | succ n =>
    show iprop(∃ X18 X19, ⌜Good m c ⟨n, _⟩ X18 X19⌝ ∗ owns (c : Thread nD τ) (Memref.whole cc0_scratch0) fullShare X18 ∗ owns (c : Thread nD τ) (Memref.whole cc0_scratch1) fullShare X19 ∗ (∃ r, prngReg c r)) ⊢ _
    iintro ⟨%X18, %X19, %hg, H18, H19, Hg⟩
    iexists X18; iexists X19
    isplitr
    · ipureintro
      have hp : prev ⟨n + 1, hn⟩ = ⟨n, Nat.lt_of_succ_lt hn⟩ := rfl
      refine ⟨hg.1.trans ?_, fun s => ?_⟩
      · unfold rowsAt; rw [← base_prev ⟨n + 1, hn⟩ hz, hp]
      · rw [← now_prev ⟨n + 1, hn⟩ hz, hp]
        exact hg.2 (by dsimp only at hz ⊢; omega) s
    isplitl [H18]; · iexact H18
    isplitl [H19]; · iexact H19
    iexact Hg

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ (match idle0 15 (grid0.coords t) with
        | true => (match (cfg0.win 15).flush t with
          | false => iprop(∃ d, owns (c : Thread nD τ) (win0_15.stage (cfg0.slots t 15)) fullShare ((dats m 0 c).before 15 t d))
          | true => owns (c : Thread nD τ) (win0_15.stage (cfg0.slots t 15)) fullShare ((dats m 0 c).after 15 t))
        | false => owns (c : Thread nD τ) (win0_15.stage (cfg0.slots t 15)) fullShare ((dats m 0 c).after 15 t)))
set_option maxHeartbeats 8000000 in
/-- The first step of a row block. -/
theorem soundA (c : Dev nD) (t : Fin cfg0.N) (h : t.val % 23 = 0) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, Phi_here, Phi_next]
  rw [after0_0, after0_1, after0_2, after0_3, after0_4, after0_5, after0_6, after0_7, after0_8, after0_9, after0_10, after0_11, after0_12, after0_13, after0_14, after0_15]
  rw [idleA t h, keepA t h]; dsimp only
  simp only [before0_0, before0_1, before0_2, before0_3, before0_4, before0_5, before0_6, before0_7, before0_8, before0_9, before0_10, before0_11, before0_12, before0_13, before0_14]
  obtain ⟨e2, e3, e4⟩ := cA t h
  refine (sep_mono_left (Phi_any m c _ _)).trans ?_
  iintro ⟨⟨%X18, %X19, H18, H19, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) e2 e3 e4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) X18 X19).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H18]; · iexact H18
  isplitl [H19]; · iexact H19
  iintro ⟨H0, H1, H2, H3, H4, H5, H6, H7, H8, H9, H10, H11, H12, H13, H14, H15, H18, H19⟩
  isplitl [H18 H19 Hg]
  · iexists (rowsAt m c t); iexists ((Memref.whole cc0_scratch1).view.read (Elt F) ((Memref.whole cc0_scratch1).view.writes (Elt F) ((Memref.isWhole_whole cc0_scratch1).unread X19) (runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) e2 e3 e4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) X18 X19).2.1))
    have hr : rowsAt m c t = rows (grid0.coords t) (iblk m c 0 t) (iblk m c 1 t) (iblk m c 2 t) := by unfold rowsAt; rw [base_first t h]
    isplitr
    · ipureintro
      refine ⟨rfl, fun _ s => ?_⟩
      unfold prodAt; rw [hr]
      obtain ⟨o0, o1, o2, o3⟩ := offA t
      exact prodsA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) e2 e3 e4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) X18 X19 (now t) o0 o1 o2 o3 _ s
    isplitl [H18]
    · unfold owns; iexists _; isplitr
      swap; · iexact H18
      ipureintro; rw [hr]; exact rowsA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) e2 e3 e4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) X18 X19 _
    isplitl [H19]
    · unfold owns; iexists _; isplitr
      swap; · iexact H19
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists d15; iexact H15

set_option maxHeartbeats 8000000 in
/-- A step in the middle of a row block. -/
theorem soundB (c : Dev nD) (t : Fin cfg0.N) (h : t.val % 23 ≠ 0 ∧ t.val % 23 ≠ 22) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, Phi_here, Phi_next]
  rw [after0_0, after0_1, after0_2, after0_3, after0_4, after0_5, after0_6, after0_7, after0_8, after0_9, after0_10, after0_11, after0_12, after0_13, after0_14, after0_15]
  rw [idleB t h.1]; dsimp only
  simp only [before0_0, before0_1, before0_2, before0_3, before0_4, before0_5, before0_6, before0_7, before0_8, before0_9, before0_10, before0_11, before0_12, before0_13, before0_14]
  obtain ⟨e2, e3, e4⟩ := cB t h.1 h.2
  refine (sep_mono_left (Phi_prev m c t h.1)).trans ?_
  iintro ⟨⟨%X18, %X19, %hX, H18, H19, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) e2 e3 e4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) X18 X19).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H18]; · iexact H18
  isplitl [H19]; · iexact H19
  iintro ⟨H0, H1, H2, H3, H4, H5, H6, H7, H8, H9, H10, H11, H12, H13, H14, H15, H18, H19⟩
  isplitl [H18 H19 Hg]
  · iexists X18; iexists ((Memref.whole cc0_scratch1).view.read (Elt F) ((Memref.whole cc0_scratch1).view.writes (Elt F) ((Memref.isWhole_whole cc0_scratch1).unread X19) (runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) e2 e3 e4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) X18 X19).2.1))
    isplitr
    · ipureintro
      refine ⟨hX.1, fun _ s => ?_⟩
      unfold prodAt; rw [← hX.1]
      obtain ⟨o0, o1, o2, o3⟩ := offB2 t
      exact prodsB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) e2 e3 e4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) X18 X19 (now t) o0 o1 o2 o3 _ s
    isplitl [H18]; · iexact H18
    isplitl [H19]
    · unfold owns; iexists _; isplitr
      swap; · iexact H19
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; obtain ⟨o0, o1, o2, o3⟩ := offB t
  refine (outB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) e2 e3 e4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) X18 X19 (old t) o0 o1 o2 o3 _).trans ?_
  unfold outAt; rw [show (fun s => slot (old t) s X19) = prodAt m c (prev t) from funext hX.2]

set_option maxHeartbeats 8000000 in
/-- The last step of a row block. -/
theorem soundC (c : Dev nD) (t : Fin cfg0.N) (h : t.val % 23 = 22) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, Phi_here, Phi_next]
  rw [after0_0, after0_1, after0_2, after0_3, after0_4, after0_5, after0_6, after0_7, after0_8, after0_9, after0_10, after0_11, after0_12, after0_13, after0_14, after0_15]
  rw [idleB t (by omega)]; dsimp only
  simp only [before0_0, before0_1, before0_2, before0_3, before0_4, before0_5, before0_6, before0_7, before0_8, before0_9, before0_10, before0_11, before0_12, before0_13, before0_14]
  obtain ⟨e2, e3, e4⟩ := cC t h
  refine (sep_mono_left (Phi_prev m c t (by omega))).trans ?_
  iintro ⟨⟨%X18, %X19, %hX, H18, H19, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) e2 e3 e4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) X18 X19).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H18]; · iexact H18
  isplitl [H19]; · iexact H19
  iintro ⟨H0, H1, H2, H3, H4, H5, H6, H7, H8, H9, H10, H11, H12, H13, H14, H15, H18, H19⟩
  isplitl [H18 H19 Hg]
  · iexists X18; iexists X19
    isplitr
    · ipureintro
      exact ⟨hX.1, fun hn => absurd h hn⟩
    isplitl [H18]; · iexact H18
    isplitl [H19]; · iexact H19
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; obtain ⟨o0, o1, o2, o3⟩ := offC t
  refine (outC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) e2 e3 e4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) X18 X19 (old t) o0 o1 o2 o3 _).trans ?_
  unfold outAt; rw [show (fun s => slot (old t) s X19) = prodAt m c (prev t) from funext hX.2]

theorem sound_body (c : Dev nD) (t : Fin cfg0.N) :
    bodyPre m c t ⊢ wp frame (wpE (defs₀ (F := F)) Variants.none c none) Set.univ (bodyAt0 t) (fun _ => bodyPost m c t) := by
  by_cases h0 : t.val % 23 = 0
  · exact soundA m c t h0
  by_cases h1 : t.val % 23 = 22
  · exact soundC m c t h1
  · exact soundB m c t ⟨h0, h1⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl, PhiA_eq]
  refine (Phi_any m c _ _).trans ?_
  iintro ⟨%X18, %X19, H18, H19, Hg⟩
  isplitl [H18 H19]
  · isplitl [H18]
    · iexists _; iexact H18
    iexists _; iexact H19
  iexact Hg

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments come back as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Up

end
-- ==== Proof.UpRef.lean ====
module

public import proofs.«01_k».proof.Proof.Gen.Reference2Ideal.Run
public import Idealize.ShloMosaic.Lib.KernelVsHost
public import Idealize.ShloMosaic.Lib.Pipeline.ValueKit
public import Idealize.ShloMosaic.Lib.Pointwise

@[expose] public section

set_option maxRecDepth 16384

noncomputable section

/-! The feed-forward reference: the product, the three taps along the rows and the gate, read at an index. -/

namespace Cert.Up

open Idealize.ShloMosaic Idealize.ShloMosaic.TcCoe Idealize.SL.Sem
open Cert.Reference2Ideal Cert.Reference2Ideal.Gen

/-- The product with a row of zeros at either end of each sequence. -/
def refPad {F : FTy → Type} [FloatOps F] (x : FVec F S2x4096x4096 .f32) (w : FVec F S4096x22016 .f32) : FVec F S2x4098x22016 .f32 :=
  pad S2x4098x22016 ![0, 1, 0] ![0, 1, 0] ![0, 0, 0] (Host.dotGeneral dot_S2x4096x4096_S4096x22016_S2x4096x22016_2_0_01_1_n_n none x w) (sitofp .f32 (constantI S_ 32 0#32)) pads_S2x4096x22016_S2x4098x22016_000_110_000 h_S_

/-- The three taps and the bias. -/
def refConv {F : FTy → Type} [FloatOps F] (x : FVec F S2x4096x4096 .f32) (w : FVec F S4096x22016 .f32) (k : FVec F S3x22016 .f32) (b : FVec F S22016 .f32) : FVec F S2x4096x22016 .f32 :=
  addf (addf (addf (addf (broadcastInDim S2x4096x22016 ![] bcast_S_S2x4096x22016 (constant S_ .f32 0x00000000#32)) (mulf (broadcastInDim S2x4096x22016 ![0, 1, 2] bcast_S1x1x22016_S2x4096x22016_0_1_2 (broadcastInDim S1x1x22016 ![2] bcast_S22016_S1x1x22016_2 (shapeCast _ (extractStridedSlice S1x22016 ![0, 0] k slices_S3x22016_S1x22016_0_0) shapeCasts_S1x22016_S22016))) (extractStridedSlice S2x4096x22016 ![0, 0, 0] (refPad x w) slices_S2x4098x22016_S2x4096x22016_0_0_0))) (mulf (broadcastInDim S2x4096x22016 ![0, 1, 2] bcast_S1x1x22016_S2x4096x22016_0_1_2 (broadcastInDim S1x1x22016 ![2] bcast_S22016_S1x1x22016_2 (shapeCast _ (extractStridedSlice S1x22016 ![1, 0] k slices_S3x22016_S1x22016_1_0) shapeCasts_S1x22016_S22016))) (extractStridedSlice S2x4096x22016 ![0, 1, 0] (refPad x w) slices_S2x4098x22016_S2x4096x22016_0_1_0))) (mulf (broadcastInDim S2x4096x22016 ![0, 1, 2] bcast_S1x1x22016_S2x4096x22016_0_1_2 (broadcastInDim S1x1x22016 ![2] bcast_S22016_S1x1x22016_2 (shapeCast _ (extractStridedSlice S1x22016 ![2, 0] k slices_S3x22016_S1x22016_2_0) shapeCasts_S1x22016_S22016))) (extractStridedSlice S2x4096x22016 ![0, 2, 0] (refPad x w) slices_S2x4098x22016_S2x4096x22016_0_2_0))) (broadcastInDim S2x4096x22016 ![0, 1, 2] bcast_S1x1x22016_S2x4096x22016_0_1_2 (broadcastInDim S1x1x22016 ![2] bcast_S22016_S1x1x22016_2 b))

/-- The reference's result from its arguments. -/
def refOut {F : FTy → Type} [FloatOps F] (x : FVec F S2x4096x4096 .f32) (w : FVec F S4096x22016 .f32) (k : FVec F S3x22016 .f32) (b : FVec F S22016 .f32) : FVec F S8192x11264 .bf16 :=
  truncf .bf16 (pad S8192x11264 ![0, 0] ![0, 256] ![0, 0] (shapeCast _ (mulf (mulf (extractStridedSlice S2x4096x11008 ![0, 0, 0] (refConv x w k b) slices_S2x4096x22016_S2x4096x11008_0_0_0) (Host.divf (broadcastInDim S2x4096x11008 ![] bcast_S_S2x4096x11008 (constant S_ .f32 0x3F800000#32)) (addf (broadcastInDim S2x4096x11008 ![] bcast_S_S2x4096x11008 (constant S_ .f32 0x3F800000#32)) (Host.exp (Host.negf (extractStridedSlice S2x4096x11008 ![0, 0, 0] (refConv x w k b) slices_S2x4096x22016_S2x4096x11008_0_0_0)))))) (extractStridedSlice S2x4096x11008 ![0, 0, 11008] (refConv x w k b) slices_S2x4096x22016_S2x4096x11008_0_0_11008)) shapeCasts_S2x4096x11008_S8192x11008) (sitofp .f32 (constantI S_ 32 0#32)) pads_S8192x11008_S8192x11264_000_02560 h_S_) bitsLt_bf16_f32

set_option maxHeartbeats 2000000 in
/-- The reference's run ends with it. -/
theorem ref_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = refOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference2Ideal.Value.run m ρ

/-- Row `s` of sequence `q` of the padded product, at column `C`. -/
def tap (x : FVec Ideal S2x4096x4096 .f32) (w : FVec Ideal S4096x22016 .f32) (q : Fin 2) (s : ℕ) (C : Fin 22016) : EReal :=
  if h : 1 ≤ s ∧ s < 4097 then ∑ d : Fin 4096, x (ix3 q ⟨s - 1, by omega⟩ d) * w (ix2 d C) else 0

/-- The taps and the bias at row `s`, column `C`. -/
def conv (x : FVec Ideal S2x4096x4096 .f32) (w : FVec Ideal S4096x22016 .f32) (k : FVec Ideal S3x22016 .f32) (b : FVec Ideal S22016 .f32) (q : Fin 2) (s : ℕ) (C : Fin 22016) : EReal :=
  ((k (ix2 0 C) * tap x w q s C + k (ix2 1 C) * tap x w q (s + 1) C) + k (ix2 2 C) * tap x w q (s + 2) C) + b (ix1 C)

/-- The gated product. -/
def gated (x : FVec Ideal S2x4096x4096 .f32) (w : FVec Ideal S4096x22016 .f32) (k : FVec Ideal S3x22016 .f32) (b : FVec Ideal S22016 .f32) (q : Fin 2) (s : ℕ) (C : Fin 11008) : EReal :=
  (conv x w k b q s ⟨C.val, by omega⟩ * Ideal.logistic (conv x w k b q s ⟨C.val, by omega⟩)) * conv x w k b q s ⟨11008 + C.val, by omega⟩

theorem sitofp_zero : (FloatOps.sitofp .f32 (0#32) : Ideal .f32) = 0 := by
  show (((0#32 : BitVec 32).toInt : ℝ) : EReal) = 0
  simp

theorem refPad_apply (x : FVec Ideal S2x4096x4096 .f32) (w : FVec Ideal S4096x22016 .f32) (q : Fin 2) (s : Fin 4098) (C : Fin 22016) :
    refPad x w (ix3 q s C) = tap x w q s.val C := by
  unfold refPad tap
  by_cases h : 1 ≤ s.val ∧ s.val < 4097
  · rw [dif_pos h]
    refine (pad_apply_of_inside ![0, 1, 0] ![0, 1, 0] ![0, 0, 0] _ _ _ _ (ix3 q s C) (ix3 q ⟨s.val - 1, by omega⟩ C) fun a => ?_).trans ?_
    · match a with
      | ⟨0, _⟩ => show q.val = 0 + q.val * (0 + 1); omega
      | ⟨1, _⟩ => show s.val = 1 + (s.val - 1) * (0 + 1); omega
      | ⟨2, _⟩ => show C.val = 0 + C.val * (0 + 1); omega
    pointwise
  · rw [dif_neg h]
    pointwise
    exact (dif_neg (by omega)).trans sitofp_zero

theorem refConv_apply (x : FVec Ideal S2x4096x4096 .f32) (w : FVec Ideal S4096x22016 .f32) (k : FVec Ideal S3x22016 .f32) (b : FVec Ideal S22016 .f32) (q : Fin 2) (s : Fin 4096) (C : Fin 22016) :
    refConv x w k b (ix3 q s C) = conv x w k b q s.val C := by
  unfold refConv conv
  rw [← refPad_apply x w q ⟨s.val, by omega⟩ C, ← refPad_apply x w q ⟨s.val + 1, by omega⟩ C, ← refPad_apply x w q ⟨s.val + 2, by omega⟩ C]
  generalize refPad x w = P
  pointwise
  simp only [Nat.add_comm]

theorem refOut_apply (x : FVec Ideal S2x4096x4096 .f32) (w : FVec Ideal S4096x22016 .f32) (k : FVec Ideal S3x22016 .f32) (b : FVec Ideal S22016 .f32) (R : Fin 8192) (C : Fin 11264) :
    refOut x w k b (ix2 R C) = if h : C.val < 11008 then gated x w k b ⟨R.val / 4096, by omega⟩ (R.val % 4096) ⟨C.val, h⟩ else 0 := by
  by_cases h : C.val < 11008
  · rw [dif_pos h]
    unfold gated
    rw [← refConv_apply x w k b ⟨R.val / 4096, by omega⟩ ⟨R.val % 4096, by omega⟩ ⟨C.val, by omega⟩, ← refConv_apply x w k b ⟨R.val / 4096, by omega⟩ ⟨R.val % 4096, by omega⟩ ⟨11008 + C.val, by omega⟩]
    unfold refOut
    generalize refConv x w k b = P
    pointwise
    exact (dif_pos h).trans rfl
  · rw [dif_neg h]
    unfold refOut
    generalize refConv x w k b = P
    pointwise
    exact (dif_neg h).trans sitofp_zero

end Cert.Up

end
-- ==== Proof.UpTile.lean ====
module

public import proofs.«01_k».proof.Proof.UpFrame
public import proofs.«01_k».proof.Proof.UpRef
public import Idealize.ShloMosaic.Lib.KernelVsHost
public import Idealize.ShloMosaic.Lib.Pipeline.ValueKit
public import Idealize.ShloMosaic.Lib.Pipeline.ReadBack
public import Idealize.ShloMosaic.Lib.Pointwise

@[expose] public section

set_option maxRecDepth 16384

noncomputable section

/-! The feed-forward kernel's result over the ideal values: each tile is the reference's. -/

namespace Cert.Up

open Idealize.ShloMosaic Idealize.ShloMosaic.TcCoe Idealize.SL.Sem
open Cert.Kernel2Ideal Cert.Kernel2Ideal.Gen

theorem prod_apply (a : Vec Ideal S1056x4096 .bf16) (w : Vec Ideal S4096x256 .bf16) (r : Fin 1056) (e : Fin 256) :
    k0_pay15 a w (ix4 0 0 r e) = ∑ d : Fin 4096, a (ix2 r d) * w (ix2 d e) := by
  pointwise [k0_pay15]

theorem rot_down (x : FVec Ideal S1056x256 .f32) (r : Fin 1056) (e : Fin 256) (k : Fin 1056) (hk : k.val + 1 = r.val) :
    dynamicRotate 0 1#32 none x rotates_S1056x256_d0 (ix2 r e) = x (ix2 k e) := by
  refine dynamicRotate_apply (s := S1056x256) 0 _ _ _ _ _ fun b => ?_
  match b with
  | ⟨0, _⟩ => show k.val = (r.val + 1056 - 1 % 1056) % 1056; omega
  | ⟨1, _⟩ => rfl

theorem rot_up (x : FVec Ideal S1056x256 .f32) (r : Fin 1056) (e : Fin 256) (k : Fin 1056) (hk : k.val = r.val + 1) :
    dynamicRotate 0 1055#32 none x rotates_S1056x256_d0 (ix2 r e) = x (ix2 k e) := by
  refine dynamicRotate_apply (s := S1056x256) 0 _ _ _ _ _ fun b => ?_
  match b with
  | ⟨0, _⟩ => show k.val = (r.val + 1056 - 1055 % 1056) % 1056; omega
  | ⟨1, _⟩ => rfl

/-- The rows a tap reads, moved down by one, in place and moved up by one. -/
theorem cut_down (u : Vec Ideal S1x1x1056x256 .f32) (r : Fin 1024) (e : Fin 256) :
    extractStridedSlice S1024x256 ![16, 0] (dynamicRotate 0 1#32 none (shapeCast S1056x256 u shapeCasts_S1x1x1056x256_S1056x256) rotates_S1056x256_d0) slices_S1056x256_o16_0_S1024x256 (ix2 r e)
      = u (ix4 0 0 ⟨r.val + 15, by omega⟩ e) := by
  have h := rot_down (shapeCast S1056x256 u shapeCasts_S1x1x1056x256_S1056x256) ⟨16 + r.val, by omega⟩ e ⟨r.val + 15, by omega⟩ (by show r.val + 15 + 1 = 16 + r.val; omega)
  refine (?_ : _ = dynamicRotate 0 1#32 none (shapeCast S1056x256 u shapeCasts_S1x1x1056x256_S1056x256) rotates_S1056x256_d0 (ix2 (⟨16 + r.val, by omega⟩ : Fin 1056) e)).trans (h.trans ?_)
  · generalize dynamicRotate 0 1#32 none (shapeCast S1056x256 u shapeCasts_S1x1x1056x256_S1056x256) rotates_S1056x256_d0 = X
    pointwise
  · pointwise

theorem cut_up (u : Vec Ideal S1x1x1056x256 .f32) (r : Fin 1024) (e : Fin 256) :
    extractStridedSlice S1024x256 ![16, 0] (dynamicRotate 0 1055#32 none (shapeCast S1056x256 u shapeCasts_S1x1x1056x256_S1056x256) rotates_S1056x256_d0) slices_S1056x256_o16_0_S1024x256 (ix2 r e)
      = u (ix4 0 0 ⟨r.val + 17, by omega⟩ e) := by
  have h := rot_up (shapeCast S1056x256 u shapeCasts_S1x1x1056x256_S1056x256) ⟨16 + r.val, by omega⟩ e ⟨r.val + 17, by omega⟩ (by show r.val + 17 = 16 + r.val + 1; omega)
  refine (?_ : _ = dynamicRotate 0 1055#32 none (shapeCast S1056x256 u shapeCasts_S1x1x1056x256_S1056x256) rotates_S1056x256_d0 (ix2 (⟨16 + r.val, by omega⟩ : Fin 1056) e)).trans (h.trans ?_)
  · generalize dynamicRotate 0 1055#32 none (shapeCast S1056x256 u shapeCasts_S1x1x1056x256_S1056x256) rotates_S1056x256_d0 = X
    pointwise
  · pointwise

theorem cut_here (u : Vec Ideal S1x1x1056x256 .f32) (r : Fin 1024) (e : Fin 256) :
    extractStridedSlice S1024x256 ![16, 0] (shapeCast S1056x256 u shapeCasts_S1x1x1056x256_S1056x256) slices_S1056x256_o16_0_S1024x256 (ix2 r e)
      = u (ix4 0 0 ⟨r.val + 16, by omega⟩ e) := by
  pointwise
  try simp only [Nat.add_comm]

/-- The three taps over one product, and the bias. -/
def tile (u : Vec Ideal S1x1x1056x256 .f32) (k : Vec Ideal S3x256 .f32) (b : Vec Ideal S1x256 .f32) (r : Fin 1024) (e : Fin 256) : EReal :=
  ((k (ix2 0 e) * u (ix4 0 0 ⟨r.val + 15, by omega⟩ e) + k (ix2 1 e) * u (ix4 0 0 ⟨r.val + 16, by omega⟩ e)) + k (ix2 2 e) * u (ix4 0 0 ⟨r.val + 17, by omega⟩ e)) + b (ix2 0 e)

theorem gate0_apply (u : Vec Ideal S1x1x1056x256 .f32) (k : Vec Ideal S3x256 .f32) (b : Vec Ideal S1x256 .f32) (r : Fin 1024) (e : Fin 256) :
    k0_pay4 u (row 0 k) (row 1 k) (row 2 k) b (ix2 r e) = tile u k b r e * Ideal.logistic (tile u k b r e) := by
  unfold tile
  rw [← cut_down u r e, ← cut_up u r e, ← cut_here u r e]
  unfold k0_pay4
  dsimp only
  generalize extractStridedSlice S1024x256 ![16, 0] (dynamicRotate 0 1#32 none (shapeCast S1056x256 u shapeCasts_S1x1x1056x256_S1056x256) rotates_S1056x256_d0) slices_S1056x256_o16_0_S1024x256 = X
  generalize extractStridedSlice S1024x256 ![16, 0] (dynamicRotate 0 1055#32 none (shapeCast S1056x256 u shapeCasts_S1x1x1056x256_S1056x256) rotates_S1056x256_d0) slices_S1056x256_o16_0_S1024x256 = Y
  generalize extractStridedSlice S1024x256 ![16, 0] (shapeCast S1056x256 u shapeCasts_S1x1x1056x256_S1056x256) slices_S1056x256_o16_0_S1024x256 = Z
  pointwise [row]

/-- Whether a step's first half is one of the real columns. -/
def live (a : BitVec 32) (h : BitVec 32) : BitVec 1 := Scalar.cmpi .slt (Scalar.addi (Scalar.muli (Scalar.subi a 1#32) 2#32) h) 43#32

theorem fin0_apply (i : grid0.Coords) (u0 u1 : Vec Ideal S1x1x1056x256 .f32) (x7 x8 : Vec Ideal S3x256 .f32) (x9 x10 : Vec Ideal S1x256 .f32) (h : live (BitVec.ofNat 32 (i 1).val) 0#32 = 1#1) (r : Fin 1024) (e : Fin 256) :
    fin0 i u0 u1 x7 x8 x9 x10 (ix2 r e) = (tile u0 x7 x9 r e * Ideal.logistic (tile u0 x7 x9 r e)) * tile u1 x8 x10 r e := by
  rw [← gate0_apply]
  unfold tile
  rw [← cut_down u1 r e, ← cut_up u1 r e, ← cut_here u1 r e]
  unfold fin0
  generalize k0_pay4 u0 (row 0 x7) (row 1 x7) (row 2 x7) x9 = G
  unfold k0_pay10 k0_pay6 k0_pay7 k0_pay8 k0_pay9 k0_pay5
  dsimp only
  rw [show Scalar.cmpi .slt (Scalar.addi (Scalar.muli (Scalar.subi (BitVec.ofNat 32 (i 1).val) 1#32) 2#32) 0#32) 43#32 = 1#1 from h]
  generalize extractStridedSlice S1024x256 ![16, 0] (dynamicRotate 0 1#32 none (shapeCast S1056x256 u1 shapeCasts_S1x1x1056x256_S1056x256) rotates_S1056x256_d0) slices_S1056x256_o16_0_S1024x256 = X
  generalize extractStridedSlice S1024x256 ![16, 0] (dynamicRotate 0 1055#32 none (shapeCast S1056x256 u1 shapeCasts_S1x1x1056x256_S1056x256) rotates_S1056x256_d0) slices_S1056x256_o16_0_S1024x256 = Y
  generalize extractStridedSlice S1024x256 ![16, 0] (shapeCast S1056x256 u1 shapeCasts_S1x1x1056x256_S1056x256) slices_S1056x256_o16_0_S1024x256 = Z
  pointwise [row]

theorem fin1_apply (i : grid0.Coords) (u2 u3 : Vec Ideal S1x1x1056x256 .f32) (x13 x14 : Vec Ideal S3x256 .f32) (x15 x16 : Vec Ideal S1x256 .f32) (h : live (BitVec.ofNat 32 (i 1).val) 1#32 = 1#1) (r : Fin 1024) (e : Fin 256) :
    fin1 i u2 u3 x13 x14 x15 x16 (ix2 r e) = (tile u2 x13 x15 r e * Ideal.logistic (tile u2 x13 x15 r e)) * tile u3 x14 x16 r e := by
  unfold tile
  rw [← cut_down u3 r e, ← cut_up u3 r e, ← cut_here u3 r e, ← cut_down u2 r e, ← cut_up u2 r e, ← cut_here u2 r e]
  unfold fin1 k0_pay14 k0_pay12 k0_pay13 k0_pay11
  dsimp only
  rw [show Scalar.cmpi .slt (Scalar.addi (Scalar.muli (Scalar.subi (BitVec.ofNat 32 (i 1).val) 1#32) 2#32) 1#32) 43#32 = 1#1 from h]
  generalize extractStridedSlice S1024x256 ![16, 0] (dynamicRotate 0 1#32 none (shapeCast S1056x256 u2 shapeCasts_S1x1x1056x256_S1056x256) rotates_S1056x256_d0) slices_S1056x256_o16_0_S1024x256 = X0
  generalize extractStridedSlice S1024x256 ![16, 0] (dynamicRotate 0 1055#32 none (shapeCast S1056x256 u2 shapeCasts_S1x1x1056x256_S1056x256) rotates_S1056x256_d0) slices_S1056x256_o16_0_S1024x256 = Y0
  generalize extractStridedSlice S1024x256 ![16, 0] (shapeCast S1056x256 u2 shapeCasts_S1x1x1056x256_S1056x256) slices_S1056x256_o16_0_S1024x256 = Z0
  generalize extractStridedSlice S1024x256 ![16, 0] (dynamicRotate 0 1#32 none (shapeCast S1056x256 u3 shapeCasts_S1x1x1056x256_S1056x256) rotates_S1056x256_d0) slices_S1056x256_o16_0_S1024x256 = X1
  generalize extractStridedSlice S1024x256 ![16, 0] (dynamicRotate 0 1055#32 none (shapeCast S1056x256 u3 shapeCasts_S1x1x1056x256_S1056x256) rotates_S1056x256_d0) slices_S1056x256_o16_0_S1024x256 = Y1
  generalize extractStridedSlice S1024x256 ![16, 0] (shapeCast S1056x256 u3 shapeCasts_S1x1x1056x256_S1056x256) slices_S1056x256_o16_0_S1024x256 = Z1
  pointwise [row]

theorem fin1_dead (i : grid0.Coords) (u2 u3 : Vec Ideal S1x1x1056x256 .f32) (x13 x14 : Vec Ideal S3x256 .f32) (x15 x16 : Vec Ideal S1x256 .f32) (h : live (BitVec.ofNat 32 (i 1).val) 1#32 = 0#1) (r : Fin 1024) (e : Fin 256) :
    fin1 i u2 u3 x13 x14 x15 x16 (ix2 r e) = 0 := by
  unfold fin1 k0_pay14
  dsimp only
  rw [show Scalar.cmpi .slt (Scalar.addi (Scalar.muli (Scalar.subi (BitVec.ofNat 32 (i 1).val) 1#32) 2#32) 1#32) 43#32 = 0#1 from h]
  show truncf .bf16 (broadcast S1024x256 (Scalar.ofBits (F := Ideal) .f32 0x00000000#32)) bitsLt_bf16_f32 (ix2 r e) = 0
  pointwise

end Cert.Up

end
-- ==== Proof.Up.lean ====
module

public import proofs.«01_k».proof.Proof.UpTile

@[expose] public section

set_option maxRecDepth 16384

noncomputable section

/-! The feed-forward kernel's output array over the ideal values is the reference's result. -/

namespace Cert.Up

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

theorem idx0 : ∀ t : Fin grid0.N, win0_0.index t 0 = t.val / 23 ∧ win0_0.index t 1 = 0 := by decide +kernel
theorem idx1 : ∀ t : Fin grid0.N, win0_1.index t 0 = 64 * (t.val / 23) - 1 ∧ win0_1.index t 1 = 0 := by decide +kernel
theorem idx2 : ∀ t : Fin grid0.N, win0_2.index t 0 = min (64 * (t.val / 23) + 64) 511 ∧ win0_2.index t 1 = 0 := by decide +kernel
theorem idx3 : ∀ t : Fin grid0.N, win0_3.index t 0 = 0 ∧ win0_3.index t 1 = min (2 * (t.val % 23)) 42 := by decide +kernel
theorem idx4 : ∀ t : Fin grid0.N, win0_4.index t 0 = 0 ∧ win0_4.index t 1 = 43 + min (2 * (t.val % 23)) 42 := by decide +kernel
theorem idx5 : ∀ t : Fin grid0.N, win0_5.index t 0 = 0 ∧ win0_5.index t 1 = min (2 * (t.val % 23 - 1)) 42 := by decide +kernel
theorem idx6 : ∀ t : Fin grid0.N, win0_6.index t 0 = 0 ∧ win0_6.index t 1 = 43 + min (2 * (t.val % 23 - 1)) 42 := by decide +kernel
theorem idx7 : ∀ t : Fin grid0.N, win0_7.index t 0 = 0 ∧ win0_7.index t 1 = min (2 * (t.val % 23 - 1)) 42 := by decide +kernel
theorem idx8 : ∀ t : Fin grid0.N, win0_8.index t 0 = 0 ∧ win0_8.index t 1 = 43 + min (2 * (t.val % 23 - 1)) 42 := by decide +kernel
theorem idx9 : ∀ t : Fin grid0.N, win0_9.index t 0 = 0 ∧ win0_9.index t 1 = min (2 * (t.val % 23) + 1) 42 := by decide +kernel
theorem idx10 : ∀ t : Fin grid0.N, win0_10.index t 0 = 0 ∧ win0_10.index t 1 = 43 + min (2 * (t.val % 23) + 1) 42 := by decide +kernel
theorem idx11 : ∀ t : Fin grid0.N, win0_11.index t 0 = 0 ∧ win0_11.index t 1 = min (2 * (t.val % 23 - 1) + 1) 42 := by decide +kernel
theorem idx12 : ∀ t : Fin grid0.N, win0_12.index t 0 = 0 ∧ win0_12.index t 1 = 43 + min (2 * (t.val % 23 - 1) + 1) 42 := by decide +kernel
theorem idx13 : ∀ t : Fin grid0.N, win0_13.index t 0 = 0 ∧ win0_13.index t 1 = min (2 * (t.val % 23 - 1) + 1) 42 := by decide +kernel
theorem idx14 : ∀ t : Fin grid0.N, win0_14.index t 0 = 0 ∧ win0_14.index t 1 = 43 + min (2 * (t.val % 23 - 1) + 1) 42 := by decide +kernel
theorem idx15 : ∀ t : Fin grid0.N, win0_15.index t 0 = t.val / 23 ∧ win0_15.index t 1 = t.val % 23 - 1 := by decide +kernel

theorem live0 : ∀ t : Fin grid0.N, t.val % 23 ≠ 0 → live (BitVec.ofNat 32 ((grid0.coords t) 1).val) 0#32 = 1#1 := by decide +kernel
theorem live1 : ∀ t : Fin grid0.N, t.val % 23 ≠ 0 → t.val % 23 ≠ 22 → live (BitVec.ofNat 32 ((grid0.coords t) 1).val) 1#32 = 1#1 := by decide +kernel
theorem dead1 : ∀ t : Fin grid0.N, t.val % 23 = 22 → live (BitVec.ofNat 32 ((grid0.coords t) 1).val) 1#32 = 0#1 := by decide +kernel

theorem not_one : ∀ z : BitVec 1, ¬z = 1#1 → z = 0#1 := by decide

theorem at_rows {a a' : Fin 2} {p p' : Fin 4096} (ha : a.val = a'.val) (hb : p.val = p'.val) (d : Fin 4096) : ix3 a p d = ix3 a' p' d := by
  rw [Fin.ext ha, Fin.ext hb]

/-- Whether a row block starts a sequence. -/
def starts (a : BitVec 32) : BitVec 1 :=
  let v35 : BitVec 32 := Scalar.muli a 1024#32
  let v36 : BitVec 1 := Scalar.cmpi .eq 4096#32 0#32
  let v37 : BitVec 32 := Scalar.select v36 1#32 4096#32
  let v38 : BitVec 32 := Scalar.remsi v35 v37
  let v39 : BitVec 1 := Scalar.cmpi .ne v38 0#32
  let v40 : BitVec 1 := Scalar.cmpi .slt v38 0#32
  let v41 : BitVec 1 := Scalar.cmpi .slt v37 0#32
  let v42 : BitVec 1 := Scalar.xori v40 v41
  let v43 : BitVec 1 := Scalar.andi v42 v39
  let v44 : BitVec 32 := Scalar.addi v38 v37
  let v45 : BitVec 32 := Scalar.select v43 v44 v38
  Scalar.cmpi .eq v45 0#32

theorem starts_iff : ∀ t : Fin grid0.N, starts (BitVec.ofNat 32 ((grid0.coords t) 0).val) = if t.val / 23 % 4 = 0 then 1#1 else 0#1 := by decide +kernel
theorem ends_iff : ∀ t : Fin grid0.N, runA.sl.v59 (grid0.coords t) = if t.val / 23 % 4 = 3 then 1#1 else 0#1 := by decide +kernel

theorem before_apply (a : BitVec 32) (v : Vec Ideal S16x4096 .bf16) (r : Fin 16) (d : Fin 4096) :
    k0_pay2 a v (ix2 r d) = if starts a = 1#1 then 0 else v (ix2 r d) := by
  rw [show k0_pay2 a v = shapeCast S16x4096 (Scalar.select (starts a) (k0_pay1 (F := Ideal)) (shapeCast S16x4096 v shapeCasts_S16x4096_S16x4096)) shapeCasts_S16x4096_S16x4096 from rfl]
  by_cases h : starts a = 1#1
  · rw [if_pos h, h]
    show shapeCast S16x4096 (k0_pay1 (F := Ideal)) shapeCasts_S16x4096_S16x4096 (ix2 r d) = 0
    pointwise [k0_pay1]
  · rw [if_neg h, not_one _ h]
    show shapeCast S16x4096 (shapeCast S16x4096 v shapeCasts_S16x4096_S16x4096) shapeCasts_S16x4096_S16x4096 (ix2 r d) = _
    pointwise

theorem after_apply (a : BitVec 1) (v : Vec Ideal S16x4096 .bf16) (r : Fin 16) (d : Fin 4096) :
    k0_pay31 a (k0_pay1 (F := Ideal)) v (ix2 r d) = if a = 1#1 then 0 else v (ix2 r d) := by
  unfold k0_pay31
  by_cases h : a = 1#1
  · rw [if_pos h, h]
    show shapeCast S16x4096 (k0_pay1 (F := Ideal)) shapeCasts_S16x4096_S16x4096 (ix2 r d) = 0
    pointwise [k0_pay1]
  · rw [if_neg h, not_one _ h]
    show shapeCast S16x4096 (shapeCast S16x4096 v shapeCasts_S16x4096_S16x4096) shapeCasts_S16x4096_S16x4096 (ix2 r d) = _
    pointwise

theorem here_apply (v : Vec Ideal S1024x4096 .bf16) (r : Fin 1024) (d : Fin 4096) : k0_pay30 (k0_pay3 v) (ix2 r d) = v (ix2 r d) := by
  pointwise [k0_pay30, k0_pay3]

/-- The rows handed to the kernel, at an index. -/
theorem x_apply (x : FVec Ideal S2x4096x4096 .f32) (R : Fin 8192) (d : Fin 4096) :
    (truncf .bf16 (shapeCast S8192x4096 x shapeCasts_S2x4096x4096_S8192x4096) bitsLt_bf16_f32 : FVec Ideal S8192x4096 .bf16) (ix2 R d)
      = x (ix3 ⟨R.val / 4096, by omega⟩ ⟨R.val % 4096, by omega⟩ d) := by
  pointwise

theorem w_apply (w : FVec Ideal S4096x22016 .f32) (d : Fin 4096) (C : Fin 22016) :
    (truncf .bf16 w bitsLt_bf16_f32 : FVec Ideal S4096x22016 .bf16) (ix2 d C) = w (ix2 d C) := by
  pointwise

theorem b_apply (b : FVec Ideal S22016 .f32) (C : Fin 22016) :
    (shapeCast S1x22016 b shapeCasts_S22016_S1x22016 : FVec Ideal S1x22016 .f32) (ix2 0 C) = b (ix1 C) := by
  pointwise

theorem V_x (x : FVec Ideal S2x4096x4096 .f32) (e0 : m ((c.tc : Thread nD τ).loc main_arg0) = x) (R : Fin 8192) (d : Fin 4096) :
    V m c main_v1 (ix2 R d) = x (ix3 ⟨R.val / 4096, by omega⟩ ⟨R.val % 4096, by omega⟩ d) := by
  subst e0; exact x_apply _ R d

theorem V_w (w : FVec Ideal S4096x22016 .f32) (e1 : m ((c.tc : Thread nD τ).loc main_arg1) = w) (d : Fin 4096) (C : Fin 22016) :
    V m c main_v2 (ix2 d C) = w (ix2 d C) := by
  subst e1; exact w_apply _ d C

theorem V_b (b : FVec Ideal S22016 .f32) (e3 : m ((c.tc : Thread nD τ).loc main_arg3) = b) (C : Fin 22016) :
    V m c main_v3 (ix2 0 C) = b (ix1 C) := by
  subst e3; exact b_apply _ C

theorem blk0 (t : Fin cfg0.N) (r : Fin 1024) (d : Fin 4096) (R : Fin 8192) (hR : R.val = 1024 * (t.val / 23) + r.val) : iblk m c 0 t (ix2 r d) = V m c main_v1 (ix2 R d) := by
  blk_ext [iblk, idx0 t]
theorem blk1 (t : Fin cfg0.N) (r : Fin 16) (d : Fin 4096) (R : Fin 8192) (hR : R.val = 16 * (64 * (t.val / 23) - 1) + r.val) : iblk m c 1 t (ix2 r d) = V m c main_v1 (ix2 R d) := by
  blk_ext [iblk, idx1 t]
theorem blk2 (t : Fin cfg0.N) (r : Fin 16) (d : Fin 4096) (R : Fin 8192) (hR : R.val = 16 * (min (64 * (t.val / 23) + 64) 511) + r.val) : iblk m c 2 t (ix2 r d) = V m c main_v1 (ix2 R d) := by
  blk_ext [iblk, idx2 t]
theorem blk3 (t : Fin cfg0.N) (d : Fin 4096) (e : Fin 256) (C : Fin 22016) (hC : C.val = 256 * (min (2 * (t.val % 23)) 42) + e.val) : iblk m c 3 t (ix2 d e) = V m c main_v2 (ix2 d C) := by
  blk_ext [iblk, idx3 t]
theorem blk4 (t : Fin cfg0.N) (d : Fin 4096) (e : Fin 256) (C : Fin 22016) (hC : C.val = 256 * (43 + min (2 * (t.val % 23)) 42) + e.val) : iblk m c 4 t (ix2 d e) = V m c main_v2 (ix2 d C) := by
  blk_ext [iblk, idx4 t]
theorem blk9 (t : Fin cfg0.N) (d : Fin 4096) (e : Fin 256) (C : Fin 22016) (hC : C.val = 256 * (min (2 * (t.val % 23) + 1) 42) + e.val) : iblk m c 9 t (ix2 d e) = V m c main_v2 (ix2 d C) := by
  blk_ext [iblk, idx9 t]
theorem blk10 (t : Fin cfg0.N) (d : Fin 4096) (e : Fin 256) (C : Fin 22016) (hC : C.val = 256 * (43 + min (2 * (t.val % 23) + 1) 42) + e.val) : iblk m c 10 t (ix2 d e) = V m c main_v2 (ix2 d C) := by
  blk_ext [iblk, idx10 t]
theorem blk5 (t : Fin cfg0.N) (k : Fin 3) (e : Fin 256) (C : Fin 22016) (hC : C.val = 256 * (min (2 * (t.val % 23 - 1)) 42) + e.val) : iblk m c 5 t (ix2 k e) = V m c main_arg2 (ix2 k C) := by
  blk_ext [iblk, idx5 t]
theorem blk6 (t : Fin cfg0.N) (k : Fin 3) (e : Fin 256) (C : Fin 22016) (hC : C.val = 256 * (43 + min (2 * (t.val % 23 - 1)) 42) + e.val) : iblk m c 6 t (ix2 k e) = V m c main_arg2 (ix2 k C) := by
  blk_ext [iblk, idx6 t]
theorem blk11 (t : Fin cfg0.N) (k : Fin 3) (e : Fin 256) (C : Fin 22016) (hC : C.val = 256 * (min (2 * (t.val % 23 - 1) + 1) 42) + e.val) : iblk m c 11 t (ix2 k e) = V m c main_arg2 (ix2 k C) := by
  blk_ext [iblk, idx11 t]
theorem blk12 (t : Fin cfg0.N) (k : Fin 3) (e : Fin 256) (C : Fin 22016) (hC : C.val = 256 * (43 + min (2 * (t.val % 23 - 1) + 1) 42) + e.val) : iblk m c 12 t (ix2 k e) = V m c main_arg2 (ix2 k C) := by
  blk_ext [iblk, idx12 t]
theorem blk7 (t : Fin cfg0.N) (e : Fin 256) (C : Fin 22016) (hC : C.val = 256 * (min (2 * (t.val % 23 - 1)) 42) + e.val) : iblk m c 7 t (ix2 0 e) = V m c main_v3 (ix2 0 C) := by
  blk_ext [iblk, idx7 t]
theorem blk8 (t : Fin cfg0.N) (e : Fin 256) (C : Fin 22016) (hC : C.val = 256 * (43 + min (2 * (t.val % 23 - 1)) 42) + e.val) : iblk m c 8 t (ix2 0 e) = V m c main_v3 (ix2 0 C) := by
  blk_ext [iblk, idx8 t]
theorem blk13 (t : Fin cfg0.N) (e : Fin 256) (C : Fin 22016) (hC : C.val = 256 * (min (2 * (t.val % 23 - 1) + 1) 42) + e.val) : iblk m c 13 t (ix2 0 e) = V m c main_v3 (ix2 0 C) := by
  blk_ext [iblk, idx13 t]
theorem blk14 (t : Fin cfg0.N) (e : Fin 256) (C : Fin 22016) (hC : C.val = 256 * (43 + min (2 * (t.val % 23 - 1) + 1) 42) + e.val) : iblk m c 14 t (ix2 0 e) = V m c main_v3 (ix2 0 C) := by
  blk_ext [iblk, idx14 t]

/-- The rows a step's products read: the reference's rows, with zeros beyond either end of the sequence. -/
theorem rowsAt_apply (x : FVec Ideal S2x4096x4096 .f32) (e0 : m ((c.tc : Thread nD τ).loc main_arg0) = x) (t : Fin cfg0.N) (q : Fin 2) (hq : q.val = t.val / 23 / 4)
    (r : Fin 1056) (s : ℕ) (hs : s + 15 = 1024 * (t.val / 23 % 4) + r.val) (hr : r.val ≤ 1040) (d : Fin 4096) :
    rowsAt m c t (ix2 r d) = if h : 1 ≤ s ∧ s < 4097 then x (ix3 q ⟨s - 1, by omega⟩ d) else 0 := by
  have hN : t.val < 184 := lt_of_lt_of_eq t.isLt (show cfg0.N = 184 from N_0)
  have hb : (base t).val / 23 = t.val / 23 := by show (t.val - t.val % 23) / 23 = t.val / 23; omega
  unfold rowsAt rows
  by_cases h : 1040 ≤ r.val
  · refine (dif_pos h).trans ?_
    refine (after_apply _ _ ⟨r.val - 1040, by omega⟩ d).trans ?_
    rw [ends_iff, hb]
    by_cases he : t.val / 23 % 4 = 3
    · rw [if_pos he, if_pos rfl, dif_neg (by omega)]
    · rw [if_neg he, if_neg (by decide), dif_pos (by omega)]
      rw [blk2 m c (base t) ⟨r.val - 1040, by omega⟩ d ⟨1024 * (t.val / 23) + r.val - 16, by omega⟩ (by dsimp only; rw [hb]; omega), V_x m c x e0]
      refine congrArg x (at_rows ?_ ?_ d) <;> dsimp only <;> omega
  refine (dif_neg h).trans ?_
  by_cases h' : 16 ≤ r.val
  · refine (dif_pos h').trans ?_
    refine (here_apply _ ⟨r.val - 16, by omega⟩ d).trans ?_
    rw [blk0 m c (base t) ⟨r.val - 16, by omega⟩ d ⟨1024 * (t.val / 23) + (r.val - 16), by omega⟩ (by dsimp only; rw [hb]), V_x m c x e0, dif_pos (by omega)]
    refine congrArg x (at_rows ?_ ?_ d) <;> dsimp only <;> omega
  · refine (dif_neg h').trans ?_
    refine (before_apply _ _ ⟨r.val, by omega⟩ d).trans ?_
    rw [starts_iff, hb]
    by_cases he : t.val / 23 % 4 = 0
    · rw [if_pos he, if_pos rfl, dif_neg (by omega)]
    · rw [if_neg he, if_neg (by decide), dif_pos (by omega)]
      rw [blk1 m c (base t) ⟨r.val, by omega⟩ d ⟨1024 * (t.val / 23) + r.val - 16, by omega⟩ (by dsimp only; rw [hb]; omega), V_x m c x e0]
      refine congrArg x (at_rows ?_ ?_ d) <;> dsimp only <;> omega

/-- A product over a step's rows is a row of the reference's padded product. -/
theorem prod_tap (x : FVec Ideal S2x4096x4096 .f32) (e0 : m ((c.tc : Thread nD τ).loc main_arg0) = x)
    (w : FVec Ideal S4096x22016 .f32) (t : Fin cfg0.N) (q : Fin 2) (hq : q.val = t.val / 23 / 4)
    (r : Fin 1056) (s : ℕ) (hs : s + 15 = 1024 * (t.val / 23 % 4) + r.val) (hr : r.val ≤ 1040) (B : Vec Ideal S4096x256 .bf16) (e : Fin 256) (C : Fin 22016)
    (hB : ∀ d : Fin 4096, B (ix2 d e) = w (ix2 d C)) :
    k0_pay15 (rowsAt m c t) B (ix4 0 0 r e) = tap x w q s C := by
  rw [prod_apply]
  unfold tap
  simp only [rowsAt_apply m c x e0 t q hq r s hs hr, hB]
  by_cases h : 1 ≤ s ∧ s < 4097
  · simp only [dif_pos h]
  · simp only [dif_neg h, zero_mul, Finset.sum_const_zero]

/-- One half tile's taps are the reference's. -/
theorem tile_conv (x : FVec Ideal S2x4096x4096 .f32) (e0 : m ((c.tc : Thread nD τ).loc main_arg0) = x)
    (w : FVec Ideal S4096x22016 .f32) (k : FVec Ideal S3x22016 .f32) (b : FVec Ideal S22016 .f32)
    (t : Fin cfg0.N) (q : Fin 2) (hq : q.val = t.val / 23 / 4) (r : Fin 1024) (s : ℕ) (hs : s = 1024 * (t.val / 23 % 4) + r.val)
    (B : Vec Ideal S4096x256 .bf16) (K : Vec Ideal S3x256 .f32) (D : Vec Ideal S1x256 .f32) (e : Fin 256) (C : Fin 22016)
    (hB : ∀ d : Fin 4096, B (ix2 d e) = w (ix2 d C)) (hK : ∀ j : Fin 3, K (ix2 j e) = k (ix2 j C)) (hD : D (ix2 0 e) = b (ix1 C)) :
    tile (k0_pay15 (rowsAt m c t) B) K D r e = conv x w k b q s C := by
  unfold tile conv
  rw [prod_tap m c x e0 w t q hq ⟨r.val + 15, by omega⟩ s (by dsimp only; omega) (by dsimp only; omega) B e C hB,
    prod_tap m c x e0 w t q hq ⟨r.val + 16, by omega⟩ (s + 1) (by dsimp only; omega) (by dsimp only; omega) B e C hB,
    prod_tap m c x e0 w t q hq ⟨r.val + 17, by omega⟩ (s + 2) (by dsimp only; omega) (by dsimp only; omega) B e C hB, hK, hK, hK, hD]

/-- A step's tile at an index. -/
theorem out_apply (x : FVec Ideal S2x4096x4096 .f32) (e0 : m ((c.tc : Thread nD τ).loc main_arg0) = x)
    (w : FVec Ideal S4096x22016 .f32) (e1 : m ((c.tc : Thread nD τ).loc main_arg1) = w)
    (k : FVec Ideal S3x22016 .f32) (e2 : m ((c.tc : Thread nD τ).loc main_arg2) = k)
    (b : FVec Ideal S22016 .f32) (e3 : m ((c.tc : Thread nD τ).loc main_arg3) = b)
    (t : Fin cfg0.N) (ht : t.val % 23 ≠ 0) (r : Fin 1024) (e : Fin 512) (R : Fin 8192) (C : Fin 11264) (hR : R.val = 1024 * (t.val / 23) + r.val)
    (hC : C.val = 512 * (t.val % 23 - 1) + e.val) :
    outAt m c t (ix2 r e) = refOut x w k b (ix2 R C) := by
  have hN : t.val < 184 := lt_of_lt_of_eq t.isLt (show cfg0.N = 184 from N_0)
  have hK : V m c main_arg2 = k := (V_main_arg2 m c).trans e2
  have hp : (prev t).val / 23 = t.val / 23 := by show (t.val - 1) / 23 = t.val / 23; omega
  have hj : (prev t).val % 23 = t.val % 23 - 1 := by show (t.val - 1) % 23 = t.val % 23 - 1; omega
  rw [refOut_apply]
  unfold outAt fin
  by_cases h : 256 ≤ e.val
  · refine (dif_pos h).trans ?_
    by_cases hl : t.val % 23 = 22
    · rw [dif_neg (by omega)]
      exact fin1_dead _ _ _ _ _ _ _ (dead1 t hl) r _
    rw [dif_pos (by omega)]
    refine (fin1_apply _ _ _ _ _ _ _ (live1 t ht hl) r ⟨e.val - 256, by omega⟩).trans ?_
    unfold gated prodAt
    refine congrArg₂ (fun g v : EReal => g * Ideal.logistic g * v) ?_ ?_
    · refine tile_conv m c x e0 w k b (prev t) _ (by dsimp only; rw [hp]; omega) r _ (by rw [hp]; omega) _ _ _ _ _ (fun d => ?_) (fun j => ?_) ?_
      · exact (blk9 m c (prev t) d _ _ (by dsimp only; rw [hj]; omega)).trans (V_w m c w e1 d _)
      · exact (blk11 m c t j _ _ (by dsimp only; omega)).trans (congrFun hK _)
      · exact (blk13 m c t _ _ (by dsimp only; omega)).trans (V_b m c b e3 _)
    · refine tile_conv m c x e0 w k b (prev t) _ (by dsimp only; rw [hp]; omega) r _ (by rw [hp]; omega) _ _ _ _ _ (fun d => ?_) (fun j => ?_) ?_
      · exact (blk10 m c (prev t) d _ _ (by dsimp only; rw [hj]; omega)).trans (V_w m c w e1 d _)
      · exact (blk12 m c t j _ _ (by dsimp only; omega)).trans (congrFun hK _)
      · exact (blk14 m c t _ _ (by dsimp only; omega)).trans (V_b m c b e3 _)
  · refine (dif_neg h).trans ?_
    rw [dif_pos (by omega)]
    refine (fin0_apply _ _ _ _ _ _ _ (live0 t ht) r ⟨e.val, by omega⟩).trans ?_
    unfold gated prodAt
    refine congrArg₂ (fun g v : EReal => g * Ideal.logistic g * v) ?_ ?_
    · refine tile_conv m c x e0 w k b (prev t) _ (by dsimp only; rw [hp]; omega) r _ (by rw [hp]; omega) _ _ _ _ _ (fun d => ?_) (fun j => ?_) ?_
      · exact (blk3 m c (prev t) d _ _ (by dsimp only; rw [hj]; omega)).trans (V_w m c w e1 d _)
      · exact (blk5 m c t j _ _ (by dsimp only; omega)).trans (congrFun hK _)
      · exact (blk7 m c t _ _ (by dsimp only; omega)).trans (V_b m c b e3 _)
    · refine tile_conv m c x e0 w k b (prev t) _ (by dsimp only; rw [hp]; omega) r _ (by rw [hp]; omega) _ _ _ _ _ (fun d => ?_) (fun j => ?_) ?_
      · exact (blk4 m c (prev t) d _ _ (by dsimp only; rw [hj]; omega)).trans (V_w m c w e1 d _)
      · exact (blk6 m c t j _ _ (by dsimp only; omega)).trans (congrFun hK _)
      · exact (blk8 m c t _ _ (by dsimp only; omega)).trans (V_b m c b e3 _)

/-- The kernel's output array. -/
theorem final (x : FVec Ideal S2x4096x4096 .f32) (e0 : m ((c.tc : Thread nD τ).loc main_arg0) = x)
    (w : FVec Ideal S4096x22016 .f32) (e1 : m ((c.tc : Thread nD τ).loc main_arg1) = w)
    (k : FVec Ideal S3x22016 .f32) (e2 : m ((c.tc : Thread nD τ).loc main_arg2) = k)
    (b : FVec Ideal S22016 .f32) (e3 : m ((c.tc : Thread nD τ).loc main_arg3) = b) :
    (dats m 0 c).arrAt 15 cfg0.N = refOut x w k b := by
  have hp := out_apply m c x e0 w e1 k e2 b e3
  generalize refOut x w k b = G at hp ⊢
  refine (dats m 0 c).arrAt_eq_of_covers 15 _ (by decide +kernel) fun t hf y => ?_
  have ht : t.val % 23 ≠ 0 := fun h0 => by rw [keepA t h0] at hf; exact Bool.noConfusion hf
  blk_simp
  rw [after0_15]
  obtain ⟨r, e, rfl⟩ : ∃ (r : Fin 1024) (e : Fin 512), y = ix2 r e := ⟨y 0, y 1, eq_ix2 y⟩
  have hN : t.val < 184 := lt_of_lt_of_eq t.isLt (show cfg0.N = 184 from N_0)
  refine (hp t ht r e ⟨1024 * (t.val / 23) + r.val, by omega⟩ ⟨512 * (t.val % 23 - 1) + e.val, by omega⟩ rfl rfl).trans ?_
  blk_ext [idx15 t]

/-- The kernel's run ends with its output array at what the steps wrote and its arguments as they were. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 15, h.2 c⟩) (θ_run_and (run_main m ρ) (unchanged m ρ))

end Cert.Up

end
-- ==== Proof.UpBits.lean ====
module

public import proofs.«01_k».proof.Proof.UpFrame
public import proofs.«01_k».proof.Proof.Gen.Kernel2.Frame

@[expose] public section

set_option maxRecDepth 16384

noncomputable section

/-! The feed-forward kernel as printed: its text is the ideal program's, so the ideal program's run is its run. -/

namespace Cert.UpBits

open Idealize.ShloMosaic Idealize.ShloMosaic.TcCoe Idealize.ShloMosaic.Tactic
open Idealize.SL.Sem
open Cert.Kernel2

theorem body_eq : Cert.Kernel2.cc0_ffn_up (F := Bits) = Cert.Kernel2Ideal.cc0_ffn_up (F := Bits) := rfl

theorem defs₀_eq : Cert.Kernel2.defs₀ (F := Bits) = Cert.Kernel2Ideal.defs₀ (F := Bits) := by
  refine congrArg (Defs.onTc (nD := Cert.Kernel2.nD) (τ := Cert.Kernel2.τ) (sig := Cert.Kernel2.sig) (Val := Elt Bits) (Λ := Cert.Kernel2.Λ₀)) (funext fun l => funext fun a => ?_)
  match l, a with
  | 0, (t, s) => rfl

theorem defs_eq : Cert.Kernel2.defs (F := Bits) = Cert.Kernel2Ideal.defs (F := Bits) :=
  congrArg (Pipeline.defs (Cert.Kernel2.pcfgs (F := Bits))) defs₀_eq

theorem main_eq : Cert.Kernel2.main (F := Bits) = Cert.Kernel2Ideal.main (F := Bits) := rfl

/-- The frame. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.Up.frame (F := Bits) m ρ

end Cert.UpBits

end
-- ==== Proof.DownRun.lean ====
module

public import proofs.«01_k».proof.Proof.Gen.Kernel3Ideal.Frame
public import proofs.«01_k».proof.Proof.Gen.Kernel3Ideal.Skeleton
public import Idealize.ShloMosaic.Lib.Exec

@[expose] public section

set_option maxRecDepth 16384

noncomputable section

/-! The body of the down-projection kernel, run once in each of its parts. -/

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- The text of a step that adds its product to the block. -/
def acc (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) :
    Prog (TpuEff nD τ sig (Elt F) Λ₀ .tc) PUnit := do
  let ⟨v14, v41⟩ : Σ' (v14 : FVec F S512x512 .bf16), FVec F S512x512 .f32 ← k0_part2 i arg2 harg2 arg3 harg3 arg4 harg4 arg5 harg5 arg6 harg6 arg7 harg7 arg8 harg8
  let v69 : FVec F S512x512 .f32 ← k0_part3 i arg2 harg2 arg3 harg3 arg4 harg4 arg5 harg5 arg6 harg6 arg7 harg7 arg8 harg8 v14 v41
  let v70 : Vec F S512x512 .f32 ← Prog.lift (.load arg8 (Rect.unit (s := S512x4096) ![0, 3584] S512x512.size inb_S512x4096_S512x512_0_3584).toLoadRect (View.loadsAt_vmem h_S512x512))
  Prog.lift (.store arg8 (Rect.unit (s := S512x4096) ![0, 3584] S512x512.size inb_S512x4096_S512x512_0_3584) v69 Finset.univ (View.stores_vmem_bits_univ h_S512x512 rfl) (.inl rfl))
  pure ⟨⟩

/-- Between the first and the last step of a block the body is that text. -/
theorem text_mid (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole)
    (h1 : ¬(k0_cond1 i = 1#1)) (h2 : k0_cond2 i = 1#1) (h3 : ¬(k0_cond3 i = 1#1)) :
    cc0_matmul_layernorm (F := F) i arg2 harg2 arg3 harg3 arg4 harg4 arg5 harg5 arg6 harg6 arg7 harg7 arg8 harg8 = (do acc i arg2 harg2 arg3 harg3 arg4 harg4 arg5 harg5 arg6 harg6 arg7 harg7 arg8 harg8; pure ⟨⟩) := by
  rw [cc0_matmul_layernorm_eq_skeleton]
  unfold cc0_matmul_layernorm_skel
  rw [dif_neg h1, dif_pos h2, dif_neg h3]
  rfl

/-- At the last step of a block the body is that text and then the loop over the rows. -/
theorem text_last (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole)
    (h1 : ¬(k0_cond1 i = 1#1)) (h2 : k0_cond2 i = 1#1) (h3 : k0_cond3 i = 1#1) :
    cc0_matmul_layernorm (F := F) i arg2 harg2 arg3 harg3 arg4 harg4 arg5 harg5 arg6 harg6 arg7 harg7 arg8 harg8 = (do acc i arg2 harg2 arg3 harg3 arg4 harg4 arg5 harg5 arg6 harg6 arg7 harg7 arg8 harg8; Scf.Loop.for k0_t1_loop (k0_t1_ok i h3) ⟨⟩ (k0_t1_body i arg2 harg2 arg3 harg3 arg4 harg4 arg5 harg5 arg6 harg6 arg7 harg7 arg8 harg8 h3); pure ⟨⟩) := by
  rw [cc0_matmul_layernorm_eq_skeleton]
  unfold cc0_matmul_layernorm_skel
  rw [dif_neg h1, dif_pos h2, dif_pos h3]
  rfl

set_option maxHeartbeats 4000000 in
/-- The first step of a block: its product is the block. -/
def runA (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole)
    (h1 : k0_cond1 i = 1#1) (h2 : ¬(k0_cond2 i = 1#1)) (h3 : ¬(k0_cond3 i = 1#1)) (x2 : Vec F S512x512 .bf16) (x3 : Vec F S512x4096 .bf16) (x8 : Vec F S512x4096 .f32) :
    { L8 : List (View.Piece (Elt F) S512x4096 .f32) // ∀ (E : Set ℕ) (K : PUnit → sProp 𝕄),
      iprop(owns (c : Thread nD τ) arg2 fullShare x2 ∗ owns (c : Thread nD τ) arg3 fullShare x3 ∗ owns (c : Thread nD τ) arg8 fullShare x8
          ∗ (iprop(owns (c : Thread nD τ) arg2 fullShare x2 ∗ owns (c : Thread nD τ) arg3 fullShare x3 ∗ (arg8.view.loc (c : Thread nD τ) ↦[arg8.view.set]{fullShare} arg8.view.writes (Elt F) (harg8.unread x8) L8)) -∗ K ⟨⟩))
        ⊢ wp frame (wpE (defs₀ (F := F)) Variants.none c none) E (cc0_matmul_layernorm i arg2 harg2 arg3 harg3 arg4 harg4 arg5 harg5 arg6 harg6 arg7 harg7 arg8 harg8) K } := by
  refine ⟨?_, fun E K => ?run⟩
  case run =>
    simp only [cc0_matmul_layernorm_eq_skeleton]
    unfold cc0_matmul_layernorm_skel
    simp only [k0_part1_eq_skeleton]
    unfold owns
    iintro ⟨⟨%f2, %hf2, H2⟩, ⟨%f3, %hf3, H3⟩, ⟨%f8, %hf8, H8⟩, Hk⟩
    obtain rfl := harg2.eq_unread hf2; obtain rfl := harg3.eq_unread hf3; obtain rfl := harg8.eq_unread hf8
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    iexact H8

set_option maxHeartbeats 4000000 in
/-- A later step of a block: its product is added. -/
def runB (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole)
     (x2 : Vec F S512x512 .bf16) (x3 : Vec F S512x4096 .bf16) (x8 : Vec F S512x4096 .f32) :
    { L8 : List (View.Piece (Elt F) S512x4096 .f32) // ∀ (E : Set ℕ) (K : PUnit → sProp 𝕄),
      iprop(owns (c : Thread nD τ) arg2 fullShare x2 ∗ owns (c : Thread nD τ) arg3 fullShare x3 ∗ owns (c : Thread nD τ) arg8 fullShare x8
          ∗ (iprop(owns (c : Thread nD τ) arg2 fullShare x2 ∗ owns (c : Thread nD τ) arg3 fullShare x3 ∗ (arg8.view.loc (c : Thread nD τ) ↦[arg8.view.set]{fullShare} arg8.view.writes (Elt F) (harg8.unread x8) L8)) -∗ K ⟨⟩))
        ⊢ wp frame (wpE (defs₀ (F := F)) Variants.none c none) E (acc i arg2 harg2 arg3 harg3 arg4 harg4 arg5 harg5 arg6 harg6 arg7 harg7 arg8 harg8) K } := by
  refine ⟨?_, fun E K => ?run⟩
  case run =>
    unfold acc
    simp only [k0_part2_eq_skeleton, k0_part3_eq_skeleton]
    unfold owns
    iintro ⟨⟨%f2, %hf2, H2⟩, ⟨%f3, %hf3, H3⟩, ⟨%f8, %hf8, H8⟩, Hk⟩
    obtain rfl := harg2.eq_unread hf2; obtain rfl := harg3.eq_unread hf3; obtain rfl := harg8.eq_unread hf8
    sl_exec
    sl_step
    iapply Hk
    isplitl [H2]
    · iexists _; isplitr; · ipureintro; exact harg2.read_unread _
      iexact H2
    isplitl [H3]
    · iexists _; isplitr; · ipureintro; exact harg3.read_unread _
      iexact H3
    iexact H8

end Cert.Down

end
-- ==== Proof.DownRunC.lean ====
module

public import proofs.«01_k».proof.Proof.Gen.Kernel3Ideal.Frame
public import proofs.«01_k».proof.Proof.Gen.Kernel3Ideal.Skeleton
public import Idealize.ShloMosaic.Lib.Exec

@[expose] public section

set_option maxRecDepth 16384

noncomputable section

/-! The body of the down-projection kernel, run once in each of its parts. -/

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

set_option maxHeartbeats 4000000 in
/-- One trip of the loop over the rows: thirty-two rows are normalised. -/
def runC (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole)
    (h3 : k0_cond3 i = 1#1) (k : Fin k0_t1_loop.trips) (x4 : Vec F S512x4096 .f32) (x5 : Vec F S1x1x1x4096 .f32) (x6 : Vec F S1x4096 .f32) (x7 : Vec F S1x4096 .f32) (x8 : Vec F S512x4096 .f32) :
    { L8 : List (View.Piece (Elt F) S512x4096 .f32) // ∀ (E : Set ℕ) (K : PUnit → sProp 𝕄),
      iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ (iprop(owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread x8) L8)) -∗ K ⟨⟩))
        ⊢ wp frame (wpE (defs₀ (F := F)) Variants.none c none) E (k0_t1_body i arg2 harg2 arg3 harg3 arg4 harg4 arg5 harg5 arg6 harg6 arg7 harg7 arg8 harg8 h3 k ⟨⟩) K } := by
  refine ⟨?_, fun E K => ?run⟩
  case run =>
    unfold k0_t1_body
    simp only [k0_part4_eq_skeleton, k0_part5_eq_skeleton, k0_part6_eq_skeleton, k0_part7_eq_skeleton]
    unfold owns
    iintro ⟨⟨%f4, %hf4, H4⟩, ⟨%f5, %hf5, H5⟩, ⟨%f6, %hf6, H6⟩, ⟨%f7, %hf7, H7⟩, ⟨%f8, %hf8, H8⟩, Hk⟩
    obtain rfl := harg4.eq_unread hf4; obtain rfl := harg5.eq_unread hf5; obtain rfl := harg6.eq_unread hf6; obtain rfl := harg7.eq_unread hf7; obtain rfl := harg8.eq_unread hf8
    sl_exec
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexact H8

end Cert.Down

end
-- ==== Proof.DownStep.lean ====
module

public import proofs.«01_k».proof.Proof.DownRun
public import proofs.«01_k».proof.Proof.DownRunC
public import Idealize.ShloMosaic.Lib.WholeRead
public import Idealize.ShloMosaic.Lib.WritesUnit
public import Idealize.ShloMosaic.Lib.Pipeline.ValueKit

@[expose] public section

set_option maxRecDepth 16384

noncomputable section

/-! What the body of the down-projection kernel leaves, as plain functions of what it reads. -/

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- A column of a block, by tile and place in the tile. -/
def col (n : Fin 8) (e : Fin 512) : Fin 4096 := ⟨512 * n.val + e.val, by omega⟩

/-- A tile of 512 columns. -/
def tile {ε : EltTy} (n : Fin 8) (x : Vec F S512x4096 ε) : Vec F S512x512 ε := fun y => x (ix2 (y 0) (col n (y 1)))

theorem at_col (y : S512x4096.Idx) : ∃ (r : Fin 512) (n : Fin 8) (e : Fin 512), y = ix2 r (col n e) := by
  have b : (y 1).val < 4096 := (y 1).isLt
  refine ⟨y 0, ⟨(y 1).val / 512, by omega⟩, ⟨(y 1).val % 512, by omega⟩, ?_⟩
  rw [show col ⟨(y 1).val / 512, by omega⟩ ⟨(y 1).val % 512, by omega⟩ = y 1 from Fin.ext (by show 512 * ((y 1).val / 512) + (y 1).val % 512 = (y 1).val; omega)]
  exact eq_ix2 y

/-- A block made of eight tiles. -/
def tiled (q : Fin 8 → FVec F S512x512 .f32) : Vec F S512x4096 .f32 := fun y =>
  q ⟨(y 1).val / 512, by have : (y 1).val < 4096 := (y 1).isLt; omega⟩ (ix2 (y 0) ⟨(y 1).val % 512, by omega⟩)

theorem tiled_at (q : Fin 8 → FVec F S512x512 .f32) (r : Fin 512) (n : Fin 8) (e : Fin 512) : tiled q (ix2 r (col n e)) = q n (ix2 r e) := by
  have hn : (⟨(col n e).val / 512, by omega⟩ : Fin 8) = n := Fin.ext (by show (512 * n.val + e.val) / 512 = n.val; omega)
  have he : (⟨(col n e).val % 512, by omega⟩ : Fin 512) = e := Fin.ext (by show (512 * n.val + e.val) % 512 = e.val; omega)
  show q ⟨(col n e).val / 512, _⟩ (ix2 r ⟨(col n e).val % 512, _⟩) = _
  rw [hn, he]

/-- What the first step of a block leaves. -/
def first (a : Vec F S512x512 .bf16) (w : Vec F S512x4096 .bf16) : Vec F S512x4096 .f32 := tiled fun n => k0_pay4 a (tile n w)

/-- What a later step of a block leaves. -/
def plus (a : Vec F S512x512 .bf16) (w : Vec F S512x4096 .bf16) (o : Vec F S512x4096 .f32) : Vec F S512x4096 .f32 := tiled fun n => k0_pay11 a (tile n w) (tile n o)

theorem ld_whole {S : Shape} {ε : EltTy} {sg : _} {m : Memref sg .tc .vmem S ε} (h : m.IsWhole) (X : Vec F S ε) (off : Fin S.rank → ℕ) (ho : off = fun _ => 0)
    (inb : ∀ a, off a + S.size a ≤ S.size a) :
    View.readAt (Elt F) m.view (Rect.unit (s := S) off S.size inb).toLoadRect (h.unread X) = X := by
  subst ho
  funext y
  rw [h.readAt_unread]
  exact congrArg X (funext fun a => Fin.ext (by show 0 + 1 * (y a).val = (y a).val; omega))

theorem z2 : (![0, 0] : Fin 2 → ℕ) = fun _ => 0 := by decide
theorem z4 : (![0, 0, 0, 0] : Fin 4 → ℕ) = fun _ => 0 := by decide

theorem ld_tile {ε : EltTy} {sg : _} {m : Memref sg .tc .vmem S512x4096 ε} (h : m.IsWhole) (X : Vec F S512x4096 ε) (n : Fin 8) (o : ℕ) (ho : o = 512 * n.val)
    (inb : ∀ a, (![0, o] : Fin 2 → ℕ) a + S512x512.size a ≤ S512x4096.size a) :
    View.readAt (Elt F) m.view (Rect.unit (s := S512x4096) ![0, o] S512x512.size inb).toLoadRect (h.unread X) = tile n X := by
  subst ho
  funext y
  rw [h.readAt_unread]
  refine congrArg X (funext fun a => Fin.ext ?_)
  match a with
  | ⟨0, _⟩ => show 0 + 1 * (y 0).val = (y 0).val; omega
  | ⟨1, _⟩ => show 512 * n.val + 1 * (y 1).val = 512 * n.val + (y 1).val; omega

set_option maxHeartbeats 4000000 in
/-- Eight stores, one for each tile, leave the block made of them. -/
theorem read_tiles {sg : _} {m : Memref sg .tc .vmem S512x4096 .f32} (h : m.IsWhole) (X : Vec F S512x4096 .f32) (q0 q1 q2 q3 q4 q5 q6 q7 : FVec F S512x512 .f32) :
    m.view.read (Elt F) (m.view.writes (Elt F) (h.unread X) [⟨Rect.unit (s := S512x4096) ![0, 3584] S512x512.size inb_S512x4096_S512x512_0_3584, q7⟩, ⟨Rect.unit (s := S512x4096) ![0, 3072] S512x512.size inb_S512x4096_S512x512_0_3072, q6⟩, ⟨Rect.unit (s := S512x4096) ![0, 2560] S512x512.size inb_S512x4096_S512x512_0_2560, q5⟩, ⟨Rect.unit (s := S512x4096) ![0, 2048] S512x512.size inb_S512x4096_S512x512_0_2048, q4⟩, ⟨Rect.unit (s := S512x4096) ![0, 1536] S512x512.size inb_S512x4096_S512x512_0_1536, q3⟩, ⟨Rect.unit (s := S512x4096) ![0, 1024] S512x512.size inb_S512x4096_S512x512_0_1024, q2⟩, ⟨Rect.unit (s := S512x4096) ![0, 512] S512x512.size inb_S512x4096_S512x512_0_512, q1⟩, ⟨Rect.unit (s := S512x4096) ![0, 0] S512x512.size inb_S512x4096_S512x512_0_0, q0⟩]) = tiled ![q0, q1, q2, q3, q4, q5, q6, q7] := by
  funext y
  obtain ⟨r, n, e, rfl⟩ := at_col y
  rw [tiled_at]
  match n with
  | ⟨0, _⟩ =>
    refine (View.read_writes_cons_unit_of_not_mem _ _ (off' := ![0, 3584]) _ _ _ (ix2 r (col 0 e)) rfl 1 (Or.inl (show 512 * 0 + e.val < 3584 by omega))).trans ?_
    refine (View.read_writes_cons_unit_of_not_mem _ _ (off' := ![0, 3072]) _ _ _ (ix2 r (col 0 e)) rfl 1 (Or.inl (show 512 * 0 + e.val < 3072 by omega))).trans ?_
    refine (View.read_writes_cons_unit_of_not_mem _ _ (off' := ![0, 2560]) _ _ _ (ix2 r (col 0 e)) rfl 1 (Or.inl (show 512 * 0 + e.val < 2560 by omega))).trans ?_
    refine (View.read_writes_cons_unit_of_not_mem _ _ (off' := ![0, 2048]) _ _ _ (ix2 r (col 0 e)) rfl 1 (Or.inl (show 512 * 0 + e.val < 2048 by omega))).trans ?_
    refine (View.read_writes_cons_unit_of_not_mem _ _ (off' := ![0, 1536]) _ _ _ (ix2 r (col 0 e)) rfl 1 (Or.inl (show 512 * 0 + e.val < 1536 by omega))).trans ?_
    refine (View.read_writes_cons_unit_of_not_mem _ _ (off' := ![0, 1024]) _ _ _ (ix2 r (col 0 e)) rfl 1 (Or.inl (show 512 * 0 + e.val < 1024 by omega))).trans ?_
    refine (View.read_writes_cons_unit_of_not_mem _ _ (off' := ![0, 512]) _ _ _ (ix2 r (col 0 e)) rfl 1 (Or.inl (show 512 * 0 + e.val < 512 by omega))).trans ?_
    refine View.read_writes_cons_unit_of_mem _ _ (off' := ![0, 0]) _ _ _ (ix2 r (col 0 e)) (ix2 r e) rfl fun a => ?_
    match a with
    | ⟨0, _⟩ => show r.val = 0 + r.val; omega
    | ⟨1, _⟩ => show 512 * 0 + e.val = 0 + e.val; omega
  | ⟨1, _⟩ =>
    refine (View.read_writes_cons_unit_of_not_mem _ _ (off' := ![0, 3584]) _ _ _ (ix2 r (col 1 e)) rfl 1 (Or.inl (show 512 * 1 + e.val < 3584 by omega))).trans ?_
    refine (View.read_writes_cons_unit_of_not_mem _ _ (off' := ![0, 3072]) _ _ _ (ix2 r (col 1 e)) rfl 1 (Or.inl (show 512 * 1 + e.val < 3072 by omega))).trans ?_
    refine (View.read_writes_cons_unit_of_not_mem _ _ (off' := ![0, 2560]) _ _ _ (ix2 r (col 1 e)) rfl 1 (Or.inl (show 512 * 1 + e.val < 2560 by omega))).trans ?_
    refine (View.read_writes_cons_unit_of_not_mem _ _ (off' := ![0, 2048]) _ _ _ (ix2 r (col 1 e)) rfl 1 (Or.inl (show 512 * 1 + e.val < 2048 by omega))).trans ?_
    refine (View.read_writes_cons_unit_of_not_mem _ _ (off' := ![0, 1536]) _ _ _ (ix2 r (col 1 e)) rfl 1 (Or.inl (show 512 * 1 + e.val < 1536 by omega))).trans ?_
    refine (View.read_writes_cons_unit_of_not_mem _ _ (off' := ![0, 1024]) _ _ _ (ix2 r (col 1 e)) rfl 1 (Or.inl (show 512 * 1 + e.val < 1024 by omega))).trans ?_
    refine View.read_writes_cons_unit_of_mem _ _ (off' := ![0, 512]) _ _ _ (ix2 r (col 1 e)) (ix2 r e) rfl fun a => ?_
    match a with
    | ⟨0, _⟩ => show r.val = 0 + r.val; omega
    | ⟨1, _⟩ => show 512 * 1 + e.val = 512 + e.val; omega
  | ⟨2, _⟩ =>
    refine (View.read_writes_cons_unit_of_not_mem _ _ (off' := ![0, 3584]) _ _ _ (ix2 r (col 2 e)) rfl 1 (Or.inl (show 512 * 2 + e.val < 3584 by omega))).trans ?_
    refine (View.read_writes_cons_unit_of_not_mem _ _ (off' := ![0, 3072]) _ _ _ (ix2 r (col 2 e)) rfl 1 (Or.inl (show 512 * 2 + e.val < 3072 by omega))).trans ?_
    refine (View.read_writes_cons_unit_of_not_mem _ _ (off' := ![0, 2560]) _ _ _ (ix2 r (col 2 e)) rfl 1 (Or.inl (show 512 * 2 + e.val < 2560 by omega))).trans ?_
    refine (View.read_writes_cons_unit_of_not_mem _ _ (off' := ![0, 2048]) _ _ _ (ix2 r (col 2 e)) rfl 1 (Or.inl (show 512 * 2 + e.val < 2048 by omega))).trans ?_
    refine (View.read_writes_cons_unit_of_not_mem _ _ (off' := ![0, 1536]) _ _ _ (ix2 r (col 2 e)) rfl 1 (Or.inl (show 512 * 2 + e.val < 1536 by omega))).trans ?_
    refine View.read_writes_cons_unit_of_mem _ _ (off' := ![0, 1024]) _ _ _ (ix2 r (col 2 e)) (ix2 r e) rfl fun a => ?_
    match a with
    | ⟨0, _⟩ => show r.val = 0 + r.val; omega
    | ⟨1, _⟩ => show 512 * 2 + e.val = 1024 + e.val; omega
  | ⟨3, _⟩ =>
    refine (View.read_writes_cons_unit_of_not_mem _ _ (off' := ![0, 3584]) _ _ _ (ix2 r (col 3 e)) rfl 1 (Or.inl (show 512 * 3 + e.val < 3584 by omega))).trans ?_
    refine (View.read_writes_cons_unit_of_not_mem _ _ (off' := ![0, 3072]) _ _ _ (ix2 r (col 3 e)) rfl 1 (Or.inl (show 512 * 3 + e.val < 3072 by omega))).trans ?_
    refine (View.read_writes_cons_unit_of_not_mem _ _ (off' := ![0, 2560]) _ _ _ (ix2 r (col 3 e)) rfl 1 (Or.inl (show 512 * 3 + e.val < 2560 by omega))).trans ?_
    refine (View.read_writes_cons_unit_of_not_mem _ _ (off' := ![0, 2048]) _ _ _ (ix2 r (col 3 e)) rfl 1 (Or.inl (show 512 * 3 + e.val < 2048 by omega))).trans ?_
    refine View.read_writes_cons_unit_of_mem _ _ (off' := ![0, 1536]) _ _ _ (ix2 r (col 3 e)) (ix2 r e) rfl fun a => ?_
    match a with
    | ⟨0, _⟩ => show r.val = 0 + r.val; omega
    | ⟨1, _⟩ => show 512 * 3 + e.val = 1536 + e.val; omega
  | ⟨4, _⟩ =>
    refine (View.read_writes_cons_unit_of_not_mem _ _ (off' := ![0, 3584]) _ _ _ (ix2 r (col 4 e)) rfl 1 (Or.inl (show 512 * 4 + e.val < 3584 by omega))).trans ?_
    refine (View.read_writes_cons_unit_of_not_mem _ _ (off' := ![0, 3072]) _ _ _ (ix2 r (col 4 e)) rfl 1 (Or.inl (show 512 * 4 + e.val < 3072 by omega))).trans ?_
    refine (View.read_writes_cons_unit_of_not_mem _ _ (off' := ![0, 2560]) _ _ _ (ix2 r (col 4 e)) rfl 1 (Or.inl (show 512 * 4 + e.val < 2560 by omega))).trans ?_
    refine View.read_writes_cons_unit_of_mem _ _ (off' := ![0, 2048]) _ _ _ (ix2 r (col 4 e)) (ix2 r e) rfl fun a => ?_
    match a with
    | ⟨0, _⟩ => show r.val = 0 + r.val; omega
    | ⟨1, _⟩ => show 512 * 4 + e.val = 2048 + e.val; omega
  | ⟨5, _⟩ =>
    refine (View.read_writes_cons_unit_of_not_mem _ _ (off' := ![0, 3584]) _ _ _ (ix2 r (col 5 e)) rfl 1 (Or.inl (show 512 * 5 + e.val < 3584 by omega))).trans ?_
    refine (View.read_writes_cons_unit_of_not_mem _ _ (off' := ![0, 3072]) _ _ _ (ix2 r (col 5 e)) rfl 1 (Or.inl (show 512 * 5 + e.val < 3072 by omega))).trans ?_
    refine View.read_writes_cons_unit_of_mem _ _ (off' := ![0, 2560]) _ _ _ (ix2 r (col 5 e)) (ix2 r e) rfl fun a => ?_
    match a with
    | ⟨0, _⟩ => show r.val = 0 + r.val; omega
    | ⟨1, _⟩ => show 512 * 5 + e.val = 2560 + e.val; omega
  | ⟨6, _⟩ =>
    refine (View.read_writes_cons_unit_of_not_mem _ _ (off' := ![0, 3584]) _ _ _ (ix2 r (col 6 e)) rfl 1 (Or.inl (show 512 * 6 + e.val < 3584 by omega))).trans ?_
    refine View.read_writes_cons_unit_of_mem _ _ (off' := ![0, 3072]) _ _ _ (ix2 r (col 6 e)) (ix2 r e) rfl fun a => ?_
    match a with
    | ⟨0, _⟩ => show r.val = 0 + r.val; omega
    | ⟨1, _⟩ => show 512 * 6 + e.val = 3072 + e.val; omega
  | ⟨7, _⟩ =>
    refine View.read_writes_cons_unit_of_mem _ _ (off' := ![0, 3584]) _ _ _ (ix2 r (col 7 e)) (ix2 r e) rfl fun a => ?_
    match a with
    | ⟨0, _⟩ => show r.val = 0 + r.val; omega
    | ⟨1, _⟩ => show 512 * 7 + e.val = 3584 + e.val; omega

/-- The first step of a block. -/
theorem readA (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (h1 : k0_cond1 i = 1#1) (h2 : ¬(k0_cond2 i = 1#1)) (h3 : ¬(k0_cond3 i = 1#1)) (x2 : Vec F S512x512 .bf16) (x3 : Vec F S512x4096 .bf16) (x8 : Vec F S512x4096 .f32) :
    arg8.view.read (Elt F) (arg8.view.writes (Elt F) (harg8.unread x8) (runA c i arg2 harg2 arg3 harg3 arg4 harg4 arg5 harg5 arg6 harg6 arg7 harg7 arg8 harg8 h1 h2 h3 x2 x3 x8).1) = first x2 x3 := by
  have p : ∃ (q0 q1 q2 q3 q4 q5 q6 q7 : FVec F S512x512 .f32), (runA c i arg2 harg2 arg3 harg3 arg4 harg4 arg5 harg5 arg6 harg6 arg7 harg7 arg8 harg8 h1 h2 h3 x2 x3 x8).1 = [⟨Rect.unit (s := S512x4096) ![0, 3584] S512x512.size inb_S512x4096_S512x512_0_3584, q7⟩, ⟨Rect.unit (s := S512x4096) ![0, 3072] S512x512.size inb_S512x4096_S512x512_0_3072, q6⟩, ⟨Rect.unit (s := S512x4096) ![0, 2560] S512x512.size inb_S512x4096_S512x512_0_2560, q5⟩, ⟨Rect.unit (s := S512x4096) ![0, 2048] S512x512.size inb_S512x4096_S512x512_0_2048, q4⟩, ⟨Rect.unit (s := S512x4096) ![0, 1536] S512x512.size inb_S512x4096_S512x512_0_1536, q3⟩, ⟨Rect.unit (s := S512x4096) ![0, 1024] S512x512.size inb_S512x4096_S512x512_0_1024, q2⟩, ⟨Rect.unit (s := S512x4096) ![0, 512] S512x512.size inb_S512x4096_S512x512_0_512, q1⟩, ⟨Rect.unit (s := S512x4096) ![0, 0] S512x512.size inb_S512x4096_S512x512_0_0, q0⟩] ∧ q0 = k0_pay4 x2 (tile 0 x3) ∧ q1 = k0_pay4 x2 (tile 1 x3) ∧ q2 = k0_pay4 x2 (tile 2 x3) ∧ q3 = k0_pay4 x2 (tile 3 x3) ∧ q4 = k0_pay4 x2 (tile 4 x3) ∧ q5 = k0_pay4 x2 (tile 5 x3) ∧ q6 = k0_pay4 x2 (tile 6 x3) ∧ q7 = k0_pay4 x2 (tile 7 x3) := by
    refine ⟨_, _, _, _, _, _, _, _, rfl, ?_, ?_, ?_, ?_, ?_, ?_, ?_, ?_⟩
    · conv_rhs => rw [← ld_whole harg2 x2 _ z2 inb_S512x512_S512x512_0_0, ← ld_tile harg3 x3 0 0 rfl inb_S512x4096_S512x512_0_0]
      try rfl
    · conv_rhs => rw [← ld_whole harg2 x2 _ z2 inb_S512x512_S512x512_0_0, ← ld_tile harg3 x3 1 512 rfl inb_S512x4096_S512x512_0_512]
      try rfl
    · conv_rhs => rw [← ld_whole harg2 x2 _ z2 inb_S512x512_S512x512_0_0, ← ld_tile harg3 x3 2 1024 rfl inb_S512x4096_S512x512_0_1024]
      try rfl
    · conv_rhs => rw [← ld_whole harg2 x2 _ z2 inb_S512x512_S512x512_0_0, ← ld_tile harg3 x3 3 1536 rfl inb_S512x4096_S512x512_0_1536]
      try rfl
    · conv_rhs => rw [← ld_whole harg2 x2 _ z2 inb_S512x512_S512x512_0_0, ← ld_tile harg3 x3 4 2048 rfl inb_S512x4096_S512x512_0_2048]
      try rfl
    · conv_rhs => rw [← ld_whole harg2 x2 _ z2 inb_S512x512_S512x512_0_0, ← ld_tile harg3 x3 5 2560 rfl inb_S512x4096_S512x512_0_2560]
      try rfl
    · conv_rhs => rw [← ld_whole harg2 x2 _ z2 inb_S512x512_S512x512_0_0, ← ld_tile harg3 x3 6 3072 rfl inb_S512x4096_S512x512_0_3072]
      try rfl
    · conv_rhs => rw [← ld_whole harg2 x2 _ z2 inb_S512x512_S512x512_0_0, ← ld_tile harg3 x3 7 3584 rfl inb_S512x4096_S512x512_0_3584]
      try rfl
  obtain ⟨q0, q1, q2, q3, q4, q5, q6, q7, hp, e0, e1, e2, e3, e4, e5, e6, e7⟩ := p
  rw [hp, read_tiles, e0, e1, e2, e3, e4, e5, e6, e7]
  refine congrArg tiled (funext fun n => ?_)
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A later step of a block. -/
theorem readB (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole)  (x2 : Vec F S512x512 .bf16) (x3 : Vec F S512x4096 .bf16) (x8 : Vec F S512x4096 .f32) :
    arg8.view.read (Elt F) (arg8.view.writes (Elt F) (harg8.unread x8) (runB c i arg2 harg2 arg3 harg3 arg4 harg4 arg5 harg5 arg6 harg6 arg7 harg7 arg8 harg8  x2 x3 x8).1) = plus x2 x3 x8 := by
  have p : ∃ (q0 q1 q2 q3 q4 q5 q6 q7 : FVec F S512x512 .f32), (runB c i arg2 harg2 arg3 harg3 arg4 harg4 arg5 harg5 arg6 harg6 arg7 harg7 arg8 harg8  x2 x3 x8).1 = [⟨Rect.unit (s := S512x4096) ![0, 3584] S512x512.size inb_S512x4096_S512x512_0_3584, q7⟩, ⟨Rect.unit (s := S512x4096) ![0, 3072] S512x512.size inb_S512x4096_S512x512_0_3072, q6⟩, ⟨Rect.unit (s := S512x4096) ![0, 2560] S512x512.size inb_S512x4096_S512x512_0_2560, q5⟩, ⟨Rect.unit (s := S512x4096) ![0, 2048] S512x512.size inb_S512x4096_S512x512_0_2048, q4⟩, ⟨Rect.unit (s := S512x4096) ![0, 1536] S512x512.size inb_S512x4096_S512x512_0_1536, q3⟩, ⟨Rect.unit (s := S512x4096) ![0, 1024] S512x512.size inb_S512x4096_S512x512_0_1024, q2⟩, ⟨Rect.unit (s := S512x4096) ![0, 512] S512x512.size inb_S512x4096_S512x512_0_512, q1⟩, ⟨Rect.unit (s := S512x4096) ![0, 0] S512x512.size inb_S512x4096_S512x512_0_0, q0⟩] ∧ q0 = k0_pay11 x2 (tile 0 x3) (tile 0 x8) ∧ q1 = k0_pay11 x2 (tile 1 x3) (tile 1 x8) ∧ q2 = k0_pay11 x2 (tile 2 x3) (tile 2 x8) ∧ q3 = k0_pay11 x2 (tile 3 x3) (tile 3 x8) ∧ q4 = k0_pay11 x2 (tile 4 x3) (tile 4 x8) ∧ q5 = k0_pay11 x2 (tile 5 x3) (tile 5 x8) ∧ q6 = k0_pay11 x2 (tile 6 x3) (tile 6 x8) ∧ q7 = k0_pay11 x2 (tile 7 x3) (tile 7 x8) := by
    refine ⟨_, _, _, _, _, _, _, _, rfl, ?_, ?_, ?_, ?_, ?_, ?_, ?_, ?_⟩
    · conv_rhs => rw [← ld_whole harg2 x2 _ z2 inb_S512x512_S512x512_0_0, ← ld_tile harg3 x3 0 0 rfl inb_S512x4096_S512x512_0_0, ← ld_tile harg8 x8 0 0 rfl inb_S512x4096_S512x512_0_0]
      try rfl
    · conv_rhs => rw [← ld_whole harg2 x2 _ z2 inb_S512x512_S512x512_0_0, ← ld_tile harg3 x3 1 512 rfl inb_S512x4096_S512x512_0_512, ← ld_tile harg8 x8 1 512 rfl inb_S512x4096_S512x512_0_512]
      try rfl
    · conv_rhs => rw [← ld_whole harg2 x2 _ z2 inb_S512x512_S512x512_0_0, ← ld_tile harg3 x3 2 1024 rfl inb_S512x4096_S512x512_0_1024, ← ld_tile harg8 x8 2 1024 rfl inb_S512x4096_S512x512_0_1024]
      try rfl
    · conv_rhs => rw [← ld_whole harg2 x2 _ z2 inb_S512x512_S512x512_0_0, ← ld_tile harg3 x3 3 1536 rfl inb_S512x4096_S512x512_0_1536, ← ld_tile harg8 x8 3 1536 rfl inb_S512x4096_S512x512_0_1536]
      try rfl
    · conv_rhs => rw [← ld_whole harg2 x2 _ z2 inb_S512x512_S512x512_0_0, ← ld_tile harg3 x3 4 2048 rfl inb_S512x4096_S512x512_0_2048, ← ld_tile harg8 x8 4 2048 rfl inb_S512x4096_S512x512_0_2048]
      try rfl
    · conv_rhs => rw [← ld_whole harg2 x2 _ z2 inb_S512x512_S512x512_0_0, ← ld_tile harg3 x3 5 2560 rfl inb_S512x4096_S512x512_0_2560, ← ld_tile harg8 x8 5 2560 rfl inb_S512x4096_S512x512_0_2560]
      try rfl
    · conv_rhs => rw [← ld_whole harg2 x2 _ z2 inb_S512x512_S512x512_0_0, ← ld_tile harg3 x3 6 3072 rfl inb_S512x4096_S512x512_0_3072, ← ld_tile harg8 x8 6 3072 rfl inb_S512x4096_S512x512_0_3072]
      try rfl
    · conv_rhs => rw [← ld_whole harg2 x2 _ z2 inb_S512x512_S512x512_0_0, ← ld_tile harg3 x3 7 3584 rfl inb_S512x4096_S512x512_0_3584, ← ld_tile harg8 x8 7 3584 rfl inb_S512x4096_S512x512_0_3584]
      try rfl
  obtain ⟨q0, q1, q2, q3, q4, q5, q6, q7, hp, e0, e1, e2, e3, e4, e5, e6, e7⟩ := p
  rw [hp, read_tiles, e0, e1, e2, e3, e4, e5, e6, e7]
  refine congrArg tiled (funext fun n => ?_)
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A row of a block, by group of eight and place in the group. -/
def line (q : Fin 64) (r : Fin 8) : Fin 512 := ⟨8 * q.val + r.val, by omega⟩

/-- Eight rows. -/
def eight (q : Fin 64) (x : Vec F S512x4096 .f32) : Vec F S8x4096 .f32 := fun y => x (ix2 (line q (y 0)) (y 1))

theorem at_line (y : S512x4096.Idx) : ∃ (q : Fin 64) (r : Fin 8) (e : Fin 4096), y = ix2 (line q r) e := by
  have b : (y 0).val < 512 := (y 0).isLt
  refine ⟨⟨(y 0).val / 8, by omega⟩, ⟨(y 0).val % 8, by omega⟩, y 1, ?_⟩
  rw [show line ⟨(y 0).val / 8, by omega⟩ ⟨(y 0).val % 8, by omega⟩ = y 0 from Fin.ext (by show 8 * ((y 0).val / 8) + (y 0).val % 8 = (y 0).val; omega)]
  exact eq_ix2 y

/-- The residual and the layer norm of eight rows. -/
def ln8 (x : Vec F S8x4096 .f32) (gate : Vec F S1x1x1x4096 .f32) (o : Vec F S8x4096 .f32) (g b : Vec F S1x4096 .f32) : FVec F S8x4096 .f32 :=
  k0_pay35 (k0_pay34 (k0_pay19 x gate o) (k0_pay27 (k0_pay19 x gate o)) g) b

/-- The residual and the layer norm of a whole block. -/
def norm (x : Vec F S512x4096 .f32) (gate : Vec F S1x1x1x4096 .f32) (g b : Vec F S1x4096 .f32) (o : Vec F S512x4096 .f32) : Vec F S512x4096 .f32 := fun y =>
  ln8 (eight ⟨(y 0).val / 8, by have : (y 0).val < 512 := (y 0).isLt; omega⟩ x) gate (eight ⟨(y 0).val / 8, by have : (y 0).val < 512 := (y 0).isLt; omega⟩ o) g b
    (ix2 ⟨(y 0).val % 8, by omega⟩ (y 1))

theorem norm_at (x : Vec F S512x4096 .f32) (gate : Vec F S1x1x1x4096 .f32) (g b : Vec F S1x4096 .f32) (o : Vec F S512x4096 .f32) (q : Fin 64) (r : Fin 8) (e : Fin 4096) :
    norm x gate g b o (ix2 (line q r) e) = ln8 (eight q x) gate (eight q o) g b (ix2 r e) := by
  have hn : (⟨(line q r).val / 8, by omega⟩ : Fin 64) = q := Fin.ext (by show (8 * q.val + r.val) / 8 = q.val; omega)
  have he : (⟨(line q r).val % 8, by omega⟩ : Fin 8) = r := Fin.ext (by show (8 * q.val + r.val) % 8 = r.val; omega)
  show ln8 (eight ⟨(line q r).val / 8, _⟩ x) gate (eight ⟨(line q r).val / 8, _⟩ o) g b (ix2 ⟨(line q r).val % 8, _⟩ e) = _
  rw [hn, he]

/-- The block after some trips of the loop: the rows done are normalised. -/
def done (n : ℕ) (x : Vec F S512x4096 .f32) (gate : Vec F S1x1x1x4096 .f32) (g b : Vec F S1x4096 .f32) (o : Vec F S512x4096 .f32) : Vec F S512x4096 .f32 := fun y =>
  if (y 0).val < 32 * n then norm x gate g b o y else o y

theorem done_none (x : Vec F S512x4096 .f32) (gate : Vec F S1x1x1x4096 .f32) (g b : Vec F S1x4096 .f32) (o : Vec F S512x4096 .f32) : done 0 x gate g b o = o :=
  funext fun y => if_neg (by omega)

theorem done_all (x : Vec F S512x4096 .f32) (gate : Vec F S1x1x1x4096 .f32) (g b : Vec F S1x4096 .f32) (o : Vec F S512x4096 .f32) : done 16 x gate g b o = norm x gate g b o :=
  funext fun y => if_pos (by have : (y 0).val < 512 := (y 0).isLt; omega)

theorem eight_done (n : ℕ) (x : Vec F S512x4096 .f32) (gate : Vec F S1x1x1x4096 .f32) (g b : Vec F S1x4096 .f32) (o : Vec F S512x4096 .f32) (q : Fin 64) (h : 32 * n ≤ 8 * q.val) :
    eight q (done n x gate g b o) = eight q o :=
  funext fun y => if_neg (by show ¬(8 * q.val + (y 0).val < 32 * n); omega)

theorem trips_eq : k0_t1_loop.trips = 16 := by decide +kernel

/-- The group of eight rows a trip's store writes. -/
def grp (k : Fin k0_t1_loop.trips) (s : Fin 4) : Fin 64 := ⟨4 * k.val + s.val, by have := lt_of_lt_of_eq k.isLt trips_eq; omega⟩

theorem off_grp : ∀ k : Fin k0_t1_loop.trips, k0_off1 k 0#32 = ![8 * (grp k 0).val, 0] ∧ k0_off1 k 8#32 = ![8 * (grp k 1).val, 0] ∧ k0_off1 k 16#32 = ![8 * (grp k 2).val, 0] ∧ k0_off1 k 24#32 = ![8 * (grp k 3).val, 0] := by decide +kernel

theorem ld_eight {sg : _} {m : Memref sg .tc .vmem S512x4096 .f32} (h : m.IsWhole) (X : Vec F S512x4096 .f32) (off : Fin 2 → ℕ) (q : Fin 64) (ho : off = ![8 * q.val, 0])
    (inb : ∀ a, off a + S8x4096.size a ≤ S512x4096.size a) :
    View.readAt (Elt F) m.view (Rect.unit (s := S512x4096) off S8x4096.size inb).toLoadRect (h.unread X) = eight q X := by
  subst ho
  funext y
  rw [h.readAt_unread]
  refine congrArg X (funext fun a => Fin.ext ?_)
  match a with
  | ⟨0, _⟩ => show 8 * q.val + 1 * (y 0).val = 8 * q.val + (y 0).val; omega
  | ⟨1, _⟩ => show 0 + 1 * (y 1).val = (y 1).val; omega

/-- Four stores of eight rows each leave those rows, the others as they were. -/
theorem read_lines {sg : _} {m : Memref sg .tc .vmem S512x4096 .f32} (h : m.IsWhole) (X : Vec F S512x4096 .f32) (k : ℕ) (p0 p1 p2 p3 : Fin 2 → ℕ) (o0 : p0 = ![8 * (4 * k + 0), 0]) (o1 : p1 = ![8 * (4 * k + 1), 0]) (o2 : p2 = ![8 * (4 * k + 2), 0]) (o3 : p3 = ![8 * (4 * k + 3), 0])
    (i0 : ∀ a, p0 a + S8x4096.size a ≤ S512x4096.size a) (i1 : ∀ a, p1 a + S8x4096.size a ≤ S512x4096.size a) (i2 : ∀ a, p2 a + S8x4096.size a ≤ S512x4096.size a) (i3 : ∀ a, p3 a + S8x4096.size a ≤ S512x4096.size a)
    (u : Fin 4 → FVec F S8x4096 .f32) (q : Fin 64) (r : Fin 8) (e : Fin 4096) :
    m.view.read (Elt F) (m.view.writes (Elt F) (h.unread X) [⟨Rect.unit (s := S512x4096) p3 S8x4096.size i3, u 3⟩, ⟨Rect.unit (s := S512x4096) p2 S8x4096.size i2, u 2⟩, ⟨Rect.unit (s := S512x4096) p1 S8x4096.size i1, u 1⟩, ⟨Rect.unit (s := S512x4096) p0 S8x4096.size i0, u 0⟩]) (ix2 (line q r) e)
      = if hq : 4 * k ≤ q.val ∧ q.val < 4 * k + 4 then u ⟨q.val - 4 * k, by omega⟩ (ix2 r e) else X (ix2 (line q r) e) := by
  split
  · rename_i hq
    have hs : ∃ s : Fin 4, s.val = q.val - 4 * k := ⟨⟨q.val - 4 * k, by omega⟩, rfl⟩
    obtain ⟨s, hs⟩ := hs
    rw [show (⟨q.val - 4 * k, by omega⟩ : Fin 4) = s from Fin.ext hs.symm]
    match s, hs with
    | ⟨0, _⟩, hs =>
      have hs : q.val - 4 * k = 0 := hs.symm
      refine (View.read_writes_cons_unit_of_not_mem _ _ (off' := ![8 * (4 * k + 3), 0]) _ _ _ (ix2 (line q r) e) o3 0 (Or.inl (show 8 * q.val + r.val < 8 * (4 * k + 3) by omega))).trans ?_
      refine (View.read_writes_cons_unit_of_not_mem _ _ (off' := ![8 * (4 * k + 2), 0]) _ _ _ (ix2 (line q r) e) o2 0 (Or.inl (show 8 * q.val + r.val < 8 * (4 * k + 2) by omega))).trans ?_
      refine (View.read_writes_cons_unit_of_not_mem _ _ (off' := ![8 * (4 * k + 1), 0]) _ _ _ (ix2 (line q r) e) o1 0 (Or.inl (show 8 * q.val + r.val < 8 * (4 * k + 1) by omega))).trans ?_
      refine View.read_writes_cons_unit_of_mem _ _ (off' := ![8 * (4 * k + 0), 0]) _ _ _ (ix2 (line q r) e) (ix2 r e) o0 fun a => ?_
      match a with
      | ⟨0, _⟩ => show 8 * q.val + r.val = 8 * (4 * k + 0) + r.val; omega
      | ⟨1, _⟩ => show e.val = 0 + e.val; omega
    | ⟨1, _⟩, hs =>
      have hs : q.val - 4 * k = 1 := hs.symm
      refine (View.read_writes_cons_unit_of_not_mem _ _ (off' := ![8 * (4 * k + 3), 0]) _ _ _ (ix2 (line q r) e) o3 0 (Or.inl (show 8 * q.val + r.val < 8 * (4 * k + 3) by omega))).trans ?_
      refine (View.read_writes_cons_unit_of_not_mem _ _ (off' := ![8 * (4 * k + 2), 0]) _ _ _ (ix2 (line q r) e) o2 0 (Or.inl (show 8 * q.val + r.val < 8 * (4 * k + 2) by omega))).trans ?_
      refine View.read_writes_cons_unit_of_mem _ _ (off' := ![8 * (4 * k + 1), 0]) _ _ _ (ix2 (line q r) e) (ix2 r e) o1 fun a => ?_
      match a with
      | ⟨0, _⟩ => show 8 * q.val + r.val = 8 * (4 * k + 1) + r.val; omega
      | ⟨1, _⟩ => show e.val = 0 + e.val; omega
    | ⟨2, _⟩, hs =>
      have hs : q.val - 4 * k = 2 := hs.symm
      refine (View.read_writes_cons_unit_of_not_mem _ _ (off' := ![8 * (4 * k + 3), 0]) _ _ _ (ix2 (line q r) e) o3 0 (Or.inl (show 8 * q.val + r.val < 8 * (4 * k + 3) by omega))).trans ?_
      refine View.read_writes_cons_unit_of_mem _ _ (off' := ![8 * (4 * k + 2), 0]) _ _ _ (ix2 (line q r) e) (ix2 r e) o2 fun a => ?_
      match a with
      | ⟨0, _⟩ => show 8 * q.val + r.val = 8 * (4 * k + 2) + r.val; omega
      | ⟨1, _⟩ => show e.val = 0 + e.val; omega
    | ⟨3, _⟩, hs =>
      have hs : q.val - 4 * k = 3 := hs.symm
      refine View.read_writes_cons_unit_of_mem _ _ (off' := ![8 * (4 * k + 3), 0]) _ _ _ (ix2 (line q r) e) (ix2 r e) o3 fun a => ?_
      match a with
      | ⟨0, _⟩ => show 8 * q.val + r.val = 8 * (4 * k + 3) + r.val; omega
      | ⟨1, _⟩ => show e.val = 0 + e.val; omega
  · rename_i hq
    refine (View.read_writes_cons_unit_of_not_mem _ _ (off' := ![8 * (4 * k + 3), 0]) _ _ _ (ix2 (line q r) e) o3 0 (show 8 * q.val + r.val < 8 * (4 * k + 3) ∨ 8 * (4 * k + 3) + 8 ≤ 8 * q.val + r.val by omega)).trans ?_
    refine (View.read_writes_cons_unit_of_not_mem _ _ (off' := ![8 * (4 * k + 2), 0]) _ _ _ (ix2 (line q r) e) o2 0 (show 8 * q.val + r.val < 8 * (4 * k + 2) ∨ 8 * (4 * k + 2) + 8 ≤ 8 * q.val + r.val by omega)).trans ?_
    refine (View.read_writes_cons_unit_of_not_mem _ _ (off' := ![8 * (4 * k + 1), 0]) _ _ _ (ix2 (line q r) e) o1 0 (show 8 * q.val + r.val < 8 * (4 * k + 1) ∨ 8 * (4 * k + 1) + 8 ≤ 8 * q.val + r.val by omega)).trans ?_
    refine (View.read_writes_cons_unit_of_not_mem _ _ (off' := ![8 * (4 * k + 0), 0]) _ _ _ (ix2 (line q r) e) o0 0 (show 8 * q.val + r.val < 8 * (4 * k + 0) ∨ 8 * (4 * k + 0) + 8 ≤ 8 * q.val + r.val by omega)).trans ?_
    exact congrFun (h.read_unread X) _

theorem ln8_1 (x : Vec F S8x4096 .f32) (gate : Vec F S1x1x1x4096 .f32) (o : Vec F S8x4096 .f32) (g b : Vec F S1x4096 .f32) :
    k0_pay36 (k0_pay28 (k0_pay20 x gate o) (k0_pay24 (k0_pay20 x gate o))) (k0_pay31 (k0_pay20 x gate o) (k0_pay24 (k0_pay20 x gate o))) g b = ln8 x gate o g b := rfl

theorem ln8_2 (x : Vec F S8x4096 .f32) (gate : Vec F S1x1x1x4096 .f32) (o : Vec F S8x4096 .f32) (g b : Vec F S1x4096 .f32) :
    k0_pay37 (k0_pay29 (k0_pay22 (k0_pay21 x) (Scalar.ofBits .f32 0x3FB504F3#32) gate o) (k0_pay25 (k0_pay21 x) (Scalar.ofBits .f32 0x3FB504F3#32) gate o)) (k0_pay32 (k0_pay22 (k0_pay21 x) (Scalar.ofBits .f32 0x3FB504F3#32) gate o) (k0_pay25 (k0_pay21 x) (Scalar.ofBits .f32 0x3FB504F3#32) gate o)) g b = ln8 x gate o g b := rfl

theorem ln8_3 (x : Vec F S8x4096 .f32) (gate : Vec F S1x1x1x4096 .f32) (o : Vec F S8x4096 .f32) (g b : Vec F S1x4096 .f32) :
    k0_pay38 (k0_pay30 (k0_pay23 x gate o) (k0_pay26 x gate o)) (k0_pay33 (k0_pay23 x gate o) (k0_pay26 x gate o)) g b = ln8 x gate o g b := rfl

/-- The four stores of one trip of the loop. -/
theorem storesC (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (h3 : k0_cond3 i = 1#1) (k : Fin k0_t1_loop.trips) (x4 : Vec F S512x4096 .f32) (x5 : Vec F S1x1x1x4096 .f32) (x6 : Vec F S1x4096 .f32) (x7 : Vec F S1x4096 .f32) (x8 : Vec F S512x4096 .f32) :
    ∃ (u0 u1 u2 u3 : FVec F S8x4096 .f32), (runC c i arg2 harg2 arg3 harg3 arg4 harg4 arg5 harg5 arg6 harg6 arg7 harg7 arg8 harg8 h3 k x4 x5 x6 x7 x8).1 = [⟨Rect.unit (s := S512x4096) (k0_off1 k 24#32) S8x4096.size (k0_off1_inb i k h3 3), u3⟩, ⟨Rect.unit (s := S512x4096) (k0_off1 k 16#32) S8x4096.size (k0_off1_inb i k h3 2), u2⟩, ⟨Rect.unit (s := S512x4096) (k0_off1 k 8#32) S8x4096.size (k0_off1_inb i k h3 1), u1⟩, ⟨Rect.unit (s := S512x4096) (k0_off1 k 0#32) S8x4096.size (k0_off1_inb i k h3 0), u0⟩] ∧ u0 = ln8 (eight (grp k 0) x4) x5 (eight (grp k 0) x8) x6 x7 ∧ u1 = ln8 (eight (grp k 1) x4) x5 (eight (grp k 1) x8) x6 x7 ∧ u2 = ln8 (eight (grp k 2) x4) x5 (eight (grp k 2) x8) x6 x7 ∧ u3 = ln8 (eight (grp k 3) x4) x5 (eight (grp k 3) x8) x6 x7 := by
  obtain ⟨o0, o1, o2, o3⟩ := off_grp k
  refine ⟨_, _, _, _, rfl, ?_, ?_, ?_, ?_⟩
  · conv_rhs => rw [← ld_eight harg8 x8 _ (grp k 0) o0 (k0_off1_inb i k h3 0), ← ld_eight harg4 x4 _ (grp k 0) o0 (k0_off1_inb i k h3 0), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl
  · conv_rhs => rw [← ln8_1, ← ld_eight harg8 x8 _ (grp k 1) o1 (k0_off1_inb i k h3 1), ← ld_eight harg4 x4 _ (grp k 1) o1 (k0_off1_inb i k h3 1), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl
  · conv_rhs => rw [← ln8_2, ← ld_eight harg8 x8 _ (grp k 2) o2 (k0_off1_inb i k h3 2), ← ld_eight harg4 x4 _ (grp k 2) o2 (k0_off1_inb i k h3 2), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl
  · conv_rhs => rw [← ln8_3, ← ld_eight harg8 x8 _ (grp k 3) o3 (k0_off1_inb i k h3 3), ← ld_eight harg4 x4 _ (grp k 3) o3 (k0_off1_inb i k h3 3), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl

set_option maxHeartbeats 4000000 in
/-- One trip of the loop. -/
theorem tripC (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (h3 : k0_cond3 i = 1#1) (k : Fin k0_t1_loop.trips) (x4 : Vec F S512x4096 .f32) (x5 : Vec F S1x1x1x4096 .f32) (x6 : Vec F S1x4096 .f32) (x7 : Vec F S1x4096 .f32) (x8 : Vec F S512x4096 .f32) (O : Vec F S512x4096 .f32) (hO : O = done k.val x4 x5 x6 x7 x8) :
    arg8.view.read (Elt F) (arg8.view.writes (Elt F) (harg8.unread O) (runC c i arg2 harg2 arg3 harg3 arg4 harg4 arg5 harg5 arg6 harg6 arg7 harg7 arg8 harg8 h3 k x4 x5 x6 x7 O).1) = done (k.val + 1) x4 x5 x6 x7 x8 := by
  have p := storesC c i arg2 harg2 arg3 harg3 arg4 harg4 arg5 harg5 arg6 harg6 arg7 harg7 arg8 harg8 h3 k x4 x5 x6 x7 O
  obtain ⟨u0, u1, u2, u3, hp, e0, e1, e2, e3⟩ := p
  rw [hp]
  funext y
  obtain ⟨q, r, e, rfl⟩ := at_line y
  obtain ⟨o0, o1, o2, o3⟩ := off_grp k
  refine (read_lines harg8 _ k.val _ _ _ _ o0 o1 o2 o3 _ _ _ _ ![u0, u1, u2, u3] q r e).trans ?_
  rw [hO, eight_done k.val x4 x5 x6 x7 x8 (grp k 0) (by show 32 * k.val ≤ 8 * (4 * k.val + 0); omega)] at e0
  rw [hO, eight_done k.val x4 x5 x6 x7 x8 (grp k 1) (by show 32 * k.val ≤ 8 * (4 * k.val + 1); omega)] at e1
  rw [hO, eight_done k.val x4 x5 x6 x7 x8 (grp k 2) (by show 32 * k.val ≤ 8 * (4 * k.val + 2); omega)] at e2
  rw [hO, eight_done k.val x4 x5 x6 x7 x8 (grp k 3) (by show 32 * k.val ≤ 8 * (4 * k.val + 3); omega)] at e3
  clear hp
  split
  · rename_i hq
    refine Eq.trans ?_ (if_pos (show 8 * q.val + r.val < 32 * (k.val + 1) by omega)).symm
    rw [norm_at]
    have hs : ∃ s : Fin 4, s.val = q.val - 4 * k.val := ⟨⟨q.val - 4 * k.val, by omega⟩, rfl⟩
    obtain ⟨s, hs⟩ := hs
    rw [show (⟨q.val - 4 * k.val, by omega⟩ : Fin 4) = s from Fin.ext hs.symm, show q = grp k s from Fin.ext (by show q.val = 4 * k.val + s.val; omega)]
    match s with
    | ⟨0, _⟩ => exact congrFun e0 _
    | ⟨1, _⟩ => exact congrFun e1 _
    | ⟨2, _⟩ => exact congrFun e2 _
    | ⟨3, _⟩ => exact congrFun e3 _
  · rename_i hq
    rw [hO]
    by_cases hl : q.val < 4 * k.val
    · exact (if_pos (show 8 * q.val + r.val < 32 * k.val by omega)).trans (if_pos (show 8 * q.val + r.val < 32 * (k.val + 1) by omega)).symm
    · exact (if_neg (show ¬(8 * q.val + r.val < 32 * k.val) by omega)).trans (if_neg (show ¬(8 * q.val + r.val < 32 * (k.val + 1)) by omega)).symm

end Cert.Down

end
-- ==== Proof.DownFrame.lean ====
module

public import proofs.«01_k».proof.Proof.DownStep

@[expose] public section

set_option maxRecDepth 16384

noncomputable section

/-! The down-projection kernel over its whole grid: the loop over the rows, what each step leaves, the launch and the frame. -/

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel3Ideal Cert.Kernel3Ideal.Gen

variable {F : FTy → Type} [FloatOps F]

local notation "𝕄" => MT nD τ sig Unit (Elt F) ℕ (UR sig nD τ) ℕ

/-- What holds before each trip of the loop over the rows. -/
def inv (c : Dev nD) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (x4 : Vec F S512x4096 .f32) (x5 : Vec F S1x1x1x4096 .f32) (x6 : Vec F S1x4096 .f32) (x7 : Vec F S1x4096 .f32) (x8 : Vec F S512x4096 .f32) (n : ℕ) (_ : Unit) : sProp 𝕄 :=
  iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (done n x4 x5 x6 x7 x8))

theorem inv_step (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (h3 : k0_cond3 i = 1#1) (x4 : Vec F S512x4096 .f32) (x5 : Vec F S1x1x1x4096 .f32) (x6 : Vec F S1x4096 .f32) (x7 : Vec F S1x4096 .f32) (x8 : Vec F S512x4096 .f32) (E : Set ℕ) (k : Fin k0_t1_loop.trips) (u : Unit) :
    inv c arg2 harg2 arg3 harg3 arg4 harg4 arg5 harg5 arg6 harg6 arg7 harg7 arg8 harg8 x4 x5 x6 x7 x8 k.val u ⊢ wp frame (wpE (defs₀ (F := F)) Variants.none c none) E (k0_t1_body i arg2 harg2 arg3 harg3 arg4 harg4 arg5 harg5 arg6 harg6 arg7 harg7 arg8 harg8 h3 k u) (inv c arg2 harg2 arg3 harg3 arg4 harg4 arg5 harg5 arg6 harg6 arg7 harg7 arg8 harg8 x4 x5 x6 x7 x8 (k.val + 1)) := by
  unfold inv
  iintro ⟨H4, H5, H6, H7, H8⟩
  iapply ((runC c i arg2 harg2 arg3 harg3 arg4 harg4 arg5 harg5 arg6 harg6 arg7 harg7 arg8 harg8 h3 k x4 x5 x6 x7 (done k.val x4 x5 x6 x7 x8)).2 E _)
  isplitl [H4]; · iexact H4
  isplitl [H5]; · iexact H5
  isplitl [H6]; · iexact H6
  isplitl [H7]; · iexact H7
  isplitl [H8]; · iexact H8
  iintro ⟨H4, H5, H6, H7, H8⟩
  isplitl [H4]; · iexact H4
  isplitl [H5]; · iexact H5
  isplitl [H6]; · iexact H6
  isplitl [H7]; · iexact H7
  unfold owns; iexists _; isplitr
  swap; · iexact H8
  ipureintro; exact tripC c i arg2 harg2 arg3 harg3 arg4 harg4 arg5 harg5 arg6 harg6 arg7 harg7 arg8 harg8 h3 k x4 x5 x6 x7 x8 _ rfl

/-- The loop over the rows normalises the block. -/
theorem loop (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (h3 : k0_cond3 i = 1#1) (x4 : Vec F S512x4096 .f32) (x5 : Vec F S1x1x1x4096 .f32) (x6 : Vec F S1x4096 .f32) (x7 : Vec F S1x4096 .f32) (x8 : Vec F S512x4096 .f32) (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (norm x4 x5 x6 x7 x8)) -∗ K ⟨⟩))
      ⊢ wp frame (wpE (defs₀ (F := F)) Variants.none c none) E (do Scf.Loop.for k0_t1_loop (k0_t1_ok i h3) ⟨⟩ (k0_t1_body i arg2 harg2 arg3 harg3 arg4 harg4 arg5 harg5 arg6 harg6 arg7 harg7 arg8 harg8 h3); pure ⟨⟩) K := by
  iintro ⟨H4, H5, H6, H7, H8, Hk⟩
  iapply (Scf.wp_for_bind frame (wpE (defs₀ (F := F)) Variants.none c none) E k0_t1_loop.lb k0_t1_loop.ub k0_t1_loop.st (k0_t1_ok i h3) _ _
    (inv c arg2 harg2 arg3 harg3 arg4 harg4 arg5 harg5 arg6 harg6 arg7 harg7 arg8 harg8 x4 x5 x6 x7 x8) (inv_step c i arg2 harg2 arg3 harg3 arg4 harg4 arg5 harg5 arg6 harg6 arg7 harg7 arg8 harg8 h3 x4 x5 x6 x7 x8 E)) $$ [H4 H5 H6 H7 H8]
  · unfold inv; rw [done_none]
    isplitl [H4]; · iexact H4
    isplitl [H5]; · iexact H5
    isplitl [H6]; · iexact H6
    isplitl [H7]; · iexact H7
    iexact H8
  iintro %u Hi
  rw [show Scf.trips k0_t1_loop.lb k0_t1_loop.ub k0_t1_loop.st = 16 from trips_eq]
  unfold inv; rw [done_all]
  sl_step
  iapply Hk; iexact Hi

/-- The last step of a block: its product is added and the block normalised. -/
theorem last (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (h1 : ¬(k0_cond1 i = 1#1)) (h2 : k0_cond2 i = 1#1) (h3 : k0_cond3 i = 1#1) (x2 : Vec F S512x512 .bf16) (x3 : Vec F S512x4096 .bf16) (x4 : Vec F S512x4096 .f32) (x5 : Vec F S1x1x1x4096 .f32) (x6 : Vec F S1x4096 .f32) (x7 : Vec F S1x4096 .f32) (x8 : Vec F S512x4096 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (norm x4 x5 x6 x7 (plus x2 x3 x8))) -∗ K ⟨⟩))
      ⊢ wp frame (wpE (defs₀ (F := F)) Variants.none c none) E (cc0_matmul_layernorm i arg2 harg2 arg3 harg3 arg4 harg4 arg5 harg5 arg6 harg6 arg7 harg7 arg8 harg8) K := by
  rw [text_last i arg2 harg2 arg3 harg3 arg4 harg4 arg5 harg5 arg6 harg6 arg7 harg7 arg8 harg8 h1 h2 h3, wp_bind]
  iintro ⟨H2, H3, H4, H5, H6, H7, H8, Hk⟩
  iapply ((runB c i arg2 harg2 arg3 harg3 arg4 harg4 arg5 harg5 arg6 harg6 arg7 harg7 arg8 harg8 x2 x3 x8).2 E _)
  isplitl [H2]; · iexact H2
  isplitl [H3]; · iexact H3
  isplitl [H8]; · iexact H8
  iintro ⟨H2, H3, H8⟩
  iapply (loop c i arg2 harg2 arg3 harg3 arg4 harg4 arg5 harg5 arg6 harg6 arg7 harg7 arg8 harg8 h3 x4 x5 x6 x7 (plus x2 x3 x8) E K)
  isplitl [H4]; · iexact H4
  isplitl [H5]; · iexact H5
  isplitl [H6]; · iexact H6
  isplitl [H7]; · iexact H7
  isplitl [H8]
  · unfold owns; iexists _; isplitr
    swap; · iexact H8
    ipureintro; exact readB c i arg2 harg2 arg3 harg3 arg4 harg4 arg5 harg5 arg6 harg6 arg7 harg7 arg8 harg8 x2 x3 x8
  iintro ⟨H4, H5, H6, H7, H8⟩
  iapply Hk
  isplitl [H2]; · iexact H2
  isplitl [H3]; · iexact H3
  isplitl [H4]; · iexact H4
  isplitl [H5]; · iexact H5
  isplitl [H6]; · iexact H6
  isplitl [H7]; · iexact H7
  iexact H8

/-- A step between: its product is added. -/
theorem mid (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (h1 : ¬(k0_cond1 i = 1#1)) (h2 : k0_cond2 i = 1#1) (h3 : ¬(k0_cond3 i = 1#1)) (x2 : Vec F S512x512 .bf16) (x3 : Vec F S512x4096 .bf16) (x8 : Vec F S512x4096 .f32) (E : Set ℕ) (K : PUnit → sProp 𝕄) :
    iprop(owns (c : Thread nD τ) arg2 fullShare x2 ∗ owns (c : Thread nD τ) arg3 fullShare x3 ∗ owns (c : Thread nD τ) arg8 fullShare x8
        ∗ (iprop(owns (c : Thread nD τ) arg2 fullShare x2 ∗ owns (c : Thread nD τ) arg3 fullShare x3 ∗ owns (c : Thread nD τ) arg8 fullShare (plus x2 x3 x8)) -∗ K ⟨⟩))
      ⊢ wp frame (wpE (defs₀ (F := F)) Variants.none c none) E (cc0_matmul_layernorm i arg2 harg2 arg3 harg3 arg4 harg4 arg5 harg5 arg6 harg6 arg7 harg7 arg8 harg8) K := by
  rw [text_mid i arg2 harg2 arg3 harg3 arg4 harg4 arg5 harg5 arg6 harg6 arg7 harg7 arg8 harg8 h1 h2 h3, wp_bind]
  iintro ⟨H2, H3, H8, Hk⟩
  iapply ((runB c i arg2 harg2 arg3 harg3 arg4 harg4 arg5 harg5 arg6 harg6 arg7 harg7 arg8 harg8 x2 x3 x8).2 E _)
  isplitl [H2]; · iexact H2
  isplitl [H3]; · iexact H3
  isplitl [H8]; · iexact H8
  iintro ⟨H2, H3, H8⟩
  sl_step
  iapply Hk
  isplitl [H2]; · iexact H2
  isplitl [H3]; · iexact H3
  unfold owns; iexists _; isplitr
  swap; · iexact H8
  ipureintro; exact readB c i arg2 harg2 arg3 harg3 arg4 harg4 arg5 harg5 arg6 harg6 arg7 harg7 arg8 harg8 x2 x3 x8

/-- The first step of a block. -/
theorem start (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (h1 : k0_cond1 i = 1#1) (h2 : ¬(k0_cond2 i = 1#1)) (h3 : ¬(k0_cond3 i = 1#1)) (x2 : Vec F S512x512 .bf16) (x3 : Vec F S512x4096 .bf16) (x8 : Vec F S512x4096 .f32) (E : Set ℕ) (K : PUnit → sProp 𝕄) :
    iprop(owns (c : Thread nD τ) arg2 fullShare x2 ∗ owns (c : Thread nD τ) arg3 fullShare x3 ∗ owns (c : Thread nD τ) arg8 fullShare x8
        ∗ (iprop(owns (c : Thread nD τ) arg2 fullShare x2 ∗ owns (c : Thread nD τ) arg3 fullShare x3 ∗ owns (c : Thread nD τ) arg8 fullShare (first x2 x3)) -∗ K ⟨⟩))
      ⊢ wp frame (wpE (defs₀ (F := F)) Variants.none c none) E (cc0_matmul_layernorm i arg2 harg2 arg3 harg3 arg4 harg4 arg5 harg5 arg6 harg6 arg7 harg7 arg8 harg8) K := by
  iintro ⟨H2, H3, H8, Hk⟩
  iapply ((runA c i arg2 harg2 arg3 harg3 arg4 harg4 arg5 harg5 arg6 harg6 arg7 harg7 arg8 harg8 h1 h2 h3 x2 x3 x8).2 E _)
  isplitl [H2]; · iexact H2
  isplitl [H3]; · iexact H3
  isplitl [H8]; · iexact H8
  iintro ⟨H2, H3, H8⟩
  iapply Hk
  isplitl [H2]; · iexact H2
  isplitl [H3]; · iexact H3
  unfold owns; iexists _; isplitr
  swap; · iexact H8
  ipureintro; exact readA c i arg2 harg2 arg3 harg3 arg4 harg4 arg5 harg5 arg6 harg6 arg7 harg7 arg8 harg8 h1 h2 h3 x2 x3 x8

variable (m : (ℓ : Loc nD τ sig) → Buf (Elt F) ℓ) (ρ : Dev nD → PrngReg)

theorem cA : ∀ t : Fin cfg0.N, t.val % 22 = 0 → k0_cond1 (grid0.coords t) = 1#1 ∧ ¬(k0_cond2 (grid0.coords t) = 1#1) ∧ ¬(k0_cond3 (grid0.coords t) = 1#1) := by decide +kernel
theorem cB : ∀ t : Fin cfg0.N, t.val % 22 ≠ 0 → t.val % 22 ≠ 21 → ¬(k0_cond1 (grid0.coords t) = 1#1) ∧ k0_cond2 (grid0.coords t) = 1#1 ∧ ¬(k0_cond3 (grid0.coords t) = 1#1) := by decide +kernel
theorem cC : ∀ t : Fin cfg0.N, t.val % 22 = 21 → ¬(k0_cond1 (grid0.coords t) = 1#1) ∧ k0_cond2 (grid0.coords t) = 1#1 ∧ k0_cond3 (grid0.coords t) = 1#1 := by decide +kernel
theorem live : ∀ t : Fin cfg0.N, idle0 6 (grid0.coords t) = false := by decide +kernel
theorem live_all : ∀ i : grid0.Coords, cfg0.idle 6 i = false := by decide +kernel

/-- The block after each step. -/
def outAt (c : Dev nD) : (n : ℕ) → n < cfg0.N → Vec F S512x4096 .f32
  | 0, h => first (iblk m c 0 ⟨0, h⟩) (iblk m c 1 ⟨0, h⟩)
  | n + 1, h =>
    if (n + 1) % 22 = 0 then first (iblk m c 0 ⟨n + 1, h⟩) (iblk m c 1 ⟨n + 1, h⟩)
    else if (n + 1) % 22 = 21 then
      norm (iblk m c 2 ⟨n + 1, h⟩) (iblk m c 3 ⟨n + 1, h⟩) (iblk m c 4 ⟨n + 1, h⟩) (iblk m c 5 ⟨n + 1, h⟩) (plus (iblk m c 0 ⟨n + 1, h⟩) (iblk m c 1 ⟨n + 1, h⟩) (outAt c n (Nat.lt_of_succ_lt h)))
    else plus (iblk m c 0 ⟨n + 1, h⟩) (iblk m c 1 ⟨n + 1, h⟩) (outAt c n (Nat.lt_of_succ_lt h))

/-- The step before. -/
def prev (t : Fin cfg0.N) : Fin cfg0.N := ⟨t.val - 1, Nat.lt_of_le_of_lt (Nat.sub_le _ _) t.isLt⟩

theorem out_first (c : Dev nD) (t : Fin cfg0.N) (h : t.val % 22 = 0) : outAt m c t.val t.isLt = first (iblk m c 0 t) (iblk m c 1 t) := by
  obtain ⟨n, hn⟩ := t
  cases n with
  | zero => rfl
  | succ n => exact if_pos h

theorem out_mid (c : Dev nD) (t : Fin cfg0.N) (h : t.val % 22 ≠ 0) (h' : t.val % 22 ≠ 21) :
    outAt m c t.val t.isLt = plus (iblk m c 0 t) (iblk m c 1 t) (outAt m c (prev t).val (prev t).isLt) := by
  obtain ⟨n, hn⟩ := t
  cases n with
  | zero => exact absurd rfl h
  | succ n => exact (if_neg h).trans (if_neg h')

theorem out_last (c : Dev nD) (t : Fin cfg0.N) (h : t.val % 22 = 21) :
    outAt m c t.val t.isLt = norm (iblk m c 2 t) (iblk m c 3 t) (iblk m c 4 t) (iblk m c 5 t) (plus (iblk m c 0 t) (iblk m c 1 t) (outAt m c (prev t).val (prev t).isLt)) := by
  obtain ⟨n, hn⟩ := t
  cases n with
  | zero => exact absurd h (by dsimp only; omega)
  | succ n => exact (if_neg (by dsimp only at h; omega)).trans (if_pos h)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t.val t.isLt
    | ⟨n + 7, h⟩ => absurd (show n + 7 < 7 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- A step that is not its block's first finds the block as the step before left it. -/
theorem before0_6 (c : Dev nD) (t : Fin cfg0.N) (h : t.val % 22 ≠ 0) (d) : (dats m 0 c).before 6 t d = outAt m c (prev t).val (prev t).isLt :=
  ((dats m 0 c).before_out_kept 6 rfl t (fun h0 => h (by rw [h0])) (by
    rw [Bool.eq_false_iff]; intro hf
    have := (flush0_6 _).mp hf
    dsimp only at this; omega) live_all (fun _ _ => rfl) d).trans (after0_6 m c _)

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (match idle0 6 (grid0.coords t) with
        | true => (match (cfg0.win 6).flush t with
          | false => iprop(∃ d, owns (c : Thread nD τ) (win0_6.stage (cfg0.slots t 6)) fullShare ((dats m 0 c).before 6 t d))
          | true => owns (c : Thread nD τ) (win0_6.stage (cfg0.slots t 6)) fullShare ((dats m 0 c).after 6 t))
        | false => owns (c : Thread nD τ) (win0_6.stage (cfg0.slots t 6)) fullShare ((dats m 0 c).after 6 t)))

/-- The first step of a block. -/
theorem soundA (c : Dev nD) (t : Fin cfg0.N) (h0 : t.val % 22 = 0) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, live t, out_first m c t h0]; dsimp only
  simp only [before0_0, before0_1, before0_2, before0_3, before0_4, before0_5]
  obtain ⟨e1, e2, e3⟩ := cA t h0
  iintro ⟨Hf, Ho, ⟨%d0, H0⟩, ⟨%d1, H1⟩, ⟨%d2, H2⟩, ⟨%d3, H3⟩, ⟨%d4, H4⟩, ⟨%d5, H5⟩, ⟨%d6, H6⟩⟩
  iapply (start c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) e1 e2 e3 _ _ _ Set.univ _)
  isplitl [H0]; · iexact H0
  isplitl [H1]; · iexact H1
  isplitl [H6]; · iexact H6
  iintro ⟨H0, H1, H6⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- A step between. -/
theorem soundB (c : Dev nD) (t : Fin cfg0.N) (h0 : t.val % 22 ≠ 0) (h1 : t.val % 22 ≠ 21) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, live t, out_mid m c t h0 h1]; dsimp only
  simp only [before0_0, before0_1, before0_2, before0_3, before0_4, before0_5, before0_6 m c t h0]
  obtain ⟨e1, e2, e3⟩ := cB t h0 h1
  iintro ⟨Hf, Ho, ⟨%d0, H0⟩, ⟨%d1, H1⟩, ⟨%d2, H2⟩, ⟨%d3, H3⟩, ⟨%d4, H4⟩, ⟨%d5, H5⟩, ⟨%d6, H6⟩⟩
  iapply (mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) e1 e2 e3 _ _ _ Set.univ _)
  isplitl [H0]; · iexact H0
  isplitl [H1]; · iexact H1
  isplitl [H6]; · iexact H6
  iintro ⟨H0, H1, H6⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The last step of a block. -/
theorem soundC (c : Dev nD) (t : Fin cfg0.N) (h0 : t.val % 22 ≠ 0) (h1 : t.val % 22 = 21) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, live t, out_last m c t h1]; dsimp only
  simp only [before0_0, before0_1, before0_2, before0_3, before0_4, before0_5, before0_6 m c t h0]
  obtain ⟨e1, e2, e3⟩ := cC t h1
  iintro ⟨Hf, Ho, ⟨%d0, H0⟩, ⟨%d1, H1⟩, ⟨%d2, H2⟩, ⟨%d3, H3⟩, ⟨%d4, H4⟩, ⟨%d5, H5⟩, ⟨%d6, H6⟩⟩
  iapply (last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) e1 e2 e3 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := F)) Variants.none c none) Set.univ (bodyAt0 t) (fun _ => bodyPost m c t) := by
  by_cases h0 : t.val % 22 = 0
  · exact soundA m c t h0
  by_cases h1 : t.val % 22 = 21
  · exact soundC m c t h0 h1
  · exact soundB m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = Pipeline.ΦA spec0 c from rfl]
  try exact Idealize.SL.BI.Entails.refl _

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments come back as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Down

end
-- ==== Proof.DownRef.lean ====
module

public import proofs.«01_k».proof.Proof.Gen.Reference3Ideal.Run
public import Idealize.ShloMosaic.Lib.KernelVsHost
public import Idealize.ShloMosaic.Lib.Pipeline.ValueKit
public import Idealize.ShloMosaic.Lib.Pointwise

@[expose] public section

set_option maxRecDepth 16384

noncomputable section

/-! The down-projection's reference: the product, the gated residual and the layer norm, read at an index. -/

namespace Cert.Down

open Idealize.ShloMosaic Idealize.ShloMosaic.TcCoe Idealize.SL.Sem
open Cert.Reference3Ideal Cert.Reference3Ideal.Gen

/-- The gated product added to the scaled residual stream. -/
def refSum {F : FTy → Type} [FloatOps F] (a : FVec F S2x4096x11008 .f32) (w : FVec F S11008x4096 .f32) (x : FVec F S2x4096x4096 .f32) (q : FVec F S2x24576 .f32) : FVec F S2x4096x4096 .f32 :=
  addf (mulf (broadcastInDim S2x4096x4096 ![] bcast_S_S2x4096x4096 (constant S_ .f32 0x3FB504F3#32)) x)
    (mulf (broadcastInDim S2x4096x4096 ![0, 1, 2] bcast_S2x1x4096_S2x4096x4096_0_1_2 (broadcastInDim S2x1x4096 ![0, 2] bcast_S2x4096_S2x1x4096_0_2 (extractStridedSlice S2x4096 ![0, 20480] q slices_S2x24576_S2x4096_0_20480)))
      (Host.dotGeneral dot_S2x4096x11008_S11008x4096_S2x4096x4096_2_0_01_1_n_n none a w))

/-- The mean of each row. -/
def refMean {F : FTy → Type} [FloatOps F] (y : FVec F S2x4096x4096 .f32) : FVec F S2x4096x1 .f32 :=
  Host.divf (broadcastInDim S2x4096x1 ![0, 1] bcast_S2x4096_S2x4096x1_0_1 (Host.reduceAdd y (constant S_ .f32 0x00000000#32) reducesTo_S2x4096x4096_S2x4096_d2 h_S_)) (broadcastInDim S2x4096x1 ![] bcast_S_S2x4096x1 (constant S_ .f32 0x45800000#32))

/-- The distance from the mean. -/
def refDev {F : FTy → Type} [FloatOps F] (y : FVec F S2x4096x4096 .f32) : FVec F S2x4096x4096 .f32 :=
  subf y (broadcastInDim S2x4096x4096 ![0, 1, 2] bcast_S2x4096x1_S2x4096x4096_0_1_2 (refMean y))

/-- The layer norm. -/
def refNorm {F : FTy → Type} [FloatOps F] (y : FVec F S2x4096x4096 .f32) (g b : FVec F S4096 .f32) : FVec F S2x4096x4096 .f32 :=
  addf (mulf (mulf (refDev y) (broadcastInDim S2x4096x4096 ![0, 1, 2] bcast_S2x4096x1_S2x4096x4096_0_1_2 (Host.rsqrt (addf (refMean (mulf (refDev y) (refDev y))) (broadcastInDim S2x4096x1 ![] bcast_S_S2x4096x1 (constant S_ .f32 0x3727C5AC#32))))))
      (broadcastInDim S2x4096x4096 ![0, 1, 2] bcast_S1x1x4096_S2x4096x4096_0_1_2 (broadcastInDim S1x1x4096 ![2] bcast_S4096_S1x1x4096_2 g)))
    (broadcastInDim S2x4096x4096 ![0, 1, 2] bcast_S1x1x4096_S2x4096x4096_0_1_2 (broadcastInDim S1x1x4096 ![2] bcast_S4096_S1x1x4096_2 b))

/-- The reference's result from its arguments. -/
def refOut {F : FTy → Type} [FloatOps F] (a : FVec F S2x4096x11008 .f32) (w : FVec F S11008x4096 .f32) (x : FVec F S2x4096x4096 .f32) (q : FVec F S2x24576 .f32) (g b : FVec F S4096 .f32) : FVec F S8192x4096 .f32 :=
  shapeCast _ (refNorm (refSum a w x q) g b) shapeCasts_S2x4096x4096_S8192x4096

set_option maxHeartbeats 2000000 in
/-- The reference's run ends with it. -/
theorem ref_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference3Ideal.Value.run m ρ

/-- The product at row `R`, column `C`, as one term per inner index, nothing beyond the last. -/
def term (a : FVec Ideal S2x4096x11008 .f32) (w : FVec Ideal S11008x4096 .f32) (R : Fin 8192) (C : Fin 4096) (k : ℕ) : EReal :=
  if h : k < 11008 then a (ix3 ⟨R.val / 4096, by omega⟩ ⟨R.val % 4096, by omega⟩ ⟨k, h⟩) * w (ix2 ⟨k, h⟩ C) else 0

/-- The product, in the chunks the kernel adds. -/
def chunks (a : FVec Ideal S2x4096x11008 .f32) (w : FVec Ideal S11008x4096 .f32) (R : Fin 8192) (C : Fin 4096) (n : ℕ) : EReal :=
  ∑ j ∈ Finset.range n, ∑ d : Fin 512, term a w R C (512 * j + d.val)

theorem chunk_sum (f : ℕ → EReal) (n : ℕ) : ∑ j ∈ Finset.range n, ∑ d : Fin 512, f (512 * j + d.val) = ∑ k ∈ Finset.range (512 * n), f k := by
  induction n with
  | zero => rfl
  | succ n ih =>
    rw [Finset.sum_range_succ, ih, Nat.mul_succ, Finset.sum_range_add, Finset.sum_range (fun x => f (512 * n + x))]

/-- All the chunks are the whole product. -/
theorem chunks_all (a : FVec Ideal S2x4096x11008 .f32) (w : FVec Ideal S11008x4096 .f32) (R : Fin 8192) (C : Fin 4096) :
    chunks a w R C 22 = ∑ k : Fin 11008, a (ix3 ⟨R.val / 4096, by omega⟩ ⟨R.val % 4096, by omega⟩ k) * w (ix2 k C) := by
  unfold chunks
  rw [chunk_sum, show 512 * 22 = 11008 + 256 from rfl, Finset.sum_range_add, Finset.sum_range (term a w R C)]
  rw [Finset.sum_eq_zero (s := Finset.range 256) fun k _ => ?_, add_zero]
  · refine Finset.sum_congr rfl fun k _ => ?_
    exact dif_pos k.isLt
  · exact dif_neg (by omega)

/-- The layer norm of one row, at column `e`. -/
def lnorm (v : Fin 4096 → EReal) (g b : EReal) (e : Fin 4096) : EReal :=
  (v e - Ideal.div (∑ k, v k) (Ideal.ofBits .f32 0x45800000#32))
    * Ideal.rsqrt (Ideal.div (∑ k, (v k - Ideal.div (∑ k, v k) (Ideal.ofBits .f32 0x45800000#32)) * (v k - Ideal.div (∑ k, v k) (Ideal.ofBits .f32 0x45800000#32))) (Ideal.ofBits .f32 0x45800000#32) + Ideal.ofBits .f32 0x3727C5AC#32) * g + b

/-- The gated residual of one row, at column `e`. -/
def resid (x : EReal) (q : EReal) (p : EReal) : EReal := Ideal.ofBits .f32 0x3FB504F3#32 * x + q * p

theorem refSum_apply (a : FVec Ideal S2x4096x11008 .f32) (w : FVec Ideal S11008x4096 .f32) (x : FVec Ideal S2x4096x4096 .f32) (q : FVec Ideal S2x24576 .f32) (R : Fin 8192) (e : Fin 4096) :
    refSum a w x q (ix3 ⟨R.val / 4096, by omega⟩ ⟨R.val % 4096, by omega⟩ e)
      = resid (x (ix3 ⟨R.val / 4096, by omega⟩ ⟨R.val % 4096, by omega⟩ e)) (q (ix2 ⟨R.val / 4096, by omega⟩ ⟨20480 + e.val, by omega⟩)) (chunks a w R e 22) := by
  rw [chunks_all]
  pointwise [refSum, resid]

theorem refMean_apply (y : FVec Ideal S2x4096x4096 .f32) (u : Fin 2) (s : Fin 4096) (z : Fin 1) :
    refMean y (ix3 u s z) = Ideal.div (∑ k : Fin 4096, y (ix3 u s k)) (Ideal.ofBits .f32 0x45800000#32) := by
  pointwise [refMean]

theorem refDev_apply (y : FVec Ideal S2x4096x4096 .f32) (u : Fin 2) (s : Fin 4096) (e : Fin 4096) :
    refDev y (ix3 u s e) = y (ix3 u s e) - Ideal.div (∑ k : Fin 4096, y (ix3 u s k)) (Ideal.ofBits .f32 0x45800000#32) := by
  pointwise [refDev, refMean_apply]

theorem refNorm_apply (y : FVec Ideal S2x4096x4096 .f32) (g b : FVec Ideal S4096 .f32) (u : Fin 2) (s : Fin 4096) (e : Fin 4096) :
    refNorm y g b (ix3 u s e) = lnorm (fun k => y (ix3 u s k)) (g (ix1 e)) (b (ix1 e)) e := by
  unfold lnorm
  simp only [← refDev_apply y u s]
  unfold refNorm
  generalize refDev y = D
  pointwise [refMean_apply]

theorem refOut_apply (a : FVec Ideal S2x4096x11008 .f32) (w : FVec Ideal S11008x4096 .f32) (x : FVec Ideal S2x4096x4096 .f32) (q : FVec Ideal S2x24576 .f32) (g b : FVec Ideal S4096 .f32) (R : Fin 8192) (e : Fin 4096) :
    refOut a w x q g b (ix2 R e) = lnorm (fun k => resid (x (ix3 ⟨R.val / 4096, by omega⟩ ⟨R.val % 4096, by omega⟩ k)) (q (ix2 ⟨R.val / 4096, by omega⟩ ⟨20480 + k.val, by omega⟩)) (chunks a w R k 22)) (g (ix1 e)) (b (ix1 e)) e := by
  simp only [← refSum_apply]
  rw [← refNorm_apply (refSum a w x q) g b ⟨R.val / 4096, by omega⟩ ⟨R.val % 4096, by omega⟩ e]
  unfold refOut
  generalize refNorm (refSum a w x q) g b = N
  pointwise

end Cert.Down

end
-- ==== Proof.Down.lean ====
module

public import proofs.«01_k».proof.Proof.DownFrame
public import proofs.«01_k».proof.Proof.DownRef
public import Idealize.ShloMosaic.Lib.KernelVsHost
public import Idealize.ShloMosaic.Lib.Pipeline.ValueKit
public import Idealize.ShloMosaic.Lib.Pipeline.ReadBack
public import Idealize.ShloMosaic.Lib.Pointwise

@[expose] public section

set_option maxRecDepth 16384

noncomputable section

/-! The down-projection kernel's output array over the ideal values is the reference's result. -/

namespace Cert.Down

open Idealize.ShloMosaic Idealize.ShloMosaic.TcCoe Idealize.SL.Sem
open Cert.Kernel3Ideal Cert.Kernel3Ideal.Gen

theorem first_apply (a : Vec Ideal S512x512 .bf16) (w : Vec Ideal S512x4096 .bf16) (r : Fin 512) (C : Fin 4096) :
    first a w (ix2 r C) = ∑ d : Fin 512, a (ix2 r d) * w (ix2 d C) := by
  obtain ⟨r', n, e, h⟩ := at_col (ix2 r C)
  rw [h]
  obtain rfl : r = r' := congrFun h 0
  obtain rfl : C = col n e := congrFun h 1
  unfold first
  rw [tiled_at]
  have ht : ∀ d : Fin 512, tile n w (ix2 d e) = w (ix2 d (col n e)) := fun _ => rfl
  simp only [← ht]
  generalize tile n w = W
  pointwise [k0_pay4, k0_pay3]

theorem plus_apply (a : Vec Ideal S512x512 .bf16) (w : Vec Ideal S512x4096 .bf16) (o : Vec Ideal S512x4096 .f32) (r : Fin 512) (C : Fin 4096) :
    plus a w o (ix2 r C) = o (ix2 r C) + ∑ d : Fin 512, a (ix2 r d) * w (ix2 d C) := by
  obtain ⟨r', n, e, h⟩ := at_col (ix2 r C)
  rw [h]
  obtain rfl : r = r' := congrFun h 0
  obtain rfl : C = col n e := congrFun h 1
  unfold plus
  rw [tiled_at]
  have ht : ∀ d : Fin 512, tile n w (ix2 d e) = w (ix2 d (col n e)) := fun _ => rfl
  have ho : tile n o (ix2 r e) = o (ix2 r (col n e)) := rfl
  simp only [← ht, ← ho]
  generalize tile n w = W
  generalize tile n o = O
  pointwise [k0_pay11, k0_pay10]

theorem sum8_apply (x : Vec Ideal S8x4096 .f32) (gate : Vec Ideal S1x1x1x4096 .f32) (o : Vec Ideal S8x4096 .f32) (r : Fin 8) (e : Fin 4096) :
    k0_pay19 x gate o (ix2 r e) = resid (x (ix2 r e)) (gate (ix4 0 0 0 e)) (o (ix2 r e)) := by
  pointwise [k0_pay19, resid]

theorem mean8_apply (v : FVec Ideal S8x4096 .f32) (r : Fin 8) (e : Fin 4096) :
    k0_pay27 v (ix2 r e) = Ideal.div (∑ k : Fin 4096, v (ix2 r k)) (Ideal.ofBits .f32 0x45800000#32) := by
  pointwise [k0_pay27]

theorem scale8_apply (v u : FVec Ideal S8x4096 .f32) (g : Vec Ideal S1x4096 .f32) (r : Fin 8) (e : Fin 4096) :
    k0_pay34 v u g (ix2 r e) = (v (ix2 r e) - u (ix2 r e))
      * Ideal.rsqrt (Ideal.div (∑ k, (v (ix2 r k) - u (ix2 r k)) * (v (ix2 r k) - u (ix2 r k))) (Ideal.ofBits .f32 0x45800000#32) + Ideal.ofBits .f32 0x3727C5AC#32) * g (ix2 0 e) := by
  pointwise [k0_pay34]

theorem shift8_apply (v : FVec Ideal S8x4096 .f32) (b : Vec Ideal S1x4096 .f32) (r : Fin 8) (e : Fin 4096) :
    k0_pay35 v b (ix2 r e) = v (ix2 r e) + b (ix2 0 e) := by
  pointwise [k0_pay35]

theorem ln8_apply (x : Vec Ideal S8x4096 .f32) (gate : Vec Ideal S1x1x1x4096 .f32) (o : Vec Ideal S8x4096 .f32) (g b : Vec Ideal S1x4096 .f32) (r : Fin 8) (e : Fin 4096) :
    ln8 x gate o g b (ix2 r e) = lnorm (fun k => resid (x (ix2 r k)) (gate (ix4 0 0 0 k)) (o (ix2 r k))) (g (ix2 0 e)) (b (ix2 0 e)) e := by
  unfold ln8 lnorm
  simp only [← sum8_apply]
  generalize k0_pay19 x gate o = v
  rw [shift8_apply, scale8_apply]
  simp only [mean8_apply]

theorem norm_apply (x : Vec Ideal S512x4096 .f32) (gate : Vec Ideal S1x1x1x4096 .f32) (g b : Vec Ideal S1x4096 .f32) (o : Vec Ideal S512x4096 .f32) (r : Fin 512) (e : Fin 4096) :
    norm x gate g b o (ix2 r e) = lnorm (fun k => resid (x (ix2 r k)) (gate (ix4 0 0 0 k)) (o (ix2 r k))) (g (ix2 0 e)) (b (ix2 0 e)) e := by
  obtain ⟨q, s, e', h⟩ := at_line (ix2 r e)
  rw [h]
  obtain rfl : r = line q s := congrFun h 0
  obtain rfl : e = e' := congrFun h 1
  exact (norm_at x gate g b o q s e).trans (ln8_apply _ _ _ _ _ _ _)

variable (m : (ℓ : Loc nD τ sig) → Buf (Elt Ideal) ℓ) (c : Dev nD)

theorem idx0 : ∀ t : Fin grid0.N, win0_0.index t 0 = t.val / 22 ∧ win0_0.index t 1 = t.val % 22 := by decide +kernel
theorem idx1 : ∀ t : Fin grid0.N, win0_1.index t 0 = t.val % 22 ∧ win0_1.index t 1 = 0 := by decide +kernel
theorem idx2 : ∀ t : Fin grid0.N, win0_2.index t 0 = t.val / 22 ∧ win0_2.index t 1 = 0 := by decide +kernel
theorem idx3 : ∀ t : Fin grid0.N, win0_3.index t 0 = t.val / 22 / 8 ∧ win0_3.index t 1 = 5 ∧ win0_3.index t 2 = 0 ∧ win0_3.index t 3 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val / 22 ∧ win0_6.index t 1 = 0 := by decide +kernel

/-- The zero the host code pads with. -/
theorem pad_zero : (FloatOps.sitofp .f32 (0#32) : Ideal .f32) = 0 := by
  show (((0#32 : BitVec 32).toInt : ℝ) : EReal) = 0
  simp

theorem a_apply (a : FVec Ideal S2x4096x11008 .f32) (R : Fin 8192) (k : Fin 11264) :
    (truncf .bf16 (pad S8192x11264 ![0, 0] ![0, 256] ![0, 0] (shapeCast S8192x11008 a shapeCasts_S2x4096x11008_S8192x11008) (sitofp .f32 (constantI S_ 32 0#32)) pads_S8192x11008_S8192x11264_000_02560 h_S_) bitsLt_bf16_f32 : FVec Ideal S8192x11264 .bf16) (ix2 R k)
      = if h : k.val < 11008 then a (ix3 ⟨R.val / 4096, by omega⟩ ⟨R.val % 4096, by omega⟩ ⟨k.val, h⟩) else 0 := by
  by_cases h : k.val < 11008
  · rw [dif_pos h]
    pointwise
    exact (dif_pos h).trans rfl
  · rw [dif_neg h]
    pointwise
    exact (dif_neg h).trans pad_zero

theorem w_apply (w : FVec Ideal S11008x4096 .f32) (k : Fin 11264) (C : Fin 4096) :
    (truncf .bf16 (pad S11264x4096 ![0, 0] ![256, 0] ![0, 0] w (sitofp .f32 (constantI S_ 32 0#32)) pads_S11008x4096_S11264x4096_02560_000 h_S_) bitsLt_bf16_f32 : FVec Ideal S11264x4096 .bf16) (ix2 k C)
      = if h : k.val < 11008 then w (ix2 ⟨k.val, h⟩ C) else 0 := by
  by_cases h : k.val < 11008
  · rw [dif_pos h]
    pointwise
    exact (dif_pos h).trans rfl
  · rw [dif_neg h]
    pointwise
    exact (dif_neg h).trans pad_zero

theorem q_apply (q : FVec Ideal S2x24576 .f32) (u : Fin 8) (hu : u.val < 2) (e : Fin 4096) :
    (shapeCast S8x6x1x4096 (pad S8x24576 ![0, 0] ![6, 0] ![0, 0] q (sitofp .f32 (constantI S_ 32 0#32)) pads_S2x24576_S8x24576_060_000 h_S_) shapeCasts_S8x24576_S8x6x1x4096 : FVec Ideal S8x6x1x4096 .f32) (ix4 u 5 0 e)
      = q (ix2 ⟨u.val, hu⟩ ⟨20480 + e.val, by omega⟩) := by
  pointwise
  exact (dif_pos ⟨hu, by omega⟩).trans rfl

theorem x_apply (x : FVec Ideal S2x4096x4096 .f32) (R : Fin 8192) (d : Fin 4096) :
    (shapeCast S8192x4096 x shapeCasts_S2x4096x4096_S8192x4096 : FVec Ideal S8192x4096 .f32) (ix2 R d)
      = x (ix3 ⟨R.val / 4096, by omega⟩ ⟨R.val % 4096, by omega⟩ d) := by
  pointwise

theorem g_apply (g : FVec Ideal S4096 .f32) (C : Fin 4096) :
    (shapeCast S1x4096 g shapeCasts_S4096_S1x4096 : FVec Ideal S1x4096 .f32) (ix2 0 C) = g (ix1 C) := by
  pointwise

theorem V_a (a : FVec Ideal S2x4096x11008 .f32) (e0 : m ((c.tc : Thread nD τ).loc main_arg0) = a) (R : Fin 8192) (k : Fin 11264) :
    V m c main_v2 (ix2 R k) = if h : k.val < 11008 then a (ix3 ⟨R.val / 4096, by omega⟩ ⟨R.val % 4096, by omega⟩ ⟨k.val, h⟩) else 0 := by
  subst e0; exact a_apply _ R k

theorem V_w (w : FVec Ideal S11008x4096 .f32) (e1 : m ((c.tc : Thread nD τ).loc main_arg1) = w) (k : Fin 11264) (C : Fin 4096) :
    V m c main_v4 (ix2 k C) = if h : k.val < 11008 then w (ix2 ⟨k.val, h⟩ C) else 0 := by
  subst e1; exact w_apply _ k C

theorem V_x (x : FVec Ideal S2x4096x4096 .f32) (e2 : m ((c.tc : Thread nD τ).loc main_arg2) = x) (R : Fin 8192) (d : Fin 4096) :
    V m c main_v7 (ix2 R d) = x (ix3 ⟨R.val / 4096, by omega⟩ ⟨R.val % 4096, by omega⟩ d) := by
  subst e2; exact x_apply _ R d

theorem V_q (q : FVec Ideal S2x24576 .f32) (e3 : m ((c.tc : Thread nD τ).loc main_arg3) = q) (u : Fin 8) (hu : u.val < 2) (e : Fin 4096) :
    V m c main_v6 (ix4 u 5 0 e) = q (ix2 ⟨u.val, hu⟩ ⟨20480 + e.val, by omega⟩) := by
  subst e3; exact q_apply _ u hu e

theorem V_g (g : FVec Ideal S4096 .f32) (e4 : m ((c.tc : Thread nD τ).loc main_arg4) = g) (C : Fin 4096) :
    V m c main_v8 (ix2 0 C) = g (ix1 C) := by
  subst e4; exact g_apply _ C

theorem V_b (b : FVec Ideal S4096 .f32) (e5 : m ((c.tc : Thread nD τ).loc main_arg5) = b) (C : Fin 4096) :
    V m c main_v9 (ix2 0 C) = b (ix1 C) := by
  subst e5; exact g_apply _ C

theorem blk0 (t : Fin cfg0.N) (r : Fin 512) (d : Fin 512) (R : Fin 8192) (k : Fin 11264) (hR : R.val = 512 * (t.val / 22) + r.val) (hk : k.val = 512 * (t.val % 22) + d.val) :
    iblk m c 0 t (ix2 r d) = V m c main_v2 (ix2 R k) := by
  blk_ext [iblk, idx0 t]
theorem blk1 (t : Fin cfg0.N) (d : Fin 512) (C : Fin 4096) (k : Fin 11264) (hk : k.val = 512 * (t.val % 22) + d.val) :
    iblk m c 1 t (ix2 d C) = V m c main_v4 (ix2 k C) := by
  blk_ext [iblk, idx1 t]
theorem blk2 (t : Fin cfg0.N) (r : Fin 512) (C : Fin 4096) (R : Fin 8192) (hR : R.val = 512 * (t.val / 22) + r.val) :
    iblk m c 2 t (ix2 r C) = V m c main_v7 (ix2 R C) := by
  blk_ext [iblk, idx2 t]
theorem blk3 (t : Fin cfg0.N) (C : Fin 4096) (u : Fin 8) (hu : u.val = t.val / 22 / 8) :
    iblk m c 3 t (ix4 0 0 0 C) = V m c main_v6 (ix4 u 5 0 C) := by
  blk_ext [iblk, idx3 t]
theorem blk4 (t : Fin cfg0.N) (C : Fin 4096) : iblk m c 4 t (ix2 0 C) = V m c main_v8 (ix2 0 C) := by
  blk_ext [iblk, idx4 t]
theorem blk5 (t : Fin cfg0.N) (C : Fin 4096) : iblk m c 5 t (ix2 0 C) = V m c main_v9 (ix2 0 C) := by
  blk_ext [iblk, idx5 t]

/-- One step's product is one chunk. -/
theorem chunk (a : FVec Ideal S2x4096x11008 .f32) (e0 : m ((c.tc : Thread nD τ).loc main_arg0) = a)
    (w : FVec Ideal S11008x4096 .f32) (e1 : m ((c.tc : Thread nD τ).loc main_arg1) = w)
    (t : Fin cfg0.N) (r : Fin 512) (C : Fin 4096) (R : Fin 8192) (hR : R.val = 512 * (t.val / 22) + r.val) (A : Vec Ideal S512x512 .bf16) (hA : A = iblk m c 0 t)
    (W : Vec Ideal S512x4096 .bf16) (hW : W = iblk m c 1 t) :
    ∑ d : Fin 512, A (ix2 r d) * W (ix2 d C) = ∑ d : Fin 512, term a w R C (512 * (t.val % 22) + d.val) := by
  refine Finset.sum_congr rfl fun d _ => ?_
  have hk : 512 * (t.val % 22) + d.val < 11264 := by omega
  rw [hA, hW]
  refine (congrArg₂ (fun u v : EReal => u * v) ((blk0 m c t r d R ⟨_, hk⟩ hR rfl).trans (V_a m c a e0 R _)) ((blk1 m c t d C ⟨_, hk⟩ rfl).trans (V_w m c w e1 _ C))).trans ?_
  unfold term
  by_cases h : 512 * (t.val % 22) + d.val < 11008
  · rw [dif_pos h, dif_pos h, dif_pos h]
  · rw [dif_neg h, dif_neg h, dif_neg h]
    exact zero_mul _

/-- The block after every step but a row's last: the chunks so far. -/
theorem sums (a : FVec Ideal S2x4096x11008 .f32) (e0 : m ((c.tc : Thread nD τ).loc main_arg0) = a)
    (w : FVec Ideal S11008x4096 .f32) (e1 : m ((c.tc : Thread nD τ).loc main_arg1) = w) :
    ∀ (j : ℕ) (t : Fin cfg0.N), t.val % 22 = j → j ≠ 21 → ∀ (r : Fin 512) (C : Fin 4096) (R : Fin 8192), R.val = 512 * (t.val / 22) + r.val →
      outAt m c t.val t.isLt (ix2 r C) = chunks a w R C (j + 1) := by
  intro j
  induction j with
  | zero =>
    intro t ht _ r C R hR
    rw [out_first m c t ht, first_apply, chunk m c a e0 w e1 t r C R hR _ rfl _ rfl, ht]
    unfold chunks
    rw [Finset.sum_range_succ, Finset.sum_range_zero, zero_add]
  | succ j ih =>
    intro t ht hj r C R hR
    rw [out_mid m c t (by omega) (by omega), plus_apply, chunk m c a e0 w e1 t r C R hR _ rfl _ rfl, ht,
      ih (prev t) (by show (t.val - 1) % 22 = j; omega) (by omega) r C R (by show R.val = 512 * ((t.val - 1) / 22) + r.val; omega)]
    unfold chunks
    rw [Finset.sum_range_succ _ (j + 1)]

/-- A block after its last step, at an index. -/
theorem out_apply (a : FVec Ideal S2x4096x11008 .f32) (e0 : m ((c.tc : Thread nD τ).loc main_arg0) = a)
    (w : FVec Ideal S11008x4096 .f32) (e1 : m ((c.tc : Thread nD τ).loc main_arg1) = w)
    (x : FVec Ideal S2x4096x4096 .f32) (e2 : m ((c.tc : Thread nD τ).loc main_arg2) = x)
    (q : FVec Ideal S2x24576 .f32) (e3 : m ((c.tc : Thread nD τ).loc main_arg3) = q)
    (g : FVec Ideal S4096 .f32) (e4 : m ((c.tc : Thread nD τ).loc main_arg4) = g)
    (b : FVec Ideal S4096 .f32) (e5 : m ((c.tc : Thread nD τ).loc main_arg5) = b)
    (t : Fin cfg0.N) (ht : t.val % 22 = 21) (r : Fin 512) (e : Fin 4096) (R : Fin 8192) (hR : R.val = 512 * (t.val / 22) + r.val) :
    outAt m c t.val t.isLt (ix2 r e) = refOut a w x q g b (ix2 R e) := by
  have hN : t.val < 352 := lt_of_lt_of_eq t.isLt (show cfg0.N = 352 from N_0)
  rw [out_last m c t ht, refOut_apply]
  refine (norm_apply _ _ _ _ _ r e).trans ?_
  have hg : iblk m c 4 t (ix2 0 e) = g (ix1 e) := (blk4 m c t e).trans (V_g m c g e4 e)
  have hb : iblk m c 5 t (ix2 0 e) = b (ix1 e) := (blk5 m c t e).trans (V_b m c b e5 e)
  have hv : ∀ k : Fin 4096, resid (iblk m c 2 t (ix2 r k)) (iblk m c 3 t (ix4 0 0 0 k)) (plus (iblk m c 0 t) (iblk m c 1 t) (outAt m c (prev t).val (prev t).isLt) (ix2 r k))
      = resid (x (ix3 ⟨R.val / 4096, by omega⟩ ⟨R.val % 4096, by omega⟩ k)) (q (ix2 ⟨R.val / 4096, by omega⟩ ⟨20480 + k.val, by omega⟩)) (chunks a w R k 22) := by
    intro k
    have h2 : iblk m c 2 t (ix2 r k) = x (ix3 ⟨R.val / 4096, by omega⟩ ⟨R.val % 4096, by omega⟩ k) := (blk2 m c t r k R hR).trans (V_x m c x e2 R k)
    have h3 : iblk m c 3 t (ix4 0 0 0 k) = q (ix2 ⟨R.val / 4096, by omega⟩ ⟨20480 + k.val, by omega⟩) :=
      (blk3 m c t k ⟨R.val / 4096, by omega⟩ (by show R.val / 4096 = t.val / 22 / 8; omega)).trans (V_q m c q e3 _ (by show R.val / 4096 < 2; omega) k)
    have h6 : plus (iblk m c 0 t) (iblk m c 1 t) (outAt m c (prev t).val (prev t).isLt) (ix2 r k) = chunks a w R k 22 := by
      rw [plus_apply, chunk m c a e0 w e1 t r k R hR _ rfl _ rfl, ht,
        sums m c a e0 w e1 20 (prev t) (by show (t.val - 1) % 22 = 20; omega) (by omega) r k R (by show R.val = 512 * ((t.val - 1) / 22) + r.val; omega)]
      unfold chunks
      rw [Finset.sum_range_succ _ 21]
    rw [h2, h3, h6]
  rw [hg, hb]
  exact congrArg (fun v => lnorm v (g (ix1 e)) (b (ix1 e)) e) (funext hv)

/-- The kernel's output array. -/
theorem final (a : FVec Ideal S2x4096x11008 .f32) (e0 : m ((c.tc : Thread nD τ).loc main_arg0) = a)
    (w : FVec Ideal S11008x4096 .f32) (e1 : m ((c.tc : Thread nD τ).loc main_arg1) = w)
    (x : FVec Ideal S2x4096x4096 .f32) (e2 : m ((c.tc : Thread nD τ).loc main_arg2) = x)
    (q : FVec Ideal S2x24576 .f32) (e3 : m ((c.tc : Thread nD τ).loc main_arg3) = q)
    (g : FVec Ideal S4096 .f32) (e4 : m ((c.tc : Thread nD τ).loc main_arg4) = g)
    (b : FVec Ideal S4096 .f32) (e5 : m ((c.tc : Thread nD τ).loc main_arg5) = b) :
    (dats m 0 c).arrAt 6 cfg0.N = refOut a w x q g b := by
  have hp := out_apply m c a e0 w e1 x e2 q e3 g e4 b e5
  generalize refOut a w x q g b = G at hp ⊢
  refine (dats m 0 c).arrAt_eq_of_covers 6 _ (by decide +kernel) fun t hf y => ?_
  have ht : t.val % 22 = 21 := (flush0_6 t).mp hf
  blk_simp
  rw [after0_6]
  obtain ⟨r, e, rfl⟩ : ∃ (r : Fin 512) (e : Fin 4096), y = ix2 r e := ⟨y 0, y 1, eq_ix2 y⟩
  have hN : t.val < 352 := lt_of_lt_of_eq t.isLt (show cfg0.N = 352 from N_0)
  refine (hp t ht r e ⟨512 * (t.val / 22) + r.val, by omega⟩ rfl).trans ?_
  blk_ext [idx6 t]

/-- The kernel's run ends with its output array at what the steps wrote and its arguments as they were. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 6, h.2 c⟩) (θ_run_and (run_main m ρ) (unchanged m ρ))

end Cert.Down

end
-- ==== Proof.DownBits.lean ====
module

public import proofs.«01_k».proof.Proof.DownFrame
public import proofs.«01_k».proof.Proof.Gen.Kernel3.Frame

@[expose] public section

set_option maxRecDepth 16384

noncomputable section

/-! The down-projection kernel as printed: its text is the ideal program's, so the ideal program's run is its run. -/

namespace Cert.DownBits

open Idealize.ShloMosaic Idealize.ShloMosaic.TcCoe Idealize.ShloMosaic.Tactic
open Idealize.SL.Sem
open Cert.Kernel3

theorem body_eq : Cert.Kernel3.cc0_matmul_layernorm (F := Bits) = Cert.Kernel3Ideal.cc0_matmul_layernorm (F := Bits) := rfl

theorem defs₀_eq : Cert.Kernel3.defs₀ (F := Bits) = Cert.Kernel3Ideal.defs₀ (F := Bits) := by
  refine congrArg (Defs.onTc (nD := Cert.Kernel3.nD) (τ := Cert.Kernel3.τ) (sig := Cert.Kernel3.sig) (Val := Elt Bits) (Λ := Cert.Kernel3.Λ₀)) (funext fun l => funext fun a => ?_)
  match l, a with
  | 0, (t, s) => rfl

theorem defs_eq : Cert.Kernel3.defs (F := Bits) = Cert.Kernel3Ideal.defs (F := Bits) :=
  congrArg (Pipeline.defs (Cert.Kernel3.pcfgs (F := Bits))) defs₀_eq

theorem main_eq : Cert.Kernel3.main (F := Bits) = Cert.Kernel3Ideal.main (F := Bits) := rfl

/-- The frame. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq, main_eq]
  exact Cert.Down.frame (F := Bits) m ρ

end Cert.DownBits

end
-- ==== Proof.Project.lean ====
/-
  THE INPUT PROJECTION. The kernel keeps the bf16 weights of one column block in scratch over the 17 row blocks; every point writes
  its rows times them. The final array is the reference's product, latent rows first.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Project

open Idealize.ShloMosaic Idealize.ShloMosaic.TcCoe Idealize.SL.Sem

/-- A pair carried from point to point, whose second part is set at the first of every seventeen points and kept over the others, is what setting
    it at every point would give, as long as its value is the same over the seventeen. -/
theorem kept {α β : Type*} {N : ℕ} (f : (n : ℕ) → n < N → α × β) (o : Fin N → β → α) (w : Fin N → β)
    (hA : ∀ t : Fin N, t.val % 17 = 0 → f t.val t.isLt = (o t (w t), w t))
    (hB : ∀ t : Fin N, ¬t.val % 17 = 0 → f t.val t.isLt = (o t (f (t.val - 1) (Nat.lt_of_le_of_lt (Nat.sub_le _ _) t.isLt)).2,
      (f (t.val - 1) (Nat.lt_of_le_of_lt (Nat.sub_le _ _) t.isLt)).2))
    (hw : ∀ t t' : Fin N, t.val / 17 = t'.val / 17 → w t = w t') (t : Fin N) : f t.val t.isLt = (o t (w t), w t) := by
  obtain ⟨n, hn⟩ := t
  induction n with
  | zero => exact hA ⟨0, hn⟩ rfl
  | succ n ih =>
    by_cases h : (n + 1) % 17 = 0
    · exact hA ⟨n + 1, hn⟩ h
    · have e : f n (Nat.lt_of_succ_lt hn) = _ := ih (Nat.lt_of_succ_lt hn)
      have e' : w ⟨n, Nat.lt_of_succ_lt hn⟩ = w ⟨n + 1, hn⟩ := hw _ _ (by dsimp only; omega)
      refine (hB ⟨n + 1, hn⟩ h).trans ?_
      simp only [Nat.add_sub_cancel, e, e']

section Body
open Cert.Kernel4Ideal Cert.Kernel4Ideal.Gen

variable {F : FTy → Type} [FloatOps F] (m : (ℓ : Loc nD τ sig) → Buf (Elt F) ℓ)

theorem idx : ∀ t : Fin grid0.N, (win0_0.index t 0 = t.val % 17 ∧ win0_0.index t 1 = 0) ∧ (win0_1.index t 0 = 0 ∧ win0_1.index t 1 = t.val / 17)
    ∧ win0_2.index t 0 = t.val % 17 ∧ win0_2.index t 1 = t.val / 17 := by decide +kernel

theorem open_A (c : Dev nD) (t : Fin cfg0.N) (h0 : t.val % 17 = 0) :
    outsAt0 m c t.val t.isLt = (k0_pay2 (iblk m c 0 t) (k0_pay1 (iblk m c 1 t)), k0_pay1 (iblk m c 1 t)) := by
  rw [outsAt0_A m c t h0]
  refine Prod.ext ?_ ?_
  · dsimp only
    unfold out0_A_2
    frame_open
    simp (disch := decide) only [↓ View.readCov_skip, ↓ View.readCov_cons_toLoadRect, ↓ View.readCov_fill]
    frame_out
  · dsimp only
    unfold sout0_A_0
    frame_open
    frame_out

theorem open_B (c : Dev nD) (t : Fin cfg0.N) (h0 : ¬t.val % 17 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  refine Prod.ext ?_ ?_
  · dsimp only
    unfold out0_B_2
    frame_open
    frame_out
    exact congrArg _ (Memref.IsWhole.read_unread (Memref.isWhole_whole cc0_scratch0) _)
  · dsimp only
    unfold sout0_B_0
    rfl

/-- What every point writes. -/
theorem outs (c : Dev nD) (t : Fin cfg0.N) : (outsAt0 m c t.val t.isLt).1 = k0_pay2 (iblk m c 0 t) (k0_pay1 (iblk m c 1 t)) :=
  congrArg Prod.fst (kept (outsAt0 m c) (fun t => k0_pay2 (iblk m c 0 t)) (fun t => k0_pay1 (iblk m c 1 t)) (open_A m c) (open_B m c)
    (fun t t' h => congrArg k0_pay1 (by
      have h0 := idx t
      have h1 := idx t'
      funext y
      blk_ext [iblk, h0, h1])) t)

end Body

section Value
open Cert.Kernel4Ideal Cert.Kernel4Ideal.Gen

variable (m : (ℓ : Loc nD τ sig) → Buf (Elt Ideal) ℓ)

/-- One point's tile at an index. -/
theorem tile_apply (a : Vec Ideal S512x4096 .bf16) (w : Vec Ideal S4096x1024 .f32) (r : Fin 512) (e : Fin 1024) :
    k0_pay2 a (k0_pay1 w) (ix2 r e) = ∑ d : Fin 4096, a (ix2 r d) * w (ix2 d e) := by
  pointwise [k0_pay2, k0_pay1]

/-- The rows the kernel is handed, at an index. -/
theorem rows_apply (x : FVec Ideal S2x4096x4096 .f32) (z : FVec Ideal S2x256x4096 .f32) (R : Fin 8704) (d : Fin 4096) :
    (truncf .bf16 (concatenate S8704x4096 0 [⟨S8192x4096, shapeCast _ x shapeCasts_S2x4096x4096_S8192x4096⟩,
        ⟨S512x4096, shapeCast _ z shapeCasts_S2x256x4096_S512x4096⟩] concatenates_S8192x4096_S512x4096_S8704x4096_d0) bitsLt_bf16_f32
        : FVec Ideal S8704x4096 .bf16) (ix2 R d)
      = if h : R.val < 8192 then x (ix3 ⟨R.val / 4096, by omega⟩ ⟨R.val % 4096, by omega⟩ d)
        else z (ix3 ⟨(R.val - 8192) / 256, by omega⟩ ⟨(R.val - 8192) % 256, by omega⟩ d) := by
  pointwise

end Value

section Reference
open Cert.Reference4Ideal Cert.Reference4Ideal.Gen

/-- The reference's result from its arguments. -/
def refOut {F : FTy → Type} [FloatOps F] (x : FVec F S2x4096x4096 .f32) (z : FVec F S2x256x4096 .f32) (w : FVec F S4096x20480 .f32) : FVec F S8704x8192 .bf16 :=
  truncf .bf16 (concatenate S8704x8192 1 [⟨S8704x4096, (extractStridedSlice S8704x4096 ![0, 0] (concatenate S8704x20480 0 [⟨S8192x20480, (shapeCast _ (Host.dotGeneral dot_S2x4096x4096_S4096x20480_S2x4096x20480_2_0_01_1_n_n none x w) shapeCasts_S2x4096x20480_S8192x20480)⟩, ⟨S512x20480, (shapeCast _ (Host.dotGeneral dot_S2x256x4096_S4096x20480_S2x256x20480_2_0_01_1_n_n none z w) shapeCasts_S2x256x20480_S512x20480)⟩] concatenates_S8192x20480_S512x20480_S8704x20480_d0) slices_S8704x20480_S8704x4096_0_0)⟩, ⟨S8704x4096, (extractStridedSlice S8704x4096 ![0, 4096] (concatenate S8704x20480 0 [⟨S8192x20480, (shapeCast _ (Host.dotGeneral dot_S2x4096x4096_S4096x20480_S2x4096x20480_2_0_01_1_n_n none x w) shapeCasts_S2x4096x20480_S8192x20480)⟩, ⟨S512x20480, (shapeCast _ (Host.dotGeneral dot_S2x256x4096_S4096x20480_S2x256x20480_2_0_01_1_n_n none z w) shapeCasts_S2x256x20480_S512x20480)⟩] concatenates_S8192x20480_S512x20480_S8704x20480_d0) slices_S8704x20480_S8704x4096_0_4096)⟩] concatenates_S8704x4096_S8704x4096_S8704x8192_d1) bitsLt_bf16_f32

/-- The reference's run ends with it. -/
theorem ref_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = refOut (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference4Ideal.Value.run m ρ

theorem refOut_apply (x : FVec Ideal S2x4096x4096 .f32) (z : FVec Ideal S2x256x4096 .f32) (w : FVec Ideal S4096x20480 .f32) (R : Fin 8704) (C : Fin 8192) :
    refOut x z w (ix2 R C) = ∑ d : Fin 4096, (if h : R.val < 8192 then x (ix3 ⟨R.val / 4096, by omega⟩ ⟨R.val % 4096, by omega⟩ d)
        else z (ix3 ⟨(R.val - 8192) / 256, by omega⟩ ⟨(R.val - 8192) % 256, by omega⟩ d)) * w (ix2 d ⟨C.val, by omega⟩) := by
  by_cases hC : C.val < 4096 <;> by_cases hR : R.val < 8192
  all_goals
    unfold refOut
    pointwise
    simp only [hC, hR, ↓reduceDIte]
    try simp only [show 4096 + (C.val - 4096) = C.val by omega]

end Reference

section Final
open Cert.Kernel4Ideal Cert.Kernel4Ideal.Gen

variable (m : (ℓ : Loc nD τ sig) → Buf (Elt Ideal) ℓ) (c : Dev nD)

theorem blk_x (t : Fin cfg0.N) (r : Fin 512) (d : Fin 4096) (R : Fin 8704) (hR : R.val = 512 * (t.val % 17) + r.val) :
    iblk m c 0 t (ix2 r d) = V m c main_v3 (ix2 R d) := by
  blk_ext [iblk, idx t]

theorem blk_w (t : Fin cfg0.N) (d : Fin 4096) (e : Fin 1024) (C : Fin 20480) (hC : C.val = 1024 * (t.val / 17) + e.val) :
    iblk m c 1 t (ix2 d e) = V m c main_arg2 (ix2 d C) := by
  blk_ext [iblk, idx t]

/-- The kernel's output array. -/
theorem final (x : FVec Ideal S2x4096x4096 .f32) (e0 : m ((c.tc : Thread nD τ).loc main_arg0) = x)
    (z : FVec Ideal S2x256x4096 .f32) (e1 : m ((c.tc : Thread nD τ).loc main_arg1) = z)
    (w : FVec Ideal S4096x20480 .f32) (e2 : m ((c.tc : Thread nD τ).loc main_arg2) = w) :
    (dats m 0 c).arrAt 2 cfg0.N = refOut x z w := by
  have hp : ∀ (t : Fin cfg0.N) (r : Fin 512) (e : Fin 1024) (R : Fin 8704) (C : Fin 8192), R.val = 512 * (t.val % 17) + r.val →
      C.val = 1024 * (t.val / 17) + e.val → (outsAt0 m c t.val t.isLt).1 (ix2 r e) = refOut x z w (ix2 R C) := by
    intro t r e R C hR hC
    rw [outs m c t, tile_apply, refOut_apply]
    refine Finset.sum_congr rfl fun d _ => ?_
    rw [blk_x m c t r d R hR, blk_w m c t d e ⟨C.val, by omega⟩ hC]
    refine congrArg₂ (fun a b : EReal => a * b) ?_ ?_
    · subst e0 e1
      exact rows_apply _ _ R d
    · rw [V_main_arg2, e2]
  generalize refOut x z w = G at hp ⊢
  refine (dats m 0 c).arrAt_eq_of_covers 2 _ (by decide +kernel) fun t _ y => ?_
  blk_simp
  rw [after0_2]
  obtain ⟨r, e, rfl⟩ : ∃ (r : Fin 512) (e : Fin 1024), y = ix2 r e := ⟨y 0, y 1, eq_ix2 y⟩
  have ht : t.val < 136 := t.isLt
  refine (hp t r e ⟨512 * (t.val % 17) + r.val, by omega⟩ ⟨1024 * (t.val / 17) + e.val, by omega⟩ rfl rfl).trans ?_
  blk_ext [idx t]

end Final

end Cert.Project
end
-- ==== Proof.ProjectGates.lean ====
/-
  THE INPUT PROJECTION TO THE FORGET GATES' INPUTS. As Project.lean's, with the results left in f32, from column 8192 of the weights on.
-/
module

public import proofs.«01_k».proof.Proof.Gen.Kernel5Ideal.Value
public import proofs.«01_k».proof.Proof.Gen.Reference5Ideal.Run
public import proofs.«01_k».proof.Proof.Project

@[expose] public section

set_option maxRecDepth 16384

noncomputable section

namespace Cert.ProjectGates

open Idealize.ShloMosaic Idealize.ShloMosaic.TcCoe Idealize.SL.Sem

section Body
open Cert.Kernel5Ideal Cert.Kernel5Ideal.Gen

variable {F : FTy → Type} [FloatOps F] (m : (ℓ : Loc nD τ sig) → Buf (Elt F) ℓ)

theorem idx : ∀ t : Fin grid0.N, (win0_0.index t 0 = t.val % 17 ∧ win0_0.index t 1 = 0) ∧ (win0_1.index t 0 = 0 ∧ win0_1.index t 1 = 8 + t.val / 17)
    ∧ win0_2.index t 0 = t.val % 17 ∧ win0_2.index t 1 = t.val / 17 := by decide +kernel

theorem open_A (c : Dev nD) (t : Fin cfg0.N) (h0 : t.val % 17 = 0) :
    outsAt0 m c t.val t.isLt = (k0_pay2 (iblk m c 0 t) (k0_pay1 (iblk m c 1 t)), k0_pay1 (iblk m c 1 t)) := by
  rw [outsAt0_A m c t h0]
  refine Prod.ext ?_ ?_
  · dsimp only
    unfold out0_A_2
    frame_open
    simp (disch := decide) only [↓ View.readCov_skip, ↓ View.readCov_cons_toLoadRect, ↓ View.readCov_fill]
    frame_out
  · dsimp only
    unfold sout0_A_0
    frame_open
    frame_out

theorem open_B (c : Dev nD) (t : Fin cfg0.N) (h0 : ¬t.val % 17 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  refine Prod.ext ?_ ?_
  · dsimp only
    unfold out0_B_2
    frame_open
    frame_out
    exact congrArg _ (Memref.IsWhole.read_unread (Memref.isWhole_whole cc0_scratch0) _)
  · dsimp only
    unfold sout0_B_0
    rfl

/-- What every point writes. -/
theorem outs (c : Dev nD) (t : Fin cfg0.N) : (outsAt0 m c t.val t.isLt).1 = k0_pay2 (iblk m c 0 t) (k0_pay1 (iblk m c 1 t)) :=
  congrArg Prod.fst (Cert.Project.kept (outsAt0 m c) (fun t => k0_pay2 (iblk m c 0 t)) (fun t => k0_pay1 (iblk m c 1 t)) (open_A m c) (open_B m c)
    (fun t t' h => congrArg k0_pay1 (by
      have h0 := idx t
      have h1 := idx t'
      funext y
      blk_ext [iblk, h0, h1])) t)

end Body

section Value
open Cert.Kernel5Ideal Cert.Kernel5Ideal.Gen

variable (m : (ℓ : Loc nD τ sig) → Buf (Elt Ideal) ℓ)

/-- One point's tile at an index. -/
theorem tile_apply (a : Vec Ideal S512x4096 .bf16) (w : Vec Ideal S4096x1024 .f32) (r : Fin 512) (e : Fin 1024) :
    k0_pay2 a (k0_pay1 w) (ix2 r e) = ∑ d : Fin 4096, a (ix2 r d) * w (ix2 d e) := by
  pointwise [k0_pay2, k0_pay1]

end Value

section Reference
open Cert.Reference5Ideal Cert.Reference5Ideal.Gen

/-- The reference's result from its arguments. -/
def refOut {F : FTy → Type} [FloatOps F] (x : FVec F S2x4096x4096 .f32) (z : FVec F S2x256x4096 .f32) (w : FVec F S4096x20480 .f32) : FVec F S8704x8192 .f32 :=
  concatenate S8704x8192 1 [⟨S8704x4096, (extractStridedSlice S8704x4096 ![0, 8192] (concatenate S8704x20480 0 [⟨S8192x20480, (shapeCast _ (Host.dotGeneral dot_S2x4096x4096_S4096x20480_S2x4096x20480_2_0_01_1_n_n none x w) shapeCasts_S2x4096x20480_S8192x20480)⟩, ⟨S512x20480, (shapeCast _ (Host.dotGeneral dot_S2x256x4096_S4096x20480_S2x256x20480_2_0_01_1_n_n none z w) shapeCasts_S2x256x20480_S512x20480)⟩] concatenates_S8192x20480_S512x20480_S8704x20480_d0) slices_S8704x20480_S8704x4096_0_8192)⟩, ⟨S8704x4096, (extractStridedSlice S8704x4096 ![0, 12288] (concatenate S8704x20480 0 [⟨S8192x20480, (shapeCast _ (Host.dotGeneral dot_S2x4096x4096_S4096x20480_S2x4096x20480_2_0_01_1_n_n none x w) shapeCasts_S2x4096x20480_S8192x20480)⟩, ⟨S512x20480, (shapeCast _ (Host.dotGeneral dot_S2x256x4096_S4096x20480_S2x256x20480_2_0_01_1_n_n none z w) shapeCasts_S2x256x20480_S512x20480)⟩] concatenates_S8192x20480_S512x20480_S8704x20480_d0) slices_S8704x20480_S8704x4096_0_12288)⟩] concatenates_S8704x4096_S8704x4096_S8704x8192_d1

/-- The reference's run ends with it. -/
theorem ref_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = refOut (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference5Ideal.Value.run m ρ

theorem refOut_apply (x : FVec Ideal S2x4096x4096 .f32) (z : FVec Ideal S2x256x4096 .f32) (w : FVec Ideal S4096x20480 .f32) (R : Fin 8704) (C : Fin 8192) :
    refOut x z w (ix2 R C) = ∑ d : Fin 4096, (if h : R.val < 8192 then x (ix3 ⟨R.val / 4096, by omega⟩ ⟨R.val % 4096, by omega⟩ d)
        else z (ix3 ⟨(R.val - 8192) / 256, by omega⟩ ⟨(R.val - 8192) % 256, by omega⟩ d)) * w (ix2 d ⟨8192 + C.val, by omega⟩) := by
  by_cases hC : C.val < 4096 <;> by_cases hR : R.val < 8192
  all_goals
    unfold refOut
    pointwise
    simp only [hC, hR, ↓reduceDIte]
    try simp only [show 12288 + (C.val - 4096) = 8192 + C.val by omega]

end Reference

section Final
open Cert.Kernel5Ideal Cert.Kernel5Ideal.Gen

variable (m : (ℓ : Loc nD τ sig) → Buf (Elt Ideal) ℓ) (c : Dev nD)

theorem blk_x (t : Fin cfg0.N) (r : Fin 512) (d : Fin 4096) (R : Fin 8704) (hR : R.val = 512 * (t.val % 17) + r.val) :
    iblk m c 0 t (ix2 r d) = V m c main_v3 (ix2 R d) := by
  blk_ext [iblk, idx t]

theorem blk_w (t : Fin cfg0.N) (d : Fin 4096) (e : Fin 1024) (C : Fin 20480) (hC : C.val = 1024 * (8 + t.val / 17) + e.val) :
    iblk m c 1 t (ix2 d e) = V m c main_arg2 (ix2 d C) := by
  blk_ext [iblk, idx t]

/-- The kernel's output array. -/
theorem final (x : FVec Ideal S2x4096x4096 .f32) (e0 : m ((c.tc : Thread nD τ).loc main_arg0) = x)
    (z : FVec Ideal S2x256x4096 .f32) (e1 : m ((c.tc : Thread nD τ).loc main_arg1) = z)
    (w : FVec Ideal S4096x20480 .f32) (e2 : m ((c.tc : Thread nD τ).loc main_arg2) = w) :
    (dats m 0 c).arrAt 2 cfg0.N = refOut x z w := by
  have hp : ∀ (t : Fin cfg0.N) (r : Fin 512) (e : Fin 1024) (R : Fin 8704) (C : Fin 8192), R.val = 512 * (t.val % 17) + r.val →
      C.val = 1024 * (t.val / 17) + e.val → (outsAt0 m c t.val t.isLt).1 (ix2 r e) = refOut x z w (ix2 R C) := by
    intro t r e R C hR hC
    rw [outs m c t, tile_apply, refOut_apply]
    refine Finset.sum_congr rfl fun d _ => ?_
    rw [blk_x m c t r d R hR, blk_w m c t d e ⟨8192 + C.val, by omega⟩ (by dsimp only; omega)]
    refine congrArg₂ (fun a b : EReal => a * b) ?_ ?_
    · subst e0 e1
      exact Cert.Project.rows_apply _ _ R d
    · rw [V_main_arg2, e2]
  generalize refOut x z w = G at hp ⊢
  refine (dats m 0 c).arrAt_eq_of_covers 2 _ (by decide +kernel) fun t _ y => ?_
  blk_simp
  rw [after0_2]
  obtain ⟨r, e, rfl⟩ : ∃ (r : Fin 512) (e : Fin 1024), y = ix2 r e := ⟨y 0, y 1, eq_ix2 y⟩
  have ht : t.val < 136 := t.isLt
  refine (hp t r e ⟨512 * (t.val % 17) + r.val, by omega⟩ ⟨1024 * (t.val / 17) + e.val, by omega⟩ rfl rfl).trans ?_
  blk_ext [idx t]

end Final

end Cert.ProjectGates
end
-- ==== Proof.ProjectOut.lean ====
/-
  THE INPUT PROJECTION TO THE OUTPUT GATE. As Project.lean's, from column 16384 of the weights on.
-/
module

public import proofs.«01_k».proof.Proof.Gen.Kernel6Ideal.Value
public import proofs.«01_k».proof.Proof.Gen.Reference6Ideal.Run
public import proofs.«01_k».proof.Proof.Project

@[expose] public section

set_option maxRecDepth 16384

noncomputable section

namespace Cert.ProjectOut

open Idealize.ShloMosaic Idealize.ShloMosaic.TcCoe Idealize.SL.Sem

section Body
open Cert.Kernel6Ideal Cert.Kernel6Ideal.Gen

variable {F : FTy → Type} [FloatOps F] (m : (ℓ : Loc nD τ sig) → Buf (Elt F) ℓ)

theorem idx : ∀ t : Fin grid0.N, (win0_0.index t 0 = t.val % 17 ∧ win0_0.index t 1 = 0) ∧ (win0_1.index t 0 = 0 ∧ win0_1.index t 1 = 16 + t.val / 17)
    ∧ win0_2.index t 0 = t.val % 17 ∧ win0_2.index t 1 = t.val / 17 := by decide +kernel

theorem open_A (c : Dev nD) (t : Fin cfg0.N) (h0 : t.val % 17 = 0) :
    outsAt0 m c t.val t.isLt = (k0_pay2 (iblk m c 0 t) (k0_pay1 (iblk m c 1 t)), k0_pay1 (iblk m c 1 t)) := by
  rw [outsAt0_A m c t h0]
  refine Prod.ext ?_ ?_
  · dsimp only
    unfold out0_A_2
    frame_open
    simp (disch := decide) only [↓ View.readCov_skip, ↓ View.readCov_cons_toLoadRect, ↓ View.readCov_fill]
    frame_out
  · dsimp only
    unfold sout0_A_0
    frame_open
    frame_out

theorem open_B (c : Dev nD) (t : Fin cfg0.N) (h0 : ¬t.val % 17 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  refine Prod.ext ?_ ?_
  · dsimp only
    unfold out0_B_2
    frame_open
    frame_out
    exact congrArg _ (Memref.IsWhole.read_unread (Memref.isWhole_whole cc0_scratch0) _)
  · dsimp only
    unfold sout0_B_0
    rfl

/-- What every point writes. -/
theorem outs (c : Dev nD) (t : Fin cfg0.N) : (outsAt0 m c t.val t.isLt).1 = k0_pay2 (iblk m c 0 t) (k0_pay1 (iblk m c 1 t)) :=
  congrArg Prod.fst (Cert.Project.kept (outsAt0 m c) (fun t => k0_pay2 (iblk m c 0 t)) (fun t => k0_pay1 (iblk m c 1 t)) (open_A m c) (open_B m c)
    (fun t t' h => congrArg k0_pay1 (by
      have h0 := idx t
      have h1 := idx t'
      funext y
      blk_ext [iblk, h0, h1])) t)

end Body

section Value
open Cert.Kernel6Ideal Cert.Kernel6Ideal.Gen

variable (m : (ℓ : Loc nD τ sig) → Buf (Elt Ideal) ℓ)

/-- One point's tile at an index. -/
theorem tile_apply (a : Vec Ideal S512x4096 .bf16) (w : Vec Ideal S4096x1024 .f32) (r : Fin 512) (e : Fin 1024) :
    k0_pay2 a (k0_pay1 w) (ix2 r e) = ∑ d : Fin 4096, a (ix2 r d) * w (ix2 d e) := by
  pointwise [k0_pay2, k0_pay1]

end Value

section Reference
open Cert.Reference6Ideal Cert.Reference6Ideal.Gen

/-- The reference's result from its arguments. -/
def refOut {F : FTy → Type} [FloatOps F] (x : FVec F S2x4096x4096 .f32) (z : FVec F S2x256x4096 .f32) (w : FVec F S4096x20480 .f32) : FVec F S8704x4096 .bf16 :=
  truncf .bf16 (extractStridedSlice S8704x4096 ![0, 16384] (concatenate S8704x20480 0 [⟨S8192x20480, (shapeCast _ (Host.dotGeneral dot_S2x4096x4096_S4096x20480_S2x4096x20480_2_0_01_1_n_n none x w) shapeCasts_S2x4096x20480_S8192x20480)⟩, ⟨S512x20480, (shapeCast _ (Host.dotGeneral dot_S2x256x4096_S4096x20480_S2x256x20480_2_0_01_1_n_n none z w) shapeCasts_S2x256x20480_S512x20480)⟩] concatenates_S8192x20480_S512x20480_S8704x20480_d0) slices_S8704x20480_S8704x4096_0_16384) bitsLt_bf16_f32

/-- The reference's run ends with it. -/
theorem ref_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = refOut (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference6Ideal.Value.run m ρ

theorem refOut_apply (x : FVec Ideal S2x4096x4096 .f32) (z : FVec Ideal S2x256x4096 .f32) (w : FVec Ideal S4096x20480 .f32) (R : Fin 8704) (C : Fin 4096) :
    refOut x z w (ix2 R C) = ∑ d : Fin 4096, (if h : R.val < 8192 then x (ix3 ⟨R.val / 4096, by omega⟩ ⟨R.val % 4096, by omega⟩ d)
        else z (ix3 ⟨(R.val - 8192) / 256, by omega⟩ ⟨(R.val - 8192) % 256, by omega⟩ d)) * w (ix2 d ⟨16384 + C.val, by omega⟩) := by
  by_cases hR : R.val < 8192
  all_goals
    unfold refOut
    pointwise
    simp only [hR, ↓reduceDIte]

end Reference

section Final
open Cert.Kernel6Ideal Cert.Kernel6Ideal.Gen

variable (m : (ℓ : Loc nD τ sig) → Buf (Elt Ideal) ℓ) (c : Dev nD)

theorem blk_x (t : Fin cfg0.N) (r : Fin 512) (d : Fin 4096) (R : Fin 8704) (hR : R.val = 512 * (t.val % 17) + r.val) :
    iblk m c 0 t (ix2 r d) = V m c main_v3 (ix2 R d) := by
  blk_ext [iblk, idx t]

theorem blk_w (t : Fin cfg0.N) (d : Fin 4096) (e : Fin 1024) (C : Fin 20480) (hC : C.val = 1024 * (16 + t.val / 17) + e.val) :
    iblk m c 1 t (ix2 d e) = V m c main_arg2 (ix2 d C) := by
  blk_ext [iblk, idx t]

/-- The kernel's output array. -/
theorem final (x : FVec Ideal S2x4096x4096 .f32) (e0 : m ((c.tc : Thread nD τ).loc main_arg0) = x)
    (z : FVec Ideal S2x256x4096 .f32) (e1 : m ((c.tc : Thread nD τ).loc main_arg1) = z)
    (w : FVec Ideal S4096x20480 .f32) (e2 : m ((c.tc : Thread nD τ).loc main_arg2) = w) :
    (dats m 0 c).arrAt 2 cfg0.N = refOut x z w := by
  have hp : ∀ (t : Fin cfg0.N) (r : Fin 512) (e : Fin 1024) (R : Fin 8704) (C : Fin 4096), R.val = 512 * (t.val % 17) + r.val →
      C.val = 1024 * (t.val / 17) + e.val → (outsAt0 m c t.val t.isLt).1 (ix2 r e) = refOut x z w (ix2 R C) := by
    intro t r e R C hR hC
    rw [outs m c t, tile_apply, refOut_apply]
    refine Finset.sum_congr rfl fun d _ => ?_
    rw [blk_x m c t r d R hR, blk_w m c t d e ⟨16384 + C.val, by omega⟩ (by dsimp only; omega)]
    refine congrArg₂ (fun a b : EReal => a * b) ?_ ?_
    · subst e0 e1
      exact Cert.Project.rows_apply _ _ R d
    · rw [V_main_arg2, e2]
  generalize refOut x z w = G at hp ⊢
  refine (dats m 0 c).arrAt_eq_of_covers 2 _ (by decide +kernel) fun t _ y => ?_
  blk_simp
  rw [after0_2]
  obtain ⟨r, e, rfl⟩ : ∃ (r : Fin 512) (e : Fin 1024), y = ix2 r e := ⟨y 0, y 1, eq_ix2 y⟩
  have ht : t.val < 68 := t.isLt
  refine (hp t r e ⟨512 * (t.val % 17) + r.val, by omega⟩ ⟨1024 * (t.val / 17) + e.val, by omega⟩ rfl rfl).trans ?_
  blk_ext [idx t]

end Final

end Cert.ProjectOut
end
-- ==== Proof.ProjectEven.lean ====
/-
  THE EVEN LAYER'S INPUT PROJECTION to its linear attention's queries, keys, values and gate. As Project.lean's, the weights transposed, from column 6144 of them on.
-/
module

public import proofs.«01_k».proof.Proof.Gen.Kernel7Ideal.Value
public import proofs.«01_k».proof.Proof.Gen.Reference7Ideal.Run
public import proofs.«01_k».proof.Proof.Project

@[expose] public section

set_option maxRecDepth 16384

noncomputable section

namespace Cert.ProjectEven

open Idealize.ShloMosaic Idealize.ShloMosaic.TcCoe Idealize.SL.Sem

section Body
open Cert.Kernel7Ideal Cert.Kernel7Ideal.Gen

variable {F : FTy → Type} [FloatOps F] (m : (ℓ : Loc nD τ sig) → Buf (Elt F) ℓ)

theorem idx : ∀ t : Fin grid0.N, (win0_0.index t 0 = t.val % 17 ∧ win0_0.index t 1 = 0) ∧ (win0_1.index t 0 = 6 + t.val / 17 ∧ win0_1.index t 1 = 0)
    ∧ win0_2.index t 0 = t.val % 17 ∧ win0_2.index t 1 = t.val / 17 := by decide +kernel

theorem open_A (c : Dev nD) (t : Fin cfg0.N) (h0 : t.val % 17 = 0) :
    outsAt0 m c t.val t.isLt = (k0_pay2 (iblk m c 0 t) (k0_pay1 (X0_1 m c t)), k0_pay1 (X0_1 m c t)) := by
  rw [outsAt0_A m c t h0]
  refine Prod.ext ?_ ?_
  · dsimp only
    unfold out0_A_2
    frame_open
    simp (disch := decide) only [↓ View.readCov_skip, ↓ View.readCov_cons_toLoadRect, ↓ View.readCov_fill]
    frame_out
  · dsimp only
    unfold sout0_A_0
    frame_open
    frame_out

theorem open_B (c : Dev nD) (t : Fin cfg0.N) (h0 : ¬t.val % 17 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  refine Prod.ext ?_ ?_
  · dsimp only
    unfold out0_B_2
    frame_open
    frame_out
    exact congrArg _ (Memref.IsWhole.read_unread (Memref.isWhole_whole cc0_scratch0) _)
  · dsimp only
    unfold sout0_B_0
    rfl

/-- What every point writes. -/
theorem outs (c : Dev nD) (t : Fin cfg0.N) : (outsAt0 m c t.val t.isLt).1 = k0_pay2 (iblk m c 0 t) (k0_pay1 (X0_1 m c t)) :=
  congrArg Prod.fst (Cert.Project.kept (outsAt0 m c) (fun t => k0_pay2 (iblk m c 0 t)) (fun t => k0_pay1 (X0_1 m c t)) (open_A m c) (open_B m c)
    (fun t t' h => congrArg k0_pay1 (by
      have h0 := idx t
      have h1 := idx t'
      funext y
      unfold X0_1 Pipeline.Window.fill
      rw [dif_pos (moved0_1 t _), dif_pos (moved0_1 t' _)]
      blk_ext [iblk, h0, h1])) t)

end Body

section Value
open Cert.Kernel7Ideal Cert.Kernel7Ideal.Gen

variable (m : (ℓ : Loc nD τ sig) → Buf (Elt Ideal) ℓ)

/-- One point's tile at an index. -/
theorem tile_apply (a : Vec Ideal S512x4096 .bf16) (w : Vec Ideal S1024x4096 .f32) (r : Fin 512) (e : Fin 1024) :
    k0_pay2 a (k0_pay1 w) (ix2 r e) = ∑ d : Fin 4096, a (ix2 r d) * w (ix2 e d) := by
  pointwise [k0_pay2, k0_pay1]

/-- The weights the kernel is handed, at an index. -/
theorem wt_apply (w : FVec Ideal S4096x12320 .f32) (C : Fin 12320) (d : Fin 4096) :
    (transpose S12320x4096 [1, 0] w transposes_S4096x12320_S12320x4096_1_0 : FVec Ideal S12320x4096 .f32) (ix2 C d) = w (ix2 d C) := by
  pointwise

end Value

section Reference
open Cert.Reference7Ideal Cert.Reference7Ideal.Gen

/-- The reference's result from its arguments. -/
def refOut {F : FTy → Type} [FloatOps F] (x : FVec F S2x4096x4096 .f32) (z : FVec F S2x256x4096 .f32) (w : FVec F S4096x12320 .f32) : FVec F S8704x6144 .bf16 :=
  truncf .bf16 ((concatenate S8704x6144 1 [⟨S8704x1024, ((extractStridedSlice S8704x1024 ![0, 6144] (concatenate S8704x12320 0 [⟨S8192x12320, (shapeCast _ (Host.dotGeneral dot_S2x4096x4096_S4096x12320_S2x4096x12320_2_0_01_1_n_n none x w) shapeCasts_S2x4096x12320_S8192x12320)⟩, ⟨S512x12320, (shapeCast _ (Host.dotGeneral dot_S2x256x4096_S4096x12320_S2x256x12320_2_0_01_1_n_n none z w) shapeCasts_S2x256x12320_S512x12320)⟩] concatenates_S8192x12320_S512x12320_S8704x12320_d0) slices_S8704x12320_S8704x1024_0_6144) : (⟨S8704x1024, .f32⟩ : BufTy).Contents (Elt F))⟩, ⟨S8704x1024, ((extractStridedSlice S8704x1024 ![0, 7168] (concatenate S8704x12320 0 [⟨S8192x12320, (shapeCast _ (Host.dotGeneral dot_S2x4096x4096_S4096x12320_S2x4096x12320_2_0_01_1_n_n none x w) shapeCasts_S2x4096x12320_S8192x12320)⟩, ⟨S512x12320, (shapeCast _ (Host.dotGeneral dot_S2x256x4096_S4096x12320_S2x256x12320_2_0_01_1_n_n none z w) shapeCasts_S2x256x12320_S512x12320)⟩] concatenates_S8192x12320_S512x12320_S8704x12320_d0) slices_S8704x12320_S8704x1024_0_7168) : (⟨S8704x1024, .f32⟩ : BufTy).Contents (Elt F))⟩, ⟨S8704x2048, ((extractStridedSlice S8704x2048 ![0, 8192] (concatenate S8704x12320 0 [⟨S8192x12320, (shapeCast _ (Host.dotGeneral dot_S2x4096x4096_S4096x12320_S2x4096x12320_2_0_01_1_n_n none x w) shapeCasts_S2x4096x12320_S8192x12320)⟩, ⟨S512x12320, (shapeCast _ (Host.dotGeneral dot_S2x256x4096_S4096x12320_S2x256x12320_2_0_01_1_n_n none z w) shapeCasts_S2x256x12320_S512x12320)⟩] concatenates_S8192x12320_S512x12320_S8704x12320_d0) slices_S8704x12320_S8704x2048_0_8192) : (⟨S8704x2048, .f32⟩ : BufTy).Contents (Elt F))⟩, ⟨S8704x2048, ((extractStridedSlice S8704x2048 ![0, 10240] (concatenate S8704x12320 0 [⟨S8192x12320, (shapeCast _ (Host.dotGeneral dot_S2x4096x4096_S4096x12320_S2x4096x12320_2_0_01_1_n_n none x w) shapeCasts_S2x4096x12320_S8192x12320)⟩, ⟨S512x12320, (shapeCast _ (Host.dotGeneral dot_S2x256x4096_S4096x12320_S2x256x12320_2_0_01_1_n_n none z w) shapeCasts_S2x256x12320_S512x12320)⟩] concatenates_S8192x12320_S512x12320_S8704x12320_d0) slices_S8704x12320_S8704x2048_0_10240) : (⟨S8704x2048, .f32⟩ : BufTy).Contents (Elt F))⟩] concatenates_S8704x1024_S8704x1024_S8704x2048_S8704x2048_S8704x6144_d1 : (⟨S8704x6144, .f32⟩ : BufTy).Contents (Elt F))) bitsLt_bf16_f32

/-- The reference's run ends with it. -/
theorem ref_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = refOut (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference7Ideal.Value.run m ρ

theorem refOut_apply (x : FVec Ideal S2x4096x4096 .f32) (z : FVec Ideal S2x256x4096 .f32) (w : FVec Ideal S4096x12320 .f32) (R : Fin 8704) (C : Fin 6144) :
    refOut x z w (ix2 R C) = ∑ d : Fin 4096, (if h : R.val < 8192 then x (ix3 ⟨R.val / 4096, by omega⟩ ⟨R.val % 4096, by omega⟩ d)
        else z (ix3 ⟨(R.val - 8192) / 256, by omega⟩ ⟨(R.val - 8192) % 256, by omega⟩ d)) * w (ix2 d ⟨6144 + C.val, by omega⟩) := by
  by_cases hR : R.val < 8192
  all_goals
    unfold refOut
    pointwise
    simp only [hR, ↓reduceDIte]
    split_ifs
    all_goals
      refine Finset.sum_congr rfl fun d _ => congrArg₂ (fun a b : EReal => a * b) rfl (congrArg (fun k => w (ix2 d k)) (Fin.ext ?_))
      dsimp only
      try omega

end Reference

section Final
open Cert.Kernel7Ideal Cert.Kernel7Ideal.Gen

variable (m : (ℓ : Loc nD τ sig) → Buf (Elt Ideal) ℓ) (c : Dev nD)

theorem blk_x (t : Fin cfg0.N) (r : Fin 512) (d : Fin 4096) (R : Fin 8704) (hR : R.val = 512 * (t.val % 17) + r.val) :
    iblk m c 0 t (ix2 r d) = V m c main_v3 (ix2 R d) := by
  blk_ext [iblk, idx t]

theorem blk_w (t : Fin cfg0.N) (d : Fin 4096) (e : Fin 1024) (C : Fin 12320) (hC : C.val = 1024 * (6 + t.val / 17) + e.val) :
    X0_1 m c t (ix2 e d) = V m c main_v4 (ix2 C d) := by
  unfold X0_1 Pipeline.Window.fill
  rw [dif_pos (moved0_1 t _)]
  blk_ext [iblk, idx t]

/-- The kernel's output array. -/
theorem final (x : FVec Ideal S2x4096x4096 .f32) (e0 : m ((c.tc : Thread nD τ).loc main_arg0) = x)
    (z : FVec Ideal S2x256x4096 .f32) (e1 : m ((c.tc : Thread nD τ).loc main_arg1) = z)
    (w : FVec Ideal S4096x12320 .f32) (e2 : m ((c.tc : Thread nD τ).loc main_arg2) = w) :
    (dats m 0 c).arrAt 2 cfg0.N = refOut x z w := by
  have hp : ∀ (t : Fin cfg0.N) (r : Fin 512) (e : Fin 1024) (R : Fin 8704) (C : Fin 6144), R.val = 512 * (t.val % 17) + r.val →
      C.val = 1024 * (t.val / 17) + e.val → (outsAt0 m c t.val t.isLt).1 (ix2 r e) = refOut x z w (ix2 R C) := by
    intro t r e R C hR hC
    rw [outs m c t, tile_apply, refOut_apply]
    refine Finset.sum_congr rfl fun d _ => ?_
    rw [blk_x m c t r d R hR, blk_w m c t d e ⟨6144 + C.val, by omega⟩ (by dsimp only; omega)]
    refine congrArg₂ (fun a b : EReal => a * b) ?_ ?_
    · subst e0 e1
      exact Cert.Project.rows_apply _ _ R d
    · subst e2
      exact wt_apply _ _ d
  generalize refOut x z w = G at hp ⊢
  refine (dats m 0 c).arrAt_eq_of_covers 2 _ (by decide +kernel) fun t _ y => ?_
  blk_simp
  rw [after0_2]
  obtain ⟨r, e, rfl⟩ : ∃ (r : Fin 512) (e : Fin 1024), y = ix2 r e := ⟨y 0, y 1, eq_ix2 y⟩
  have ht : t.val < 102 := t.isLt
  refine (hp t r e ⟨512 * (t.val % 17) + r.val, by omega⟩ ⟨1024 * (t.val / 17) + e.val, by omega⟩ rfl rfl).trans ?_
  blk_ext [idx t]

end Final

end Cert.ProjectEven
end
-- ==== Proof.OutRun.lean ====
module

public import proofs.«01_k».proof.Proof.Gen.Kernel8Ideal.Frame
public import proofs.«01_k».proof.Proof.Gen.Kernel8Ideal.Skeleton
public import Idealize.ShloMosaic.Lib.Exec

@[expose] public section

set_option maxRecDepth 16384

noncomputable section

/-! The body of the output-projection kernel, run once in each of its parts. -/

namespace Cert.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen

variable {F : FTy → Type} [FloatOps F]

local notation "𝕄" => MT nD τ sig Unit (Elt F) ℕ (UR sig nD τ) ℕ

/-- The text of a step that adds its product to the block. -/
def acc (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) :
    Prog (TpuEff nD τ sig (Elt F) Λ₀ .tc) PUnit := do
  let ⟨v19, v46⟩ : Σ' (v19 : FVec F S512x512 .bf16), FVec F S512x512 .f32 ← k0_part2 i arg2 harg2 arg3 harg3 arg4 harg4 arg5 harg5 arg6 harg6 arg7 harg7 arg8 harg8 arg9 harg9 arg10 harg10 arg11 harg11 arg12 harg12
  let v74 : FVec F S512x512 .f32 ← k0_part3 i arg2 harg2 arg3 harg3 arg4 harg4 arg5 harg5 arg6 harg6 arg7 harg7 arg8 harg8 arg9 harg9 arg10 harg10 arg11 harg11 arg12 harg12 v19 v46
  let v75 : Vec F S512x512 .f32 ← Prog.lift (.load arg10 (Rect.unit (s := S512x4096) ![0, 3584] S512x512.size inb_S512x4096_S512x512_0_3584).toLoadRect (View.loadsAt_vmem h_S512x512))
  Prog.lift (.store arg10 (Rect.unit (s := S512x4096) ![0, 3584] S512x512.size inb_S512x4096_S512x512_0_3584) v74 Finset.univ (View.stores_vmem_bits_univ h_S512x512 rfl) (.inl rfl))
  pure ⟨⟩

/-- Between the first and the last step of a block the body is that text. -/
theorem text_mid (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)
    (h1 : ¬(k0_cond1 i = 1#1)) (h2 : ¬(k0_cond2 i = 1#1)) (h3 : k0_cond3 i = 1#1) (h4 : ¬(k0_cond4 i = 1#1)) :
    cc0_matmul_layernorm (F := F) i arg2 harg2 arg3 harg3 arg4 harg4 arg5 harg5 arg6 harg6 arg7 harg7 arg8 harg8 arg9 harg9 arg10 harg10 arg11 harg11 arg12 harg12 = (do acc i arg2 harg2 arg3 harg3 arg4 harg4 arg5 harg5 arg6 harg6 arg7 harg7 arg8 harg8 arg9 harg9 arg10 harg10 arg11 harg11 arg12 harg12; pure ⟨⟩) := by
  rw [cc0_matmul_layernorm_eq_skeleton]
  unfold cc0_matmul_layernorm_skel
  rw [dif_neg h1, dif_neg h2, dif_pos h3, dif_neg h4]
  rfl

/-- At the last step of a block the body is that text and then the loop over the rows. -/
theorem text_last (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)
    (h1 : ¬(k0_cond1 i = 1#1)) (h2 : ¬(k0_cond2 i = 1#1)) (h3 : k0_cond3 i = 1#1) (h4 : k0_cond4 i = 1#1) :
    cc0_matmul_layernorm (F := F) i arg2 harg2 arg3 harg3 arg4 harg4 arg5 harg5 arg6 harg6 arg7 harg7 arg8 harg8 arg9 harg9 arg10 harg10 arg11 harg11 arg12 harg12 = (do acc i arg2 harg2 arg3 harg3 arg4 harg4 arg5 harg5 arg6 harg6 arg7 harg7 arg8 harg8 arg9 harg9 arg10 harg10 arg11 harg11 arg12 harg12; Scf.Loop.for k0_t1_loop (k0_t1_ok i h4) ⟨⟩ (k0_t1_body i arg2 harg2 arg3 harg3 arg4 harg4 arg5 harg5 arg6 harg6 arg7 harg7 arg8 harg8 arg9 harg9 arg10 harg10 arg11 harg11 arg12 harg12 h4); pure ⟨⟩) := by
  rw [cc0_matmul_layernorm_eq_skeleton]
  unfold cc0_matmul_layernorm_skel
  rw [dif_neg h1, dif_neg h2, dif_pos h3, dif_pos h4]
  rfl

set_option maxHeartbeats 4000000 in
/-- The first step of a block: its product is the block. -/
def runA (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)
    (h1 : ¬(k0_cond1 i = 1#1)) (h2 : k0_cond2 i = 1#1) (h3 : ¬(k0_cond3 i = 1#1)) (h4 : ¬(k0_cond4 i = 1#1)) (x2 : Vec F S512x512 .bf16) (x3 : Vec F S512x4096 .bf16) (x10 : Vec F S512x4096 .f32) :
    { L : List (View.Piece (Elt F) S512x4096 .f32) // ∀ (E : Set ℕ) (K : PUnit → sProp 𝕄),
      iprop(owns (c : Thread nD τ) arg2 fullShare x2 ∗ owns (c : Thread nD τ) arg3 fullShare x3 ∗ owns (c : Thread nD τ) arg10 fullShare x10
          ∗ (iprop(owns (c : Thread nD τ) arg2 fullShare x2 ∗ owns (c : Thread nD τ) arg3 fullShare x3 ∗ (arg10.view.loc (c : Thread nD τ) ↦[arg10.view.set]{fullShare} arg10.view.writes (Elt F) (harg10.unread x10) L)) -∗ K ⟨⟩))
        ⊢ wp frame (wpE (defs₀ (F := F)) Variants.none c none) E (cc0_matmul_layernorm i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_matmul_layernorm_eq_skeleton]
    unfold cc0_matmul_layernorm_skel
    simp only [k0_part1_eq_skeleton]
    unfold owns
    iintro ⟨⟨%f2, %hf2, H2⟩, ⟨%f3, %hf3, H3⟩, ⟨%f10, %hf10, H10⟩, Hk⟩
    obtain rfl := harg2.eq_unread hf2; obtain rfl := harg3.eq_unread hf3; obtain rfl := harg10.eq_unread hf10
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    iexact H10

set_option maxHeartbeats 4000000 in
/-- A later step of a block: its product is added. -/
def runB (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)
     (x2 : Vec F S512x512 .bf16) (x3 : Vec F S512x4096 .bf16) (x10 : Vec F S512x4096 .f32) :
    { L : List (View.Piece (Elt F) S512x4096 .f32) // ∀ (E : Set ℕ) (K : PUnit → sProp 𝕄),
      iprop(owns (c : Thread nD τ) arg2 fullShare x2 ∗ owns (c : Thread nD τ) arg3 fullShare x3 ∗ owns (c : Thread nD τ) arg10 fullShare x10
          ∗ (iprop(owns (c : Thread nD τ) arg2 fullShare x2 ∗ owns (c : Thread nD τ) arg3 fullShare x3 ∗ (arg10.view.loc (c : Thread nD τ) ↦[arg10.view.set]{fullShare} arg10.view.writes (Elt F) (harg10.unread x10) L)) -∗ K ⟨⟩))
        ⊢ wp frame (wpE (defs₀ (F := F)) Variants.none c none) E (acc i arg2 harg2 arg3 harg3 arg4 harg4 arg5 harg5 arg6 harg6 arg7 harg7 arg8 harg8 arg9 harg9 arg10 harg10 arg11 harg11 arg12 harg12) K } := by
  refine ⟨?_, fun E K => ?run⟩
  case run =>
    unfold acc
    simp only [k0_part2_eq_skeleton, k0_part3_eq_skeleton]
    unfold owns
    iintro ⟨⟨%f2, %hf2, H2⟩, ⟨%f3, %hf3, H3⟩, ⟨%f10, %hf10, H10⟩, Hk⟩
    obtain rfl := harg2.eq_unread hf2; obtain rfl := harg3.eq_unread hf3; obtain rfl := harg10.eq_unread hf10
    sl_exec
    sl_step
    iapply Hk
    isplitl [H2]
    · iexists _; isplitr; · ipureintro; exact harg2.read_unread _
      iexact H2
    isplitl [H3]
    · iexists _; isplitr; · ipureintro; exact harg3.read_unread _
      iexact H3
    iexact H10

end Cert.Out

end
-- ==== Proof.OutRunC.lean ====
module

public import proofs.«01_k».proof.Proof.OutRun

@[expose] public section

set_option maxRecDepth 16384

noncomputable section

/-! One trip of the loop over the rows in the output-projection kernel. -/

namespace Cert.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen

variable {F : FTy → Type} [FloatOps F]

local notation "𝕄" => MT nD τ sig Unit (Elt F) ℕ (UR sig nD τ) ℕ

set_option maxHeartbeats 8000000 in
/-- One trip of the loop over the rows: thirty-two rows are normalised and modulated. -/
def runC (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)
    (h4 : k0_cond4 i = 1#1) (k : Fin k0_t1_loop.trips) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (x12 : Vec F S32x4096 .f32) :
    { L : List (View.Piece (Elt F) S512x4096 .f32) × List (View.Piece (Elt F) S512x4096 .bf16) // ∀ (E : Set ℕ) (K : PUnit → sProp 𝕄),
      iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
          ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (arg10.view.loc (c : Thread nD τ) ↦[arg10.view.set]{fullShare} arg10.view.writes (Elt F) (harg10.unread x10) L.1) ∗ (arg11.view.loc (c : Thread nD τ) ↦[arg11.view.set]{fullShare} arg11.view.writes (Elt F) (harg11.unread x11) L.2) ∗ (∃ d, owns (c : Thread nD τ) arg12 fullShare d)) -∗ K ⟨⟩))
        ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 h4 k ⟨⟩) K } := by
  refine ⟨(?_, ?_), fun E K => ?run⟩
  case run =>
    unfold k0_t1_body
    simp only [k0_part4_eq_skeleton, k0_part5_eq_skeleton, k0_part6_eq_skeleton, k0_part7_eq_skeleton, k0_part8_eq_skeleton]
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexact H10
    isplitl [H11]
    · iexact H11
    iexists _; iexists _; isplitr
    swap; · iexact H12
    ipureintro; rfl

end Cert.Out

end
-- ==== Proof.OutStep.lean ====
module

public import proofs.«01_k».proof.Proof.OutRunC
public import proofs.«01_k».proof.Proof.DownStep

@[expose] public section

set_option maxRecDepth 16384

noncomputable section

/-! What one step of the output-projection kernel leaves in its two blocks. -/

namespace Cert.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Down (col tile tiled first plus ld_whole ld_tile z2 z4 read_tiles line eight at_line ln8 norm norm_at done done_none done_all eight_done ld_eight read_lines)
open Cert.Kernel8Ideal Cert.Kernel8Ideal.Gen

variable {F : FTy → Type} [FloatOps F]

local notation "𝕄" => MT nD τ sig Unit (Elt F) ℕ (UR sig nD τ) ℕ

/-- The first step of a block. -/
theorem readA (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h1 : ¬(k0_cond1 i = 1#1)) (h2 : k0_cond2 i = 1#1) (h3 : ¬(k0_cond3 i = 1#1)) (h4 : ¬(k0_cond4 i = 1#1)) (x2 : Vec F S512x512 .bf16) (x3 : Vec F S512x4096 .bf16) (x10 : Vec F S512x4096 .f32) :
    arg10.view.read (Elt F) (arg10.view.writes (Elt F) (harg10.unread x10) (runA c i arg2 harg2 arg3 harg3 arg4 harg4 arg5 harg5 arg6 harg6 arg7 harg7 arg8 harg8 arg9 harg9 arg10 harg10 arg11 harg11 arg12 harg12 h1 h2 h3 h4 x2 x3 x10).1) = first x2 x3 := by
  have p : ∃ (q0 q1 q2 q3 q4 q5 q6 q7 : FVec F S512x512 .f32), (runA c i arg2 harg2 arg3 harg3 arg4 harg4 arg5 harg5 arg6 harg6 arg7 harg7 arg8 harg8 arg9 harg9 arg10 harg10 arg11 harg11 arg12 harg12 h1 h2 h3 h4 x2 x3 x10).1 = [⟨Rect.unit (s := S512x4096) ![0, 3584] S512x512.size inb_S512x4096_S512x512_0_3584, q7⟩, ⟨Rect.unit (s := S512x4096) ![0, 3072] S512x512.size inb_S512x4096_S512x512_0_3072, q6⟩, ⟨Rect.unit (s := S512x4096) ![0, 2560] S512x512.size inb_S512x4096_S512x512_0_2560, q5⟩, ⟨Rect.unit (s := S512x4096) ![0, 2048] S512x512.size inb_S512x4096_S512x512_0_2048, q4⟩, ⟨Rect.unit (s := S512x4096) ![0, 1536] S512x512.size inb_S512x4096_S512x512_0_1536, q3⟩, ⟨Rect.unit (s := S512x4096) ![0, 1024] S512x512.size inb_S512x4096_S512x512_0_1024, q2⟩, ⟨Rect.unit (s := S512x4096) ![0, 512] S512x512.size inb_S512x4096_S512x512_0_512, q1⟩, ⟨Rect.unit (s := S512x4096) ![0, 0] S512x512.size inb_S512x4096_S512x512_0_0, q0⟩] ∧ q0 = k0_pay8 x2 (tile 0 x3) ∧ q1 = k0_pay8 x2 (tile 1 x3) ∧ q2 = k0_pay8 x2 (tile 2 x3) ∧ q3 = k0_pay8 x2 (tile 3 x3) ∧ q4 = k0_pay8 x2 (tile 4 x3) ∧ q5 = k0_pay8 x2 (tile 5 x3) ∧ q6 = k0_pay8 x2 (tile 6 x3) ∧ q7 = k0_pay8 x2 (tile 7 x3) := by
    refine ⟨_, _, _, _, _, _, _, _, rfl, ?_, ?_, ?_, ?_, ?_, ?_, ?_, ?_⟩
    · conv_rhs => rw [← ld_whole harg2 x2 _ z2 inb_S512x512_S512x512_0_0, ← ld_tile harg3 x3 0 0 rfl inb_S512x4096_S512x512_0_0]
      try rfl
    · conv_rhs => rw [← ld_whole harg2 x2 _ z2 inb_S512x512_S512x512_0_0, ← ld_tile harg3 x3 1 512 rfl inb_S512x4096_S512x512_0_512]
      try rfl
    · conv_rhs => rw [← ld_whole harg2 x2 _ z2 inb_S512x512_S512x512_0_0, ← ld_tile harg3 x3 2 1024 rfl inb_S512x4096_S512x512_0_1024]
      try rfl
    · conv_rhs => rw [← ld_whole harg2 x2 _ z2 inb_S512x512_S512x512_0_0, ← ld_tile harg3 x3 3 1536 rfl inb_S512x4096_S512x512_0_1536]
      try rfl
    · conv_rhs => rw [← ld_whole harg2 x2 _ z2 inb_S512x512_S512x512_0_0, ← ld_tile harg3 x3 4 2048 rfl inb_S512x4096_S512x512_0_2048]
      try rfl
    · conv_rhs => rw [← ld_whole harg2 x2 _ z2 inb_S512x512_S512x512_0_0, ← ld_tile harg3 x3 5 2560 rfl inb_S512x4096_S512x512_0_2560]
      try rfl
    · conv_rhs => rw [← ld_whole harg2 x2 _ z2 inb_S512x512_S512x512_0_0, ← ld_tile harg3 x3 6 3072 rfl inb_S512x4096_S512x512_0_3072]
      try rfl
    · conv_rhs => rw [← ld_whole harg2 x2 _ z2 inb_S512x512_S512x512_0_0, ← ld_tile harg3 x3 7 3584 rfl inb_S512x4096_S512x512_0_3584]
      try rfl
  obtain ⟨q0, q1, q2, q3, q4, q5, q6, q7, hp, e0, e1, e2, e3, e4, e5, e6, e7⟩ := p
  rw [hp]
  refine (read_tiles harg10 x10 q0 q1 q2 q3 q4 q5 q6 q7).trans ?_
  rw [e0, e1, e2, e3, e4, e5, e6, e7]
  refine congrArg tiled (funext fun n => ?_)
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A later step of a block. -/
theorem readB (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)  (x2 : Vec F S512x512 .bf16) (x3 : Vec F S512x4096 .bf16) (x10 : Vec F S512x4096 .f32) :
    arg10.view.read (Elt F) (arg10.view.writes (Elt F) (harg10.unread x10) (runB c i arg2 harg2 arg3 harg3 arg4 harg4 arg5 harg5 arg6 harg6 arg7 harg7 arg8 harg8 arg9 harg9 arg10 harg10 arg11 harg11 arg12 harg12 x2 x3 x10).1) = plus x2 x3 x10 := by
  have p : ∃ (q0 q1 q2 q3 q4 q5 q6 q7 : FVec F S512x512 .f32), (runB c i arg2 harg2 arg3 harg3 arg4 harg4 arg5 harg5 arg6 harg6 arg7 harg7 arg8 harg8 arg9 harg9 arg10 harg10 arg11 harg11 arg12 harg12 x2 x3 x10).1 = [⟨Rect.unit (s := S512x4096) ![0, 3584] S512x512.size inb_S512x4096_S512x512_0_3584, q7⟩, ⟨Rect.unit (s := S512x4096) ![0, 3072] S512x512.size inb_S512x4096_S512x512_0_3072, q6⟩, ⟨Rect.unit (s := S512x4096) ![0, 2560] S512x512.size inb_S512x4096_S512x512_0_2560, q5⟩, ⟨Rect.unit (s := S512x4096) ![0, 2048] S512x512.size inb_S512x4096_S512x512_0_2048, q4⟩, ⟨Rect.unit (s := S512x4096) ![0, 1536] S512x512.size inb_S512x4096_S512x512_0_1536, q3⟩, ⟨Rect.unit (s := S512x4096) ![0, 1024] S512x512.size inb_S512x4096_S512x512_0_1024, q2⟩, ⟨Rect.unit (s := S512x4096) ![0, 512] S512x512.size inb_S512x4096_S512x512_0_512, q1⟩, ⟨Rect.unit (s := S512x4096) ![0, 0] S512x512.size inb_S512x4096_S512x512_0_0, q0⟩] ∧ q0 = k0_pay15 x2 (tile 0 x3) (tile 0 x10) ∧ q1 = k0_pay15 x2 (tile 1 x3) (tile 1 x10) ∧ q2 = k0_pay15 x2 (tile 2 x3) (tile 2 x10) ∧ q3 = k0_pay15 x2 (tile 3 x3) (tile 3 x10) ∧ q4 = k0_pay15 x2 (tile 4 x3) (tile 4 x10) ∧ q5 = k0_pay15 x2 (tile 5 x3) (tile 5 x10) ∧ q6 = k0_pay15 x2 (tile 6 x3) (tile 6 x10) ∧ q7 = k0_pay15 x2 (tile 7 x3) (tile 7 x10) := by
    refine ⟨_, _, _, _, _, _, _, _, rfl, ?_, ?_, ?_, ?_, ?_, ?_, ?_, ?_⟩
    · conv_rhs => rw [← ld_whole harg2 x2 _ z2 inb_S512x512_S512x512_0_0, ← ld_tile harg3 x3 0 0 rfl inb_S512x4096_S512x512_0_0, ← ld_tile harg10 x10 0 0 rfl inb_S512x4096_S512x512_0_0]
      try rfl
    · conv_rhs => rw [← ld_whole harg2 x2 _ z2 inb_S512x512_S512x512_0_0, ← ld_tile harg3 x3 1 512 rfl inb_S512x4096_S512x512_0_512, ← ld_tile harg10 x10 1 512 rfl inb_S512x4096_S512x512_0_512]
      try rfl
    · conv_rhs => rw [← ld_whole harg2 x2 _ z2 inb_S512x512_S512x512_0_0, ← ld_tile harg3 x3 2 1024 rfl inb_S512x4096_S512x512_0_1024, ← ld_tile harg10 x10 2 1024 rfl inb_S512x4096_S512x512_0_1024]
      try rfl
    · conv_rhs => rw [← ld_whole harg2 x2 _ z2 inb_S512x512_S512x512_0_0, ← ld_tile harg3 x3 3 1536 rfl inb_S512x4096_S512x512_0_1536, ← ld_tile harg10 x10 3 1536 rfl inb_S512x4096_S512x512_0_1536]
      try rfl
    · conv_rhs => rw [← ld_whole harg2 x2 _ z2 inb_S512x512_S512x512_0_0, ← ld_tile harg3 x3 4 2048 rfl inb_S512x4096_S512x512_0_2048, ← ld_tile harg10 x10 4 2048 rfl inb_S512x4096_S512x512_0_2048]
      try rfl
    · conv_rhs => rw [← ld_whole harg2 x2 _ z2 inb_S512x512_S512x512_0_0, ← ld_tile harg3 x3 5 2560 rfl inb_S512x4096_S512x512_0_2560, ← ld_tile harg10 x10 5 2560 rfl inb_S512x4096_S512x512_0_2560]
      try rfl
    · conv_rhs => rw [← ld_whole harg2 x2 _ z2 inb_S512x512_S512x512_0_0, ← ld_tile harg3 x3 6 3072 rfl inb_S512x4096_S512x512_0_3072, ← ld_tile harg10 x10 6 3072 rfl inb_S512x4096_S512x512_0_3072]
      try rfl
    · conv_rhs => rw [← ld_whole harg2 x2 _ z2 inb_S512x512_S512x512_0_0, ← ld_tile harg3 x3 7 3584 rfl inb_S512x4096_S512x512_0_3584, ← ld_tile harg10 x10 7 3584 rfl inb_S512x4096_S512x512_0_3584]
      try rfl
  obtain ⟨q0, q1, q2, q3, q4, q5, q6, q7, hp, e0, e1, e2, e3, e4, e5, e6, e7⟩ := p
  rw [hp]
  refine (read_tiles harg10 x10 q0 q1 q2 q3 q4 q5 q6 q7).trans ?_
  rw [e0, e1, e2, e3, e4, e5, e6, e7]
  refine congrArg tiled (funext fun n => ?_)
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem trips_eq : k0_t1_loop.trips = 16 := by decide +kernel

/-- The group of eight rows a trip's store writes. -/
def grp (k : Fin k0_t1_loop.trips) (s : Fin 4) : Fin 64 := ⟨4 * k.val + s.val, by have := lt_of_lt_of_eq k.isLt trips_eq; omega⟩

theorem off_grp : ∀ k : Fin k0_t1_loop.trips, k0_off1 k 0#32 = ![8 * (4 * k.val + 0), 0] ∧ k0_off1 k 8#32 = ![8 * (4 * k.val + 1), 0] ∧ k0_off1 k 16#32 = ![8 * (4 * k.val + 2), 0] ∧ k0_off1 k 24#32 = ![8 * (4 * k.val + 3), 0] := by decide +kernel

theorem off_rows : ∀ k : Fin k0_t1_loop.trips, k0_off2 k = ![32 * k.val, 0] := by decide +kernel

/-- Eight normalised rows with the next modulation. -/
def md8 (v : FVec F S8x4096 .f32) (sc sh : Vec F S1x1x1x4096 .f32) : FVec F S8x4096 .f32 := k0_pay43 v sc sh

/-- Four groups of eight rows. -/
def four (u : Fin 4 → FVec F S8x4096 .f32) : Vec F S32x4096 .f32 := fun z =>
  u ⟨(z 0).val / 8, by have : (z 0).val < 32 := (z 0).isLt; omega⟩ (ix2 ⟨(z 0).val % 8, by omega⟩ (z 1))

theorem at_four (y : S32x4096.Idx) : ∃ (s : Fin 4) (r : Fin 8) (e : Fin 4096), y = ix2 (⟨8 * s.val + r.val, by omega⟩ : Fin 32) e := by
  have b : (y 0).val < 32 := (y 0).isLt
  refine ⟨⟨(y 0).val / 8, by omega⟩, ⟨(y 0).val % 8, by omega⟩, y 1, ?_⟩
  rw [show (⟨8 * ((y 0).val / 8) + (y 0).val % 8, by omega⟩ : Fin 32) = y 0 from Fin.ext (by show 8 * ((y 0).val / 8) + (y 0).val % 8 = (y 0).val; omega)]
  exact eq_ix2 y

theorem four_at (u : Fin 4 → FVec F S8x4096 .f32) (s : Fin 4) (r : Fin 8) (e : Fin 4096) : four u (ix2 (⟨8 * s.val + r.val, by omega⟩ : Fin 32) e) = u s (ix2 r e) := by
  have hn : (⟨(8 * s.val + r.val) / 8, by omega⟩ : Fin 4) = s := Fin.ext (by show (8 * s.val + r.val) / 8 = s.val; omega)
  have he : (⟨(8 * s.val + r.val) % 8, by omega⟩ : Fin 8) = r := Fin.ext (by show (8 * s.val + r.val) % 8 = r.val; omega)
  show u ⟨(8 * s.val + r.val) / 8, _⟩ (ix2 ⟨(8 * s.val + r.val) % 8, _⟩ e) = _
  rw [hn, he]

/-- Four stores of eight rows each fill the scratch rows. -/
theorem read_four {sg : _} (m : Memref sg .tc .vmem S32x4096 .f32) (inb : ∀ a, (![0, 0] : Fin 2 → ℕ) a + S32x4096.size a ≤ S32x4096.size a) (u0 u1 u2 u3 : FVec F S8x4096 .f32) :
    m.view.readCov (Val := Elt F) [⟨Rect.unit (s := S32x4096) ![24, 0] S8x4096.size inb_S32x4096_S8x4096_24_0, u3⟩, ⟨Rect.unit (s := S32x4096) ![16, 0] S8x4096.size inb_S32x4096_S8x4096_16_0, u2⟩, ⟨Rect.unit (s := S32x4096) ![8, 0] S8x4096.size inb_S32x4096_S8x4096_8_0, u1⟩, ⟨Rect.unit (s := S32x4096) ![0, 0] S8x4096.size inb_S32x4096_S8x4096_0_0, u0⟩] (Rect.unit (s := S32x4096) ![0, 0] S32x4096.size inb).toLoadRect = four ![u0, u1, u2, u3] := by
  unfold View.readCov
  funext y
  refine (congrArg (View.read (Elt F) m.view _) (show (Rect.unit (s := S32x4096) ![0, 0] S32x4096.size inb).toLoadRect.idx y = y from funext fun a => Fin.ext ?_)).trans ?_
  · match a with
    | ⟨0, _⟩ => show 0 + 1 * (y 0).val = (y 0).val; omega
    | ⟨1, _⟩ => show 0 + 1 * (y 1).val = (y 1).val; omega
  change S32x4096.Idx at y
  obtain ⟨s, r, e, rfl⟩ := at_four y
  rw [four_at]
  match s with
  | ⟨0, _⟩ =>
    refine (View.read_writes_cons_unit_of_not_mem _ _ (off' := ![24, 0]) _ _ _ (ix2 (⟨8 * 0 + r.val, by omega⟩ : Fin 32) e) rfl 0 (Or.inl (show 8 * 0 + r.val < 24 by omega))).trans ?_
    refine (View.read_writes_cons_unit_of_not_mem _ _ (off' := ![16, 0]) _ _ _ (ix2 (⟨8 * 0 + r.val, by omega⟩ : Fin 32) e) rfl 0 (Or.inl (show 8 * 0 + r.val < 16 by omega))).trans ?_
    refine (View.read_writes_cons_unit_of_not_mem _ _ (off' := ![8, 0]) _ _ _ (ix2 (⟨8 * 0 + r.val, by omega⟩ : Fin 32) e) rfl 0 (Or.inl (show 8 * 0 + r.val < 8 by omega))).trans ?_
    refine View.read_writes_cons_unit_of_mem _ _ (off' := ![0, 0]) _ _ _ (ix2 (⟨8 * 0 + r.val, by omega⟩ : Fin 32) e) (ix2 r e) rfl fun a => ?_
    match a with
    | ⟨0, _⟩ => show 8 * 0 + r.val = 0 + r.val; omega
    | ⟨1, _⟩ => show e.val = 0 + e.val; omega
  | ⟨1, _⟩ =>
    refine (View.read_writes_cons_unit_of_not_mem _ _ (off' := ![24, 0]) _ _ _ (ix2 (⟨8 * 1 + r.val, by omega⟩ : Fin 32) e) rfl 0 (Or.inl (show 8 * 1 + r.val < 24 by omega))).trans ?_
    refine (View.read_writes_cons_unit_of_not_mem _ _ (off' := ![16, 0]) _ _ _ (ix2 (⟨8 * 1 + r.val, by omega⟩ : Fin 32) e) rfl 0 (Or.inl (show 8 * 1 + r.val < 16 by omega))).trans ?_
    refine View.read_writes_cons_unit_of_mem _ _ (off' := ![8, 0]) _ _ _ (ix2 (⟨8 * 1 + r.val, by omega⟩ : Fin 32) e) (ix2 r e) rfl fun a => ?_
    match a with
    | ⟨0, _⟩ => show 8 * 1 + r.val = 8 + r.val; omega
    | ⟨1, _⟩ => show e.val = 0 + e.val; omega
  | ⟨2, _⟩ =>
    refine (View.read_writes_cons_unit_of_not_mem _ _ (off' := ![24, 0]) _ _ _ (ix2 (⟨8 * 2 + r.val, by omega⟩ : Fin 32) e) rfl 0 (Or.inl (show 8 * 2 + r.val < 24 by omega))).trans ?_
    refine View.read_writes_cons_unit_of_mem _ _ (off' := ![16, 0]) _ _ _ (ix2 (⟨8 * 2 + r.val, by omega⟩ : Fin 32) e) (ix2 r e) rfl fun a => ?_
    match a with
    | ⟨0, _⟩ => show 8 * 2 + r.val = 16 + r.val; omega
    | ⟨1, _⟩ => show e.val = 0 + e.val; omega
  | ⟨3, _⟩ =>
    refine View.read_writes_cons_unit_of_mem _ _ (off' := ![24, 0]) _ _ _ (ix2 (⟨8 * 3 + r.val, by omega⟩ : Fin 32) e) (ix2 r e) rfl fun a => ?_
    match a with
    | ⟨0, _⟩ => show 8 * 3 + r.val = 24 + r.val; omega
    | ⟨1, _⟩ => show e.val = 0 + e.val; omega

/-- Thirty-two rows of modulated activations. -/
def mods (k : Fin 16) (x : Vec F S512x4096 .f32) (gate : Vec F S1x1x1x4096 .f32) (g b : Vec F S1x4096 .f32) (sh sc : Vec F S1x1x1x4096 .f32) (o : Vec F S512x4096 .f32) : Vec F S32x4096 .f32 :=
  four fun s => md8 (ln8 (eight ⟨4 * k.val + s.val, by omega⟩ x) gate (eight ⟨4 * k.val + s.val, by omega⟩ o) g b) sc sh

/-- The modulated activations of a whole block. -/
def hid (x : Vec F S512x4096 .f32) (gate : Vec F S1x1x1x4096 .f32) (g b : Vec F S1x4096 .f32) (sh sc : Vec F S1x1x1x4096 .f32) (o : Vec F S512x4096 .f32) : Vec F S512x4096 .bf16 := fun y =>
  k0_pay6 (mods ⟨(y 0).val / 32, by have : (y 0).val < 512 := (y 0).isLt; omega⟩ x gate g b sh sc o) (ix2 ⟨(y 0).val % 32, by omega⟩ (y 1))

/-- The second block after some trips of the loop. -/
def hdone (n : ℕ) (x : Vec F S512x4096 .f32) (gate : Vec F S1x1x1x4096 .f32) (g b : Vec F S1x4096 .f32) (sh sc : Vec F S1x1x1x4096 .f32) (o : Vec F S512x4096 .f32) (w : Vec F S512x4096 .bf16) : Vec F S512x4096 .bf16 := fun y =>
  if (y 0).val < 32 * n then hid x gate g b sh sc o y else w y

theorem hdone_none (x : Vec F S512x4096 .f32) (gate : Vec F S1x1x1x4096 .f32) (g b : Vec F S1x4096 .f32) (sh sc : Vec F S1x1x1x4096 .f32) (o : Vec F S512x4096 .f32) (w : Vec F S512x4096 .bf16) : hdone 0 x gate g b sh sc o w = w :=
  funext fun y => if_neg (by omega)

theorem hdone_all (x : Vec F S512x4096 .f32) (gate : Vec F S1x1x1x4096 .f32) (g b : Vec F S1x4096 .f32) (sh sc : Vec F S1x1x1x4096 .f32) (o : Vec F S512x4096 .f32) (w : Vec F S512x4096 .bf16) : hdone 16 x gate g b sh sc o w = hid x gate g b sh sc o :=
  funext fun y => if_pos (by have : (y 0).val < 512 := (y 0).isLt; omega)

theorem at_rows (y : S512x4096.Idx) : ∃ (q : Fin 16) (r : Fin 32) (e : Fin 4096), y = ix2 (⟨32 * q.val + r.val, by omega⟩ : Fin 512) e := by
  have b : (y 0).val < 512 := (y 0).isLt
  refine ⟨⟨(y 0).val / 32, by omega⟩, ⟨(y 0).val % 32, by omega⟩, y 1, ?_⟩
  rw [show (⟨32 * ((y 0).val / 32) + (y 0).val % 32, by omega⟩ : Fin 512) = y 0 from Fin.ext (by show 32 * ((y 0).val / 32) + (y 0).val % 32 = (y 0).val; omega)]
  exact eq_ix2 y

theorem hid_at (x : Vec F S512x4096 .f32) (gate : Vec F S1x1x1x4096 .f32) (g b : Vec F S1x4096 .f32) (sh sc : Vec F S1x1x1x4096 .f32) (o : Vec F S512x4096 .f32) (q : Fin 16) (r : Fin 32) (e : Fin 4096) :
    hid x gate g b sh sc o (ix2 (⟨32 * q.val + r.val, by omega⟩ : Fin 512) e) = k0_pay6 (mods q x gate g b sh sc o) (ix2 r e) := by
  have hn : (⟨(32 * q.val + r.val) / 32, by omega⟩ : Fin 16) = q := Fin.ext (by show (32 * q.val + r.val) / 32 = q.val; omega)
  have he : (⟨(32 * q.val + r.val) % 32, by omega⟩ : Fin 32) = r := Fin.ext (by show (32 * q.val + r.val) % 32 = r.val; omega)
  show k0_pay6 (mods ⟨(32 * q.val + r.val) / 32, _⟩ x gate g b sh sc o) (ix2 ⟨(32 * q.val + r.val) % 32, _⟩ e) = _
  rw [hn, he]

theorem ln8_0 (x : Vec F S8x4096 .f32) (gate : Vec F S1x1x1x4096 .f32) (o : Vec F S8x4096 .f32) (g b : Vec F S1x4096 .f32) :
    k0_pay39 (k0_pay38 (k0_pay23 x gate o) (k0_pay31 (k0_pay23 x gate o)) g) b = ln8 x gate o g b := rfl

theorem ln8_1 (x : Vec F S8x4096 .f32) (gate : Vec F S1x1x1x4096 .f32) (o : Vec F S8x4096 .f32) (g b : Vec F S1x4096 .f32) :
    k0_pay40 (k0_pay32 (k0_pay24 x gate o) (k0_pay28 (k0_pay24 x gate o))) (k0_pay35 (k0_pay24 x gate o) (k0_pay28 (k0_pay24 x gate o))) g b = ln8 x gate o g b := rfl

theorem ln8_2 (x : Vec F S8x4096 .f32) (gate : Vec F S1x1x1x4096 .f32) (o : Vec F S8x4096 .f32) (g b : Vec F S1x4096 .f32) :
    k0_pay41 (k0_pay33 (k0_pay26 (k0_pay25 x) (Scalar.ofBits .f32 0x3FB504F3#32) gate o) (k0_pay29 (k0_pay25 x) (Scalar.ofBits .f32 0x3FB504F3#32) gate o)) (k0_pay36 (k0_pay26 (k0_pay25 x) (Scalar.ofBits .f32 0x3FB504F3#32) gate o) (k0_pay29 (k0_pay25 x) (Scalar.ofBits .f32 0x3FB504F3#32) gate o)) g b = ln8 x gate o g b := rfl

theorem ln8_3 (x : Vec F S8x4096 .f32) (gate : Vec F S1x1x1x4096 .f32) (o : Vec F S8x4096 .f32) (g b : Vec F S1x4096 .f32) :
    k0_pay42 (k0_pay34 (k0_pay27 x gate o) (k0_pay30 x gate o)) (k0_pay37 (k0_pay27 x gate o) (k0_pay30 x gate o)) g b = ln8 x gate o g b := rfl

theorem md8_1 (v : FVec F S8x4096 .f32) (sc sh : Vec F S1x1x1x4096 .f32) : k0_pay44 v sc sh = md8 v sc sh := rfl

theorem md8_2 (v : FVec F S8x4096 .f32) (sc sh : Vec F S1x1x1x4096 .f32) : k0_pay4 v (k0_pay45 sc) (Scalar.ofBits .f32 0x3F800000#32) sh = md8 v sc sh := rfl

theorem md8_3 (v : FVec F S8x4096 .f32) (sc sh : Vec F S1x1x1x4096 .f32) : k0_pay5 v sc sh = md8 v sc sh := rfl

/-- The stores of one trip of the loop. -/
theorem storesC (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h4 : k0_cond4 i = 1#1) (k : Fin k0_t1_loop.trips) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (x12 : Vec F S32x4096 .f32) :
    ∃ (u0 u1 u2 u3 v0 v1 v2 v3 : FVec F S8x4096 .f32), (runC c i arg2 harg2 arg3 harg3 arg4 harg4 arg5 harg5 arg6 harg6 arg7 harg7 arg8 harg8 arg9 harg9 arg10 harg10 arg11 harg11 arg12 harg12 h4 k x4 x5 x6 x7 x8 x9 x10 x11 x12).1.1 = [⟨Rect.unit (s := S512x4096) (k0_off1 k 24#32) S8x4096.size (k0_off1_inb i k h4 3), u3⟩, ⟨Rect.unit (s := S512x4096) (k0_off1 k 16#32) S8x4096.size (k0_off1_inb i k h4 2), u2⟩, ⟨Rect.unit (s := S512x4096) (k0_off1 k 8#32) S8x4096.size (k0_off1_inb i k h4 1), u1⟩, ⟨Rect.unit (s := S512x4096) (k0_off1 k 0#32) S8x4096.size (k0_off1_inb i k h4 0), u0⟩]
      ∧ (runC c i arg2 harg2 arg3 harg3 arg4 harg4 arg5 harg5 arg6 harg6 arg7 harg7 arg8 harg8 arg9 harg9 arg10 harg10 arg11 harg11 arg12 harg12 h4 k x4 x5 x6 x7 x8 x9 x10 x11 x12).1.2 = [⟨Rect.unit (s := S512x4096) (k0_off2 k) S32x4096.size (k0_off2_inb i k h4), k0_pay6 (arg12.view.readCov (Val := Elt F) [⟨Rect.unit (s := S32x4096) ![24, 0] S8x4096.size inb_S32x4096_S8x4096_24_0, v3⟩, ⟨Rect.unit (s := S32x4096) ![16, 0] S8x4096.size inb_S32x4096_S8x4096_16_0, v2⟩, ⟨Rect.unit (s := S32x4096) ![8, 0] S8x4096.size inb_S32x4096_S8x4096_8_0, v1⟩, ⟨Rect.unit (s := S32x4096) ![0, 0] S8x4096.size inb_S32x4096_S8x4096_0_0, v0⟩] (Rect.unit (s := S32x4096) ![0, 0] S32x4096.size inb_S32x4096_S32x4096_0_0).toLoadRect)⟩]
      ∧ u0 = ln8 (eight (grp k 0) x4) x5 (eight (grp k 0) x10) x6 x7 ∧ u1 = ln8 (eight (grp k 1) x4) x5 (eight (grp k 1) x10) x6 x7 ∧ u2 = ln8 (eight (grp k 2) x4) x5 (eight (grp k 2) x10) x6 x7 ∧ u3 = ln8 (eight (grp k 3) x4) x5 (eight (grp k 3) x10) x6 x7
      ∧ v0 = md8 (ln8 (eight (grp k 0) x4) x5 (eight (grp k 0) x10) x6 x7) x9 x8 ∧ v1 = md8 (ln8 (eight (grp k 1) x4) x5 (eight (grp k 1) x10) x6 x7) x9 x8 ∧ v2 = md8 (ln8 (eight (grp k 2) x4) x5 (eight (grp k 2) x10) x6 x7) x9 x8 ∧ v3 = md8 (ln8 (eight (grp k 3) x4) x5 (eight (grp k 3) x10) x6 x7) x9 x8 := by
  obtain ⟨o0, o1, o2, o3⟩ := off_grp k
  refine ⟨_, _, _, _, _, _, _, _, rfl, rfl, ?_, ?_, ?_, ?_, ?_, ?_, ?_, ?_⟩
  · conv_rhs => rw [← ln8_0, ← ld_eight harg10 x10 _ (grp k 0) o0 (k0_off1_inb i k h4 0), ← ld_eight harg4 x4 _ (grp k 0) o0 (k0_off1_inb i k h4 0), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl
  · conv_rhs => rw [← ln8_1, ← ld_eight harg10 x10 _ (grp k 1) o1 (k0_off1_inb i k h4 1), ← ld_eight harg4 x4 _ (grp k 1) o1 (k0_off1_inb i k h4 1), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl
  · conv_rhs => rw [← ln8_2, ← ld_eight harg10 x10 _ (grp k 2) o2 (k0_off1_inb i k h4 2), ← ld_eight harg4 x4 _ (grp k 2) o2 (k0_off1_inb i k h4 2), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl
  · conv_rhs => rw [← ln8_3, ← ld_eight harg10 x10 _ (grp k 3) o3 (k0_off1_inb i k h4 3), ← ld_eight harg4 x4 _ (grp k 3) o3 (k0_off1_inb i k h4 3), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl
  · conv_rhs => rw [md8, ← ln8_0, ← ld_eight harg10 x10 _ (grp k 0) o0 (k0_off1_inb i k h4 0), ← ld_eight harg4 x4 _ (grp k 0) o0 (k0_off1_inb i k h4 0), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0, ← ld_whole harg9 x9 _ z4 inb_S1x1x1x4096_S1x1x1x4096_0_0_0_0, ← ld_whole harg8 x8 _ z4 inb_S1x1x1x4096_S1x1x1x4096_0_0_0_0]
    try rfl
  · conv_rhs => rw [← md8_1, ← ln8_1, ← ld_eight harg10 x10 _ (grp k 1) o1 (k0_off1_inb i k h4 1), ← ld_eight harg4 x4 _ (grp k 1) o1 (k0_off1_inb i k h4 1), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0, ← ld_whole harg9 x9 _ z4 inb_S1x1x1x4096_S1x1x1x4096_0_0_0_0, ← ld_whole harg8 x8 _ z4 inb_S1x1x1x4096_S1x1x1x4096_0_0_0_0]
    try rfl
  · conv_rhs => rw [← md8_2, ← ln8_2, ← ld_eight harg10 x10 _ (grp k 2) o2 (k0_off1_inb i k h4 2), ← ld_eight harg4 x4 _ (grp k 2) o2 (k0_off1_inb i k h4 2), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0, ← ld_whole harg9 x9 _ z4 inb_S1x1x1x4096_S1x1x1x4096_0_0_0_0, ← ld_whole harg8 x8 _ z4 inb_S1x1x1x4096_S1x1x1x4096_0_0_0_0]
    try rfl
  · conv_rhs => rw [← md8_3, ← ln8_3, ← ld_eight harg10 x10 _ (grp k 3) o3 (k0_off1_inb i k h4 3), ← ld_eight harg4 x4 _ (grp k 3) o3 (k0_off1_inb i k h4 3), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0, ← ld_whole harg9 x9 _ z4 inb_S1x1x1x4096_S1x1x1x4096_0_0_0_0, ← ld_whole harg8 x8 _ z4 inb_S1x1x1x4096_S1x1x1x4096_0_0_0_0]
    try rfl

set_option maxHeartbeats 4000000 in
/-- One trip of the loop, for the residual stream. -/
theorem tripX (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h4 : k0_cond4 i = 1#1) (k : Fin k0_t1_loop.trips) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (x12 : Vec F S32x4096 .f32) (O : Vec F S512x4096 .f32) (H : Vec F S512x4096 .bf16) (hO : O = done k.val x4 x5 x6 x7 x10) :
    arg10.view.read (Elt F) (arg10.view.writes (Elt F) (harg10.unread O) (runC c i arg2 harg2 arg3 harg3 arg4 harg4 arg5 harg5 arg6 harg6 arg7 harg7 arg8 harg8 arg9 harg9 arg10 harg10 arg11 harg11 arg12 harg12 h4 k x4 x5 x6 x7 x8 x9 O H x12).1.1) = done (k.val + 1) x4 x5 x6 x7 x10 := by
  have p := storesC c i arg2 harg2 arg3 harg3 arg4 harg4 arg5 harg5 arg6 harg6 arg7 harg7 arg8 harg8 arg9 harg9 arg10 harg10 arg11 harg11 arg12 harg12 h4 k x4 x5 x6 x7 x8 x9 O H x12
  obtain ⟨u0, u1, u2, u3, v0, v1, v2, v3, hp, -, e0, e1, e2, e3, -⟩ := p
  rw [hp]
  funext y
  obtain ⟨q, r, e, rfl⟩ := at_line y
  obtain ⟨o0, o1, o2, o3⟩ := off_grp k
  refine (read_lines harg10 _ k.val _ _ _ _ o0 o1 o2 o3 _ _ _ _ ![u0, u1, u2, u3] q r e).trans ?_
  rw [hO, eight_done k.val x4 x5 x6 x7 x10 (grp k 0) (by show 32 * k.val ≤ 8 * (4 * k.val + 0); omega)] at e0
  rw [hO, eight_done k.val x4 x5 x6 x7 x10 (grp k 1) (by show 32 * k.val ≤ 8 * (4 * k.val + 1); omega)] at e1
  rw [hO, eight_done k.val x4 x5 x6 x7 x10 (grp k 2) (by show 32 * k.val ≤ 8 * (4 * k.val + 2); omega)] at e2
  rw [hO, eight_done k.val x4 x5 x6 x7 x10 (grp k 3) (by show 32 * k.val ≤ 8 * (4 * k.val + 3); omega)] at e3
  clear hp
  split
  · rename_i hq
    refine Eq.trans ?_ (if_pos (show 8 * q.val + r.val < 32 * (k.val + 1) by omega)).symm
    rw [norm_at]
    have hs : ∃ s : Fin 4, s.val = q.val - 4 * k.val := ⟨⟨q.val - 4 * k.val, by omega⟩, rfl⟩
    obtain ⟨s, hs⟩ := hs
    rw [show (⟨q.val - 4 * k.val, by omega⟩ : Fin 4) = s from Fin.ext hs.symm, show q = grp k s from Fin.ext (by show q.val = 4 * k.val + s.val; omega)]
    match s with
    | ⟨0, _⟩ => exact congrFun e0 _
    | ⟨1, _⟩ => exact congrFun e1 _
    | ⟨2, _⟩ => exact congrFun e2 _
    | ⟨3, _⟩ => exact congrFun e3 _
  · rename_i hq
    rw [hO]
    by_cases hl : q.val < 4 * k.val
    · exact (if_pos (show 8 * q.val + r.val < 32 * k.val by omega)).trans (if_pos (show 8 * q.val + r.val < 32 * (k.val + 1) by omega)).symm
    · exact (if_neg (show ¬(8 * q.val + r.val < 32 * k.val) by omega)).trans (if_neg (show ¬(8 * q.val + r.val < 32 * (k.val + 1)) by omega)).symm

set_option maxHeartbeats 4000000 in
/-- One trip of the loop, for the modulated activations. -/
theorem tripH (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h4 : k0_cond4 i = 1#1) (k : Fin k0_t1_loop.trips) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (x12 : Vec F S32x4096 .f32) (O : Vec F S512x4096 .f32) (H : Vec F S512x4096 .bf16) (hO : O = done k.val x4 x5 x6 x7 x10) (hH : H = hdone k.val x4 x5 x6 x7 x8 x9 x10 x11) :
    arg11.view.read (Elt F) (arg11.view.writes (Elt F) (harg11.unread H) (runC c i arg2 harg2 arg3 harg3 arg4 harg4 arg5 harg5 arg6 harg6 arg7 harg7 arg8 harg8 arg9 harg9 arg10 harg10 arg11 harg11 arg12 harg12 h4 k x4 x5 x6 x7 x8 x9 O H x12).1.2) = hdone (k.val + 1) x4 x5 x6 x7 x8 x9 x10 x11 := by
  have p := storesC c i arg2 harg2 arg3 harg3 arg4 harg4 arg5 harg5 arg6 harg6 arg7 harg7 arg8 harg8 arg9 harg9 arg10 harg10 arg11 harg11 arg12 harg12 h4 k x4 x5 x6 x7 x8 x9 O H x12
  obtain ⟨u0, u1, u2, u3, v0, v1, v2, v3, -, hp, -, -, -, -, e0, e1, e2, e3⟩ := p
  rw [hp, read_four]
  rw [hO, eight_done k.val x4 x5 x6 x7 x10 (grp k 0) (by show 32 * k.val ≤ 8 * (4 * k.val + 0); omega)] at e0
  rw [hO, eight_done k.val x4 x5 x6 x7 x10 (grp k 1) (by show 32 * k.val ≤ 8 * (4 * k.val + 1); omega)] at e1
  rw [hO, eight_done k.val x4 x5 x6 x7 x10 (grp k 2) (by show 32 * k.val ≤ 8 * (4 * k.val + 2); omega)] at e2
  rw [hO, eight_done k.val x4 x5 x6 x7 x10 (grp k 3) (by show 32 * k.val ≤ 8 * (4 * k.val + 3); omega)] at e3
  clear hp
  have hk : k.val < 16 := lt_of_lt_of_eq k.isLt trips_eq
  have hm : four ![v0, v1, v2, v3] = mods ⟨k.val, hk⟩ x4 x5 x6 x7 x8 x9 x10 := by
    refine congrArg four (funext fun s => ?_)
    match s with
    | ⟨0, _⟩ => exact e0
    | ⟨1, _⟩ => exact e1
    | ⟨2, _⟩ => exact e2
    | ⟨3, _⟩ => exact e3
  rw [hm]
  clear e0 e1 e2 e3 hm
  funext y
  obtain ⟨q, r, e, rfl⟩ := at_rows y
  by_cases hq : q.val = k.val
  · refine (View.read_writes_cons_unit_of_mem _ _ (off' := ![32 * k.val, 0]) _ _ _ (ix2 (⟨32 * q.val + r.val, by omega⟩ : Fin 512) e) (ix2 r e) (off_rows k) fun a => ?_).trans ?_
    · match a with
      | ⟨0, _⟩ => show 32 * q.val + r.val = 32 * k.val + r.val; omega
      | ⟨1, _⟩ => show e.val = 0 + e.val; omega
    · refine Eq.trans ?_ (if_pos (show 32 * q.val + r.val < 32 * (k.val + 1) by omega)).symm
      rw [hid_at, show q = ⟨k.val, hk⟩ from Fin.ext hq]
  · have b : 32 * q.val + r.val < 512 := by omega
    have far : 32 * q.val + r.val < 32 * k.val ∨ 32 * k.val + 32 ≤ 32 * q.val + r.val := by omega
    refine (View.read_writes_cons_unit_of_not_mem _ _ (off' := ![32 * k.val, 0]) _ _ _ (ix2 (⟨32 * q.val + r.val, b⟩ : Fin 512) e) (off_rows k) 0 (by exact far)).trans ?_
    refine (congrFun (harg11.read_unread H) _).trans ?_
    rw [hH]
    by_cases hl : q.val < k.val
    · exact (if_pos (show 32 * q.val + r.val < 32 * k.val by omega)).trans (if_pos (show 32 * q.val + r.val < 32 * (k.val + 1) by omega)).symm
    · exact (if_neg (show ¬(32 * q.val + r.val < 32 * k.val) by omega)).trans (if_neg (show ¬(32 * q.val + r.val < 32 * (k.val + 1)) by omega)).symm

end Cert.Out

end
-- ==== Proof.OutFrame.lean ====
module

public import proofs.«01_k».proof.Proof.OutStep

@[expose] public section

set_option maxRecDepth 16384

noncomputable section

/-! The output-projection kernel over its whole grid: the loop over the rows, what each step leaves, the launch and the frame. -/

namespace Cert.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Down (first plus norm done done_none done_all)
open Cert.Kernel8Ideal Cert.Kernel8Ideal.Gen

variable {F : FTy → Type} [FloatOps F]

local notation "𝕄" => MT nD τ sig Unit (Elt F) ℕ (UR sig nD τ) ℕ

/-- What holds before each trip of the loop over the rows. -/
def inv (c : Dev nD) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (n : ℕ) (_ : Unit) : sProp 𝕄 :=
  iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (done n x4 x5 x6 x7 x10) ∗ owns (c : Thread nD τ) arg11 fullShare (hdone n x4 x5 x6 x7 x8 x9 x10 x11) ∗ (∃ d, owns (c : Thread nD τ) arg12 fullShare d))

theorem inv_step (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h4 : k0_cond4 i = 1#1) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (E : Set ℕ) (k : Fin k0_t1_loop.trips) (u : Unit) :
    inv c arg2 harg2 arg3 harg3 arg4 harg4 arg5 harg5 arg6 harg6 arg7 harg7 arg8 harg8 arg9 harg9 arg10 harg10 arg11 harg11 arg12 harg12 x4 x5 x6 x7 x8 x9 x10 x11 k.val u ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 h4 k u) (inv c arg2 harg2 arg3 harg3 arg4 harg4 arg5 harg5 arg6 harg6 arg7 harg7 arg8 harg8 arg9 harg9 arg10 harg10 arg11 harg11 arg12 harg12 x4 x5 x6 x7 x8 x9 x10 x11 (k.val + 1)) := by
  unfold inv
  iintro ⟨H4, H5, H6, H7, H8, H9, H10, H11, ⟨%x12, H12⟩⟩
  iapply ((runC c i arg2 harg2 arg3 harg3 arg4 harg4 arg5 harg5 arg6 harg6 arg7 harg7 arg8 harg8 arg9 harg9 arg10 harg10 arg11 harg11 arg12 harg12 h4 k x4 x5 x6 x7 x8 x9 (done k.val x4 x5 x6 x7 x10) (hdone k.val x4 x5 x6 x7 x8 x9 x10 x11) x12).2 E _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H4, H5, H6, H7, H8, H9, H10, H11, H12⟩
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact tripX c i arg2 harg2 arg3 harg3 arg4 harg4 arg5 harg5 arg6 harg6 arg7 harg7 arg8 harg8 arg9 harg9 arg10 harg10 arg11 harg11 arg12 harg12 h4 k x4 x5 x6 x7 x8 x9 x10 x11 x12 _ _ rfl
  isplitl [H11]
  · unfold owns; iexists _; isplitr
    swap; · iexact H11
    ipureintro; exact tripH c i arg2 harg2 arg3 harg3 arg4 harg4 arg5 harg5 arg6 harg6 arg7 harg7 arg8 harg8 arg9 harg9 arg10 harg10 arg11 harg11 arg12 harg12 h4 k x4 x5 x6 x7 x8 x9 x10 x11 x12 _ _ rfl rfl
  iexact H12

/-- The loop over the rows normalises the block and fills the second one. -/
theorem loop (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h4 : k0_cond4 i = 1#1) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (norm x4 x5 x6 x7 x10) ∗ owns (c : Thread nD τ) arg11 fullShare (hid x4 x5 x6 x7 x8 x9 x10) ∗ (∃ d, owns (c : Thread nD τ) arg12 fullShare d)) -∗ K ⟨⟩))
      ⊢ wp frame (wpE (defs₀ (F := F)) Variants.none c none) E (do Scf.Loop.for k0_t1_loop (k0_t1_ok i h4) ⟨⟩ (k0_t1_body i arg2 harg2 arg3 harg3 arg4 harg4 arg5 harg5 arg6 harg6 arg7 harg7 arg8 harg8 arg9 harg9 arg10 harg10 arg11 harg11 arg12 harg12 h4); pure ⟨⟩) K := by
  iintro ⟨H4, H5, H6, H7, H8, H9, H10, H11, H12, Hk⟩
  iapply (Scf.wp_for_bind frame (wpE (defs₀ (F := F)) Variants.none c none) E k0_t1_loop.lb k0_t1_loop.ub k0_t1_loop.st (k0_t1_ok i h4) _ _
    (inv c arg2 harg2 arg3 harg3 arg4 harg4 arg5 harg5 arg6 harg6 arg7 harg7 arg8 harg8 arg9 harg9 arg10 harg10 arg11 harg11 arg12 harg12 x4 x5 x6 x7 x8 x9 x10 x11) (inv_step c i arg2 harg2 arg3 harg3 arg4 harg4 arg5 harg5 arg6 harg6 arg7 harg7 arg8 harg8 arg9 harg9 arg10 harg10 arg11 harg11 arg12 harg12 h4 x4 x5 x6 x7 x8 x9 x10 x11 E)) $$ [H4 H5 H6 H7 H8 H9 H10 H11 H12]
  · unfold inv; rw [done_none, hdone_none]
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u Hi
  rw [show Scf.trips k0_t1_loop.lb k0_t1_loop.ub k0_t1_loop.st = 16 from trips_eq]
  unfold inv; rw [done_all, hdone_all]
  sl_step
  iapply Hk; iexact Hi

/-- The last step of a block: its product is added, the block normalised and modulated. -/
theorem last (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h1 : ¬(k0_cond1 i = 1#1)) (h2 : ¬(k0_cond2 i = 1#1)) (h3 : k0_cond3 i = 1#1) (h4 : k0_cond4 i = 1#1) (x2 : Vec F S512x512 .bf16) (x3 : Vec F S512x4096 .bf16) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (norm x4 x5 x6 x7 (plus x2 x3 x10)) ∗ owns (c : Thread nD τ) arg11 fullShare (hid x4 x5 x6 x7 x8 x9 (plus x2 x3 x10)) ∗ (∃ d, owns (c : Thread nD τ) arg12 fullShare d)) -∗ K ⟨⟩))
      ⊢ wp frame (wpE (defs₀ (F := F)) Variants.none c none) E (cc0_matmul_layernorm i arg2 harg2 arg3 harg3 arg4 harg4 arg5 harg5 arg6 harg6 arg7 harg7 arg8 harg8 arg9 harg9 arg10 harg10 arg11 harg11 arg12 harg12) K := by
  rw [text_last i arg2 harg2 arg3 harg3 arg4 harg4 arg5 harg5 arg6 harg6 arg7 harg7 arg8 harg8 arg9 harg9 arg10 harg10 arg11 harg11 arg12 harg12 h1 h2 h3 h4, wp_bind]
  iintro ⟨H2, H3, H4, H5, H6, H7, H8, H9, H10, H11, H12, Hk⟩
  iapply ((runB c i arg2 harg2 arg3 harg3 arg4 harg4 arg5 harg5 arg6 harg6 arg7 harg7 arg8 harg8 arg9 harg9 arg10 harg10 arg11 harg11 arg12 harg12 x2 x3 x10).2 E _)
  isplitl [H2]; · iexact H2
  isplitl [H3]; · iexact H3
  isplitl [H10]; · iexact H10
  iintro ⟨H2, H3, H10⟩
  iapply (loop c i arg2 harg2 arg3 harg3 arg4 harg4 arg5 harg5 arg6 harg6 arg7 harg7 arg8 harg8 arg9 harg9 arg10 harg10 arg11 harg11 arg12 harg12 h4 x4 x5 x6 x7 x8 x9 (plus x2 x3 x10) x11 E K)
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact readB c i arg2 harg2 arg3 harg3 arg4 harg4 arg5 harg5 arg6 harg6 arg7 harg7 arg8 harg8 arg9 harg9 arg10 harg10 arg11 harg11 arg12 harg12 x2 x3 x10
  isplitl [H11]; · iexact H11
  isplitl [H12]; · iexact H12
  iintro ⟨H4, H5, H6, H7, H8, H9, H10, H11, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- A step between: its product is added. -/
theorem mid (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h1 : ¬(k0_cond1 i = 1#1)) (h2 : ¬(k0_cond2 i = 1#1)) (h3 : k0_cond3 i = 1#1) (h4 : ¬(k0_cond4 i = 1#1)) (x2 : Vec F S512x512 .bf16) (x3 : Vec F S512x4096 .bf16) (x10 : Vec F S512x4096 .f32) (E : Set ℕ) (K : PUnit → sProp 𝕄) :
    iprop(owns (c : Thread nD τ) arg2 fullShare x2 ∗ owns (c : Thread nD τ) arg3 fullShare x3 ∗ owns (c : Thread nD τ) arg10 fullShare x10
        ∗ (iprop(owns (c : Thread nD τ) arg2 fullShare x2 ∗ owns (c : Thread nD τ) arg3 fullShare x3 ∗ owns (c : Thread nD τ) arg10 fullShare (plus x2 x3 x10)) -∗ K ⟨⟩))
      ⊢ wp frame (wpE (defs₀ (F := F)) Variants.none c none) E (cc0_matmul_layernorm i arg2 harg2 arg3 harg3 arg4 harg4 arg5 harg5 arg6 harg6 arg7 harg7 arg8 harg8 arg9 harg9 arg10 harg10 arg11 harg11 arg12 harg12) K := by
  rw [text_mid i arg2 harg2 arg3 harg3 arg4 harg4 arg5 harg5 arg6 harg6 arg7 harg7 arg8 harg8 arg9 harg9 arg10 harg10 arg11 harg11 arg12 harg12 h1 h2 h3 h4, wp_bind]
  iintro ⟨H2, H3, H10, Hk⟩
  iapply ((runB c i arg2 harg2 arg3 harg3 arg4 harg4 arg5 harg5 arg6 harg6 arg7 harg7 arg8 harg8 arg9 harg9 arg10 harg10 arg11 harg11 arg12 harg12 x2 x3 x10).2 E _)
  isplitl [H2]; · iexact H2
  isplitl [H3]; · iexact H3
  isplitl [H10]; · iexact H10
  iintro ⟨H2, H3, H10⟩
  sl_step
  iapply Hk
  isplitl [H2]; · iexact H2
  isplitl [H3]; · iexact H3
  unfold owns; iexists _; isplitr
  swap; · iexact H10
  ipureintro; exact readB c i arg2 harg2 arg3 harg3 arg4 harg4 arg5 harg5 arg6 harg6 arg7 harg7 arg8 harg8 arg9 harg9 arg10 harg10 arg11 harg11 arg12 harg12 x2 x3 x10

/-- The first step of a block. -/
theorem start (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h1 : ¬(k0_cond1 i = 1#1)) (h2 : k0_cond2 i = 1#1) (h3 : ¬(k0_cond3 i = 1#1)) (h4 : ¬(k0_cond4 i = 1#1)) (x2 : Vec F S512x512 .bf16) (x3 : Vec F S512x4096 .bf16) (x10 : Vec F S512x4096 .f32) (E : Set ℕ) (K : PUnit → sProp 𝕄) :
    iprop(owns (c : Thread nD τ) arg2 fullShare x2 ∗ owns (c : Thread nD τ) arg3 fullShare x3 ∗ owns (c : Thread nD τ) arg10 fullShare x10
        ∗ (iprop(owns (c : Thread nD τ) arg2 fullShare x2 ∗ owns (c : Thread nD τ) arg3 fullShare x3 ∗ owns (c : Thread nD τ) arg10 fullShare (first x2 x3)) -∗ K ⟨⟩))
      ⊢ wp frame (wpE (defs₀ (F := F)) Variants.none c none) E (cc0_matmul_layernorm i arg2 harg2 arg3 harg3 arg4 harg4 arg5 harg5 arg6 harg6 arg7 harg7 arg8 harg8 arg9 harg9 arg10 harg10 arg11 harg11 arg12 harg12) K := by
  iintro ⟨H2, H3, H10, Hk⟩
  iapply ((runA c i arg2 harg2 arg3 harg3 arg4 harg4 arg5 harg5 arg6 harg6 arg7 harg7 arg8 harg8 arg9 harg9 arg10 harg10 arg11 harg11 arg12 harg12 h1 h2 h3 h4 x2 x3 x10).2 E _)
  isplitl [H2]; · iexact H2
  isplitl [H3]; · iexact H3
  isplitl [H10]; · iexact H10
  iintro ⟨H2, H3, H10⟩
  iapply Hk
  isplitl [H2]; · iexact H2
  isplitl [H3]; · iexact H3
  unfold owns; iexists _; isplitr
  swap; · iexact H10
  ipureintro; exact readA c i arg2 harg2 arg3 harg3 arg4 harg4 arg5 harg5 arg6 harg6 arg7 harg7 arg8 harg8 arg9 harg9 arg10 harg10 arg11 harg11 arg12 harg12 h1 h2 h3 h4 x2 x3 x10

variable (m : (ℓ : Loc nD τ sig) → Buf (Elt F) ℓ) (ρ : Dev nD → PrngReg)

theorem cA : ∀ t : Fin cfg0.N, t.val % 8 = 0 → ¬(k0_cond1 (grid0.coords t) = 1#1) ∧ k0_cond2 (grid0.coords t) = 1#1 ∧ ¬(k0_cond3 (grid0.coords t) = 1#1) ∧ ¬(k0_cond4 (grid0.coords t) = 1#1) := by decide +kernel
theorem cB : ∀ t : Fin cfg0.N, t.val % 8 ≠ 0 → t.val % 8 ≠ 7 → ¬(k0_cond1 (grid0.coords t) = 1#1) ∧ ¬(k0_cond2 (grid0.coords t) = 1#1) ∧ k0_cond3 (grid0.coords t) = 1#1 ∧ ¬(k0_cond4 (grid0.coords t) = 1#1) := by decide +kernel
theorem cC : ∀ t : Fin cfg0.N, t.val % 8 = 7 → ¬(k0_cond1 (grid0.coords t) = 1#1) ∧ ¬(k0_cond2 (grid0.coords t) = 1#1) ∧ k0_cond3 (grid0.coords t) = 1#1 ∧ k0_cond4 (grid0.coords t) = 1#1 := by decide +kernel
theorem live : ∀ t : Fin cfg0.N, idle0 8 (grid0.coords t) = false := by decide +kernel
theorem live_all : ∀ i : grid0.Coords, cfg0.idle 8 i = false := by decide +kernel
theorem idleA : ∀ t : Fin cfg0.N, t.val % 8 ≠ 7 → idle0 9 (grid0.coords t) = true := by decide +kernel
theorem idleC : ∀ t : Fin cfg0.N, t.val % 8 = 7 → idle0 9 (grid0.coords t) = false := by decide +kernel
theorem keepA : ∀ t : Fin cfg0.N, t.val % 8 ≠ 7 → (cfg0.win 9).flush t = false := fun t h => by
  rw [Bool.eq_false_iff]; intro hf; exact h ((flush0_9 t).mp hf)

/-- The block after each step. -/
def outAt (c : Dev nD) : (n : ℕ) → n < cfg0.N → Vec F S512x4096 .f32
  | 0, h => first (iblk m c 0 ⟨0, h⟩) (iblk m c 1 ⟨0, h⟩)
  | n + 1, h =>
    if (n + 1) % 8 = 0 then first (iblk m c 0 ⟨n + 1, h⟩) (iblk m c 1 ⟨n + 1, h⟩)
    else if (n + 1) % 8 = 7 then
      norm (iblk m c 2 ⟨n + 1, h⟩) (iblk m c 3 ⟨n + 1, h⟩) (iblk m c 4 ⟨n + 1, h⟩) (iblk m c 5 ⟨n + 1, h⟩) (plus (iblk m c 0 ⟨n + 1, h⟩) (iblk m c 1 ⟨n + 1, h⟩) (outAt c n (Nat.lt_of_succ_lt h)))
    else plus (iblk m c 0 ⟨n + 1, h⟩) (iblk m c 1 ⟨n + 1, h⟩) (outAt c n (Nat.lt_of_succ_lt h))

/-- The step before. -/
def prev (t : Fin cfg0.N) : Fin cfg0.N := ⟨t.val - 1, Nat.lt_of_le_of_lt (Nat.sub_le _ _) t.isLt⟩

/-- The modulated activations a block's last step leaves. -/
def hidAt (c : Dev nD) (t : Fin cfg0.N) : Vec F S512x4096 .bf16 :=
  hid (iblk m c 2 t) (iblk m c 3 t) (iblk m c 4 t) (iblk m c 5 t) (iblk m c 6 t) (iblk m c 7 t) (plus (iblk m c 0 t) (iblk m c 1 t) (outAt m c (prev t).val (prev t).isLt))

theorem out_first (c : Dev nD) (t : Fin cfg0.N) (h : t.val % 8 = 0) : outAt m c t.val t.isLt = first (iblk m c 0 t) (iblk m c 1 t) := by
  obtain ⟨n, hn⟩ := t
  cases n with
  | zero => rfl
  | succ n => exact if_pos h

theorem out_mid (c : Dev nD) (t : Fin cfg0.N) (h : t.val % 8 ≠ 0) (h' : t.val % 8 ≠ 7) :
    outAt m c t.val t.isLt = plus (iblk m c 0 t) (iblk m c 1 t) (outAt m c (prev t).val (prev t).isLt) := by
  obtain ⟨n, hn⟩ := t
  cases n with
  | zero => exact absurd rfl h
  | succ n => exact (if_neg h).trans (if_neg h')

theorem out_last (c : Dev nD) (t : Fin cfg0.N) (h : t.val % 8 = 7) :
    outAt m c t.val t.isLt = norm (iblk m c 2 t) (iblk m c 3 t) (iblk m c 4 t) (iblk m c 5 t) (plus (iblk m c 0 t) (iblk m c 1 t) (outAt m c (prev t).val (prev t).isLt)) := by
  obtain ⟨n, hn⟩ := t
  cases n with
  | zero => exact absurd h (by dsimp only; omega)
  | succ n => exact (if_neg (by dsimp only at h; omega)).trans (if_pos h)

theorem PhiA_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t.val t.isLt
    | ⟨9, _⟩ => hidAt m c t
    | ⟨n + 10, h⟩ => absurd (show n + 10 < 10 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t.val t.isLt := by dsimp only [dats]
theorem after0_9 (c : Dev nD) (t : Fin cfg0.N) : (dats m 0 c).after 9 t = hidAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- A step that is not its block's first finds the block as the step before left it. -/
theorem before0_8 (c : Dev nD) (t : Fin cfg0.N) (h : t.val % 8 ≠ 0) (d) : (dats m 0 c).before 8 t d = outAt m c (prev t).val (prev t).isLt :=
  ((dats m 0 c).before_out_kept 8 rfl t (fun h0 => h (by rw [h0])) (by
    rw [Bool.eq_false_iff]; intro hf
    have := (flush0_8 _).mp hf
    dsimp only at this; omega) live_all (fun _ _ => rfl) d).trans (after0_8 m c _)

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (match idle0 8 (grid0.coords t) with
        | true => (match (cfg0.win 8).flush t with
          | false => iprop(∃ d, owns (c : Thread nD τ) (win0_8.stage (cfg0.slots t 8)) fullShare ((dats m 0 c).before 8 t d))
          | true => owns (c : Thread nD τ) (win0_8.stage (cfg0.slots t 8)) fullShare ((dats m 0 c).after 8 t))
        | false => owns (c : Thread nD τ) (win0_8.stage (cfg0.slots t 8)) fullShare ((dats m 0 c).after 8 t))
    ∗ (match idle0 9 (grid0.coords t) with
        | true => (match (cfg0.win 9).flush t with
          | false => iprop(∃ d, owns (c : Thread nD τ) (win0_9.stage (cfg0.slots t 9)) fullShare ((dats m 0 c).before 9 t d))
          | true => owns (c : Thread nD τ) (win0_9.stage (cfg0.slots t 9)) fullShare ((dats m 0 c).after 9 t))
        | false => owns (c : Thread nD τ) (win0_9.stage (cfg0.slots t 9)) fullShare ((dats m 0 c).after 9 t)))

/-- The first step of a block. -/
theorem soundA (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, after0_7, after0_8, after0_9, live t, out_first m c t h0, idleA t (by omega), keepA t (by omega)]; dsimp only
  simp only [before0_0, before0_1, before0_2, before0_3, before0_4, before0_5, before0_6, before0_7]
  obtain ⟨e1, e2, e3, e4⟩ := cA t h0
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (start c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) e1 e2 e3 e4 _ _ _ Set.univ _)
  isplitl [H0]; · iexact H0
  isplitl [H1]; · iexact H1
  isplitl [H8]; · iexact H8
  iintro ⟨H0, H1, H8⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

/-- A step between. -/
theorem soundB (c : Dev nD) (t : Fin cfg0.N) (h0 : t.val % 8 ≠ 0) (h1 : t.val % 8 ≠ 7) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, after0_7, after0_8, after0_9, live t, out_mid m c t h0 h1, idleA t h1, keepA t h1]; dsimp only
  simp only [before0_0, before0_1, before0_2, before0_3, before0_4, before0_5, before0_6, before0_7, before0_8 m c t h0]
  obtain ⟨e1, e2, e3, e4⟩ := cB t h0 h1
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) e1 e2 e3 e4 _ _ _ Set.univ _)
  isplitl [H0]; · iexact H0
  isplitl [H1]; · iexact H1
  isplitl [H8]; · iexact H8
  iintro ⟨H0, H1, H8⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

/-- The last step of a block. -/
theorem soundC (c : Dev nD) (t : Fin cfg0.N) (h0 : t.val % 8 ≠ 0) (h1 : t.val % 8 = 7) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, after0_7, after0_8, after0_9, live t, out_last m c t h1, idleC t h1]; dsimp only
  simp only [before0_0, before0_1, before0_2, before0_3, before0_4, before0_5, before0_6, before0_7, before0_8 m c t h0]
  obtain ⟨e1, e2, e3, e4⟩ := cC t h1
  rw [show (dats m 0 c).Φ t.castSucc = Pipeline.ΦA spec0 c from rfl, PhiA_eq]
  iintro ⟨⟨H12, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) e1 e2 e3 e4 _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H12]; · iexact H12
  iintro ⟨H0, H1, H2, H3, H4, H5, H6, H7, H8, H9, H12⟩
  isplitl [H12 Hg]
  · isplitl [H12]; · iexact H12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold hidAt; iexact H9

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact soundA m c t h0
  by_cases h1 : t.val % 8 = 7
  · exact soundC m c t h0 h1
  · exact soundB m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = Pipeline.ΦA spec0 c from rfl]
  try exact Idealize.SL.BI.Entails.refl _

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments come back as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Out

end
-- ==== Proof.OutRef.lean ====
module

public import proofs.«01_k».proof.Proof.DownRef
public import proofs.«01_k».proof.Proof.Gen.Reference8Ideal.Run
public import Idealize.ShloMosaic.Lib.KernelVsHost
public import Idealize.ShloMosaic.Lib.Pipeline.ValueKit
public import Idealize.ShloMosaic.Lib.Pointwise

@[expose] public section

set_option maxRecDepth 16384

noncomputable section

/-! The output projection's reference: the product, the gated residual, the layer norm and the modulation, read at an index. -/

namespace Cert.Out

open Idealize.ShloMosaic Idealize.ShloMosaic.TcCoe Idealize.SL.Sem
open Cert.Reference8Ideal Cert.Reference8Ideal.Gen
open Cert.Down (refNorm refNorm_apply lnorm resid chunk_sum)

/-- The gated product added to the scaled residual stream. -/
def refSum {F : FTy → Type} [FloatOps F] (a : FVec F S2x4096x4096 .f32) (w : FVec F S4096x4096 .f32) (x : FVec F S2x4096x4096 .f32) (q : FVec F S2x24576 .f32) : FVec F S2x4096x4096 .f32 :=
  addf (mulf (broadcastInDim S2x4096x4096 ![] bcast_S_S2x4096x4096 (constant S_ .f32 0x3FB504F3#32)) x)
    (mulf (broadcastInDim S2x4096x4096 ![0, 1, 2] bcast_S2x1x4096_S2x4096x4096_0_1_2 (broadcastInDim S2x1x4096 ![0, 2] bcast_S2x4096_S2x1x4096_0_2 (extractStridedSlice S2x4096 ![0, 8192] q slices_S2x24576_S2x4096_0_8192)))
      (Host.dotGeneral dot_S2x4096x4096_S4096x4096_S2x4096x4096_2_0_01_1_n_n none a w))

/-- The modulation by the scale and the shift. -/
def refMod {F : FTy → Type} [FloatOps F] (y : FVec F S2x4096x4096 .f32) (q : FVec F S2x24576 .f32) : FVec F S2x4096x4096 .f32 :=
  addf (mulf y (broadcastInDim S2x4096x4096 ![0, 1, 2] bcast_S2x1x4096_S2x4096x4096_0_1_2 (addf (broadcastInDim S2x1x4096 ![] bcast_S_S2x1x4096 (constant S_ .f32 0x3F800000#32)) (broadcastInDim S2x1x4096 ![0, 2] bcast_S2x4096_S2x1x4096_0_2 (extractStridedSlice S2x4096 ![0, 16384] q slices_S2x24576_S2x4096_0_16384)))))
    (broadcastInDim S2x4096x4096 ![0, 1, 2] bcast_S2x1x4096_S2x4096x4096_0_1_2 (broadcastInDim S2x1x4096 ![0, 2] bcast_S2x4096_S2x1x4096_0_2 (extractStridedSlice S2x4096 ![0, 12288] q slices_S2x24576_S2x4096_0_12288)))

/-- The reference's first result from its arguments. -/
def refOut {F : FTy → Type} [FloatOps F] (a : FVec F S2x4096x4096 .f32) (w : FVec F S4096x4096 .f32) (x : FVec F S2x4096x4096 .f32) (q : FVec F S2x24576 .f32) (g b : FVec F S4096 .f32) : FVec F S8192x4096 .f32 :=
  shapeCast _ (refNorm (refSum a w x q) g b) shapeCasts_S2x4096x4096_S8192x4096

/-- The reference's second result from its arguments. -/
def refHid {F : FTy → Type} [FloatOps F] (a : FVec F S2x4096x4096 .f32) (w : FVec F S4096x4096 .f32) (x : FVec F S2x4096x4096 .f32) (q : FVec F S2x24576 .f32) (g b : FVec F S4096 .f32) : FVec F S8192x4096 .bf16 :=
  truncf .bf16 (shapeCast S8192x4096 (refMod (refNorm (refSum a w x q) g b) q) shapeCasts_S2x4096x4096_S8192x4096) bitsLt_bf16_f32

set_option maxHeartbeats 2000000 in
/-- The reference's run ends with them. -/
theorem ref_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v50) = refHid (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference8Ideal.Value.run m ρ

/-- The product at row `R`, column `C`, as one term per inner index, nothing beyond the last. -/
def term (a : FVec Ideal S2x4096x4096 .f32) (w : FVec Ideal S4096x4096 .f32) (R : Fin 8192) (C : Fin 4096) (k : ℕ) : EReal :=
  if h : k < 4096 then a (ix3 ⟨R.val / 4096, by omega⟩ ⟨R.val % 4096, by omega⟩ ⟨k, h⟩) * w (ix2 ⟨k, h⟩ C) else 0

/-- The product, in the chunks the kernel adds. -/
def chunks (a : FVec Ideal S2x4096x4096 .f32) (w : FVec Ideal S4096x4096 .f32) (R : Fin 8192) (C : Fin 4096) (n : ℕ) : EReal :=
  ∑ j ∈ Finset.range n, ∑ d : Fin 512, term a w R C (512 * j + d.val)

/-- All the chunks are the whole product. -/
theorem chunks_all (a : FVec Ideal S2x4096x4096 .f32) (w : FVec Ideal S4096x4096 .f32) (R : Fin 8192) (C : Fin 4096) :
    chunks a w R C 8 = ∑ k : Fin 4096, a (ix3 ⟨R.val / 4096, by omega⟩ ⟨R.val % 4096, by omega⟩ k) * w (ix2 k C) := by
  unfold chunks
  rw [chunk_sum, show 512 * 8 = 4096 from rfl, Finset.sum_range (term a w R C)]
  exact Finset.sum_congr rfl fun k _ => dif_pos k.isLt

/-- One modulated value. -/
def modu (y sc sh : EReal) : EReal := y * (Ideal.ofBits .f32 0x3F800000#32 + sc) + sh

theorem refSum_apply (a : FVec Ideal S2x4096x4096 .f32) (w : FVec Ideal S4096x4096 .f32) (x : FVec Ideal S2x4096x4096 .f32) (q : FVec Ideal S2x24576 .f32) (R : Fin 8192) (e : Fin 4096) :
    refSum a w x q (ix3 ⟨R.val / 4096, by omega⟩ ⟨R.val % 4096, by omega⟩ e)
      = resid (x (ix3 ⟨R.val / 4096, by omega⟩ ⟨R.val % 4096, by omega⟩ e)) (q (ix2 ⟨R.val / 4096, by omega⟩ ⟨8192 + e.val, by omega⟩)) (chunks a w R e 8) := by
  rw [chunks_all]
  pointwise [refSum, resid]

theorem refMod_apply (y : FVec Ideal S2x4096x4096 .f32) (q : FVec Ideal S2x24576 .f32) (u : Fin 2) (s : Fin 4096) (e : Fin 4096) :
    refMod y q (ix3 u s e) = modu (y (ix3 u s e)) (q (ix2 u ⟨16384 + e.val, by omega⟩)) (q (ix2 u ⟨12288 + e.val, by omega⟩)) := by
  pointwise [refMod, modu]

theorem refOut_apply (a : FVec Ideal S2x4096x4096 .f32) (w : FVec Ideal S4096x4096 .f32) (x : FVec Ideal S2x4096x4096 .f32) (q : FVec Ideal S2x24576 .f32) (g b : FVec Ideal S4096 .f32) (R : Fin 8192) (e : Fin 4096) :
    refOut a w x q g b (ix2 R e) = lnorm (fun k => resid (x (ix3 ⟨R.val / 4096, by omega⟩ ⟨R.val % 4096, by omega⟩ k)) (q (ix2 ⟨R.val / 4096, by omega⟩ ⟨8192 + k.val, by omega⟩)) (chunks a w R k 8)) (g (ix1 e)) (b (ix1 e)) e := by
  simp only [← refSum_apply]
  rw [← refNorm_apply (refSum a w x q) g b ⟨R.val / 4096, by omega⟩ ⟨R.val % 4096, by omega⟩ e]
  unfold refOut
  generalize refNorm (refSum a w x q) g b = N
  pointwise

/-- The second result is the first one modulated. -/
theorem refHid_apply (a : FVec Ideal S2x4096x4096 .f32) (w : FVec Ideal S4096x4096 .f32) (x : FVec Ideal S2x4096x4096 .f32) (q : FVec Ideal S2x24576 .f32) (g b : FVec Ideal S4096 .f32) (R : Fin 8192) (e : Fin 4096) :
    refHid a w x q g b (ix2 R e) = modu (refOut a w x q g b (ix2 R e)) (q (ix2 ⟨R.val / 4096, by omega⟩ ⟨16384 + e.val, by omega⟩)) (q (ix2 ⟨R.val / 4096, by omega⟩ ⟨12288 + e.val, by omega⟩)) := by
  unfold refHid refOut
  generalize refNorm (refSum a w x q) g b = N
  have h : (shapeCast _ N shapeCasts_S2x4096x4096_S8192x4096 : FVec Ideal S8192x4096 .f32) (ix2 R e) = N (ix3 ⟨R.val / 4096, by omega⟩ ⟨R.val % 4096, by omega⟩ e) := by
    pointwise
  rw [h, ← refMod_apply]
  generalize refMod N q = M
  pointwise

end Cert.Out

end
-- ==== Proof.Out.lean ====
module

public import proofs.«01_k».proof.Proof.OutFrame
public import proofs.«01_k».proof.Proof.OutRef
public import proofs.«01_k».proof.Proof.Down
public import Idealize.ShloMosaic.Lib.KernelVsHost
public import Idealize.ShloMosaic.Lib.Pipeline.ValueKit
public import Idealize.ShloMosaic.Lib.Pipeline.ReadBack
public import Idealize.ShloMosaic.Lib.Pointwise

@[expose] public section

set_option maxRecDepth 16384

noncomputable section

/-! The output-projection kernel's two output arrays over the ideal values are the reference's results. -/

namespace Cert.Out

open Idealize.ShloMosaic Idealize.ShloMosaic.TcCoe Idealize.SL.Sem
open Cert.Kernel8Ideal Cert.Kernel8Ideal.Gen
open Cert.Down (plus norm eight line at_line ln8 norm_at first_apply plus_apply norm_apply lnorm resid pad_zero)

theorem md8_apply (v : FVec Ideal S8x4096 .f32) (sc sh : Vec Ideal S1x1x1x4096 .f32) (r : Fin 8) (e : Fin 4096) :
    md8 v sc sh (ix2 r e) = modu (v (ix2 r e)) (sc (ix4 0 0 0 e)) (sh (ix4 0 0 0 e)) := by
  pointwise [md8, k0_pay43, modu]

theorem cast_apply (v : Vec Ideal S32x4096 .f32) (r : Fin 32) (e : Fin 4096) : k0_pay6 v (ix2 r e) = v (ix2 r e) := by
  pointwise [k0_pay6]

/-- The second block is the normalised one modulated. -/
theorem hid_apply (x : Vec Ideal S512x4096 .f32) (gate : Vec Ideal S1x1x1x4096 .f32) (g b : Vec Ideal S1x4096 .f32) (sh sc : Vec Ideal S1x1x1x4096 .f32) (o : Vec Ideal S512x4096 .f32) (r : Fin 512) (e : Fin 4096) :
    hid x gate g b sh sc o (ix2 r e) = modu (norm x gate g b o (ix2 r e)) (sc (ix4 0 0 0 e)) (sh (ix4 0 0 0 e)) := by
  obtain ⟨k, s, j, hr⟩ : ∃ (k : Fin 16) (s : Fin 4) (j : Fin 8), r = ⟨32 * k.val + (8 * s.val + j.val), by omega⟩ :=
    ⟨⟨r.val / 32, by omega⟩, ⟨r.val % 32 / 8, by omega⟩, ⟨r.val % 8, by omega⟩, Fin.ext (by dsimp only; omega)⟩
  have hl : r = line (⟨4 * k.val + s.val, by omega⟩ : Fin 64) j := by
    rw [hr]; exact Fin.ext (by show 32 * k.val + (8 * s.val + j.val) = 8 * (4 * k.val + s.val) + j.val; omega)
  have hn : norm x gate g b o (ix2 r e) = ln8 (eight ⟨4 * k.val + s.val, by omega⟩ x) gate (eight ⟨4 * k.val + s.val, by omega⟩ o) g b (ix2 j e) := by
    rw [hl]; exact norm_at x gate g b o _ j e
  rw [hn, hr]
  refine (hid_at x gate g b sh sc o k ⟨8 * s.val + j.val, by omega⟩ e).trans ?_
  rw [cast_apply]
  unfold mods
  rw [four_at, md8_apply]

variable (m : (ℓ : Loc nD τ sig) → Buf (Elt Ideal) ℓ) (c : Dev nD)

theorem idx0 : ∀ t : Fin grid0.N, win0_0.index t 0 = t.val / 8 ∧ win0_0.index t 1 = t.val % 8 := by decide +kernel
theorem idx1 : ∀ t : Fin grid0.N, win0_1.index t 0 = t.val % 8 ∧ win0_1.index t 1 = 0 := by decide +kernel
theorem idx2 : ∀ t : Fin grid0.N, win0_2.index t 0 = t.val / 8 ∧ win0_2.index t 1 = 0 := by decide +kernel
theorem idx3 : ∀ t : Fin grid0.N, win0_3.index t 0 = t.val / 8 / 8 ∧ win0_3.index t 1 = 2 ∧ win0_3.index t 2 = 0 ∧ win0_3.index t 3 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val / 8 / 8 ∧ win0_6.index t 1 = 3 ∧ win0_6.index t 2 = 0 ∧ win0_6.index t 3 = 0 := by decide +kernel
theorem idx7 : ∀ t : Fin grid0.N, win0_7.index t 0 = t.val / 8 / 8 ∧ win0_7.index t 1 = 4 ∧ win0_7.index t 2 = 0 ∧ win0_7.index t 3 = 0 := by decide +kernel
theorem idx8 : ∀ t : Fin grid0.N, win0_8.index t 0 = t.val / 8 ∧ win0_8.index t 1 = 0 := by decide +kernel
theorem idx9 : ∀ t : Fin grid0.N, win0_9.index t 0 = t.val / 8 ∧ win0_9.index t 1 = 0 := by decide +kernel

theorem a_apply (a : FVec Ideal S2x4096x4096 .f32) (R : Fin 8192) (k : Fin 4096) :
    (truncf .bf16 (shapeCast S8192x4096 a shapeCasts_S2x4096x4096_S8192x4096) bitsLt_bf16_f32 : FVec Ideal S8192x4096 .bf16) (ix2 R k)
      = a (ix3 ⟨R.val / 4096, by omega⟩ ⟨R.val % 4096, by omega⟩ k) := by
  pointwise

theorem w_apply (w : FVec Ideal S4096x4096 .f32) (k : Fin 4096) (C : Fin 4096) :
    (truncf .bf16 w bitsLt_bf16_f32 : FVec Ideal S4096x4096 .bf16) (ix2 k C) = w (ix2 k C) := by
  pointwise

theorem q_apply (q : FVec Ideal S2x24576 .f32) (u : Fin 8) (hu : u.val < 2) (p : Fin 6) (e : Fin 4096) :
    (shapeCast S8x6x1x4096 (pad S8x24576 ![0, 0] ![6, 0] ![0, 0] q (sitofp .f32 (constantI S_ 32 0#32)) pads_S2x24576_S8x24576_060_000 h_S_) shapeCasts_S8x24576_S8x6x1x4096 : FVec Ideal S8x6x1x4096 .f32) (ix4 u p 0 e)
      = q (ix2 ⟨u.val, hu⟩ ⟨p.val * 4096 + e.val, by omega⟩) := by
  pointwise
  exact (dif_pos ⟨hu, by omega⟩).trans rfl

theorem V_a (a : FVec Ideal S2x4096x4096 .f32) (e0 : m ((c.tc : Thread nD τ).loc main_arg0) = a) (R : Fin 8192) (k : Fin 4096) : V m c main_v3 (ix2 R k) = a (ix3 ⟨R.val / 4096, by omega⟩ ⟨R.val % 4096, by omega⟩ k) := by
  subst e0; exact a_apply _ R k

theorem V_w (w : FVec Ideal S4096x4096 .f32) (e1 : m ((c.tc : Thread nD τ).loc main_arg1) = w) (k : Fin 4096) (C : Fin 4096) : V m c main_v4 (ix2 k C) = w (ix2 k C) := by
  subst e1; exact w_apply _ k C

theorem V_x (x : FVec Ideal S2x4096x4096 .f32) (e2 : m ((c.tc : Thread nD τ).loc main_arg2) = x) (R : Fin 8192) (d : Fin 4096) : V m c main_v5 (ix2 R d) = x (ix3 ⟨R.val / 4096, by omega⟩ ⟨R.val % 4096, by omega⟩ d) := by
  subst e2; exact Cert.Down.x_apply _ R d

theorem V_q (q : FVec Ideal S2x24576 .f32) (e3 : m ((c.tc : Thread nD τ).loc main_arg3) = q) (u : Fin 8) (hu : u.val < 2) (p : Fin 6) (e : Fin 4096) :
    V m c main_v1 (ix4 u p 0 e) = q (ix2 ⟨u.val, hu⟩ ⟨p.val * 4096 + e.val, by omega⟩) := by
  subst e3; exact q_apply _ u hu p e

theorem V_g (g : FVec Ideal S4096 .f32) (e4 : m ((c.tc : Thread nD τ).loc main_arg4) = g) (C : Fin 4096) : V m c main_v6 (ix2 0 C) = g (ix1 C) := by
  subst e4; exact Cert.Down.g_apply _ C

theorem V_b (b : FVec Ideal S4096 .f32) (e5 : m ((c.tc : Thread nD τ).loc main_arg5) = b) (C : Fin 4096) : V m c main_v7 (ix2 0 C) = b (ix1 C) := by
  subst e5; exact Cert.Down.g_apply _ C

theorem blk0 (t : Fin cfg0.N) (r : Fin 512) (d : Fin 512) (R : Fin 8192) (k : Fin 4096) (hR : R.val = 512 * (t.val / 8) + r.val) (hk : k.val = 512 * (t.val % 8) + d.val) :
    iblk m c 0 t (ix2 r d) = V m c main_v3 (ix2 R k) := by
  blk_ext [iblk, idx0 t]
theorem blk1 (t : Fin cfg0.N) (d : Fin 512) (C : Fin 4096) (k : Fin 4096) (hk : k.val = 512 * (t.val % 8) + d.val) :
    iblk m c 1 t (ix2 d C) = V m c main_v4 (ix2 k C) := by
  blk_ext [iblk, idx1 t]
theorem blk2 (t : Fin cfg0.N) (r : Fin 512) (C : Fin 4096) (R : Fin 8192) (hR : R.val = 512 * (t.val / 8) + r.val) :
    iblk m c 2 t (ix2 r C) = V m c main_v5 (ix2 R C) := by
  blk_ext [iblk, idx2 t]
theorem blk3 (t : Fin cfg0.N) (C : Fin 4096) (u : Fin 8) (hu : u.val = t.val / 8 / 8) :
    iblk m c 3 t (ix4 0 0 0 C) = V m c main_v1 (ix4 u 2 0 C) := by
  blk_ext [iblk, idx3 t]
theorem blk6 (t : Fin cfg0.N) (C : Fin 4096) (u : Fin 8) (hu : u.val = t.val / 8 / 8) :
    iblk m c 6 t (ix4 0 0 0 C) = V m c main_v1 (ix4 u 3 0 C) := by
  blk_ext [iblk, idx6 t]
theorem blk7 (t : Fin cfg0.N) (C : Fin 4096) (u : Fin 8) (hu : u.val = t.val / 8 / 8) :
    iblk m c 7 t (ix4 0 0 0 C) = V m c main_v1 (ix4 u 4 0 C) := by
  blk_ext [iblk, idx7 t]
theorem blk4 (t : Fin cfg0.N) (C : Fin 4096) : iblk m c 4 t (ix2 0 C) = V m c main_v6 (ix2 0 C) := by
  blk_ext [iblk, idx4 t]
theorem blk5 (t : Fin cfg0.N) (C : Fin 4096) : iblk m c 5 t (ix2 0 C) = V m c main_v7 (ix2 0 C) := by
  blk_ext [iblk, idx5 t]

/-- One step's product is one chunk. -/
theorem chunk (a : FVec Ideal S2x4096x4096 .f32) (e0 : m ((c.tc : Thread nD τ).loc main_arg0) = a)
    (w : FVec Ideal S4096x4096 .f32) (e1 : m ((c.tc : Thread nD τ).loc main_arg1) = w)
    (t : Fin cfg0.N) (r : Fin 512) (C : Fin 4096) (R : Fin 8192) (hR : R.val = 512 * (t.val / 8) + r.val) (A : Vec Ideal S512x512 .bf16) (hA : A = iblk m c 0 t)
    (W : Vec Ideal S512x4096 .bf16) (hW : W = iblk m c 1 t) :
    ∑ d : Fin 512, A (ix2 r d) * W (ix2 d C) = ∑ d : Fin 512, term a w R C (512 * (t.val % 8) + d.val) := by
  refine Finset.sum_congr rfl fun d _ => ?_
  have hk : 512 * (t.val % 8) + d.val < 4096 := by omega
  rw [hA, hW]
  refine (congrArg₂ (fun u v : EReal => u * v) ((blk0 m c t r d R ⟨_, hk⟩ hR rfl).trans (V_a m c a e0 R _)) ((blk1 m c t d C ⟨_, hk⟩ rfl).trans (V_w m c w e1 _ C))).trans ?_
  unfold term
  rw [dif_pos hk]

/-- The block after every step but a row's last: the chunks so far. -/
theorem sums (a : FVec Ideal S2x4096x4096 .f32) (e0 : m ((c.tc : Thread nD τ).loc main_arg0) = a)
    (w : FVec Ideal S4096x4096 .f32) (e1 : m ((c.tc : Thread nD τ).loc main_arg1) = w) :
    ∀ (j : ℕ) (t : Fin cfg0.N), t.val % 8 = j → j ≠ 7 → ∀ (r : Fin 512) (C : Fin 4096) (R : Fin 8192), R.val = 512 * (t.val / 8) + r.val →
      outAt m c t.val t.isLt (ix2 r C) = chunks a w R C (j + 1) := by
  intro j
  induction j with
  | zero =>
    intro t ht _ r C R hR
    rw [out_first m c t ht, first_apply, chunk m c a e0 w e1 t r C R hR _ rfl _ rfl, ht]
    unfold chunks
    rw [Finset.sum_range_succ, Finset.sum_range_zero, zero_add]
  | succ j ih =>
    intro t ht hj r C R hR
    rw [out_mid m c t (by omega) (by omega), plus_apply, chunk m c a e0 w e1 t r C R hR _ rfl _ rfl, ht,
      ih (prev t) (by show (t.val - 1) % 8 = j; omega) (by omega) r C R (by show R.val = 512 * ((t.val - 1) / 8) + r.val; omega)]
    unfold chunks
    rw [Finset.sum_range_succ _ (j + 1)]

/-- A modulation row of a block. -/
theorem mod_apply (q : FVec Ideal S2x24576 .f32) (e3 : m ((c.tc : Thread nD τ).loc main_arg3) = q)
    (t : Fin cfg0.N) (r : Fin 512) (R : Fin 8192) (hR : R.val = 512 * (t.val / 8) + r.val) (e : Fin 4096) :
    iblk m c 3 t (ix4 0 0 0 e) = q (ix2 ⟨R.val / 4096, by omega⟩ ⟨8192 + e.val, by omega⟩)
      ∧ iblk m c 6 t (ix4 0 0 0 e) = q (ix2 ⟨R.val / 4096, by omega⟩ ⟨12288 + e.val, by omega⟩)
      ∧ iblk m c 7 t (ix4 0 0 0 e) = q (ix2 ⟨R.val / 4096, by omega⟩ ⟨16384 + e.val, by omega⟩) := by
  have hN : t.val < 128 := lt_of_lt_of_eq t.isLt (show cfg0.N = 128 from N_0)
  have hu : R.val / 4096 = t.val / 8 / 8 := by omega
  have hv : R.val / 4096 < 2 := by omega
  exact ⟨(blk3 m c t e ⟨R.val / 4096, by omega⟩ hu).trans (V_q m c q e3 _ hv 2 e), (blk6 m c t e ⟨R.val / 4096, by omega⟩ hu).trans (V_q m c q e3 _ hv 3 e),
    (blk7 m c t e ⟨R.val / 4096, by omega⟩ hu).trans (V_q m c q e3 _ hv 4 e)⟩

/-- A block after its last step, at an index. -/
theorem out_apply (a : FVec Ideal S2x4096x4096 .f32) (e0 : m ((c.tc : Thread nD τ).loc main_arg0) = a)
    (w : FVec Ideal S4096x4096 .f32) (e1 : m ((c.tc : Thread nD τ).loc main_arg1) = w)
    (x : FVec Ideal S2x4096x4096 .f32) (e2 : m ((c.tc : Thread nD τ).loc main_arg2) = x)
    (q : FVec Ideal S2x24576 .f32) (e3 : m ((c.tc : Thread nD τ).loc main_arg3) = q)
    (g : FVec Ideal S4096 .f32) (e4 : m ((c.tc : Thread nD τ).loc main_arg4) = g)
    (b : FVec Ideal S4096 .f32) (e5 : m ((c.tc : Thread nD τ).loc main_arg5) = b)
    (t : Fin cfg0.N) (ht : t.val % 8 = 7) (r : Fin 512) (e : Fin 4096) (R : Fin 8192) (hR : R.val = 512 * (t.val / 8) + r.val) :
    outAt m c t.val t.isLt (ix2 r e) = refOut a w x q g b (ix2 R e) := by
  rw [out_last m c t ht, refOut_apply]
  refine (norm_apply _ _ _ _ _ r e).trans ?_
  have hg : iblk m c 4 t (ix2 0 e) = g (ix1 e) := (blk4 m c t e).trans (V_g m c g e4 e)
  have hb : iblk m c 5 t (ix2 0 e) = b (ix1 e) := (blk5 m c t e).trans (V_b m c b e5 e)
  have hv : ∀ k : Fin 4096, resid (iblk m c 2 t (ix2 r k)) (iblk m c 3 t (ix4 0 0 0 k)) (plus (iblk m c 0 t) (iblk m c 1 t) (outAt m c (prev t).val (prev t).isLt) (ix2 r k))
      = resid (x (ix3 ⟨R.val / 4096, by omega⟩ ⟨R.val % 4096, by omega⟩ k)) (q (ix2 ⟨R.val / 4096, by omega⟩ ⟨8192 + k.val, by omega⟩)) (chunks a w R k 8) := by
    intro k
    have h2 : iblk m c 2 t (ix2 r k) = x (ix3 ⟨R.val / 4096, by omega⟩ ⟨R.val % 4096, by omega⟩ k) := (blk2 m c t r k R hR).trans (V_x m c x e2 R k)
    have h6 : plus (iblk m c 0 t) (iblk m c 1 t) (outAt m c (prev t).val (prev t).isLt) (ix2 r k) = chunks a w R k 8 := by
      rw [plus_apply, chunk m c a e0 w e1 t r k R hR _ rfl _ rfl, ht,
        sums m c a e0 w e1 6 (prev t) (by show (t.val - 1) % 8 = 6; omega) (by omega) r k R (by show R.val = 512 * ((t.val - 1) / 8) + r.val; omega)]
      unfold chunks
      rw [Finset.sum_range_succ _ 7]
    rw [h2, (mod_apply m c q e3 t r R hR k).1, h6]
  rw [hg, hb]
  exact congrArg (fun v => lnorm v (g (ix1 e)) (b (ix1 e)) e) (funext hv)

/-- The second block after its last step, at an index. -/
theorem hid_out (a : FVec Ideal S2x4096x4096 .f32) (e0 : m ((c.tc : Thread nD τ).loc main_arg0) = a)
    (w : FVec Ideal S4096x4096 .f32) (e1 : m ((c.tc : Thread nD τ).loc main_arg1) = w)
    (x : FVec Ideal S2x4096x4096 .f32) (e2 : m ((c.tc : Thread nD τ).loc main_arg2) = x)
    (q : FVec Ideal S2x24576 .f32) (e3 : m ((c.tc : Thread nD τ).loc main_arg3) = q)
    (g : FVec Ideal S4096 .f32) (e4 : m ((c.tc : Thread nD τ).loc main_arg4) = g)
    (b : FVec Ideal S4096 .f32) (e5 : m ((c.tc : Thread nD τ).loc main_arg5) = b)
    (t : Fin cfg0.N) (ht : t.val % 8 = 7) (r : Fin 512) (e : Fin 4096) (R : Fin 8192) (hR : R.val = 512 * (t.val / 8) + r.val) :
    hidAt m c t (ix2 r e) = refHid a w x q g b (ix2 R e) := by
  rw [refHid_apply, ← out_apply m c a e0 w e1 x e2 q e3 g e4 b e5 t ht r e R hR, out_last m c t ht]
  unfold hidAt
  refine (hid_apply _ _ _ _ _ _ _ r e).trans ?_
  obtain ⟨-, h6, h7⟩ := mod_apply m c q e3 t r R hR e
  rw [h6, h7]

/-- The kernel's first output array. -/
theorem final (a : FVec Ideal S2x4096x4096 .f32) (e0 : m ((c.tc : Thread nD τ).loc main_arg0) = a)
    (w : FVec Ideal S4096x4096 .f32) (e1 : m ((c.tc : Thread nD τ).loc main_arg1) = w)
    (x : FVec Ideal S2x4096x4096 .f32) (e2 : m ((c.tc : Thread nD τ).loc main_arg2) = x)
    (q : FVec Ideal S2x24576 .f32) (e3 : m ((c.tc : Thread nD τ).loc main_arg3) = q)
    (g : FVec Ideal S4096 .f32) (e4 : m ((c.tc : Thread nD τ).loc main_arg4) = g)
    (b : FVec Ideal S4096 .f32) (e5 : m ((c.tc : Thread nD τ).loc main_arg5) = b) :
    (dats m 0 c).arrAt 8 cfg0.N = refOut a w x q g b := by
  have hp := out_apply m c a e0 w e1 x e2 q e3 g e4 b e5
  generalize refOut a w x q g b = G at hp ⊢
  refine (dats m 0 c).arrAt_eq_of_covers 8 _ (by decide +kernel) fun t hf y => ?_
  have ht : t.val % 8 = 7 := (flush0_8 t).mp hf
  blk_simp
  rw [after0_8]
  obtain ⟨r, e, rfl⟩ : ∃ (r : Fin 512) (e : Fin 4096), y = ix2 r e := ⟨y 0, y 1, eq_ix2 y⟩
  have hN : t.val < 128 := lt_of_lt_of_eq t.isLt (show cfg0.N = 128 from N_0)
  refine (hp t ht r e ⟨512 * (t.val / 8) + r.val, by omega⟩ rfl).trans ?_
  blk_ext [idx8 t]

/-- The kernel's second output array. -/
theorem final_hid (a : FVec Ideal S2x4096x4096 .f32) (e0 : m ((c.tc : Thread nD τ).loc main_arg0) = a)
    (w : FVec Ideal S4096x4096 .f32) (e1 : m ((c.tc : Thread nD τ).loc main_arg1) = w)
    (x : FVec Ideal S2x4096x4096 .f32) (e2 : m ((c.tc : Thread nD τ).loc main_arg2) = x)
    (q : FVec Ideal S2x24576 .f32) (e3 : m ((c.tc : Thread nD τ).loc main_arg3) = q)
    (g : FVec Ideal S4096 .f32) (e4 : m ((c.tc : Thread nD τ).loc main_arg4) = g)
    (b : FVec Ideal S4096 .f32) (e5 : m ((c.tc : Thread nD τ).loc main_arg5) = b) :
    (dats m 0 c).arrAt 9 cfg0.N = refHid a w x q g b := by
  have hp := hid_out m c a e0 w e1 x e2 q e3 g e4 b e5
  generalize refHid a w x q g b = G at hp ⊢
  refine (dats m 0 c).arrAt_eq_of_covers 9 _ (by decide +kernel) fun t hf y => ?_
  have ht : t.val % 8 = 7 := (flush0_9 t).mp hf
  blk_simp
  rw [after0_9]
  obtain ⟨r, e, rfl⟩ : ∃ (r : Fin 512) (e : Fin 4096), y = ix2 r e := ⟨y 0, y 1, eq_ix2 y⟩
  have hN : t.val < 128 := lt_of_lt_of_eq t.isLt (show cfg0.N = 128 from N_0)
  refine (hp t ht r e ⟨512 * (t.val / 8) + r.val, by omega⟩ rfl).trans ?_
  blk_ext [idx9 t]

/-- The kernel's run ends with its output arrays at what the steps wrote and its arguments as they were. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8_0) = (dats m 0 c).arrAt 8 cfg0.N
      ∧ r.2.mem ((c.tc : Thread nD τ).loc main_v8_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 8, (h.1 c).1 9, h.2 c⟩) (θ_run_and (run_main m ρ) (unchanged m ρ))

end Cert.Out

end
-- ==== Proof.OutBits.lean ====
module

public import proofs.«01_k».proof.Proof.OutFrame
public import proofs.«01_k».proof.Proof.Gen.Kernel8.Frame

@[expose] public section

set_option maxRecDepth 16384

noncomputable section

/-! The output-projection kernel as printed: its text is the ideal program's, so the ideal program's run is its run. -/

namespace Cert.OutBits

open Idealize.ShloMosaic Idealize.ShloMosaic.TcCoe Idealize.ShloMosaic.Tactic
open Idealize.SL.Sem
open Cert.Kernel8

theorem body_eq : Cert.Kernel8.cc0_matmul_layernorm (F := Bits) = Cert.Kernel8Ideal.cc0_matmul_layernorm (F := Bits) := rfl

theorem defs₀_eq : Cert.Kernel8.defs₀ (F := Bits) = Cert.Kernel8Ideal.defs₀ (F := Bits) := by
  refine congrArg (Defs.onTc (nD := Cert.Kernel8.nD) (τ := Cert.Kernel8.τ) (sig := Cert.Kernel8.sig) (Val := Elt Bits) (Λ := Cert.Kernel8.Λ₀)) (funext fun l => funext fun a => ?_)
  match l, a with
  | 0, (t, s) => rfl

theorem defs_eq : Cert.Kernel8.defs (F := Bits) = Cert.Kernel8Ideal.defs (F := Bits) :=
  congrArg (Pipeline.defs (Cert.Kernel8.pcfgs (F := Bits))) defs₀_eq

theorem main_eq : Cert.Kernel8.main (F := Bits) = Cert.Kernel8Ideal.main (F := Bits) := rfl

/-- The frame. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq, main_eq]
  exact Cert.Out.frame (F := Bits) m ρ

end Cert.OutBits

end
-- ==== Proof.NextRun.lean ====
module

public import proofs.«01_k».proof.Proof.Gen.Kernel9Ideal.Frame
public import proofs.«01_k».proof.Proof.Gen.Kernel9Ideal.Skeleton
public import Idealize.ShloMosaic.Lib.Exec

@[expose] public section

set_option maxRecDepth 16384

noncomputable section

/-! The body of the down-projection kernel that also fills rows, run once in each of its parts. -/

namespace Cert.Next

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel9Ideal Cert.Kernel9Ideal.Gen

variable {F : FTy → Type} [FloatOps F]

local notation "𝕄" => MT nD τ sig Unit (Elt F) ℕ (UR sig nD τ) ℕ

/-- The text of a step that adds its product to the block. -/
def acc (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) :
    Prog (TpuEff nD τ sig (Elt F) Λ₀ .tc) PUnit := do
  let ⟨v19, v46⟩ : Σ' (v19 : FVec F S512x512 .bf16), FVec F S512x512 .f32 ← k0_part2 i arg2 harg2 arg3 harg3 arg4 harg4 arg5 harg5 arg6 harg6 arg7 harg7 arg8 harg8 arg9 harg9 arg10 harg10 arg11 harg11 arg12 harg12
  let v74 : FVec F S512x512 .f32 ← k0_part3 i arg2 harg2 arg3 harg3 arg4 harg4 arg5 harg5 arg6 harg6 arg7 harg7 arg8 harg8 arg9 harg9 arg10 harg10 arg11 harg11 arg12 harg12 v19 v46
  let v75 : Vec F S512x512 .f32 ← Prog.lift (.load arg10 (Rect.unit (s := S512x4096) ![0, 3584] S512x512.size inb_S512x4096_S512x512_0_3584).toLoadRect (View.loadsAt_vmem h_S512x512))
  Prog.lift (.store arg10 (Rect.unit (s := S512x4096) ![0, 3584] S512x512.size inb_S512x4096_S512x512_0_3584) v74 Finset.univ (View.stores_vmem_bits_univ h_S512x512 rfl) (.inl rfl))
  pure ⟨⟩

/-- Between the first and the last step of a block the body is that text. -/
theorem text_mid (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)
    (h1 : ¬(k0_cond1 i = 1#1)) (h2 : ¬(k0_cond2 i = 1#1)) (h3 : k0_cond3 i = 1#1) (h4 : ¬(k0_cond4 i = 1#1)) :
    cc0_matmul_layernorm (F := F) i arg2 harg2 arg3 harg3 arg4 harg4 arg5 harg5 arg6 harg6 arg7 harg7 arg8 harg8 arg9 harg9 arg10 harg10 arg11 harg11 arg12 harg12 = (do acc i arg2 harg2 arg3 harg3 arg4 harg4 arg5 harg5 arg6 harg6 arg7 harg7 arg8 harg8 arg9 harg9 arg10 harg10 arg11 harg11 arg12 harg12; pure ⟨⟩) := by
  rw [cc0_matmul_layernorm_eq_skeleton]
  unfold cc0_matmul_layernorm_skel
  rw [dif_neg h1, dif_neg h2, dif_pos h3, dif_neg h4]
  rfl

/-- At the last step of a block the body is that text and then the loop over the rows. -/
theorem text_last (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)
    (h1 : ¬(k0_cond1 i = 1#1)) (h2 : ¬(k0_cond2 i = 1#1)) (h3 : k0_cond3 i = 1#1) (h4 : k0_cond4 i = 1#1) :
    cc0_matmul_layernorm (F := F) i arg2 harg2 arg3 harg3 arg4 harg4 arg5 harg5 arg6 harg6 arg7 harg7 arg8 harg8 arg9 harg9 arg10 harg10 arg11 harg11 arg12 harg12 = (do acc i arg2 harg2 arg3 harg3 arg4 harg4 arg5 harg5 arg6 harg6 arg7 harg7 arg8 harg8 arg9 harg9 arg10 harg10 arg11 harg11 arg12 harg12; Scf.Loop.for k0_t1_loop (k0_t1_ok i h4) ⟨⟩ (k0_t1_body i arg2 harg2 arg3 harg3 arg4 harg4 arg5 harg5 arg6 harg6 arg7 harg7 arg8 harg8 arg9 harg9 arg10 harg10 arg11 harg11 arg12 harg12 h4); pure ⟨⟩) := by
  rw [cc0_matmul_layernorm_eq_skeleton]
  unfold cc0_matmul_layernorm_skel
  rw [dif_neg h1, dif_neg h2, dif_pos h3, dif_pos h4]
  rfl

set_option maxHeartbeats 4000000 in
/-- The first step of a block: its product is the block. -/
def runA (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)
    (h1 : ¬(k0_cond1 i = 1#1)) (h2 : k0_cond2 i = 1#1) (h3 : ¬(k0_cond3 i = 1#1)) (h4 : ¬(k0_cond4 i = 1#1)) (x2 : Vec F S512x512 .bf16) (x3 : Vec F S512x4096 .bf16) (x10 : Vec F S512x4096 .f32) :
    { L : List (View.Piece (Elt F) S512x4096 .f32) // ∀ (E : Set ℕ) (K : PUnit → sProp 𝕄),
      iprop(owns (c : Thread nD τ) arg2 fullShare x2 ∗ owns (c : Thread nD τ) arg3 fullShare x3 ∗ owns (c : Thread nD τ) arg10 fullShare x10
          ∗ (iprop(owns (c : Thread nD τ) arg2 fullShare x2 ∗ owns (c : Thread nD τ) arg3 fullShare x3 ∗ (arg10.view.loc (c : Thread nD τ) ↦[arg10.view.set]{fullShare} arg10.view.writes (Elt F) (harg10.unread x10) L)) -∗ K ⟨⟩))
        ⊢ wp frame (wpE (defs₀ (F := F)) Variants.none c none) E (cc0_matmul_layernorm i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_matmul_layernorm_eq_skeleton]
    unfold cc0_matmul_layernorm_skel
    simp only [k0_part1_eq_skeleton]
    unfold owns
    iintro ⟨⟨%f2, %hf2, H2⟩, ⟨%f3, %hf3, H3⟩, ⟨%f10, %hf10, H10⟩, Hk⟩
    obtain rfl := harg2.eq_unread hf2; obtain rfl := harg3.eq_unread hf3; obtain rfl := harg10.eq_unread hf10
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    iexact H10

set_option maxHeartbeats 4000000 in
/-- A later step of a block: its product is added. -/
def runB (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)
     (x2 : Vec F S512x512 .bf16) (x3 : Vec F S512x4096 .bf16) (x10 : Vec F S512x4096 .f32) :
    { L : List (View.Piece (Elt F) S512x4096 .f32) // ∀ (E : Set ℕ) (K : PUnit → sProp 𝕄),
      iprop(owns (c : Thread nD τ) arg2 fullShare x2 ∗ owns (c : Thread nD τ) arg3 fullShare x3 ∗ owns (c : Thread nD τ) arg10 fullShare x10
          ∗ (iprop(owns (c : Thread nD τ) arg2 fullShare x2 ∗ owns (c : Thread nD τ) arg3 fullShare x3 ∗ (arg10.view.loc (c : Thread nD τ) ↦[arg10.view.set]{fullShare} arg10.view.writes (Elt F) (harg10.unread x10) L)) -∗ K ⟨⟩))
        ⊢ wp frame (wpE (defs₀ (F := F)) Variants.none c none) E (acc i arg2 harg2 arg3 harg3 arg4 harg4 arg5 harg5 arg6 harg6 arg7 harg7 arg8 harg8 arg9 harg9 arg10 harg10 arg11 harg11 arg12 harg12) K } := by
  refine ⟨?_, fun E K => ?run⟩
  case run =>
    unfold acc
    simp only [k0_part2_eq_skeleton, k0_part3_eq_skeleton]
    unfold owns
    iintro ⟨⟨%f2, %hf2, H2⟩, ⟨%f3, %hf3, H3⟩, ⟨%f10, %hf10, H10⟩, Hk⟩
    obtain rfl := harg2.eq_unread hf2; obtain rfl := harg3.eq_unread hf3; obtain rfl := harg10.eq_unread hf10
    sl_exec
    sl_step
    iapply Hk
    isplitl [H2]
    · iexists _; isplitr; · ipureintro; exact harg2.read_unread _
      iexact H2
    isplitl [H3]
    · iexists _; isplitr; · ipureintro; exact harg3.read_unread _
      iexact H3
    iexact H10

end Cert.Next

end
-- ==== Proof.NextRunC.lean ====
module

public import proofs.«01_k».proof.Proof.NextRun

@[expose] public section

set_option maxRecDepth 16384

noncomputable section

/-! One trip of the loop over the rows in the down-projection kernel that also fills rows. -/

namespace Cert.Next

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel9Ideal Cert.Kernel9Ideal.Gen

variable {F : FTy → Type} [FloatOps F]

local notation "𝕄" => MT nD τ sig Unit (Elt F) ℕ (UR sig nD τ) ℕ

set_option maxHeartbeats 8000000 in
/-- One trip of the loop over the rows: thirty-two rows are normalised and modulated. -/
def runC (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)
    (h4 : k0_cond4 i = 1#1) (k : Fin k0_t1_loop.trips) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (x12 : Vec F S32x4096 .f32) :
    { L : List (View.Piece (Elt F) S512x4096 .f32) × List (View.Piece (Elt F) S512x4096 .bf16) // ∀ (E : Set ℕ) (K : PUnit → sProp 𝕄),
      iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
          ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (arg10.view.loc (c : Thread nD τ) ↦[arg10.view.set]{fullShare} arg10.view.writes (Elt F) (harg10.unread x10) L.1) ∗ (arg11.view.loc (c : Thread nD τ) ↦[arg11.view.set]{fullShare} arg11.view.writes (Elt F) (harg11.unread x11) L.2) ∗ (∃ d, owns (c : Thread nD τ) arg12 fullShare d)) -∗ K ⟨⟩))
        ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 h4 k ⟨⟩) K } := by
  refine ⟨(?_, ?_), fun E K => ?run⟩
  case run =>
    unfold k0_t1_body
    simp only [k0_part4_eq_skeleton, k0_part5_eq_skeleton, k0_part6_eq_skeleton, k0_part7_eq_skeleton, k0_part8_eq_skeleton]
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexact H10
    isplitl [H11]
    · iexact H11
    iexists _; iexists _; isplitr
    swap; · iexact H12
    ipureintro; rfl

end Cert.Next

end
-- ==== Proof.NextStep.lean ====
module

public import proofs.«01_k».proof.Proof.NextRunC
public import proofs.«01_k».proof.Proof.OutStep

@[expose] public section

set_option maxRecDepth 16384

noncomputable section

/-! What one step of the down-projection kernel that also fills rows leaves in its two blocks. -/

namespace Cert.Next

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Down (col tile tiled first plus ld_whole ld_tile z2 z4 read_tiles line eight at_line ln8 norm norm_at done done_none done_all eight_done ld_eight read_lines)
open Cert.Out (md8 four four_at at_four read_four mods hid hdone hdone_none hdone_all at_rows hid_at)
open Cert.Kernel9Ideal Cert.Kernel9Ideal.Gen

variable {F : FTy → Type} [FloatOps F]

local notation "𝕄" => MT nD τ sig Unit (Elt F) ℕ (UR sig nD τ) ℕ

/-- The first step of a block. -/
theorem readA (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h1 : ¬(k0_cond1 i = 1#1)) (h2 : k0_cond2 i = 1#1) (h3 : ¬(k0_cond3 i = 1#1)) (h4 : ¬(k0_cond4 i = 1#1)) (x2 : Vec F S512x512 .bf16) (x3 : Vec F S512x4096 .bf16) (x10 : Vec F S512x4096 .f32) :
    arg10.view.read (Elt F) (arg10.view.writes (Elt F) (harg10.unread x10) (runA c i arg2 harg2 arg3 harg3 arg4 harg4 arg5 harg5 arg6 harg6 arg7 harg7 arg8 harg8 arg9 harg9 arg10 harg10 arg11 harg11 arg12 harg12 h1 h2 h3 h4 x2 x3 x10).1) = first x2 x3 := by
  have p : ∃ (q0 q1 q2 q3 q4 q5 q6 q7 : FVec F S512x512 .f32), (runA c i arg2 harg2 arg3 harg3 arg4 harg4 arg5 harg5 arg6 harg6 arg7 harg7 arg8 harg8 arg9 harg9 arg10 harg10 arg11 harg11 arg12 harg12 h1 h2 h3 h4 x2 x3 x10).1 = [⟨Rect.unit (s := S512x4096) ![0, 3584] S512x512.size inb_S512x4096_S512x512_0_3584, q7⟩, ⟨Rect.unit (s := S512x4096) ![0, 3072] S512x512.size inb_S512x4096_S512x512_0_3072, q6⟩, ⟨Rect.unit (s := S512x4096) ![0, 2560] S512x512.size inb_S512x4096_S512x512_0_2560, q5⟩, ⟨Rect.unit (s := S512x4096) ![0, 2048] S512x512.size inb_S512x4096_S512x512_0_2048, q4⟩, ⟨Rect.unit (s := S512x4096) ![0, 1536] S512x512.size inb_S512x4096_S512x512_0_1536, q3⟩, ⟨Rect.unit (s := S512x4096) ![0, 1024] S512x512.size inb_S512x4096_S512x512_0_1024, q2⟩, ⟨Rect.unit (s := S512x4096) ![0, 512] S512x512.size inb_S512x4096_S512x512_0_512, q1⟩, ⟨Rect.unit (s := S512x4096) ![0, 0] S512x512.size inb_S512x4096_S512x512_0_0, q0⟩] ∧ q0 = k0_pay8 x2 (tile 0 x3) ∧ q1 = k0_pay8 x2 (tile 1 x3) ∧ q2 = k0_pay8 x2 (tile 2 x3) ∧ q3 = k0_pay8 x2 (tile 3 x3) ∧ q4 = k0_pay8 x2 (tile 4 x3) ∧ q5 = k0_pay8 x2 (tile 5 x3) ∧ q6 = k0_pay8 x2 (tile 6 x3) ∧ q7 = k0_pay8 x2 (tile 7 x3) := by
    refine ⟨_, _, _, _, _, _, _, _, rfl, ?_, ?_, ?_, ?_, ?_, ?_, ?_, ?_⟩
    · conv_rhs => rw [← ld_whole harg2 x2 _ z2 inb_S512x512_S512x512_0_0, ← ld_tile harg3 x3 0 0 rfl inb_S512x4096_S512x512_0_0]
      try rfl
    · conv_rhs => rw [← ld_whole harg2 x2 _ z2 inb_S512x512_S512x512_0_0, ← ld_tile harg3 x3 1 512 rfl inb_S512x4096_S512x512_0_512]
      try rfl
    · conv_rhs => rw [← ld_whole harg2 x2 _ z2 inb_S512x512_S512x512_0_0, ← ld_tile harg3 x3 2 1024 rfl inb_S512x4096_S512x512_0_1024]
      try rfl
    · conv_rhs => rw [← ld_whole harg2 x2 _ z2 inb_S512x512_S512x512_0_0, ← ld_tile harg3 x3 3 1536 rfl inb_S512x4096_S512x512_0_1536]
      try rfl
    · conv_rhs => rw [← ld_whole harg2 x2 _ z2 inb_S512x512_S512x512_0_0, ← ld_tile harg3 x3 4 2048 rfl inb_S512x4096_S512x512_0_2048]
      try rfl
    · conv_rhs => rw [← ld_whole harg2 x2 _ z2 inb_S512x512_S512x512_0_0, ← ld_tile harg3 x3 5 2560 rfl inb_S512x4096_S512x512_0_2560]
      try rfl
    · conv_rhs => rw [← ld_whole harg2 x2 _ z2 inb_S512x512_S512x512_0_0, ← ld_tile harg3 x3 6 3072 rfl inb_S512x4096_S512x512_0_3072]
      try rfl
    · conv_rhs => rw [← ld_whole harg2 x2 _ z2 inb_S512x512_S512x512_0_0, ← ld_tile harg3 x3 7 3584 rfl inb_S512x4096_S512x512_0_3584]
      try rfl
  obtain ⟨q0, q1, q2, q3, q4, q5, q6, q7, hp, e0, e1, e2, e3, e4, e5, e6, e7⟩ := p
  rw [hp]
  refine (read_tiles harg10 x10 q0 q1 q2 q3 q4 q5 q6 q7).trans ?_
  rw [e0, e1, e2, e3, e4, e5, e6, e7]
  refine congrArg tiled (funext fun n => ?_)
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A later step of a block. -/
theorem readB (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)  (x2 : Vec F S512x512 .bf16) (x3 : Vec F S512x4096 .bf16) (x10 : Vec F S512x4096 .f32) :
    arg10.view.read (Elt F) (arg10.view.writes (Elt F) (harg10.unread x10) (runB c i arg2 harg2 arg3 harg3 arg4 harg4 arg5 harg5 arg6 harg6 arg7 harg7 arg8 harg8 arg9 harg9 arg10 harg10 arg11 harg11 arg12 harg12 x2 x3 x10).1) = plus x2 x3 x10 := by
  have p : ∃ (q0 q1 q2 q3 q4 q5 q6 q7 : FVec F S512x512 .f32), (runB c i arg2 harg2 arg3 harg3 arg4 harg4 arg5 harg5 arg6 harg6 arg7 harg7 arg8 harg8 arg9 harg9 arg10 harg10 arg11 harg11 arg12 harg12 x2 x3 x10).1 = [⟨Rect.unit (s := S512x4096) ![0, 3584] S512x512.size inb_S512x4096_S512x512_0_3584, q7⟩, ⟨Rect.unit (s := S512x4096) ![0, 3072] S512x512.size inb_S512x4096_S512x512_0_3072, q6⟩, ⟨Rect.unit (s := S512x4096) ![0, 2560] S512x512.size inb_S512x4096_S512x512_0_2560, q5⟩, ⟨Rect.unit (s := S512x4096) ![0, 2048] S512x512.size inb_S512x4096_S512x512_0_2048, q4⟩, ⟨Rect.unit (s := S512x4096) ![0, 1536] S512x512.size inb_S512x4096_S512x512_0_1536, q3⟩, ⟨Rect.unit (s := S512x4096) ![0, 1024] S512x512.size inb_S512x4096_S512x512_0_1024, q2⟩, ⟨Rect.unit (s := S512x4096) ![0, 512] S512x512.size inb_S512x4096_S512x512_0_512, q1⟩, ⟨Rect.unit (s := S512x4096) ![0, 0] S512x512.size inb_S512x4096_S512x512_0_0, q0⟩] ∧ q0 = k0_pay15 x2 (tile 0 x3) (tile 0 x10) ∧ q1 = k0_pay15 x2 (tile 1 x3) (tile 1 x10) ∧ q2 = k0_pay15 x2 (tile 2 x3) (tile 2 x10) ∧ q3 = k0_pay15 x2 (tile 3 x3) (tile 3 x10) ∧ q4 = k0_pay15 x2 (tile 4 x3) (tile 4 x10) ∧ q5 = k0_pay15 x2 (tile 5 x3) (tile 5 x10) ∧ q6 = k0_pay15 x2 (tile 6 x3) (tile 6 x10) ∧ q7 = k0_pay15 x2 (tile 7 x3) (tile 7 x10) := by
    refine ⟨_, _, _, _, _, _, _, _, rfl, ?_, ?_, ?_, ?_, ?_, ?_, ?_, ?_⟩
    · conv_rhs => rw [← ld_whole harg2 x2 _ z2 inb_S512x512_S512x512_0_0, ← ld_tile harg3 x3 0 0 rfl inb_S512x4096_S512x512_0_0, ← ld_tile harg10 x10 0 0 rfl inb_S512x4096_S512x512_0_0]
      try rfl
    · conv_rhs => rw [← ld_whole harg2 x2 _ z2 inb_S512x512_S512x512_0_0, ← ld_tile harg3 x3 1 512 rfl inb_S512x4096_S512x512_0_512, ← ld_tile harg10 x10 1 512 rfl inb_S512x4096_S512x512_0_512]
      try rfl
    · conv_rhs => rw [← ld_whole harg2 x2 _ z2 inb_S512x512_S512x512_0_0, ← ld_tile harg3 x3 2 1024 rfl inb_S512x4096_S512x512_0_1024, ← ld_tile harg10 x10 2 1024 rfl inb_S512x4096_S512x512_0_1024]
      try rfl
    · conv_rhs => rw [← ld_whole harg2 x2 _ z2 inb_S512x512_S512x512_0_0, ← ld_tile harg3 x3 3 1536 rfl inb_S512x4096_S512x512_0_1536, ← ld_tile harg10 x10 3 1536 rfl inb_S512x4096_S512x512_0_1536]
      try rfl
    · conv_rhs => rw [← ld_whole harg2 x2 _ z2 inb_S512x512_S512x512_0_0, ← ld_tile harg3 x3 4 2048 rfl inb_S512x4096_S512x512_0_2048, ← ld_tile harg10 x10 4 2048 rfl inb_S512x4096_S512x512_0_2048]
      try rfl
    · conv_rhs => rw [← ld_whole harg2 x2 _ z2 inb_S512x512_S512x512_0_0, ← ld_tile harg3 x3 5 2560 rfl inb_S512x4096_S512x512_0_2560, ← ld_tile harg10 x10 5 2560 rfl inb_S512x4096_S512x512_0_2560]
      try rfl
    · conv_rhs => rw [← ld_whole harg2 x2 _ z2 inb_S512x512_S512x512_0_0, ← ld_tile harg3 x3 6 3072 rfl inb_S512x4096_S512x512_0_3072, ← ld_tile harg10 x10 6 3072 rfl inb_S512x4096_S512x512_0_3072]
      try rfl
    · conv_rhs => rw [← ld_whole harg2 x2 _ z2 inb_S512x512_S512x512_0_0, ← ld_tile harg3 x3 7 3584 rfl inb_S512x4096_S512x512_0_3584, ← ld_tile harg10 x10 7 3584 rfl inb_S512x4096_S512x512_0_3584]
      try rfl
  obtain ⟨q0, q1, q2, q3, q4, q5, q6, q7, hp, e0, e1, e2, e3, e4, e5, e6, e7⟩ := p
  rw [hp]
  refine (read_tiles harg10 x10 q0 q1 q2 q3 q4 q5 q6 q7).trans ?_
  rw [e0, e1, e2, e3, e4, e5, e6, e7]
  refine congrArg tiled (funext fun n => ?_)
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem trips_eq : k0_t1_loop.trips = 16 := by decide +kernel

/-- The group of eight rows a trip's store writes. -/
def grp (k : Fin k0_t1_loop.trips) (s : Fin 4) : Fin 64 := ⟨4 * k.val + s.val, by have := lt_of_lt_of_eq k.isLt trips_eq; omega⟩

theorem off_grp : ∀ k : Fin k0_t1_loop.trips, k0_off1 k 0#32 = ![8 * (4 * k.val + 0), 0] ∧ k0_off1 k 8#32 = ![8 * (4 * k.val + 1), 0] ∧ k0_off1 k 16#32 = ![8 * (4 * k.val + 2), 0] ∧ k0_off1 k 24#32 = ![8 * (4 * k.val + 3), 0] := by decide +kernel

theorem off_rows : ∀ k : Fin k0_t1_loop.trips, k0_off2 k = ![32 * k.val, 0] := by decide +kernel

theorem ln8_0 (x : Vec F S8x4096 .f32) (gate : Vec F S1x1x1x4096 .f32) (o : Vec F S8x4096 .f32) (g b : Vec F S1x4096 .f32) :
    k0_pay39 (k0_pay38 (k0_pay23 x gate o) (k0_pay31 (k0_pay23 x gate o)) g) b = ln8 x gate o g b := rfl

theorem ln8_1 (x : Vec F S8x4096 .f32) (gate : Vec F S1x1x1x4096 .f32) (o : Vec F S8x4096 .f32) (g b : Vec F S1x4096 .f32) :
    k0_pay40 (k0_pay32 (k0_pay24 x gate o) (k0_pay28 (k0_pay24 x gate o))) (k0_pay35 (k0_pay24 x gate o) (k0_pay28 (k0_pay24 x gate o))) g b = ln8 x gate o g b := rfl

theorem ln8_2 (x : Vec F S8x4096 .f32) (gate : Vec F S1x1x1x4096 .f32) (o : Vec F S8x4096 .f32) (g b : Vec F S1x4096 .f32) :
    k0_pay41 (k0_pay33 (k0_pay26 (k0_pay25 x) (Scalar.ofBits .f32 0x3FB504F3#32) gate o) (k0_pay29 (k0_pay25 x) (Scalar.ofBits .f32 0x3FB504F3#32) gate o)) (k0_pay36 (k0_pay26 (k0_pay25 x) (Scalar.ofBits .f32 0x3FB504F3#32) gate o) (k0_pay29 (k0_pay25 x) (Scalar.ofBits .f32 0x3FB504F3#32) gate o)) g b = ln8 x gate o g b := rfl

theorem ln8_3 (x : Vec F S8x4096 .f32) (gate : Vec F S1x1x1x4096 .f32) (o : Vec F S8x4096 .f32) (g b : Vec F S1x4096 .f32) :
    k0_pay42 (k0_pay34 (k0_pay27 x gate o) (k0_pay30 x gate o)) (k0_pay37 (k0_pay27 x gate o) (k0_pay30 x gate o)) g b = ln8 x gate o g b := rfl

theorem md8_1 (v : FVec F S8x4096 .f32) (sc sh : Vec F S1x1x1x4096 .f32) : k0_pay44 v sc sh = md8 v sc sh := rfl

theorem md8_2 (v : FVec F S8x4096 .f32) (sc sh : Vec F S1x1x1x4096 .f32) : k0_pay4 v (k0_pay45 sc) (Scalar.ofBits .f32 0x3F800000#32) sh = md8 v sc sh := rfl

theorem md8_3 (v : FVec F S8x4096 .f32) (sc sh : Vec F S1x1x1x4096 .f32) : k0_pay5 v sc sh = md8 v sc sh := rfl

/-- The stores of one trip of the loop. -/
theorem storesC (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h4 : k0_cond4 i = 1#1) (k : Fin k0_t1_loop.trips) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (x12 : Vec F S32x4096 .f32) :
    ∃ (u0 u1 u2 u3 v0 v1 v2 v3 : FVec F S8x4096 .f32), (runC c i arg2 harg2 arg3 harg3 arg4 harg4 arg5 harg5 arg6 harg6 arg7 harg7 arg8 harg8 arg9 harg9 arg10 harg10 arg11 harg11 arg12 harg12 h4 k x4 x5 x6 x7 x8 x9 x10 x11 x12).1.1 = [⟨Rect.unit (s := S512x4096) (k0_off1 k 24#32) S8x4096.size (k0_off1_inb i k h4 3), u3⟩, ⟨Rect.unit (s := S512x4096) (k0_off1 k 16#32) S8x4096.size (k0_off1_inb i k h4 2), u2⟩, ⟨Rect.unit (s := S512x4096) (k0_off1 k 8#32) S8x4096.size (k0_off1_inb i k h4 1), u1⟩, ⟨Rect.unit (s := S512x4096) (k0_off1 k 0#32) S8x4096.size (k0_off1_inb i k h4 0), u0⟩]
      ∧ (runC c i arg2 harg2 arg3 harg3 arg4 harg4 arg5 harg5 arg6 harg6 arg7 harg7 arg8 harg8 arg9 harg9 arg10 harg10 arg11 harg11 arg12 harg12 h4 k x4 x5 x6 x7 x8 x9 x10 x11 x12).1.2 = [⟨Rect.unit (s := S512x4096) (k0_off2 k) S32x4096.size (k0_off2_inb i k h4), k0_pay6 (arg12.view.readCov (Val := Elt F) [⟨Rect.unit (s := S32x4096) ![24, 0] S8x4096.size inb_S32x4096_S8x4096_24_0, v3⟩, ⟨Rect.unit (s := S32x4096) ![16, 0] S8x4096.size inb_S32x4096_S8x4096_16_0, v2⟩, ⟨Rect.unit (s := S32x4096) ![8, 0] S8x4096.size inb_S32x4096_S8x4096_8_0, v1⟩, ⟨Rect.unit (s := S32x4096) ![0, 0] S8x4096.size inb_S32x4096_S8x4096_0_0, v0⟩] (Rect.unit (s := S32x4096) ![0, 0] S32x4096.size inb_S32x4096_S32x4096_0_0).toLoadRect)⟩]
      ∧ u0 = ln8 (eight (grp k 0) x4) x5 (eight (grp k 0) x10) x6 x7 ∧ u1 = ln8 (eight (grp k 1) x4) x5 (eight (grp k 1) x10) x6 x7 ∧ u2 = ln8 (eight (grp k 2) x4) x5 (eight (grp k 2) x10) x6 x7 ∧ u3 = ln8 (eight (grp k 3) x4) x5 (eight (grp k 3) x10) x6 x7
      ∧ v0 = md8 (ln8 (eight (grp k 0) x4) x5 (eight (grp k 0) x10) x6 x7) x9 x8 ∧ v1 = md8 (ln8 (eight (grp k 1) x4) x5 (eight (grp k 1) x10) x6 x7) x9 x8 ∧ v2 = md8 (ln8 (eight (grp k 2) x4) x5 (eight (grp k 2) x10) x6 x7) x9 x8 ∧ v3 = md8 (ln8 (eight (grp k 3) x4) x5 (eight (grp k 3) x10) x6 x7) x9 x8 := by
  obtain ⟨o0, o1, o2, o3⟩ := off_grp k
  refine ⟨_, _, _, _, _, _, _, _, rfl, rfl, ?_, ?_, ?_, ?_, ?_, ?_, ?_, ?_⟩
  · conv_rhs => rw [← ln8_0, ← ld_eight harg10 x10 _ (grp k 0) o0 (k0_off1_inb i k h4 0), ← ld_eight harg4 x4 _ (grp k 0) o0 (k0_off1_inb i k h4 0), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl
  · conv_rhs => rw [← ln8_1, ← ld_eight harg10 x10 _ (grp k 1) o1 (k0_off1_inb i k h4 1), ← ld_eight harg4 x4 _ (grp k 1) o1 (k0_off1_inb i k h4 1), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl
  · conv_rhs => rw [← ln8_2, ← ld_eight harg10 x10 _ (grp k 2) o2 (k0_off1_inb i k h4 2), ← ld_eight harg4 x4 _ (grp k 2) o2 (k0_off1_inb i k h4 2), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl
  · conv_rhs => rw [← ln8_3, ← ld_eight harg10 x10 _ (grp k 3) o3 (k0_off1_inb i k h4 3), ← ld_eight harg4 x4 _ (grp k 3) o3 (k0_off1_inb i k h4 3), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0]
    try rfl
  · conv_rhs => rw [md8, ← ln8_0, ← ld_eight harg10 x10 _ (grp k 0) o0 (k0_off1_inb i k h4 0), ← ld_eight harg4 x4 _ (grp k 0) o0 (k0_off1_inb i k h4 0), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0, ← ld_whole harg9 x9 _ z4 inb_S1x1x1x4096_S1x1x1x4096_0_0_0_0, ← ld_whole harg8 x8 _ z4 inb_S1x1x1x4096_S1x1x1x4096_0_0_0_0]
    try rfl
  · conv_rhs => rw [← md8_1, ← ln8_1, ← ld_eight harg10 x10 _ (grp k 1) o1 (k0_off1_inb i k h4 1), ← ld_eight harg4 x4 _ (grp k 1) o1 (k0_off1_inb i k h4 1), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0, ← ld_whole harg9 x9 _ z4 inb_S1x1x1x4096_S1x1x1x4096_0_0_0_0, ← ld_whole harg8 x8 _ z4 inb_S1x1x1x4096_S1x1x1x4096_0_0_0_0]
    try rfl
  · conv_rhs => rw [← md8_2, ← ln8_2, ← ld_eight harg10 x10 _ (grp k 2) o2 (k0_off1_inb i k h4 2), ← ld_eight harg4 x4 _ (grp k 2) o2 (k0_off1_inb i k h4 2), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0, ← ld_whole harg9 x9 _ z4 inb_S1x1x1x4096_S1x1x1x4096_0_0_0_0, ← ld_whole harg8 x8 _ z4 inb_S1x1x1x4096_S1x1x1x4096_0_0_0_0]
    try rfl
  · conv_rhs => rw [← md8_3, ← ln8_3, ← ld_eight harg10 x10 _ (grp k 3) o3 (k0_off1_inb i k h4 3), ← ld_eight harg4 x4 _ (grp k 3) o3 (k0_off1_inb i k h4 3), ← ld_whole harg5 x5 _ z4 inb_S1x1x1x4096_S1x1x1x4096_0_0_0_0, ← ld_whole harg6 x6 _ z2 inb_S1x4096_S1x4096_0_0, ← ld_whole harg7 x7 _ z2 inb_S1x4096_S1x4096_0_0, ← ld_whole harg9 x9 _ z4 inb_S1x1x1x4096_S1x1x1x4096_0_0_0_0, ← ld_whole harg8 x8 _ z4 inb_S1x1x1x4096_S1x1x1x4096_0_0_0_0]
    try rfl

set_option maxHeartbeats 4000000 in
/-- One trip of the loop, for the residual stream. -/
theorem tripX (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h4 : k0_cond4 i = 1#1) (k : Fin k0_t1_loop.trips) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (x12 : Vec F S32x4096 .f32) (O : Vec F S512x4096 .f32) (H : Vec F S512x4096 .bf16) (hO : O = done k.val x4 x5 x6 x7 x10) :
    arg10.view.read (Elt F) (arg10.view.writes (Elt F) (harg10.unread O) (runC c i arg2 harg2 arg3 harg3 arg4 harg4 arg5 harg5 arg6 harg6 arg7 harg7 arg8 harg8 arg9 harg9 arg10 harg10 arg11 harg11 arg12 harg12 h4 k x4 x5 x6 x7 x8 x9 O H x12).1.1) = done (k.val + 1) x4 x5 x6 x7 x10 := by
  have p := storesC c i arg2 harg2 arg3 harg3 arg4 harg4 arg5 harg5 arg6 harg6 arg7 harg7 arg8 harg8 arg9 harg9 arg10 harg10 arg11 harg11 arg12 harg12 h4 k x4 x5 x6 x7 x8 x9 O H x12
  obtain ⟨u0, u1, u2, u3, v0, v1, v2, v3, hp, -, e0, e1, e2, e3, -⟩ := p
  rw [hp]
  funext y
  obtain ⟨q, r, e, rfl⟩ := at_line y
  obtain ⟨o0, o1, o2, o3⟩ := off_grp k
  refine (read_lines harg10 _ k.val _ _ _ _ o0 o1 o2 o3 _ _ _ _ ![u0, u1, u2, u3] q r e).trans ?_
  rw [hO, eight_done k.val x4 x5 x6 x7 x10 (grp k 0) (by show 32 * k.val ≤ 8 * (4 * k.val + 0); omega)] at e0
  rw [hO, eight_done k.val x4 x5 x6 x7 x10 (grp k 1) (by show 32 * k.val ≤ 8 * (4 * k.val + 1); omega)] at e1
  rw [hO, eight_done k.val x4 x5 x6 x7 x10 (grp k 2) (by show 32 * k.val ≤ 8 * (4 * k.val + 2); omega)] at e2
  rw [hO, eight_done k.val x4 x5 x6 x7 x10 (grp k 3) (by show 32 * k.val ≤ 8 * (4 * k.val + 3); omega)] at e3
  clear hp
  split
  · rename_i hq
    refine Eq.trans ?_ (if_pos (show 8 * q.val + r.val < 32 * (k.val + 1) by omega)).symm
    rw [norm_at]
    have hs : ∃ s : Fin 4, s.val = q.val - 4 * k.val := ⟨⟨q.val - 4 * k.val, by omega⟩, rfl⟩
    obtain ⟨s, hs⟩ := hs
    rw [show (⟨q.val - 4 * k.val, by omega⟩ : Fin 4) = s from Fin.ext hs.symm, show q = grp k s from Fin.ext (by show q.val = 4 * k.val + s.val; omega)]
    match s with
    | ⟨0, _⟩ => exact congrFun e0 _
    | ⟨1, _⟩ => exact congrFun e1 _
    | ⟨2, _⟩ => exact congrFun e2 _
    | ⟨3, _⟩ => exact congrFun e3 _
  · rename_i hq
    rw [hO]
    by_cases hl : q.val < 4 * k.val
    · exact (if_pos (show 8 * q.val + r.val < 32 * k.val by omega)).trans (if_pos (show 8 * q.val + r.val < 32 * (k.val + 1) by omega)).symm
    · exact (if_neg (show ¬(8 * q.val + r.val < 32 * k.val) by omega)).trans (if_neg (show ¬(8 * q.val + r.val < 32 * (k.val + 1)) by omega)).symm

set_option maxHeartbeats 4000000 in
/-- One trip of the loop, for the modulated activations. -/
theorem tripH (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (h4 : k0_cond4 i = 1#1) (k : Fin k0_t1_loop.trips) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (x12 : Vec F S32x4096 .f32) (O : Vec F S512x4096 .f32) (H : Vec F S512x4096 .bf16) (hO : O = done k.val x4 x5 x6 x7 x10) (hH : H = hdone k.val x4 x5 x6 x7 x8 x9 x10 x11) :
    arg11.view.read (Elt F) (arg11.view.writes (Elt F) (harg11.unread H) (runC c i arg2 harg2 arg3 harg3 arg4 harg4 arg5 harg5 arg6 harg6 arg7 harg7 arg8 harg8 arg9 harg9 arg10 harg10 arg11 harg11 arg12 harg12 h4 k x4 x5 x6 x7 x8 x9 O H x12).1.2) = hdone (k.val + 1) x4 x5 x6 x7 x8 x9 x10 x11 := by
  have p := storesC c i arg2 harg2 arg3 harg3 arg4 harg4 arg5 harg5 arg6 harg6 arg7 harg7 arg8 harg8 arg9 harg9 arg10 harg10 arg11 harg11 arg12 harg12 h4 k x4 x5 x6 x7 x8 x9 O H x12
  obtain ⟨u0, u1, u2, u3, v0, v1, v2, v3, -, hp, -, -, -, -, e0, e1, e2, e3⟩ := p
  rw [hp, read_four]
  rw [hO, eight_done k.val x4 x5 x6 x7 x10 (grp k 0) (by show 32 * k.val ≤ 8 * (4 * k.val + 0); omega)] at e0
  rw [hO, eight_done k.val x4 x5 x6 x7 x10 (grp k 1) (by show 32 * k.val ≤ 8 * (4 * k.val + 1); omega)] at e1
  rw [hO, eight_done k.val x4 x5 x6 x7 x10 (grp k 2) (by show 32 * k.val ≤ 8 * (4 * k.val + 2); omega)] at e2
  rw [hO, eight_done k.val x4 x5 x6 x7 x10 (grp k 3) (by show 32 * k.val ≤ 8 * (4 * k.val + 3); omega)] at e3
  clear hp
  have hk : k.val < 16 := lt_of_lt_of_eq k.isLt trips_eq
  have hm : four ![v0, v1, v2, v3] = mods ⟨k.val, hk⟩ x4 x5 x6 x7 x8 x9 x10 := by
    refine congrArg four (funext fun s => ?_)
    match s with
    | ⟨0, _⟩ => exact e0
    | ⟨1, _⟩ => exact e1
    | ⟨2, _⟩ => exact e2
    | ⟨3, _⟩ => exact e3
  rw [hm]
  clear e0 e1 e2 e3 hm
  funext y
  obtain ⟨q, r, e, rfl⟩ := at_rows y
  by_cases hq : q.val = k.val
  · refine (View.read_writes_cons_unit_of_mem _ _ (off' := ![32 * k.val, 0]) _ _ _ (ix2 (⟨32 * q.val + r.val, by omega⟩ : Fin 512) e) (ix2 r e) (off_rows k) fun a => ?_).trans ?_
    · match a with
      | ⟨0, _⟩ => show 32 * q.val + r.val = 32 * k.val + r.val; omega
      | ⟨1, _⟩ => show e.val = 0 + e.val; omega
    · refine Eq.trans ?_ (if_pos (show 32 * q.val + r.val < 32 * (k.val + 1) by omega)).symm
      rw [hid_at, show q = ⟨k.val, hk⟩ from Fin.ext hq]
      rfl
  · have b : 32 * q.val + r.val < 512 := by omega
    have far : 32 * q.val + r.val < 32 * k.val ∨ 32 * k.val + 32 ≤ 32 * q.val + r.val := by omega
    refine (View.read_writes_cons_unit_of_not_mem _ _ (off' := ![32 * k.val, 0]) _ _ _ (ix2 (⟨32 * q.val + r.val, b⟩ : Fin 512) e) (off_rows k) 0 (by exact far)).trans ?_
    refine (congrFun (harg11.read_unread H) _).trans ?_
    rw [hH]
    by_cases hl : q.val < k.val
    · exact (if_pos (show 32 * q.val + r.val < 32 * k.val by omega)).trans (if_pos (show 32 * q.val + r.val < 32 * (k.val + 1) by omega)).symm
    · exact (if_neg (show ¬(32 * q.val + r.val < 32 * k.val) by omega)).trans (if_neg (show ¬(32 * q.val + r.val < 32 * (k.val + 1)) by omega)).symm

end Cert.Next

end
-- ==== Proof.NextFrame.lean ====
module

public import proofs.«01_k».proof.Proof.NextStep
public import Idealize.ShloMosaic.Lib.Pipeline.TableIdle

@[expose] public section

set_option maxRecDepth 16384

noncomputable section

/-! The down-projection kernel that also fills rows over its whole grid: the loop over the rows, what each step leaves, the launch and the frame. -/

namespace Cert.Next

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Out (hid hdone hdone_none hdone_all)
open Cert.Down (first plus norm done done_none done_all)
open Cert.Kernel9Ideal Cert.Kernel9Ideal.Gen

variable {F : FTy → Type} [FloatOps F]

local notation "𝕄" => MT nD τ sig Unit (Elt F) ℕ (UR sig nD τ) ℕ

/-- What holds before each trip of the loop over the rows. -/
def inv (c : Dev nD) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (n : ℕ) (_ : Unit) : sProp 𝕄 :=
  iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (done n x4 x5 x6 x7 x10) ∗ owns (c : Thread nD τ) arg11 fullShare (hdone n x4 x5 x6 x7 x8 x9 x10 x11) ∗ (∃ d, owns (c : Thread nD τ) arg12 fullShare d))

section

variable (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x1x1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x1x1x4096 .f32) (harg8 : arg8.IsWhole) (arg9 : Memref sig .tc .vmem S1x1x1x4096 .f32) (harg9 : arg9.IsWhole) (arg10 : Memref sig .tc .vmem S512x4096 .f32) (harg10 : arg10.IsWhole) (arg11 : Memref sig .tc .vmem S512x4096 .bf16) (harg11 : arg11.IsWhole) (arg12 : Memref sig .tc .vmem S32x4096 .f32) (harg12 : arg12.IsWhole)

theorem inv_step (h4 : k0_cond4 i = 1#1) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (E : Set ℕ) (k : Fin k0_t1_loop.trips) (u : Unit) :
    inv c arg2 harg2 arg3 harg3 arg4 harg4 arg5 harg5 arg6 harg6 arg7 harg7 arg8 harg8 arg9 harg9 arg10 harg10 arg11 harg11 arg12 harg12 x4 x5 x6 x7 x8 x9 x10 x11 k.val u ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 h4 k u) (inv c arg2 harg2 arg3 harg3 arg4 harg4 arg5 harg5 arg6 harg6 arg7 harg7 arg8 harg8 arg9 harg9 arg10 harg10 arg11 harg11 arg12 harg12 x4 x5 x6 x7 x8 x9 x10 x11 (k.val + 1)) := by
  unfold inv
  iintro ⟨H4, H5, H6, H7, H8, H9, H10, H11, ⟨%x12, H12⟩⟩
  iapply ((runC c i arg2 harg2 arg3 harg3 arg4 harg4 arg5 harg5 arg6 harg6 arg7 harg7 arg8 harg8 arg9 harg9 arg10 harg10 arg11 harg11 arg12 harg12 h4 k x4 x5 x6 x7 x8 x9 (done k.val x4 x5 x6 x7 x10) (hdone k.val x4 x5 x6 x7 x8 x9 x10 x11) x12).2 E _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H4, H5, H6, H7, H8, H9, H10, H11, H12⟩
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact tripX c i arg2 harg2 arg3 harg3 arg4 harg4 arg5 harg5 arg6 harg6 arg7 harg7 arg8 harg8 arg9 harg9 arg10 harg10 arg11 harg11 arg12 harg12 h4 k x4 x5 x6 x7 x8 x9 x10 x11 x12 _ _ rfl
  isplitl [H11]
  · unfold owns; iexists _; isplitr
    swap; · iexact H11
    ipureintro; exact tripH c i arg2 harg2 arg3 harg3 arg4 harg4 arg5 harg5 arg6 harg6 arg7 harg7 arg8 harg8 arg9 harg9 arg10 harg10 arg11 harg11 arg12 harg12 h4 k x4 x5 x6 x7 x8 x9 x10 x11 x12 _ _ rfl rfl
  iexact H12

/-- The loop over the rows normalises the block and fills the second one. -/
theorem loop (h4 : k0_cond4 i = 1#1) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (norm x4 x5 x6 x7 x10) ∗ owns (c : Thread nD τ) arg11 fullShare (hid x4 x5 x6 x7 x8 x9 x10) ∗ (∃ d, owns (c : Thread nD τ) arg12 fullShare d)) -∗ K ⟨⟩))
      ⊢ wp frame (wpE (defs₀ (F := F)) Variants.none c none) E (do Scf.Loop.for k0_t1_loop (k0_t1_ok i h4) ⟨⟩ (k0_t1_body i arg2 harg2 arg3 harg3 arg4 harg4 arg5 harg5 arg6 harg6 arg7 harg7 arg8 harg8 arg9 harg9 arg10 harg10 arg11 harg11 arg12 harg12 h4); pure ⟨⟩) K := by
  iintro ⟨H4, H5, H6, H7, H8, H9, H10, H11, H12, Hk⟩
  iapply (Scf.wp_for_bind frame (wpE (defs₀ (F := F)) Variants.none c none) E k0_t1_loop.lb k0_t1_loop.ub k0_t1_loop.st (k0_t1_ok i h4) _ _
    (inv c arg2 harg2 arg3 harg3 arg4 harg4 arg5 harg5 arg6 harg6 arg7 harg7 arg8 harg8 arg9 harg9 arg10 harg10 arg11 harg11 arg12 harg12 x4 x5 x6 x7 x8 x9 x10 x11) (inv_step c i arg2 harg2 arg3 harg3 arg4 harg4 arg5 harg5 arg6 harg6 arg7 harg7 arg8 harg8 arg9 harg9 arg10 harg10 arg11 harg11 arg12 harg12 h4 x4 x5 x6 x7 x8 x9 x10 x11 E)) $$ [H4 H5 H6 H7 H8 H9 H10 H11 H12]
  · unfold inv; rw [done_none, hdone_none]
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u Hi
  rw [show Scf.trips k0_t1_loop.lb k0_t1_loop.ub k0_t1_loop.st = 16 from trips_eq]
  unfold inv; rw [done_all, hdone_all]
  sl_step
  iapply Hk; iexact Hi

/-- The last step of a block: its product is added, the block normalised and modulated. -/
theorem last (h1 : ¬(k0_cond1 i = 1#1)) (h2 : ¬(k0_cond2 i = 1#1)) (h3 : k0_cond3 i = 1#1) (h4 : k0_cond4 i = 1#1) (x2 : Vec F S512x512 .bf16) (x3 : Vec F S512x4096 .bf16) (x4 : Vec F S512x4096 .f32) (x5 : Vec F S1x1x1x4096 .f32) (x6 : Vec F S1x4096 .f32) (x7 : Vec F S1x4096 .f32) (x8 : Vec F S1x1x1x4096 .f32) (x9 : Vec F S1x1x1x4096 .f32) (x10 : Vec F S512x4096 .f32) (x11 : Vec F S512x4096 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (norm x4 x5 x6 x7 (plus x2 x3 x10)) ∗ owns (c : Thread nD τ) arg11 fullShare (hid x4 x5 x6 x7 x8 x9 (plus x2 x3 x10)) ∗ (∃ d, owns (c : Thread nD τ) arg12 fullShare d)) -∗ K ⟨⟩))
      ⊢ wp frame (wpE (defs₀ (F := F)) Variants.none c none) E (cc0_matmul_layernorm i arg2 harg2 arg3 harg3 arg4 harg4 arg5 harg5 arg6 harg6 arg7 harg7 arg8 harg8 arg9 harg9 arg10 harg10 arg11 harg11 arg12 harg12) K := by
  rw [text_last i arg2 harg2 arg3 harg3 arg4 harg4 arg5 harg5 arg6 harg6 arg7 harg7 arg8 harg8 arg9 harg9 arg10 harg10 arg11 harg11 arg12 harg12 h1 h2 h3 h4, wp_bind]
  iintro ⟨H2, H3, H4, H5, H6, H7, H8, H9, H10, H11, H12, Hk⟩
  iapply ((runB c i arg2 harg2 arg3 harg3 arg4 harg4 arg5 harg5 arg6 harg6 arg7 harg7 arg8 harg8 arg9 harg9 arg10 harg10 arg11 harg11 arg12 harg12 x2 x3 x10).2 E _)
  isplitl [H2]; · iexact H2
  isplitl [H3]; · iexact H3
  isplitl [H10]; · iexact H10
  iintro ⟨H2, H3, H10⟩
  iapply (loop c i arg2 harg2 arg3 harg3 arg4 harg4 arg5 harg5 arg6 harg6 arg7 harg7 arg8 harg8 arg9 harg9 arg10 harg10 arg11 harg11 arg12 harg12 h4 x4 x5 x6 x7 x8 x9 (plus x2 x3 x10) x11 E K)
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact readB c i arg2 harg2 arg3 harg3 arg4 harg4 arg5 harg5 arg6 harg6 arg7 harg7 arg8 harg8 arg9 harg9 arg10 harg10 arg11 harg11 arg12 harg12 x2 x3 x10
  isplitl [H11]; · iexact H11
  isplitl [H12]; · iexact H12
  iintro ⟨H4, H5, H6, H7, H8, H9, H10, H11, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- A step between: its product is added. -/
theorem mid (h1 : ¬(k0_cond1 i = 1#1)) (h2 : ¬(k0_cond2 i = 1#1)) (h3 : k0_cond3 i = 1#1) (h4 : ¬(k0_cond4 i = 1#1)) (x2 : Vec F S512x512 .bf16) (x3 : Vec F S512x4096 .bf16) (x10 : Vec F S512x4096 .f32) (E : Set ℕ) (K : PUnit → sProp 𝕄) :
    iprop(owns (c : Thread nD τ) arg2 fullShare x2 ∗ owns (c : Thread nD τ) arg3 fullShare x3 ∗ owns (c : Thread nD τ) arg10 fullShare x10
        ∗ (iprop(owns (c : Thread nD τ) arg2 fullShare x2 ∗ owns (c : Thread nD τ) arg3 fullShare x3 ∗ owns (c : Thread nD τ) arg10 fullShare (plus x2 x3 x10)) -∗ K ⟨⟩))
      ⊢ wp frame (wpE (defs₀ (F := F)) Variants.none c none) E (cc0_matmul_layernorm i arg2 harg2 arg3 harg3 arg4 harg4 arg5 harg5 arg6 harg6 arg7 harg7 arg8 harg8 arg9 harg9 arg10 harg10 arg11 harg11 arg12 harg12) K := by
  rw [text_mid i arg2 harg2 arg3 harg3 arg4 harg4 arg5 harg5 arg6 harg6 arg7 harg7 arg8 harg8 arg9 harg9 arg10 harg10 arg11 harg11 arg12 harg12 h1 h2 h3 h4, wp_bind]
  iintro ⟨H2, H3, H10, Hk⟩
  iapply ((runB c i arg2 harg2 arg3 harg3 arg4 harg4 arg5 harg5 arg6 harg6 arg7 harg7 arg8 harg8 arg9 harg9 arg10 harg10 arg11 harg11 arg12 harg12 x2 x3 x10).2 E _)
  isplitl [H2]; · iexact H2
  isplitl [H3]; · iexact H3
  isplitl [H10]; · iexact H10
  iintro ⟨H2, H3, H10⟩
  sl_step
  iapply Hk
  isplitl [H2]; · iexact H2
  isplitl [H3]; · iexact H3
  unfold owns; iexists _; isplitr
  swap; · iexact H10
  ipureintro; exact readB c i arg2 harg2 arg3 harg3 arg4 harg4 arg5 harg5 arg6 harg6 arg7 harg7 arg8 harg8 arg9 harg9 arg10 harg10 arg11 harg11 arg12 harg12 x2 x3 x10

/-- The first step of a block. -/
theorem start (h1 : ¬(k0_cond1 i = 1#1)) (h2 : k0_cond2 i = 1#1) (h3 : ¬(k0_cond3 i = 1#1)) (h4 : ¬(k0_cond4 i = 1#1)) (x2 : Vec F S512x512 .bf16) (x3 : Vec F S512x4096 .bf16) (x10 : Vec F S512x4096 .f32) (E : Set ℕ) (K : PUnit → sProp 𝕄) :
    iprop(owns (c : Thread nD τ) arg2 fullShare x2 ∗ owns (c : Thread nD τ) arg3 fullShare x3 ∗ owns (c : Thread nD τ) arg10 fullShare x10
        ∗ (iprop(owns (c : Thread nD τ) arg2 fullShare x2 ∗ owns (c : Thread nD τ) arg3 fullShare x3 ∗ owns (c : Thread nD τ) arg10 fullShare (first x2 x3)) -∗ K ⟨⟩))
      ⊢ wp frame (wpE (defs₀ (F := F)) Variants.none c none) E (cc0_matmul_layernorm i arg2 harg2 arg3 harg3 arg4 harg4 arg5 harg5 arg6 harg6 arg7 harg7 arg8 harg8 arg9 harg9 arg10 harg10 arg11 harg11 arg12 harg12) K := by
  iintro ⟨H2, H3, H10, Hk⟩
  iapply ((runA c i arg2 harg2 arg3 harg3 arg4 harg4 arg5 harg5 arg6 harg6 arg7 harg7 arg8 harg8 arg9 harg9 arg10 harg10 arg11 harg11 arg12 harg12 h1 h2 h3 h4 x2 x3 x10).2 E _)
  isplitl [H2]; · iexact H2
  isplitl [H3]; · iexact H3
  isplitl [H10]; · iexact H10
  iintro ⟨H2, H3, H10⟩
  iapply Hk
  isplitl [H2]; · iexact H2
  isplitl [H3]; · iexact H3
  unfold owns; iexists _; isplitr
  swap; · iexact H10
  ipureintro; exact readA c i arg2 harg2 arg3 harg3 arg4 harg4 arg5 harg5 arg6 harg6 arg7 harg7 arg8 harg8 arg9 harg9 arg10 harg10 arg11 harg11 arg12 harg12 h1 h2 h3 h4 x2 x3 x10

/-- The first fill step: the second block is zero. -/
theorem fill (h1 : k0_cond1 i = 1#1) (h2 : ¬(k0_cond2 i = 1#1)) (h3 : ¬(k0_cond3 i = 1#1)) (h4 : ¬(k0_cond4 i = 1#1)) (x11 : Vec F S512x4096 .bf16) (E : Set ℕ) (K : PUnit → sProp 𝕄) :
    iprop(owns (c : Thread nD τ) arg11 fullShare x11 ∗ (iprop(owns (c : Thread nD τ) arg11 fullShare (k0_pay1 (F := F))) -∗ K ⟨⟩))
      ⊢ wp frame (wpE (defs₀ (F := F)) Variants.none c none) E (cc0_matmul_layernorm i arg2 harg2 arg3 harg3 arg4 harg4 arg5 harg5 arg6 harg6 arg7 harg7 arg8 harg8 arg9 harg9 arg10 harg10 arg11 harg11 arg12 harg12) K := by
  rw [cc0_matmul_layernorm_eq_skeleton]
  unfold cc0_matmul_layernorm_skel
  rw [dif_pos h1, dif_neg h2, dif_neg h3, dif_neg h4]
  unfold owns
  iintro ⟨⟨%f11, %hf11, H11⟩, Hk⟩
  obtain rfl := harg11.eq_unread hf11
  sl_exec
  sl_step
  iapply Hk
  iexists _; isplitr
  swap; · iexact H11
  ipureintro
  funext y
  exact View.read_writes_cons_unit_of_mem _ _ (off' := ![0, 0]) _ _ _ y y rfl fun a => by
    match a with
    | ⟨0, _⟩ => show (y 0).val = 0 + (y 0).val; omega
    | ⟨1, _⟩ => show (y 1).val = 0 + (y 1).val; omega

/-- The other fill steps do nothing. -/
theorem idleStep (h1 : ¬(k0_cond1 i = 1#1)) (h2 : ¬(k0_cond2 i = 1#1)) (h3 : ¬(k0_cond3 i = 1#1)) (h4 : ¬(k0_cond4 i = 1#1)) (E : Set ℕ) (K : PUnit → sProp 𝕄) :
    K ⟨⟩ ⊢ wp frame (wpE (defs₀ (F := F)) Variants.none c none) E (cc0_matmul_layernorm i arg2 harg2 arg3 harg3 arg4 harg4 arg5 harg5 arg6 harg6 arg7 harg7 arg8 harg8 arg9 harg9 arg10 harg10 arg11 harg11 arg12 harg12) K := by
  rw [cc0_matmul_layernorm_eq_skeleton]
  unfold cc0_matmul_layernorm_skel
  rw [dif_neg h1, dif_neg h2, dif_neg h3, dif_neg h4]
  change K ⟨⟩ ⊢ wp frame (wpE (defs₀ (F := F)) Variants.none c none) E (pure ⟨⟩) K
  iintro Hk
  sl_step
  iexact Hk

end

variable (m : (ℓ : Loc nD τ sig) → Buf (Elt F) ℓ) (ρ : Dev nD → PrngReg)

theorem cA : ∀ t : Fin cfg0.N, t.val < 352 → t.val % 22 = 0 → ¬(k0_cond1 (grid0.coords t) = 1#1) ∧ k0_cond2 (grid0.coords t) = 1#1 ∧ ¬(k0_cond3 (grid0.coords t) = 1#1) ∧ ¬(k0_cond4 (grid0.coords t) = 1#1) := by decide +kernel
theorem cB : ∀ t : Fin cfg0.N, t.val < 352 → t.val % 22 ≠ 0 → t.val % 22 ≠ 21 → ¬(k0_cond1 (grid0.coords t) = 1#1) ∧ ¬(k0_cond2 (grid0.coords t) = 1#1) ∧ k0_cond3 (grid0.coords t) = 1#1 ∧ ¬(k0_cond4 (grid0.coords t) = 1#1) := by decide +kernel
theorem cC : ∀ t : Fin cfg0.N, t.val < 352 → t.val % 22 = 21 → ¬(k0_cond1 (grid0.coords t) = 1#1) ∧ ¬(k0_cond2 (grid0.coords t) = 1#1) ∧ k0_cond3 (grid0.coords t) = 1#1 ∧ k0_cond4 (grid0.coords t) = 1#1 := by decide +kernel
theorem cZ : ∀ t : Fin cfg0.N, t.val = 352 → k0_cond1 (grid0.coords t) = 1#1 ∧ ¬(k0_cond2 (grid0.coords t) = 1#1) ∧ ¬(k0_cond3 (grid0.coords t) = 1#1) ∧ ¬(k0_cond4 (grid0.coords t) = 1#1) := by decide +kernel
theorem cI : ∀ t : Fin cfg0.N, 352 < t.val → ¬(k0_cond1 (grid0.coords t) = 1#1) ∧ ¬(k0_cond2 (grid0.coords t) = 1#1) ∧ ¬(k0_cond3 (grid0.coords t) = 1#1) ∧ ¬(k0_cond4 (grid0.coords t) = 1#1) := by decide +kernel
theorem live : ∀ t : Fin cfg0.N, t.val < 352 → idle0 8 (grid0.coords t) = false := by decide +kernel
theorem rest : ∀ t : Fin cfg0.N, 352 ≤ t.val → idle0 8 (grid0.coords t) = true := by decide +kernel
theorem idleA : ∀ t : Fin cfg0.N, t.val < 352 → t.val % 22 ≠ 21 → idle0 9 (grid0.coords t) = true := by decide +kernel
theorem idleC : ∀ t : Fin cfg0.N, t.val < 352 → t.val % 22 = 21 → idle0 9 (grid0.coords t) = false := by decide +kernel
theorem idleZ : ∀ t : Fin cfg0.N, t.val = 352 → idle0 9 (grid0.coords t) = false := by decide +kernel
theorem idleI : ∀ t : Fin cfg0.N, 352 < t.val → idle0 9 (grid0.coords t) = true := by decide +kernel
theorem keepA : ∀ t : Fin cfg0.N, t.val % 22 ≠ 21 → (cfg0.win 9).flush t = false := fun t h => by
  rw [Bool.eq_false_iff]; intro hf; exact h ((flush0_9 t).mp hf)
theorem flush8 : ∀ t : Fin cfg0.N, (cfg0.win 8).flush t = decide ((t.val % 22 = 21 ∧ t.val < 351) ∨ t.val = 373) := by decide +kernel
theorem steps : cfg0.N = 374 := by decide +kernel
theorem last_le (t : Fin cfg0.N) : t.val < 374 := lt_of_lt_of_eq t.isLt steps

theorem fresh8 : ∀ n, n ≤ cfg0.N → cfg0.fresh 8 n = decide ((n % 22 = 0 ∧ n < 352) ∨ n = 374) :=
  cfg0.fresh_tab 8 (fun n => decide ((n % 22 = 0 ∧ n < 352) ∨ n = 374)) (by decide) (by decide +kernel)
theorem fresh9 : ∀ n, n ≤ cfg0.N → cfg0.fresh 9 n = decide (n < 353 ∨ n = 374) :=
  cfg0.fresh_tab 9 (fun n => decide (n < 353 ∨ n = 374)) (by decide) (by decide +kernel)

/-- The block after each step; the fill steps leave it. -/
def outAt (c : Dev nD) : (n : ℕ) → n < cfg0.N → Vec F S512x4096 .f32
  | 0, h => first (iblk m c 0 ⟨0, h⟩) (iblk m c 1 ⟨0, h⟩)
  | n + 1, h =>
    if 352 ≤ n + 1 then outAt c n (Nat.lt_of_succ_lt h)
    else if (n + 1) % 22 = 0 then first (iblk m c 0 ⟨n + 1, h⟩) (iblk m c 1 ⟨n + 1, h⟩)
    else if (n + 1) % 22 = 21 then
      norm (iblk m c 2 ⟨n + 1, h⟩) (iblk m c 3 ⟨n + 1, h⟩) (iblk m c 4 ⟨n + 1, h⟩) (iblk m c 5 ⟨n + 1, h⟩) (plus (iblk m c 0 ⟨n + 1, h⟩) (iblk m c 1 ⟨n + 1, h⟩) (outAt c n (Nat.lt_of_succ_lt h)))
    else plus (iblk m c 0 ⟨n + 1, h⟩) (iblk m c 1 ⟨n + 1, h⟩) (outAt c n (Nat.lt_of_succ_lt h))

/-- The step before. -/
def prev (t : Fin cfg0.N) : Fin cfg0.N := ⟨t.val - 1, Nat.lt_of_le_of_lt (Nat.sub_le _ _) t.isLt⟩

/-- The modulated activations a block's last step leaves; the fill steps leave zeros. -/
def hidAt (c : Dev nD) (t : Fin cfg0.N) : Vec F S512x4096 .bf16 :=
  if t.val < 352 then hid (iblk m c 2 t) (iblk m c 3 t) (iblk m c 4 t) (iblk m c 5 t) (iblk m c 6 t) (iblk m c 7 t) (plus (iblk m c 0 t) (iblk m c 1 t) (outAt m c (prev t).val (prev t).isLt)) else k0_pay1

theorem out_first (c : Dev nD) (t : Fin cfg0.N) (hr : t.val < 352) (h : t.val % 22 = 0) : outAt m c t.val t.isLt = first (iblk m c 0 t) (iblk m c 1 t) := by
  obtain ⟨n, hn⟩ := t
  cases n with
  | zero => rfl
  | succ n => exact (if_neg (Nat.not_le.mpr hr)).trans (if_pos h)

theorem out_mid (c : Dev nD) (t : Fin cfg0.N) (hr : t.val < 352) (h : t.val % 22 ≠ 0) (h' : t.val % 22 ≠ 21) :
    outAt m c t.val t.isLt = plus (iblk m c 0 t) (iblk m c 1 t) (outAt m c (prev t).val (prev t).isLt) := by
  obtain ⟨n, hn⟩ := t
  cases n with
  | zero => exact absurd rfl h
  | succ n => exact (if_neg (Nat.not_le.mpr hr)).trans ((if_neg h).trans (if_neg h'))

theorem out_last (c : Dev nD) (t : Fin cfg0.N) (hr : t.val < 352) (h : t.val % 22 = 21) :
    outAt m c t.val t.isLt = norm (iblk m c 2 t) (iblk m c 3 t) (iblk m c 4 t) (iblk m c 5 t) (plus (iblk m c 0 t) (iblk m c 1 t) (outAt m c (prev t).val (prev t).isLt)) := by
  obtain ⟨n, hn⟩ := t
  cases n with
  | zero => exact absurd h (by dsimp only; omega)
  | succ n => exact (if_neg (Nat.not_le.mpr hr)).trans ((if_neg (by dsimp only at h; omega)).trans (if_pos h))

theorem out_rest (c : Dev nD) (t : Fin cfg0.N) (h : 352 ≤ t.val) : outAt m c t.val t.isLt = outAt m c (prev t).val (prev t).isLt := by
  obtain ⟨n, hn⟩ := t
  cases n with
  | zero => exact absurd h (by dsimp only; omega)
  | succ n => exact if_pos h

theorem hid_real (c : Dev nD) (t : Fin cfg0.N) (h : t.val < 352) : hidAt m c t = hid (iblk m c 2 t) (iblk m c 3 t) (iblk m c 4 t) (iblk m c 5 t) (iblk m c 6 t) (iblk m c 7 t) (plus (iblk m c 0 t) (iblk m c 1 t) (outAt m c (prev t).val (prev t).isLt)) := if_pos h

theorem hid_fill (c : Dev nD) (t : Fin cfg0.N) (h : 352 ≤ t.val) : hidAt m c t = k0_pay1 := if_neg (Nat.not_lt.mpr h)

theorem PhiA_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t.val t.isLt
    | ⟨9, _⟩ => hidAt m c t
    | ⟨n + 10, h⟩ => absurd (show n + 10 < 10 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t.val t.isLt := by dsimp only [dats]
theorem after0_9 (c : Dev nD) (t : Fin cfg0.N) : (dats m 0 c).after 9 t = hidAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem not_fresh (w : Fin cfg0.W) {p : ℕ → Prop} [DecidablePred p] (hp : ∀ n, n ≤ cfg0.N → cfg0.fresh w n = decide (p n)) (t : Fin cfg0.N) (h : ¬p t.val) : cfg0.fresh w t.val = false :=
  (hp t.val t.isLt.le).trans (decide_eq_false h)

/-- A step that is not its block's first finds the block as the step before left it. -/
theorem before0_8 (c : Dev nD) (t : Fin cfg0.N) (h : t.val % 22 ≠ 0 ∨ 352 ≤ t.val) (d) : (dats m 0 c).before 8 t d = outAt m c (prev t).val (prev t).isLt := by
  refine ((dats m 0 c).before_out_traj 8 rfl (fun _ _ => rfl) (fun s hs hi hf => ?_) t.val t rfl d).trans ?_
  · rw [after0_8, after0_8]
    refine out_rest m c s (Nat.not_lt.mp fun hr => ?_)
    have := live s hr
    exact Bool.false_ne_true (this.symm.trans hi)
  · have := last_le t
    rw [not_fresh 8 fresh8 t (by omega), if_neg Bool.false_ne_true]
    exact after0_8 m c _

/-- A later fill step finds zeros in the second block. -/
theorem before0_9 (c : Dev nD) (t : Fin cfg0.N) (h : 352 < t.val) (d) : (dats m 0 c).before 9 t d = k0_pay1 := by
  refine ((dats m 0 c).before_out_traj 9 rfl (fun _ _ => rfl) (fun s hs hi hf => ?_) t.val t rfl d).trans ?_
  · rw [after0_9, after0_9]
    have hl : 353 ≤ s.val := Nat.not_lt.mp fun hr => by
      rw [fresh9 s.val s.isLt.le, decide_eq_true (Or.inl hr)] at hf
      exact Bool.false_ne_true hf.symm
    rw [hid_fill m c s (by omega), hid_fill m c _ (by dsimp only; omega)]
  · have := last_le t
    rw [not_fresh 9 fresh9 t (by omega), if_neg Bool.false_ne_true]
    exact (after0_9 m c _).trans (hid_fill m c _ (by dsimp only; omega))

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (match idle0 8 (grid0.coords t) with
        | true => (match (cfg0.win 8).flush t with
          | false => iprop(∃ d, owns (c : Thread nD τ) (win0_8.stage (cfg0.slots t 8)) fullShare ((dats m 0 c).before 8 t d))
          | true => owns (c : Thread nD τ) (win0_8.stage (cfg0.slots t 8)) fullShare ((dats m 0 c).after 8 t))
        | false => owns (c : Thread nD τ) (win0_8.stage (cfg0.slots t 8)) fullShare ((dats m 0 c).after 8 t))
    ∗ (match idle0 9 (grid0.coords t) with
        | true => (match (cfg0.win 9).flush t with
          | false => iprop(∃ d, owns (c : Thread nD τ) (win0_9.stage (cfg0.slots t 9)) fullShare ((dats m 0 c).before 9 t d))
          | true => owns (c : Thread nD τ) (win0_9.stage (cfg0.slots t 9)) fullShare ((dats m 0 c).after 9 t))
        | false => owns (c : Thread nD τ) (win0_9.stage (cfg0.slots t 9)) fullShare ((dats m 0 c).after 9 t)))

/-- The first step of a block. -/
theorem soundA (c : Dev nD) (t : Fin cfg0.N) (hr : t.val < 352) (h0 : t.val % 22 = 0) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, after0_7, after0_8, after0_9, live t hr, out_first m c t hr h0, idleA t hr (by omega), keepA t (by omega)]; dsimp only
  simp only [before0_0, before0_1, before0_2, before0_3, before0_4, before0_5, before0_6, before0_7]
  obtain ⟨e1, e2, e3, e4⟩ := cA t hr h0
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (start c (grid0.coords t) _ _ _ _ _ _ _ _ _ _ _ _ _ _ _ _ _ _ _ _ _ _ e1 e2 e3 e4 _ _ _ Set.univ _)
  isplitl [H0]; · iexact H0
  isplitl [H1]; · iexact H1
  isplitl [H8]; · iexact H8
  iintro ⟨H0, H1, H8⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

/-- A step between. -/
theorem soundB (c : Dev nD) (t : Fin cfg0.N) (hr : t.val < 352) (h0 : t.val % 22 ≠ 0) (h1 : t.val % 22 ≠ 21) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, after0_7, after0_8, after0_9, live t hr, out_mid m c t hr h0 h1, idleA t hr h1, keepA t h1]; dsimp only
  simp only [before0_0, before0_1, before0_2, before0_3, before0_4, before0_5, before0_6, before0_7, before0_8 m c t (Or.inl h0)]
  obtain ⟨e1, e2, e3, e4⟩ := cB t hr h0 h1
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (mid c (grid0.coords t) _ _ _ _ _ _ _ _ _ _ _ _ _ _ _ _ _ _ _ _ _ _ e1 e2 e3 e4 _ _ _ Set.univ _)
  isplitl [H0]; · iexact H0
  isplitl [H1]; · iexact H1
  isplitl [H8]; · iexact H8
  iintro ⟨H0, H1, H8⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

/-- The last step of a block. -/
theorem soundC (c : Dev nD) (t : Fin cfg0.N) (hr : t.val < 352) (h0 : t.val % 22 ≠ 0) (h1 : t.val % 22 = 21) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, after0_7, after0_8, after0_9, live t hr, out_last m c t hr h1, idleC t hr h1]; dsimp only
  simp only [before0_0, before0_1, before0_2, before0_3, before0_4, before0_5, before0_6, before0_7, before0_8 m c t (Or.inl h0)]
  obtain ⟨e1, e2, e3, e4⟩ := cC t hr h1
  rw [show (dats m 0 c).Φ t.castSucc = Pipeline.ΦA spec0 c from rfl, PhiA_eq]
  iintro ⟨⟨H12, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (last c (grid0.coords t) _ _ _ _ _ _ _ _ _ _ _ _ _ _ _ _ _ _ _ _ _ _ e1 e2 e3 e4 _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H12]; · iexact H12
  iintro ⟨H0, H1, H2, H3, H4, H5, H6, H7, H8, H9, H12⟩
  isplitl [H12 Hg]
  · isplitl [H12]; · iexact H12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [hid_real m c t hr]; iexact H9

/-- The first fill step. -/
theorem soundZ (c : Dev nD) (t : Fin cfg0.N) (h : t.val = 352) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, after0_7, after0_8, after0_9, rest t (by omega), (flush8 t).trans (decide_eq_false (by omega)), idleZ t h, hid_fill m c t (by omega)]; dsimp only
  simp only [before0_0, before0_1, before0_2, before0_3, before0_4, before0_5, before0_6, before0_7]
  obtain ⟨e1, e2, e3, e4⟩ := cZ t h
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (fill c (grid0.coords t) _ _ _ _ _ _ _ _ _ _ _ _ _ _ _ _ _ _ _ _ _ _ e1 e2 e3 e4 _ Set.univ _)
  isplitl [H9]; · iexact H9
  iintro H9
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexact H9

/-- A fill step between. -/
theorem soundI (c : Dev nD) (t : Fin cfg0.N) (h : 352 < t.val) (h' : t.val ≠ 373) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, after0_7, after0_8, after0_9, rest t (by omega), (flush8 t).trans (decide_eq_false (by omega)), idleI t h, keepA t (by have := last_le t; omega)]; dsimp only
  simp only [before0_0, before0_1, before0_2, before0_3, before0_4, before0_5, before0_6, before0_7]
  obtain ⟨e1, e2, e3, e4⟩ := cI t h
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (idleStep c (grid0.coords t) _ _ _ _ _ _ _ _ _ _ _ _ _ _ _ _ _ _ _ _ _ _ e1 e2 e3 e4 Set.univ _)
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexists d9; iexact H9

/-- The last fill step. -/
theorem soundE (c : Dev nD) (t : Fin cfg0.N) (h : t.val = 373) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, show (dats m 0 c).Φ t.succ = (dats m 0 c).Φ t.castSucc from rfl]
  rw [after0_0, after0_1, after0_2, after0_3, after0_4, after0_5, after0_6, after0_7, after0_8, after0_9, rest t (by omega), (flush8 t).trans (decide_eq_true (Or.inr h)), idleI t (by omega), (flush0_9 t).mpr (by omega), hid_fill m c t (by omega), out_rest m c t (by omega)]; dsimp only
  simp only [before0_0, before0_1, before0_2, before0_3, before0_4, before0_5, before0_6, before0_7, before0_8 m c t (Or.inr (by omega)), before0_9 m c t (by omega)]
  obtain ⟨e1, e2, e3, e4⟩ := cI t (by omega)
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (idleStep c (grid0.coords t) _ _ _ _ _ _ _ _ _ _ _ _ _ _ _ _ _ _ _ _ _ _ e1 e2 e3 e4 Set.univ _)
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound_body (c : Dev nD) (t : Fin cfg0.N) :
    bodyPre m c t ⊢ wp frame (wpE (defs₀ (F := F)) Variants.none c none) Set.univ (bodyAt0 t) (fun _ => bodyPost m c t) := by
  by_cases hr : t.val < 352
  · by_cases h0 : t.val % 22 = 0
    · exact soundA m c t hr h0
    by_cases h1 : t.val % 22 = 21
    · exact soundC m c t hr h0 h1
    · exact soundB m c t hr h0 h1
  by_cases hz : t.val = 352
  · exact soundZ m c t hz
  by_cases he : t.val = 373
  · exact soundE m c t he
  · exact soundI m c t (by omega) he

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = Pipeline.ΦA spec0 c from rfl]
  try exact Idealize.SL.BI.Entails.refl _

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments come back as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Next

end
-- ==== Proof.NextRef.lean ====
module

public import proofs.«01_k».proof.Proof.OutRef
public import proofs.«01_k».proof.Proof.Down
public import proofs.«01_k».proof.Proof.Gen.Reference9Ideal.Run
public import Idealize.ShloMosaic.Lib.KernelVsHost
public import Idealize.ShloMosaic.Lib.Pipeline.ValueKit
public import Idealize.ShloMosaic.Lib.Pointwise

@[expose] public section

set_option maxRecDepth 16384

noncomputable section

/-! The reference of the down-projection that also fills rows: the layer norm is the down-projection's, its result is modulated and rows of zeros added. -/

namespace Cert.Next

open Idealize.ShloMosaic Idealize.ShloMosaic.TcCoe Idealize.SL.Sem
open Cert.Reference9Ideal Cert.Reference9Ideal.Gen
open Cert.Down (refNorm refSum refOut pad_zero)
open Cert.Out (modu)

/-- The modulation by the next layer's scale and shift. -/
def refMod {F : FTy → Type} [FloatOps F] (y : FVec F S2x4096x4096 .f32) (n : FVec F S2x24576 .f32) : FVec F S2x4096x4096 .f32 :=
  addf (mulf y (broadcastInDim S2x4096x4096 ![0, 1, 2] bcast_S2x1x4096_S2x4096x4096_0_1_2 (addf (broadcastInDim S2x1x4096 ![] bcast_S_S2x1x4096 (constant S_ .f32 0x3F800000#32)) (broadcastInDim S2x1x4096 ![0, 2] bcast_S2x4096_S2x1x4096_0_2 (extractStridedSlice S2x4096 ![0, 4096] n slices_S2x24576_S2x4096_0_4096)))))
    (broadcastInDim S2x4096x4096 ![0, 1, 2] bcast_S2x1x4096_S2x4096x4096_0_1_2 (broadcastInDim S2x1x4096 ![0, 2] bcast_S2x4096_S2x1x4096_0_2 (extractStridedSlice S2x4096 ![0, 0] n slices_S2x24576_S2x4096_0_0)))

/-- The modulated rows, with rows of zeros after them. -/
def fillRows {F : FTy → Type} [FloatOps F] (y : FVec F S2x4096x4096 .f32) : FVec F S8704x4096 .bf16 :=
  truncf .bf16 (pad S8704x4096 ![0, 0] ![512, 0] ![0, 0] (shapeCast S8192x4096 y shapeCasts_S2x4096x4096_S8192x4096) (sitofp .f32 (constantI S_ 32 0#32)) pads_S8192x4096_S8704x4096_05120_000 h_S_) bitsLt_bf16_f32

/-- The reference's second result from its arguments. -/
def refHid {F : FTy → Type} [FloatOps F] (a : FVec F S2x4096x11008 .f32) (w : FVec F S11008x4096 .f32) (x : FVec F S2x4096x4096 .f32) (q n : FVec F S2x24576 .f32) (g b : FVec F S4096 .f32) : FVec F S8704x4096 .bf16 :=
  fillRows (refMod (refNorm (refSum a w x q) g b) n)

set_option maxHeartbeats 2000000 in
/-- The reference's run ends with the down-projection's result and this one. -/
theorem ref_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v54) = refHid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference9Ideal.Value.run m ρ

theorem refMod_apply (y : FVec Ideal S2x4096x4096 .f32) (n : FVec Ideal S2x24576 .f32) (u : Fin 2) (s : Fin 4096) (e : Fin 4096) :
    refMod y n (ix3 u s e) = modu (y (ix3 u s e)) (n (ix2 u ⟨4096 + e.val, by omega⟩)) (n (ix2 u ⟨e.val, by omega⟩)) := by
  pointwise [refMod, modu]

theorem fillRows_real (y : FVec Ideal S2x4096x4096 .f32) (R : Fin 8704) (h : R.val < 8192) (e : Fin 4096) :
    fillRows y (ix2 R e) = y (ix3 ⟨R.val / 4096, by omega⟩ ⟨R.val % 4096, by omega⟩ e) := by
  pointwise [fillRows]
  exact (dif_pos h).trans rfl

theorem fillRows_fill (y : FVec Ideal S2x4096x4096 .f32) (R : Fin 8704) (h : 8192 ≤ R.val) (e : Fin 4096) : fillRows y (ix2 R e) = 0 := by
  pointwise [fillRows]
  exact (dif_neg (Nat.not_lt.mpr h)).trans pad_zero

/-- The second result's rows are the first result's modulated, -/
theorem refHid_real (a : FVec Ideal S2x4096x11008 .f32) (w : FVec Ideal S11008x4096 .f32) (x : FVec Ideal S2x4096x4096 .f32) (q n : FVec Ideal S2x24576 .f32) (g b : FVec Ideal S4096 .f32) (R : Fin 8192) (e : Fin 4096) :
    refHid a w x q n g b (ix2 ⟨R.val, by omega⟩ e) = modu (refOut a w x q g b (ix2 R e)) (n (ix2 ⟨R.val / 4096, by omega⟩ ⟨4096 + e.val, by omega⟩)) (n (ix2 ⟨R.val / 4096, by omega⟩ ⟨e.val, by omega⟩)) := by
  unfold refHid refOut
  generalize refNorm (refSum a w x q) g b = N
  have h : (shapeCast _ N shapeCasts_S2x4096x4096_S8192x4096 : FVec Ideal S8192x4096 .f32) (ix2 R e) = N (ix3 ⟨R.val / 4096, by omega⟩ ⟨R.val % 4096, by omega⟩ e) := by
    pointwise
  refine (fillRows_real _ ⟨R.val, by omega⟩ R.isLt e).trans ?_
  rw [refMod_apply]
  exact congrArg (fun v => modu v _ _) h.symm

/-- and zero after them. -/
theorem refHid_fill (a : FVec Ideal S2x4096x11008 .f32) (w : FVec Ideal S11008x4096 .f32) (x : FVec Ideal S2x4096x4096 .f32) (q n : FVec Ideal S2x24576 .f32) (g b : FVec Ideal S4096 .f32) (R : Fin 8704) (h : 8192 ≤ R.val) (e : Fin 4096) : refHid a w x q n g b (ix2 R e) = 0 :=
  fillRows_fill _ R h e

end Cert.Next

end
-- ==== Proof.Next.lean ====
module

public import proofs.«01_k».proof.Proof.NextFrame
public import proofs.«01_k».proof.Proof.NextRef
public import proofs.«01_k».proof.Proof.Out
public import Idealize.ShloMosaic.Lib.KernelVsHost
public import Idealize.ShloMosaic.Lib.Pipeline.ValueKit
public import Idealize.ShloMosaic.Lib.Pipeline.ReadBack
public import Idealize.ShloMosaic.Lib.Pointwise

@[expose] public section

set_option maxRecDepth 16384

noncomputable section

/-! The two output arrays of the down-projection kernel that also fills rows, over the ideal values, are the reference's results. -/

namespace Cert.Next

open Idealize.ShloMosaic Idealize.ShloMosaic.TcCoe Idealize.SL.Sem
open Cert.Kernel9Ideal Cert.Kernel9Ideal.Gen
open Cert.Down (plus first_apply plus_apply norm_apply lnorm resid term chunks refOut refOut_apply)
open Cert.Out (hid_apply)

variable (m : (ℓ : Loc nD τ sig) → Buf (Elt Ideal) ℓ) (c : Dev nD)

theorem idx0 : ∀ t : Fin grid0.N, t.val < 352 → win0_0.index t 0 = t.val / 22 ∧ win0_0.index t 1 = t.val % 22 := by decide +kernel
theorem idx1 : ∀ t : Fin grid0.N, t.val < 352 → win0_1.index t 0 = t.val % 22 ∧ win0_1.index t 1 = 0 := by decide +kernel
theorem idx2 : ∀ t : Fin grid0.N, t.val < 352 → win0_2.index t 0 = t.val / 22 ∧ win0_2.index t 1 = 0 := by decide +kernel
theorem idx3 : ∀ t : Fin grid0.N, t.val < 352 → win0_3.index t 0 = t.val / 22 / 8 ∧ win0_3.index t 1 = 5 ∧ win0_3.index t 2 = 0 ∧ win0_3.index t 3 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, t.val < 352 → win0_6.index t 0 = t.val / 22 / 8 ∧ win0_6.index t 1 = 0 ∧ win0_6.index t 2 = 0 ∧ win0_6.index t 3 = 0 := by decide +kernel
theorem idx7 : ∀ t : Fin grid0.N, t.val < 352 → win0_7.index t 0 = t.val / 22 / 8 ∧ win0_7.index t 1 = 1 ∧ win0_7.index t 2 = 0 ∧ win0_7.index t 3 = 0 := by decide +kernel
theorem idx8 : ∀ t : Fin grid0.N, t.val < 352 → win0_8.index t 0 = t.val / 22 ∧ win0_8.index t 1 = 0 := by decide +kernel
theorem idx8e : ∀ t : Fin grid0.N, t.val = 373 → win0_8.index t 0 = 15 ∧ win0_8.index t 1 = 0 := by decide +kernel
theorem idx9 : ∀ t : Fin grid0.N, win0_9.index t 0 = t.val / 22 ∧ win0_9.index t 1 = 0 := by decide +kernel

theorem zeros (y : S512x4096.Idx) : (k0_pay1 (F := Ideal)) y = 0 := by
  obtain ⟨r, e, rfl⟩ : ∃ (r : Fin 512) (e : Fin 4096), y = ix2 r e := ⟨y 0, y 1, eq_ix2 y⟩
  pointwise [k0_pay1]

theorem V_a (a : FVec Ideal S2x4096x11008 .f32) (e0 : m ((c.tc : Thread nD τ).loc main_arg0) = a) (R : Fin 8192) (k : Fin 11264) :
    V m c main_v2 (ix2 R k) = if h : k.val < 11008 then a (ix3 ⟨R.val / 4096, by omega⟩ ⟨R.val % 4096, by omega⟩ ⟨k.val, h⟩) else 0 := by
  subst e0; exact Cert.Down.a_apply _ R k

theorem V_w (w : FVec Ideal S11008x4096 .f32) (e1 : m ((c.tc : Thread nD τ).loc main_arg1) = w) (k : Fin 11264) (C : Fin 4096) :
    V m c main_v4 (ix2 k C) = if h : k.val < 11008 then w (ix2 ⟨k.val, h⟩ C) else 0 := by
  subst e1; exact Cert.Down.w_apply _ k C

theorem V_x (x : FVec Ideal S2x4096x4096 .f32) (e2 : m ((c.tc : Thread nD τ).loc main_arg2) = x) (R : Fin 8192) (d : Fin 4096) : V m c main_v9 (ix2 R d) = x (ix3 ⟨R.val / 4096, by omega⟩ ⟨R.val % 4096, by omega⟩ d) := by
  subst e2; exact Cert.Down.x_apply _ R d

theorem V_q (q : FVec Ideal S2x24576 .f32) (e3 : m ((c.tc : Thread nD τ).loc main_arg3) = q) (u : Fin 8) (hu : u.val < 2) (e : Fin 4096) :
    V m c main_v6 (ix4 u 5 0 e) = q (ix2 ⟨u.val, hu⟩ ⟨20480 + e.val, by omega⟩) := by
  subst e3; exact Cert.Down.q_apply _ u hu e

theorem V_n (n : FVec Ideal S2x24576 .f32) (e4 : m ((c.tc : Thread nD τ).loc main_arg4) = n) (u : Fin 8) (hu : u.val < 2) (p : Fin 6) (e : Fin 4096) :
    V m c main_v8 (ix4 u p 0 e) = n (ix2 ⟨u.val, hu⟩ ⟨p.val * 4096 + e.val, by omega⟩) := by
  subst e4; exact Cert.Out.q_apply _ u hu p e

theorem V_g (g : FVec Ideal S4096 .f32) (e5 : m ((c.tc : Thread nD τ).loc main_arg5) = g) (C : Fin 4096) : V m c main_v10 (ix2 0 C) = g (ix1 C) := by
  subst e5; exact Cert.Down.g_apply _ C

theorem V_b (b : FVec Ideal S4096 .f32) (e6 : m ((c.tc : Thread nD τ).loc main_arg6) = b) (C : Fin 4096) : V m c main_v11 (ix2 0 C) = b (ix1 C) := by
  subst e6; exact Cert.Down.g_apply _ C

theorem blk0 (t : Fin cfg0.N) (hr : t.val < 352) (r : Fin 512) (d : Fin 512) (R : Fin 8192) (k : Fin 11264) (hR : R.val = 512 * (t.val / 22) + r.val) (hk : k.val = 512 * (t.val % 22) + d.val) :
    iblk m c 0 t (ix2 r d) = V m c main_v2 (ix2 R k) := by
  blk_ext [iblk, idx0 t hr]
theorem blk1 (t : Fin cfg0.N) (hr : t.val < 352) (d : Fin 512) (C : Fin 4096) (k : Fin 11264) (hk : k.val = 512 * (t.val % 22) + d.val) :
    iblk m c 1 t (ix2 d C) = V m c main_v4 (ix2 k C) := by
  blk_ext [iblk, idx1 t hr]
theorem blk2 (t : Fin cfg0.N) (hr : t.val < 352) (r : Fin 512) (C : Fin 4096) (R : Fin 8192) (hR : R.val = 512 * (t.val / 22) + r.val) :
    iblk m c 2 t (ix2 r C) = V m c main_v9 (ix2 R C) := by
  blk_ext [iblk, idx2 t hr]
theorem blk3 (t : Fin cfg0.N) (hr : t.val < 352) (C : Fin 4096) (u : Fin 8) (hu : u.val = t.val / 22 / 8) :
    iblk m c 3 t (ix4 0 0 0 C) = V m c main_v6 (ix4 u 5 0 C) := by
  blk_ext [iblk, idx3 t hr]
theorem blk6 (t : Fin cfg0.N) (hr : t.val < 352) (C : Fin 4096) (u : Fin 8) (hu : u.val = t.val / 22 / 8) :
    iblk m c 6 t (ix4 0 0 0 C) = V m c main_v8 (ix4 u 0 0 C) := by
  blk_ext [iblk, idx6 t hr]
theorem blk7 (t : Fin cfg0.N) (hr : t.val < 352) (C : Fin 4096) (u : Fin 8) (hu : u.val = t.val / 22 / 8) :
    iblk m c 7 t (ix4 0 0 0 C) = V m c main_v8 (ix4 u 1 0 C) := by
  blk_ext [iblk, idx7 t hr]
theorem blk4 (t : Fin cfg0.N) (C : Fin 4096) : iblk m c 4 t (ix2 0 C) = V m c main_v10 (ix2 0 C) := by
  blk_ext [iblk, idx4 t]
theorem blk5 (t : Fin cfg0.N) (C : Fin 4096) : iblk m c 5 t (ix2 0 C) = V m c main_v11 (ix2 0 C) := by
  blk_ext [iblk, idx5 t]

/-- One step's product is one chunk. -/
theorem chunk (a : FVec Ideal S2x4096x11008 .f32) (e0 : m ((c.tc : Thread nD τ).loc main_arg0) = a)
    (w : FVec Ideal S11008x4096 .f32) (e1 : m ((c.tc : Thread nD τ).loc main_arg1) = w)
    (t : Fin cfg0.N) (hr : t.val < 352) (r : Fin 512) (C : Fin 4096) (R : Fin 8192) (hR : R.val = 512 * (t.val / 22) + r.val) (A : Vec Ideal S512x512 .bf16) (hA : A = iblk m c 0 t)
    (W : Vec Ideal S512x4096 .bf16) (hW : W = iblk m c 1 t) :
    ∑ d : Fin 512, A (ix2 r d) * W (ix2 d C) = ∑ d : Fin 512, term a w R C (512 * (t.val % 22) + d.val) := by
  refine Finset.sum_congr rfl fun d _ => ?_
  have hk : 512 * (t.val % 22) + d.val < 11264 := by omega
  rw [hA, hW]
  refine (congrArg₂ (fun u v : EReal => u * v) ((blk0 m c t hr r d R ⟨_, hk⟩ hR rfl).trans (V_a m c a e0 R _)) ((blk1 m c t hr d C ⟨_, hk⟩ rfl).trans (V_w m c w e1 _ C))).trans ?_
  unfold term
  by_cases h : 512 * (t.val % 22) + d.val < 11008
  · rw [dif_pos h, dif_pos h, dif_pos h]
  · rw [dif_neg h, dif_neg h, dif_neg h]
    exact zero_mul _

/-- The block after every step but a row's last: the chunks so far. -/
theorem sums (a : FVec Ideal S2x4096x11008 .f32) (e0 : m ((c.tc : Thread nD τ).loc main_arg0) = a)
    (w : FVec Ideal S11008x4096 .f32) (e1 : m ((c.tc : Thread nD τ).loc main_arg1) = w) :
    ∀ (j : ℕ) (t : Fin cfg0.N), t.val < 352 → t.val % 22 = j → j ≠ 21 → ∀ (r : Fin 512) (C : Fin 4096) (R : Fin 8192), R.val = 512 * (t.val / 22) + r.val →
      outAt m c t.val t.isLt (ix2 r C) = chunks a w R C (j + 1) := by
  intro j
  induction j with
  | zero =>
    intro t hr ht _ r C R hR
    rw [out_first m c t hr ht, first_apply, chunk m c a e0 w e1 t hr r C R hR _ rfl _ rfl, ht]
    unfold chunks
    rw [Finset.sum_range_succ, Finset.sum_range_zero, zero_add]
  | succ j ih =>
    intro t hr ht hj r C R hR
    rw [out_mid m c t hr (by omega) (by omega), plus_apply, chunk m c a e0 w e1 t hr r C R hR _ rfl _ rfl, ht,
      ih (prev t) (by show t.val - 1 < 352; omega) (by show (t.val - 1) % 22 = j; omega) (by omega) r C R (by show R.val = 512 * ((t.val - 1) / 22) + r.val; omega)]
    unfold chunks
    rw [Finset.sum_range_succ _ (j + 1)]

/-- A modulation row of a block. -/
theorem mod_apply (q : FVec Ideal S2x24576 .f32) (e3 : m ((c.tc : Thread nD τ).loc main_arg3) = q)
    (n : FVec Ideal S2x24576 .f32) (e4 : m ((c.tc : Thread nD τ).loc main_arg4) = n)
    (t : Fin cfg0.N) (hr : t.val < 352) (r : Fin 512) (R : Fin 8192) (hR : R.val = 512 * (t.val / 22) + r.val) (e : Fin 4096) :
    iblk m c 3 t (ix4 0 0 0 e) = q (ix2 ⟨R.val / 4096, by omega⟩ ⟨20480 + e.val, by omega⟩)
      ∧ iblk m c 6 t (ix4 0 0 0 e) = n (ix2 ⟨R.val / 4096, by omega⟩ ⟨e.val, by omega⟩)
      ∧ iblk m c 7 t (ix4 0 0 0 e) = n (ix2 ⟨R.val / 4096, by omega⟩ ⟨4096 + e.val, by omega⟩) := by
  have hu : R.val / 4096 = t.val / 22 / 8 := by omega
  have hv : R.val / 4096 < 2 := by omega
  refine ⟨(blk3 m c t hr e ⟨R.val / 4096, by omega⟩ hu).trans (V_q m c q e3 _ hv e), (blk6 m c t hr e ⟨R.val / 4096, by omega⟩ hu).trans ((V_n m c n e4 _ hv 0 e).trans ?_),
    (blk7 m c t hr e ⟨R.val / 4096, by omega⟩ hu).trans (V_n m c n e4 _ hv 1 e)⟩
  exact congrArg (fun k => n (ix2 ⟨R.val / 4096, hv⟩ k)) (Fin.ext (by show 0 * 4096 + e.val = e.val; omega))

/-- A block after its last step, at an index. -/
theorem out_apply (a : FVec Ideal S2x4096x11008 .f32) (e0 : m ((c.tc : Thread nD τ).loc main_arg0) = a)
    (w : FVec Ideal S11008x4096 .f32) (e1 : m ((c.tc : Thread nD τ).loc main_arg1) = w)
    (x : FVec Ideal S2x4096x4096 .f32) (e2 : m ((c.tc : Thread nD τ).loc main_arg2) = x)
    (q : FVec Ideal S2x24576 .f32) (e3 : m ((c.tc : Thread nD τ).loc main_arg3) = q)
    (n : FVec Ideal S2x24576 .f32) (e4 : m ((c.tc : Thread nD τ).loc main_arg4) = n)
    (g : FVec Ideal S4096 .f32) (e5 : m ((c.tc : Thread nD τ).loc main_arg5) = g)
    (b : FVec Ideal S4096 .f32) (e6 : m ((c.tc : Thread nD τ).loc main_arg6) = b)
    (t : Fin cfg0.N) (hr : t.val < 352) (ht : t.val % 22 = 21) (r : Fin 512) (e : Fin 4096) (R : Fin 8192) (hR : R.val = 512 * (t.val / 22) + r.val) :
    outAt m c t.val t.isLt (ix2 r e) = refOut a w x q g b (ix2 R e) := by
  rw [out_last m c t hr ht, refOut_apply]
  refine (norm_apply _ _ _ _ _ r e).trans ?_
  have hg : iblk m c 4 t (ix2 0 e) = g (ix1 e) := (blk4 m c t e).trans (V_g m c g e5 e)
  have hb : iblk m c 5 t (ix2 0 e) = b (ix1 e) := (blk5 m c t e).trans (V_b m c b e6 e)
  have hv : ∀ k : Fin 4096, resid (iblk m c 2 t (ix2 r k)) (iblk m c 3 t (ix4 0 0 0 k)) (plus (iblk m c 0 t) (iblk m c 1 t) (outAt m c (prev t).val (prev t).isLt) (ix2 r k))
      = resid (x (ix3 ⟨R.val / 4096, by omega⟩ ⟨R.val % 4096, by omega⟩ k)) (q (ix2 ⟨R.val / 4096, by omega⟩ ⟨20480 + k.val, by omega⟩)) (chunks a w R k 22) := by
    intro k
    have h2 : iblk m c 2 t (ix2 r k) = x (ix3 ⟨R.val / 4096, by omega⟩ ⟨R.val % 4096, by omega⟩ k) := (blk2 m c t hr r k R hR).trans (V_x m c x e2 R k)
    have h6 : plus (iblk m c 0 t) (iblk m c 1 t) (outAt m c (prev t).val (prev t).isLt) (ix2 r k) = chunks a w R k 22 := by
      rw [plus_apply, chunk m c a e0 w e1 t hr r k R hR _ rfl _ rfl, ht,
        sums m c a e0 w e1 20 (prev t) (by show t.val - 1 < 352; omega) (by show (t.val - 1) % 22 = 20; omega) (by omega) r k R (by show R.val = 512 * ((t.val - 1) / 22) + r.val; omega)]
      unfold chunks
      rw [Finset.sum_range_succ _ 21]
    rw [h2, (mod_apply m c q e3 n e4 t hr r R hR k).1, h6]
  rw [hg, hb]
  exact congrArg (fun v => lnorm v (g (ix1 e)) (b (ix1 e)) e) (funext hv)

/-- The second block after its last step, at an index. -/
theorem hid_out (a : FVec Ideal S2x4096x11008 .f32) (e0 : m ((c.tc : Thread nD τ).loc main_arg0) = a)
    (w : FVec Ideal S11008x4096 .f32) (e1 : m ((c.tc : Thread nD τ).loc main_arg1) = w)
    (x : FVec Ideal S2x4096x4096 .f32) (e2 : m ((c.tc : Thread nD τ).loc main_arg2) = x)
    (q : FVec Ideal S2x24576 .f32) (e3 : m ((c.tc : Thread nD τ).loc main_arg3) = q)
    (n : FVec Ideal S2x24576 .f32) (e4 : m ((c.tc : Thread nD τ).loc main_arg4) = n)
    (g : FVec Ideal S4096 .f32) (e5 : m ((c.tc : Thread nD τ).loc main_arg5) = g)
    (b : FVec Ideal S4096 .f32) (e6 : m ((c.tc : Thread nD τ).loc main_arg6) = b)
    (t : Fin cfg0.N) (hr : t.val < 352) (ht : t.val % 22 = 21) (r : Fin 512) (e : Fin 4096) (R : Fin 8192) (hR : R.val = 512 * (t.val / 22) + r.val) :
    hidAt m c t (ix2 r e) = refHid a w x q n g b (ix2 ⟨R.val, by omega⟩ e) := by
  rw [refHid_real, ← out_apply m c a e0 w e1 x e2 q e3 n e4 g e5 b e6 t hr ht r e R hR, out_last m c t hr ht, hid_real m c t hr]
  refine (hid_apply _ _ _ _ _ _ _ r e).trans ?_
  obtain ⟨-, h6, h7⟩ := mod_apply m c q e3 n e4 t hr r R hR e
  rw [h6, h7]

/-- The fill steps leave the last block. -/
theorem out_tail (h : 351 < cfg0.N) : ∀ (j : ℕ) (hj : 351 + j < cfg0.N), outAt m c (351 + j) hj = outAt m c 351 h
  | 0, _ => rfl
  | j + 1, hj => (out_rest m c ⟨351 + (j + 1), hj⟩ (by dsimp only; omega)).trans (out_tail h j (by omega))

/-- The kernel's first output array. -/
theorem final (a : FVec Ideal S2x4096x11008 .f32) (e0 : m ((c.tc : Thread nD τ).loc main_arg0) = a)
    (w : FVec Ideal S11008x4096 .f32) (e1 : m ((c.tc : Thread nD τ).loc main_arg1) = w)
    (x : FVec Ideal S2x4096x4096 .f32) (e2 : m ((c.tc : Thread nD τ).loc main_arg2) = x)
    (q : FVec Ideal S2x24576 .f32) (e3 : m ((c.tc : Thread nD τ).loc main_arg3) = q)
    (n : FVec Ideal S2x24576 .f32) (e4 : m ((c.tc : Thread nD τ).loc main_arg4) = n)
    (g : FVec Ideal S4096 .f32) (e5 : m ((c.tc : Thread nD τ).loc main_arg5) = g)
    (b : FVec Ideal S4096 .f32) (e6 : m ((c.tc : Thread nD τ).loc main_arg6) = b) :
    (dats m 0 c).arrAt 8 cfg0.N = refOut a w x q g b := by
  have hp := out_apply m c a e0 w e1 x e2 q e3 n e4 g e5 b e6
  generalize refOut a w x q g b = G at hp ⊢
  refine (dats m 0 c).arrAt_eq_of_covers 8 _ (by decide +kernel) fun t hf y => ?_
  have ht : (t.val % 22 = 21 ∧ t.val < 351) ∨ t.val = 373 := of_decide_eq_true ((flush8 t).symm.trans hf)
  blk_simp
  rw [after0_8]
  obtain ⟨r, e, rfl⟩ : ∃ (r : Fin 512) (e : Fin 4096), y = ix2 r e := ⟨y 0, y 1, eq_ix2 y⟩
  rcases ht with ⟨ht, hr⟩ | ht
  · refine (hp t (by omega) ht r e ⟨512 * (t.val / 22) + r.val, by omega⟩ rfl).trans ?_
    blk_ext [idx8 t (by omega)]
  · have h1 : 351 < cfg0.N := by rw [steps]; omega
    have h2 : outAt m c t.val t.isLt = outAt m c 351 h1 := by
      obtain ⟨k, hk⟩ := t
      dsimp only at ht
      subst ht
      exact out_tail m c h1 22 hk
    rw [h2]
    refine (hp ⟨351, h1⟩ (by dsimp only; omega) (by dsimp only) r e ⟨512 * 15 + r.val, by omega⟩ (by show 512 * 15 + r.val = 512 * (351 / 22) + r.val; omega)).trans ?_
    blk_ext [idx8e t ht]

/-- The kernel's second output array. -/
theorem final_hid (a : FVec Ideal S2x4096x11008 .f32) (e0 : m ((c.tc : Thread nD τ).loc main_arg0) = a)
    (w : FVec Ideal S11008x4096 .f32) (e1 : m ((c.tc : Thread nD τ).loc main_arg1) = w)
    (x : FVec Ideal S2x4096x4096 .f32) (e2 : m ((c.tc : Thread nD τ).loc main_arg2) = x)
    (q : FVec Ideal S2x24576 .f32) (e3 : m ((c.tc : Thread nD τ).loc main_arg3) = q)
    (n : FVec Ideal S2x24576 .f32) (e4 : m ((c.tc : Thread nD τ).loc main_arg4) = n)
    (g : FVec Ideal S4096 .f32) (e5 : m ((c.tc : Thread nD τ).loc main_arg5) = g)
    (b : FVec Ideal S4096 .f32) (e6 : m ((c.tc : Thread nD τ).loc main_arg6) = b) :
    (dats m 0 c).arrAt 9 cfg0.N = refHid a w x q n g b := by
  have hp := hid_out m c a e0 w e1 x e2 q e3 n e4 g e5 b e6
  have hz := refHid_fill a w x q n g b
  generalize refHid a w x q n g b = G at hp hz ⊢
  refine (dats m 0 c).arrAt_eq_of_covers 9 _ (by decide +kernel) fun t hf y => ?_
  have ht : t.val % 22 = 21 := (flush0_9 t).mp hf
  blk_simp
  rw [after0_9]
  obtain ⟨r, e, rfl⟩ : ∃ (r : Fin 512) (e : Fin 4096), y = ix2 r e := ⟨y 0, y 1, eq_ix2 y⟩
  have hN := last_le t
  by_cases hr : t.val < 352
  · refine (hp t hr ht r e ⟨512 * (t.val / 22) + r.val, by omega⟩ rfl).trans ?_
    blk_ext [idx9 t]
  · rw [hid_fill m c t (by omega)]
    refine (zeros _).trans ((hz ⟨512 * (t.val / 22) + r.val, by omega⟩ (by dsimp only; omega) e).symm.trans ?_)
    blk_ext [idx9 t]

/-- The kernel's run ends with its output arrays at what the steps wrote and its arguments as they were. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12_0) = (dats m 0 c).arrAt 8 cfg0.N
      ∧ r.2.mem ((c.tc : Thread nD τ).loc main_v12_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.1 c).1 8, (h.1 c).1 9, h.2 c⟩) (θ_run_and (run_main m ρ) (unchanged m ρ))

end Cert.Next

end
-- ==== Proof.NextBits.lean ====
module

public import proofs.«01_k».proof.Proof.NextFrame
public import proofs.«01_k».proof.Proof.Gen.Kernel9.Frame

@[expose] public section

set_option maxRecDepth 16384

noncomputable section

/-! The down-projection kernel that also fills rows, as printed: its text is the ideal program's, so the ideal program's run is its run. -/

namespace Cert.NextBits

open Idealize.ShloMosaic Idealize.ShloMosaic.TcCoe Idealize.ShloMosaic.Tactic
open Idealize.SL.Sem
open Cert.Kernel9

theorem body_eq : Cert.Kernel9.cc0_matmul_layernorm (F := Bits) = Cert.Kernel9Ideal.cc0_matmul_layernorm (F := Bits) := rfl

theorem defs₀_eq : Cert.Kernel9.defs₀ (F := Bits) = Cert.Kernel9Ideal.defs₀ (F := Bits) := by
  refine congrArg (Defs.onTc (nD := Cert.Kernel9.nD) (τ := Cert.Kernel9.τ) (sig := Cert.Kernel9.sig) (Val := Elt Bits) (Λ := Cert.Kernel9.Λ₀)) (funext fun l => funext fun a => ?_)
  match l, a with
  | 0, (t, s) => rfl

theorem defs_eq : Cert.Kernel9.defs (F := Bits) = Cert.Kernel9Ideal.defs (F := Bits) :=
  congrArg (Pipeline.defs (Cert.Kernel9.pcfgs (F := Bits))) defs₀_eq

theorem main_eq : Cert.Kernel9.main (F := Bits) = Cert.Kernel9Ideal.main (F := Bits) := rfl

/-- The frame. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq, main_eq]
  exact Cert.Next.frame (F := Bits) m ρ

end Cert.NextBits

end
-- ==== Proof.lean ====
module

public import proofs.«01_k».proof.Proof.Equal
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Up
public import proofs.«01_k».proof.Proof.UpBits
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Down
public import proofs.«01_k».proof.Proof.DownBits
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Project
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.ProjectGates
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.ProjectOut
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.ProjectEven
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Out
public import proofs.«01_k».proof.Proof.OutBits
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Next
public import proofs.«01_k».proof.Proof.NextBits
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The reference runs to its end, keeps its arguments, and declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem value : Cert.algebraic_KernelIdeal_ReferenceIdeal_pre_finite := by
  pair_intro
  · run_from Cert.KernelIdeal.Value.run_blocks m g
  · run_from Cert.ReferenceIdeal.Value.run m' g'
    obtain ⟨a0, a1, a2, _, a4, a5, a6, a7, a8, a9, a10⟩ := hagree c
    refine (Cert.Attn.ref_stages m' c).trans ?_
    rw [a0, a1, a2, a4, a5, a6, a7, a8, a9, a10]
    exact (Cert.Attn.final m c _ rfl _ rfl _ rfl _ rfl _ rfl _ rfl _ rfl _ rfl _ rfl _ rfl
      (Cert.Attn.finite_args _ _ _ _ _ _ _ _ _ _ _ (hpre c))).symm

/-- The reference runs to its end, keeps its arguments, and declares no semaphore. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem value2 : Cert.algebraic_Kernel2Ideal_Reference2Ideal := by
  pair_intro
  · run_from Cert.Up.run m g
  · run_from Cert.Up.ref_run m' g'
    obtain ⟨a0, a1, a2, a3⟩ := hagree c
    exact (Cert.Up.final m c _ (by first | rfl | exact a0.symm) _ (by first | rfl | exact a1.symm) _ (by first | rfl | exact a2.symm) _ (by first | rfl | exact a3.symm)).symm

/-- The reference runs to its end, keeps its arguments, and declares no semaphore. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem value3 : Cert.algebraic_Kernel3Ideal_Reference3Ideal := by
  pair_intro
  · run_from Cert.Down.run m g
  · run_from Cert.Down.ref_run m' g'
    obtain ⟨a0, a1, a2, a3, a4, a5⟩ := hagree c
    exact (Cert.Down.final m c _ (by first | rfl | exact a0.symm) _ (by first | rfl | exact a1.symm) _ (by first | rfl | exact a2.symm) _ (by first | rfl | exact a3.symm) _ (by first | rfl | exact a4.symm) _ (by first | rfl | exact a5.symm)).symm

/-- The reference runs to its end, keeps its arguments, and declares no semaphore. -/
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem value4 : Cert.algebraic_Kernel4Ideal_Reference4Ideal := by
  pair_intro
  · run_from Cert.Kernel4Ideal.Value.run_blocks m g
  · run_from Cert.Project.ref_run m' g'
    obtain ⟨a0, a1, a2⟩ := hagree c
    exact (Cert.Project.final m c _ (by first | rfl | exact a0.symm) _ (by first | rfl | exact a1.symm) _ (by first | rfl | exact a2.symm)).symm

/-- The reference runs to its end, keeps its arguments, and declares no semaphore. -/
theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem value5 : Cert.algebraic_Kernel5Ideal_Reference5Ideal := by
  pair_intro
  · run_from Cert.Kernel5Ideal.Value.run_blocks m g
  · run_from Cert.ProjectGates.ref_run m' g'
    obtain ⟨a0, a1, a2⟩ := hagree c
    exact (Cert.ProjectGates.final m c _ (by first | rfl | exact a0.symm) _ (by first | rfl | exact a1.symm) _ (by first | rfl | exact a2.symm)).symm

/-- The reference runs to its end, keeps its arguments, and declares no semaphore. -/
theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem value6 : Cert.algebraic_Kernel6Ideal_Reference6Ideal := by
  pair_intro
  · run_from Cert.Kernel6Ideal.Value.run_blocks m g
  · run_from Cert.ProjectOut.ref_run m' g'
    obtain ⟨a0, a1, a2⟩ := hagree c
    exact (Cert.ProjectOut.final m c _ (by first | rfl | exact a0.symm) _ (by first | rfl | exact a1.symm) _ (by first | rfl | exact a2.symm)).symm

/-- The reference runs to its end, keeps its arguments, and declares no semaphore. -/
theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem value7 : Cert.algebraic_Kernel7Ideal_Reference7Ideal := by
  pair_intro
  · run_from Cert.Kernel7Ideal.Value.run_blocks m g
  · run_from Cert.ProjectEven.ref_run m' g'
    obtain ⟨a0, a1, a2⟩ := hagree c
    exact (Cert.ProjectEven.final m c _ (by first | rfl | exact a0.symm) _ (by first | rfl | exact a1.symm) _ (by first | rfl | exact a2.symm)).symm

/-- The reference runs to its end, keeps its arguments, and declares no semaphore. -/
theorem frame_reference8 : Cert.quiescent_Reference8Ideal := fun m g _ =>
  (θ_run Cert.Reference8Ideal.defs _ _).mono (fun r h => ⟨fun c => (h c).2.2, sem_eq_zero_of_no_sems (by decide) r.2⟩)
    (Cert.Reference8Ideal.Value.run (F := Ideal) m g)

theorem value8 : Cert.algebraic_Kernel8Ideal_Reference8Ideal := by
  pair_intro
  · run_from Cert.Out.run m g
  · run_from Cert.Out.ref_run m' g'
    · obtain ⟨a0, a1, a2, a3, a4, a5⟩ := hagree c
      exact (Cert.Out.final m c _ (by first | rfl | exact a0.symm) _ (by first | rfl | exact a1.symm) _ (by first | rfl | exact a2.symm) _ (by first | rfl | exact a3.symm) _ (by first | rfl | exact a4.symm) _ (by first | rfl | exact a5.symm)).symm
    · obtain ⟨a0, a1, a2, a3, a4, a5⟩ := hagree c
      exact (Cert.Out.final_hid m c _ (by first | rfl | exact a0.symm) _ (by first | rfl | exact a1.symm) _ (by first | rfl | exact a2.symm) _ (by first | rfl | exact a3.symm) _ (by first | rfl | exact a4.symm) _ (by first | rfl | exact a5.symm)).symm

/-- The reference runs to its end, keeps its arguments, and declares no semaphore. -/
theorem frame_reference9 : Cert.quiescent_Reference9Ideal := fun m g _ =>
  (θ_run Cert.Reference9Ideal.defs _ _).mono (fun r h => ⟨fun c => (h c).2.2, sem_eq_zero_of_no_sems (by decide) r.2⟩)
    (Cert.Reference9Ideal.Value.run (F := Ideal) m g)

theorem value9 : Cert.algebraic_Kernel9Ideal_Reference9Ideal := by
  pair_intro
  · run_from Cert.Next.run m g
  · run_from Cert.Next.ref_run m' g'
    · obtain ⟨a0, a1, a2, a3, a4, a5, a6⟩ := hagree c
      exact (Cert.Next.final m c _ (by first | rfl | exact a0.symm) _ (by first | rfl | exact a1.symm) _ (by first | rfl | exact a2.symm) _ (by first | rfl | exact a3.symm) _ (by first | rfl | exact a4.symm) _ (by first | rfl | exact a5.symm) _ (by first | rfl | exact a6.symm)).symm
    · obtain ⟨a0, a1, a2, a3, a4, a5, a6⟩ := hagree c
      exact (Cert.Next.final_hid m c _ (by first | rfl | exact a0.symm) _ (by first | rfl | exact a1.symm) _ (by first | rfl | exact a2.symm) _ (by first | rfl | exact a3.symm) _ (by first | rfl | exact a4.symm) _ (by first | rfl | exact a5.symm) _ (by first | rfl | exact a6.symm)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
    frame_reference, fun m ρ _ => frame_reference m ρ trivial,
  fun m ρ _ => Cert.UpBits.frame m ρ, fun m ρ _ => Cert.Up.frame m ρ, frame_reference2,
  fun m ρ _ => Cert.DownBits.frame m ρ, fun m ρ _ => Cert.Down.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.OutBits.frame m ρ, fun m ρ _ => Cert.Out.frame m ρ, frame_reference8,
  fun m ρ _ => Cert.NextBits.frame m ρ, fun m ρ _ => Cert.Next.frame m ρ, frame_reference9,
  trivial, value, trivial, value2, trivial, value3, trivial, value4, trivial, value5, trivial, value6, trivial, value7, trivial, value8, trivial, value9⟩

end Cert.Proof

end
